-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x20000x4 : Shape := ⟨3, ![1, 20000, 4]⟩
abbrev S20000x21 : Shape := ⟨2, ![20000, 21]⟩
abbrev S20000x4 : Shape := ⟨2, ![20000, 4]⟩
abbrev S4x20000 : Shape := ⟨2, ![4, 20000]⟩
abbrev S21x20000 : Shape := ⟨2, ![21, 20000]⟩
abbrev S20x20000 : Shape := ⟨2, ![20, 20000]⟩
abbrev S1x20000 : Shape := ⟨2, ![1, 20000]⟩
abbrev S1x1 : Shape := ⟨2, ![1, 1]⟩
abbrev S20000x20 : Shape := ⟨2, ![20000, 20]⟩
abbrev S400000 : Shape := ⟨1, ![400000]⟩
abbrev S_ : Shape := ⟨0, ![]⟩
abbrev S20000 : Shape := ⟨1, ![20000]⟩
abbrev S512 : Shape := ⟨1, ![512]⟩
abbrev S512x1 : Shape := ⟨2, ![512, 1]⟩
abbrev S20x512 : Shape := ⟨2, ![20, 512]⟩
abbrev S512x20 : Shape := ⟨2, ![512, 20]⟩
abbrev S10240 : Shape := ⟨1, ![10240]⟩
abbrev S20 : Shape := ⟨1, ![20]⟩
abbrev S1x20 : Shape := ⟨2, ![1, 20]⟩
abbrev S1 : Shape := ⟨1, ![1]⟩
abbrev S512x4 : Shape := ⟨2, ![512, 4]⟩
abbrev S4x512 : Shape := ⟨2, ![4, 512]⟩
abbrev S1x512 : Shape := ⟨2, ![1, 512]⟩
abbrev S200x6 : Shape := ⟨2, ![200, 6]⟩
abbrev S4096 : Shape := ⟨1, ![4096]⟩
abbrev S4096x1 : Shape := ⟨2, ![4096, 1]⟩
abbrev S4096x4 : Shape := ⟨2, ![4096, 4]⟩
abbrev S4x4096 : Shape := ⟨2, ![4, 4096]⟩
abbrev S1x4096 : Shape := ⟨2, ![1, 4096]⟩
abbrev S200 : Shape := ⟨1, ![200]⟩
abbrev S200x1 : Shape := ⟨2, ![200, 1]⟩
abbrev S200x4 : Shape := ⟨2, ![200, 4]⟩
abbrev S200x2 : Shape := ⟨2, ![200, 2]⟩
abbrev S128x128 : Shape := ⟨2, ![128, 128]⟩
abbrev S1x128 : Shape := ⟨2, ![1, 128]⟩
abbrev S128x1 : Shape := ⟨2, ![128, 1]⟩
abbrev S1x1x128 : Shape := ⟨3, ![1, 1, 128]⟩
abbrev S1x1x1 : Shape := ⟨3, ![1, 1, 1]⟩

abbrev nBuf : Space → Nat
  | .hbm => 383
  | .vmem => 17
  | .smem => 0
  | _ => 0

abbrev hbmTy0_0 (i : Nat) : BufTy := match i % 128 with
  | 0 => ⟨S1x20000x4, .f32⟩
  | 1 => ⟨S20000x21, .f32⟩
  | 2 => ⟨S20000x4, .f32⟩
  | 3 => ⟨S20000x4, .f32⟩
  | 4 => ⟨S4x20000, .f32⟩
  | 5 => ⟨S4x20000, .f32⟩
  | 6 => ⟨S21x20000, .f32⟩
  | 7 => ⟨S4x20000, .f32⟩
  | 8 => ⟨S20x20000, .f32⟩
  | 9 => ⟨S1x20000, .f32⟩
  | 10 => ⟨S1x1, .f32⟩
  | 11 => ⟨S20000x4, .f32⟩
  | 12 => ⟨S20000x20, .f32⟩
  | 13 => ⟨S400000, .f32⟩
  | 14 => ⟨S_, .f32⟩
  | 15 => ⟨S20000, .f32⟩
  | 16 => ⟨S512, .f32⟩
  | 17 => ⟨S512, .i32⟩
  | 18 => ⟨S_, .i32⟩
  | 19 => ⟨S512, .i32⟩
  | 20 => ⟨S512, .i1⟩
  | 21 => ⟨S_, .i32⟩
  | 22 => ⟨S512, .i32⟩
  | 23 => ⟨S512, .i32⟩
  | 24 => ⟨S512, .i32⟩
  | 25 => ⟨S512x1, .i32⟩
  | 26 => ⟨S20x512, .f32⟩
  | 27 => ⟨S512x20, .f32⟩
  | 28 => ⟨S10240, .f32⟩
  | 29 => ⟨S512x1, .i32⟩
  | 30 => ⟨S_, .i32⟩
  | 31 => ⟨S512x1, .i32⟩
  | 32 => ⟨S512x1, .i32⟩
  | 33 => ⟨S20, .i32⟩
  | 34 => ⟨S1x20, .i32⟩
  | 35 => ⟨S512x20, .i32⟩
  | 36 => ⟨S512x20, .i32⟩
  | 37 => ⟨S512x20, .i32⟩
  | 38 => ⟨S10240, .i32⟩
  | 39 => ⟨S512, .f32⟩
  | 40 => ⟨S512, .i32⟩
  | 41 => ⟨S_, .i32⟩
  | 42 => ⟨S512, .i32⟩
  | 43 => ⟨S512, .i1⟩
  | 44 => ⟨S_, .i32⟩
  | 45 => ⟨S512, .i32⟩
  | 46 => ⟨S512, .i32⟩
  | 47 => ⟨S512, .i32⟩
  | 48 => ⟨S512x1, .i32⟩
  | 49 => ⟨S512, .i32⟩
  | 50 => ⟨S512, .f32⟩
  | 51 => ⟨S512, .f32⟩
  | 52 => ⟨S512, .i32⟩
  | 53 => ⟨S512, .f32⟩
  | 54 => ⟨S1, .f32⟩
  | 55 => ⟨S_, .f32⟩
  | 56 => ⟨S400000, .f32⟩
  | 57 => ⟨S400000, .i1⟩
  | 58 => ⟨S400000, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S512, .i32⟩
  | 70 => ⟨S512, .i32⟩
  | 71 => ⟨S_, .i32⟩
  | 72 => ⟨S512, .i32⟩
  | 73 => ⟨S512, .i1⟩
  | 74 => ⟨S_, .i32⟩
  | 75 => ⟨S512, .i32⟩
  | 76 => ⟨S512, .i1⟩
  | 77 => ⟨S_, .i32⟩
  | 78 => ⟨S_, .i1⟩
  | 79 => ⟨S512, .i1⟩
  | 80 => ⟨S512, .i1⟩
  | 81 => ⟨S512, .i1⟩
  | 82 => ⟨S512, .i32⟩
  | 83 => ⟨S512, .i32⟩
  | 84 => ⟨S512, .i32⟩
  | 85 => ⟨S_, .i32⟩
  | 86 => ⟨S512, .i32⟩
  | 87 => ⟨S512, .i32⟩
  | 88 => ⟨S512, .f32⟩
  | 89 => ⟨S_, .f32⟩
  | 90 => ⟨S_, .f32⟩
  | 91 => ⟨S512, .f32⟩
  | 92 => ⟨S512, .f32⟩
  | 93 => ⟨S_, .i32⟩
  | 94 => ⟨S_, .i32⟩
  | 95 => ⟨S512, .i32⟩
  | 96 => ⟨S512, .i32⟩
  | 97 => ⟨S512, .i32⟩
  | 98 => ⟨S_, .i32⟩
  | 99 => ⟨S512, .i32⟩
  | 100 => ⟨S512, .i1⟩
  | 101 => ⟨S512, .i32⟩
  | 102 => ⟨S512, .i32⟩
  | 103 => ⟨S_, .i32⟩
  | 104 => ⟨S512, .i32⟩
  | 105 => ⟨S512, .i1⟩
  | 106 => ⟨S512, .i1⟩
  | 107 => ⟨S_, .i32⟩
  | 108 => ⟨S512, .i32⟩
  | 109 => ⟨S512, .i32⟩
  | 110 => ⟨S512, .i32⟩
  | 111 => ⟨S_, .i32⟩
  | 112 => ⟨S512, .i32⟩
  | 113 => ⟨S512, .i1⟩
  | 114 => ⟨S_, .i32⟩
  | 115 => ⟨S512, .i32⟩
  | 116 => ⟨S512, .i32⟩
  | 117 => ⟨S512, .i32⟩
  | 118 => ⟨S512x1, .i32⟩
  | 119 => ⟨S512x4, .f32⟩
  | 120 => ⟨S512x1, .f32⟩
  | 121 => ⟨S512x4, .f32⟩
  | 122 => ⟨S512x4, .f32⟩
  | 123 => ⟨S4x512, .f32⟩
  | 124 => ⟨S1x512, .f32⟩
  | 125 => ⟨S512, .f32⟩
  | 126 => ⟨S_, .f32⟩
  | 127 => ⟨S512, .f32⟩
  | _ => ⟨S1x20000x4, .f32⟩

abbrev hbmTy0_1 (i : Nat) : BufTy := match i % 128 with
  | 0 => ⟨S512, .i1⟩
  | 1 => ⟨S512, .i32⟩
  | 2 => ⟨S_, .i32⟩
  | 3 => ⟨S_, .i32⟩
  | 4 => ⟨S_, .i32⟩
  | 5 => ⟨S_, .i1⟩
  | 6 => ⟨S_, .i1⟩
  | 7 => ⟨S_, .i32⟩
  | 8 => ⟨S200x6, .f32⟩
  | 9 => ⟨S4096, .f32⟩
  | 10 => ⟨S4096, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i1⟩
  | 25 => ⟨S_, .i32⟩
  | 26 => ⟨S_, .i1⟩
  | 27 => ⟨S4096, .i1⟩
  | 28 => ⟨S4096, .i1⟩
  | 29 => ⟨S4096, .i1⟩
  | 30 => ⟨S4096, .i32⟩
  | 31 => ⟨S4096, .i32⟩
  | 32 => ⟨S4096, .i32⟩
  | 33 => ⟨S_, .i32⟩
  | 34 => ⟨S4096, .i32⟩
  | 35 => ⟨S4096, .i32⟩
  | 36 => ⟨S4096, .f32⟩
  | 37 => ⟨S_, .f32⟩
  | 38 => ⟨S_, .f32⟩
  | 39 => ⟨S4096, .f32⟩
  | 40 => ⟨S4096, .f32⟩
  | 41 => ⟨S_, .i32⟩
  | 42 => ⟨S_, .i32⟩
  | 43 => ⟨S4096, .i32⟩
  | 44 => ⟨S4096, .i32⟩
  | 45 => ⟨S4096, .i32⟩
  | 46 => ⟨S_, .i32⟩
  | 47 => ⟨S4096, .i32⟩
  | 48 => ⟨S4096, .i1⟩
  | 49 => ⟨S4096, .i32⟩
  | 50 => ⟨S4096, .i32⟩
  | 51 => ⟨S_, .i32⟩
  | 52 => ⟨S4096, .i32⟩
  | 53 => ⟨S4096, .i1⟩
  | 54 => ⟨S4096, .i1⟩
  | 55 => ⟨S_, .i32⟩
  | 56 => ⟨S4096, .i32⟩
  | 57 => ⟨S4096, .i32⟩
  | 58 => ⟨S4096, .i32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096x4, .f32⟩
  | 68 => ⟨S4096x1, .f32⟩
  | 69 => ⟨S4096x4, .f32⟩
  | 70 => ⟨S4096x4, .f32⟩
  | 71 => ⟨S4x4096, .f32⟩
  | 72 => ⟨S1x4096, .f32⟩
  | 73 => ⟨S4096, .f32⟩
  | 74 => ⟨S_, .f32⟩
  | 75 => ⟨S4096, .f32⟩
  | 76 => ⟨S4096, .i1⟩
  | 77 => ⟨S_, .f32⟩
  | 78 => ⟨S_, .f32⟩
  | 79 => ⟨S4096, .f32⟩
  | 80 => ⟨S4096, .f32⟩
  | 81 => ⟨S200, .f32⟩
  | 82 => ⟨S200, .i32⟩
  | 83 => ⟨S_, .i32⟩
  | 84 => ⟨S200, .i32⟩
  | 85 => ⟨S200, .i1⟩
  | 86 => ⟨S_, .i32⟩
  | 87 => ⟨S200, .i32⟩
  | 88 => ⟨S200, .i32⟩
  | 89 => ⟨S200, .i32⟩
  | 90 => ⟨S200x1, .i32⟩
  | 91 => ⟨S200, .i32⟩
  | 92 => ⟨S_, .i32⟩
  | 93 => ⟨S_, .i32⟩
  | 94 => ⟨S200, .i32⟩
  | 95 => ⟨S200, .i32⟩
  | 96 => ⟨S200, .i32⟩
  | 97 => ⟨S_, .i32⟩
  | 98 => ⟨S200, .i32⟩
  | 99 => ⟨S200, .i1⟩
  | 100 => ⟨S200, .i32⟩
  | 101 => ⟨S200, .i32⟩
  | 102 => ⟨S_, .i32⟩
  | 103 => ⟨S200, .i32⟩
  | 104 => ⟨S200, .i1⟩
  | 105 => ⟨S200, .i1⟩
  | 106 => ⟨S_, .i32⟩
  | 107 => ⟨S200, .i32⟩
  | 108 => ⟨S200, .i32⟩
  | 109 => ⟨S200, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S200, .i32⟩
  | 117 => ⟨S200, .i32⟩
  | 118 => ⟨S_, .i32⟩
  | 119 => ⟨S200, .i32⟩
  | 120 => ⟨S200, .i1⟩
  | 121 => ⟨S_, .i32⟩
  | 122 => ⟨S200, .i32⟩
  | 123 => ⟨S200, .i1⟩
  | 124 => ⟨S_, .i32⟩
  | 125 => ⟨S_, .i1⟩
  | 126 => ⟨S200, .i1⟩
  | 127 => ⟨S200, .i1⟩
  | _ => ⟨S1x20000x4, .f32⟩

abbrev hbmTy0_2 (i : Nat) : BufTy := match i % 128 with
  | 0 => ⟨S200, .i1⟩
  | 1 => ⟨S200, .i32⟩
  | 2 => ⟨S200, .i32⟩
  | 3 => ⟨S200, .i32⟩
  | 4 => ⟨S_, .i32⟩
  | 5 => ⟨S200, .i32⟩
  | 6 => ⟨S200, .i32⟩
  | 7 => ⟨S_, .i32⟩
  | 8 => ⟨S200, .i32⟩
  | 9 => ⟨S200, .i1⟩
  | 10 => ⟨S_, .i32⟩
  | 11 => ⟨S200, .i32⟩
  | 12 => ⟨S200, .i32⟩
  | 13 => ⟨S200, .i32⟩
  | 14 => ⟨S200x1, .i32⟩
  | 15 => ⟨S200x4, .f32⟩
  | 16 => ⟨S_, .i32⟩
  | 17 => ⟨S200, .i32⟩
  | 18 => ⟨S200, .i1⟩
  | 19 => ⟨S_, .i32⟩
  | 20 => ⟨S200, .i32⟩
  | 21 => ⟨S200, .i32⟩
  | 22 => ⟨S200, .i32⟩
  | 23 => ⟨S_, .i32⟩
  | 24 => ⟨S200, .i32⟩
  | 25 => ⟨S200, .i1⟩
  | 26 => ⟨S_, .i32⟩
  | 27 => ⟨S200, .i32⟩
  | 28 => ⟨S200, .i32⟩
  | 29 => ⟨S200, .i32⟩
  | 30 => ⟨S200x1, .i32⟩
  | 31 => ⟨S200x1, .i32⟩
  | 32 => ⟨S200x2, .i32⟩
  | 33 => ⟨S200, .f32⟩
  | 34 => ⟨S200, .f32⟩
  | 35 => ⟨S200x1, .f32⟩
  | 36 => ⟨S200x1, .f32⟩
  | 37 => ⟨S200x6, .f32⟩
  | 38 => ⟨S_, .f32⟩
  | 39 => ⟨S_, .f32⟩
  | 40 => ⟨S512, .f32⟩
  | 41 => ⟨S512, .f32⟩
  | 42 => ⟨S200, .f32⟩
  | 43 => ⟨S200, .i32⟩
  | 44 => ⟨S_, .i32⟩
  | 45 => ⟨S200, .i32⟩
  | 46 => ⟨S200, .i1⟩
  | 47 => ⟨S_, .i32⟩
  | 48 => ⟨S200, .i32⟩
  | 49 => ⟨S200, .i32⟩
  | 50 => ⟨S200, .i32⟩
  | 51 => ⟨S200x1, .i32⟩
  | 52 => ⟨S200, .i32⟩
  | 53 => ⟨S_, .i32⟩
  | 54 => ⟨S_, .i32⟩
  | 55 => ⟨S200, .i32⟩
  | 56 => ⟨S200, .i32⟩
  | 57 => ⟨S200, .i32⟩
  | 58 => ⟨S_, .i32⟩
  | 59 => ⟨S200, .i32⟩
  | 60 => ⟨S200, .i1⟩
  | 61 => ⟨S200, .i32⟩
  | 62 => ⟨S200, .i32⟩
  | 63 => ⟨S_, .i32⟩
  | 64 => ⟨S200, .i32⟩
  | 65 => ⟨S200, .i1⟩
  | 66 => ⟨S200, .i1⟩
  | 67 => ⟨S_, .i32⟩
  | 68 => ⟨S200, .i32⟩
  | 69 => ⟨S200, .i32⟩
  | 70 => ⟨S200, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S200, .i32⟩
  | 78 => ⟨S200, .i32⟩
  | 79 => ⟨S_, .i32⟩
  | 80 => ⟨S200, .i32⟩
  | 81 => ⟨S200, .i1⟩
  | 82 => ⟨S_, .i32⟩
  | 83 => ⟨S200, .i32⟩
  | 84 => ⟨S200, .i1⟩
  | 85 => ⟨S_, .i32⟩
  | 86 => ⟨S_, .i1⟩
  | 87 => ⟨S200, .i1⟩
  | 88 => ⟨S200, .i1⟩
  | 89 => ⟨S200, .i1⟩
  | 90 => ⟨S200, .i32⟩
  | 91 => ⟨S200, .i32⟩
  | 92 => ⟨S200, .i32⟩
  | 93 => ⟨S_, .i32⟩
  | 94 => ⟨S200, .i32⟩
  | 95 => ⟨S200, .i32⟩
  | 96 => ⟨S_, .i32⟩
  | 97 => ⟨S200, .i32⟩
  | 98 => ⟨S200, .i1⟩
  | 99 => ⟨S_, .i32⟩
  | 100 => ⟨S200, .i32⟩
  | 101 => ⟨S200, .i32⟩
  | 102 => ⟨S200, .i32⟩
  | 103 => ⟨S200x1, .i32⟩
  | 104 => ⟨S200x4, .f32⟩
  | 105 => ⟨S_, .i32⟩
  | 106 => ⟨S200, .i32⟩
  | 107 => ⟨S200, .i1⟩
  | 108 => ⟨S_, .i32⟩
  | 109 => ⟨S200, .i32⟩
  | 110 => ⟨S200, .i32⟩
  | 111 => ⟨S200, .i32⟩
  | 112 => ⟨S_, .i32⟩
  | 113 => ⟨S200, .i32⟩
  | 114 => ⟨S200, .i1⟩
  | 115 => ⟨S_, .i32⟩
  | 116 => ⟨S200, .i32⟩
  | 117 => ⟨S200, .i32⟩
  | 118 => ⟨S200, .i32⟩
  | 119 => ⟨S200x1, .i32⟩
  | 120 => ⟨S200x1, .i32⟩
  | 121 => ⟨S200x2, .i32⟩
  | 122 => ⟨S200, .f32⟩
  | 123 => ⟨S200, .f32⟩
  | 124 => ⟨S200x1, .f32⟩
  | 125 => ⟨S200x1, .f32⟩
  | 126 => ⟨S200x6, .f32⟩
  | _ => ⟨S1x20000x4, .f32⟩

abbrev hbmTy (i : Nat) : BufTy := match i / 128 with
  | 0 => hbmTy0_0 i
  | 1 => hbmTy0_1 i
  | 2 => hbmTy0_2 i
  | _ => ⟨S1x20000x4, .f32⟩

abbrev bufTy : (tb : Table) → Fin (tcTables nBuf tb) → BufTy
  | .hbm, ⟨i, _⟩ => hbmTy i
  | .local _ .vmem, ⟨0, _⟩ => ⟨S4x20000, .f32⟩
  | .local _ .vmem, ⟨1, _⟩ => ⟨S4x20000, .f32⟩
  | .local _ .vmem, ⟨2, _⟩ => ⟨S21x20000, .f32⟩
  | .local _ .vmem, ⟨3, _⟩ => ⟨S4x20000, .f32⟩
  | .local _ .vmem, ⟨4, _⟩ => ⟨S20x20000, .f32⟩
  | .local _ .vmem, ⟨5, _⟩ => ⟨S1x20000, .f32⟩
  | .local _ .vmem, ⟨6, _⟩ => ⟨S1x1, .f32⟩
  | .local _ .vmem, ⟨7, _⟩ => ⟨S4x512, .f32⟩
  | .local _ .vmem, ⟨8, _⟩ => ⟨S512x4, .f32⟩
  | .local _ .vmem, ⟨9, _⟩ => ⟨S1x512, .f32⟩
  | .local _ .vmem, ⟨10, _⟩ => ⟨S128x128, .f32⟩
  | .local _ .vmem, ⟨11, _⟩ => ⟨S1x128, .f32⟩
  | .local _ .vmem, ⟨12, _⟩ => ⟨S4x4096, .f32⟩
  | .local _ .vmem, ⟨13, _⟩ => ⟨S4096x4, .f32⟩
  | .local _ .vmem, ⟨14, _⟩ => ⟨S1x4096, .f32⟩
  | .local _ .vmem, ⟨15, _⟩ => ⟨S128x128, .f32⟩
  | .local _ .vmem, ⟨16, _⟩ => ⟨S1x128, .f32⟩
  | _, _ => ⟨S1x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_call0_v4_1 : Ref sig .tc := ⟨.hbm, 8, rfl⟩
abbrev main_call0_v4_2 : Ref sig .tc := ⟨.hbm, 9, rfl⟩
abbrev main_call0_v4_3 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_values : Ref sig .tc := ⟨.hbm, 16, rfl⟩
abbrev main_call0_indices : Ref sig .tc := ⟨.hbm, 17, rfl⟩
abbrev main_call0_c : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_c_1 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_values_2 : Ref sig .tc := ⟨.hbm, 39, rfl⟩
abbrev main_call0_indices_3 : Ref sig .tc := ⟨.hbm, 40, rfl⟩
abbrev main_call0_c_4 : Ref sig .tc := ⟨.hbm, 41, rfl⟩
abbrev main_call0_v28 : Ref sig .tc := ⟨.hbm, 42, rfl⟩
abbrev main_call0_v29 : Ref sig .tc := ⟨.hbm, 43, rfl⟩
abbrev main_call0_c_5 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36_0 : Ref sig .tc := ⟨.hbm, 51, rfl⟩
abbrev main_call0_v36_1 : Ref sig .tc := ⟨.hbm, 52, rfl⟩
abbrev main_call0_v37 : Ref sig .tc := ⟨.hbm, 53, rfl⟩
abbrev main_call0_v38 : Ref sig .tc := ⟨.hbm, 54, rfl⟩
abbrev main_call0_v39 : Ref sig .tc := ⟨.hbm, 55, rfl⟩
abbrev main_call0_v40 : Ref sig .tc := ⟨.hbm, 56, rfl⟩
abbrev main_call0_v41 : Ref sig .tc := ⟨.hbm, 57, rfl⟩
abbrev main_call0_v42 : Ref sig .tc := ⟨.hbm, 58, rfl⟩
abbrev main_call0_c_6 : Ref sig .tc := ⟨.hbm, 59, rfl⟩
abbrev main_call0_v43 : Ref sig .tc := ⟨.hbm, 60, rfl⟩
abbrev main_call0_c_7 : Ref sig .tc := ⟨.hbm, 61, rfl⟩
abbrev main_call0_v44 : Ref sig .tc := ⟨.hbm, 62, rfl⟩
abbrev main_call0_c_8 : Ref sig .tc := ⟨.hbm, 63, rfl⟩
abbrev main_call0_call0_v0 : Ref sig .tc := ⟨.hbm, 64, rfl⟩
abbrev main_call0_call0_c : Ref sig .tc := ⟨.hbm, 65, rfl⟩
abbrev main_call0_call0_v1 : Ref sig .tc := ⟨.hbm, 66, rfl⟩
abbrev main_call0_call0_c_0 : Ref sig .tc := ⟨.hbm, 67, rfl⟩
abbrev main_call0_call0_v2 : Ref sig .tc := ⟨.hbm, 68, rfl⟩
abbrev main_call0_call0_v3 : Ref sig .tc := ⟨.hbm, 69, rfl⟩
abbrev main_call0_call0_v4 : Ref sig .tc := ⟨.hbm, 70, rfl⟩
abbrev main_call0_call0_c_1 : Ref sig .tc := ⟨.hbm, 71, rfl⟩
abbrev main_call0_call0_v5 : Ref sig .tc := ⟨.hbm, 72, rfl⟩
abbrev main_call0_call0_v6 : Ref sig .tc := ⟨.hbm, 73, rfl⟩
abbrev main_call0_call0_c_2 : Ref sig .tc := ⟨.hbm, 74, rfl⟩
abbrev main_call0_call0_v7 : Ref sig .tc := ⟨.hbm, 75, rfl⟩
abbrev main_call0_call0_v8 : Ref sig .tc := ⟨.hbm, 76, rfl⟩
abbrev main_call0_call0_c_3 : Ref sig .tc := ⟨.hbm, 77, rfl⟩
abbrev main_call0_call0_v9 : Ref sig .tc := ⟨.hbm, 78, rfl⟩
abbrev main_call0_call0_v10 : Ref sig .tc := ⟨.hbm, 79, rfl⟩
abbrev main_call0_call0_v11 : Ref sig .tc := ⟨.hbm, 80, rfl⟩
abbrev main_call0_call0_v12 : Ref sig .tc := ⟨.hbm, 81, rfl⟩
abbrev main_call0_call0_v13 : Ref sig .tc := ⟨.hbm, 82, rfl⟩
abbrev main_call0_call0_v14 : Ref sig .tc := ⟨.hbm, 83, rfl⟩
abbrev main_call0_v45 : Ref sig .tc := ⟨.hbm, 84, rfl⟩
abbrev main_call0_c_9 : Ref sig .tc := ⟨.hbm, 85, rfl⟩
abbrev main_call0_v46 : Ref sig .tc := ⟨.hbm, 86, rfl⟩
abbrev main_call0_v47 : Ref sig .tc := ⟨.hbm, 87, rfl⟩
abbrev main_call0_v48 : Ref sig .tc := ⟨.hbm, 88, rfl⟩
abbrev main_call0_cst : Ref sig .tc := ⟨.hbm, 89, rfl⟩
abbrev main_call0_v49 : Ref sig .tc := ⟨.hbm, 90, rfl⟩
abbrev main_call0_v50 : Ref sig .tc := ⟨.hbm, 91, rfl⟩
abbrev main_call0_v51 : Ref sig .tc := ⟨.hbm, 92, rfl⟩
abbrev main_call0_c_10 : Ref sig .tc := ⟨.hbm, 93, rfl⟩
abbrev main_call0_call1_v0 : Ref sig .tc := ⟨.hbm, 94, rfl⟩
abbrev main_call0_call1_v1 : Ref sig .tc := ⟨.hbm, 95, rfl⟩
abbrev main_call0_call1_v2 : Ref sig .tc := ⟨.hbm, 96, rfl⟩
abbrev main_call0_call1_v3 : Ref sig .tc := ⟨.hbm, 97, rfl⟩
abbrev main_call0_call1_v4 : Ref sig .tc := ⟨.hbm, 98, rfl⟩
abbrev main_call0_call1_v5 : Ref sig .tc := ⟨.hbm, 99, rfl⟩
abbrev main_call0_call1_v6 : Ref sig .tc := ⟨.hbm, 100, rfl⟩
abbrev main_call0_call1_v7 : Ref sig .tc := ⟨.hbm, 101, rfl⟩
abbrev main_call0_call1_v8 : Ref sig .tc := ⟨.hbm, 102, rfl⟩
abbrev main_call0_call1_c : Ref sig .tc := ⟨.hbm, 103, rfl⟩
abbrev main_call0_call1_v9 : Ref sig .tc := ⟨.hbm, 104, rfl⟩
abbrev main_call0_call1_v10 : Ref sig .tc := ⟨.hbm, 105, rfl⟩
abbrev main_call0_call1_v11 : Ref sig .tc := ⟨.hbm, 106, rfl⟩
abbrev main_call0_call1_c_0 : Ref sig .tc := ⟨.hbm, 107, rfl⟩
abbrev main_call0_call1_v12 : Ref sig .tc := ⟨.hbm, 108, rfl⟩
abbrev main_call0_call1_v13 : Ref sig .tc := ⟨.hbm, 109, rfl⟩
abbrev main_call0_v52 : Ref sig .tc := ⟨.hbm, 110, rfl⟩
abbrev main_call0_c_11 : Ref sig .tc := ⟨.hbm, 111, rfl⟩
abbrev main_call0_v53 : Ref sig .tc := ⟨.hbm, 112, rfl⟩
abbrev main_call0_v54 : Ref sig .tc := ⟨.hbm, 113, rfl⟩
abbrev main_call0_c_12 : Ref sig .tc := ⟨.hbm, 114, rfl⟩
abbrev main_call0_v55 : Ref sig .tc := ⟨.hbm, 115, rfl⟩
abbrev main_call0_v56 : Ref sig .tc := ⟨.hbm, 116, rfl⟩
abbrev main_call0_v57 : Ref sig .tc := ⟨.hbm, 117, rfl⟩
abbrev main_call0_v58 : Ref sig .tc := ⟨.hbm, 118, rfl⟩
abbrev main_call0_v59 : Ref sig .tc := ⟨.hbm, 119, rfl⟩
abbrev main_call0_v60 : Ref sig .tc := ⟨.hbm, 120, rfl⟩
abbrev main_call0_v61 : Ref sig .tc := ⟨.hbm, 121, rfl⟩
abbrev main_call0_v62 : Ref sig .tc := ⟨.hbm, 122, rfl⟩
abbrev main_call0_v63 : Ref sig .tc := ⟨.hbm, 123, rfl⟩
abbrev main_call0_v64 : Ref sig .tc := ⟨.hbm, 124, rfl⟩
abbrev main_call0_v65 : Ref sig .tc := ⟨.hbm, 125, rfl⟩
abbrev main_call0_cst_13 : Ref sig .tc := ⟨.hbm, 126, rfl⟩
abbrev main_call0_v66 : Ref sig .tc := ⟨.hbm, 127, rfl⟩
abbrev main_call0_v67 : Ref sig .tc := ⟨.hbm, 128, rfl⟩
abbrev main_call0_v68 : Ref sig .tc := ⟨.hbm, 129, rfl⟩
abbrev main_call0_c_14 : Ref sig .tc := ⟨.hbm, 130, rfl⟩
abbrev main_call0_v69 : Ref sig .tc := ⟨.hbm, 131, rfl⟩
abbrev main_call0_c_15 : Ref sig .tc := ⟨.hbm, 132, rfl⟩
abbrev main_call0_v70 : Ref sig .tc := ⟨.hbm, 133, rfl⟩
abbrev main_call0_v71 : Ref sig .tc := ⟨.hbm, 134, rfl⟩
abbrev main_call0_v72 : Ref sig .tc := ⟨.hbm, 135, rfl⟩
abbrev main_v0 : Ref sig .tc := ⟨.hbm, 136, rfl⟩
abbrev main_call0_case0b0_values_16 : Ref sig .tc := ⟨.hbm, 137, rfl⟩
abbrev main_call0_case0b0_indices_17 : Ref sig .tc := ⟨.hbm, 138, rfl⟩
abbrev main_call0_case0b0_c_18 : Ref sig .tc := ⟨.hbm, 139, rfl⟩
abbrev main_call0_case0b0_call2_v0 : Ref sig .tc := ⟨.hbm, 140, rfl⟩
abbrev main_call0_case0b0_call2_c : Ref sig .tc := ⟨.hbm, 141, rfl⟩
abbrev main_call0_case0b0_call2_v1 : Ref sig .tc := ⟨.hbm, 142, rfl⟩
abbrev main_call0_case0b0_call2_c_0 : Ref sig .tc := ⟨.hbm, 143, rfl⟩
abbrev main_call0_case0b0_call2_v2 : Ref sig .tc := ⟨.hbm, 144, rfl⟩
abbrev main_call0_case0b0_call2_v3 : Ref sig .tc := ⟨.hbm, 145, rfl⟩
abbrev main_call0_case0b0_call2_v4 : Ref sig .tc := ⟨.hbm, 146, rfl⟩
abbrev main_call0_case0b0_call2_c_1 : Ref sig .tc := ⟨.hbm, 147, rfl⟩
abbrev main_call0_case0b0_call2_v5 : Ref sig .tc := ⟨.hbm, 148, rfl⟩
abbrev main_call0_case0b0_call2_v6 : Ref sig .tc := ⟨.hbm, 149, rfl⟩
abbrev main_call0_case0b0_call2_c_2 : Ref sig .tc := ⟨.hbm, 150, rfl⟩
abbrev main_call0_case0b0_call2_v7 : Ref sig .tc := ⟨.hbm, 151, rfl⟩
abbrev main_call0_case0b0_call2_v8 : Ref sig .tc := ⟨.hbm, 152, rfl⟩
abbrev main_call0_case0b0_call2_c_3 : Ref sig .tc := ⟨.hbm, 153, rfl⟩
abbrev main_call0_case0b0_call2_v9 : Ref sig .tc := ⟨.hbm, 154, rfl⟩
abbrev main_call0_case0b0_call2_v10 : Ref sig .tc := ⟨.hbm, 155, rfl⟩
abbrev main_call0_case0b0_call2_v11 : Ref sig .tc := ⟨.hbm, 156, rfl⟩
abbrev main_call0_case0b0_call2_v12 : Ref sig .tc := ⟨.hbm, 157, rfl⟩
abbrev main_call0_case0b0_call2_v13 : Ref sig .tc := ⟨.hbm, 158, rfl⟩
abbrev main_call0_case0b0_call2_v14 : Ref sig .tc := ⟨.hbm, 159, rfl⟩
abbrev main_call0_case0b0_v74 : Ref sig .tc := ⟨.hbm, 160, rfl⟩
abbrev main_call0_case0b0_c_19 : Ref sig .tc := ⟨.hbm, 161, rfl⟩
abbrev main_call0_case0b0_v75 : Ref sig .tc := ⟨.hbm, 162, rfl⟩
abbrev main_call0_case0b0_v76 : Ref sig .tc := ⟨.hbm, 163, rfl⟩
abbrev main_call0_case0b0_v77 : Ref sig .tc := ⟨.hbm, 164, rfl⟩
abbrev main_call0_case0b0_cst_20 : Ref sig .tc := ⟨.hbm, 165, rfl⟩
abbrev main_call0_case0b0_v78 : Ref sig .tc := ⟨.hbm, 166, rfl⟩
abbrev main_call0_case0b0_v79 : Ref sig .tc := ⟨.hbm, 167, rfl⟩
abbrev main_call0_case0b0_v80 : Ref sig .tc := ⟨.hbm, 168, rfl⟩
abbrev main_call0_case0b0_c_21 : Ref sig .tc := ⟨.hbm, 169, rfl⟩
abbrev main_call0_case0b0_call3_v0 : Ref sig .tc := ⟨.hbm, 170, rfl⟩
abbrev main_call0_case0b0_call3_v1 : Ref sig .tc := ⟨.hbm, 171, rfl⟩
abbrev main_call0_case0b0_call3_v2 : Ref sig .tc := ⟨.hbm, 172, rfl⟩
abbrev main_call0_case0b0_call3_v3 : Ref sig .tc := ⟨.hbm, 173, rfl⟩
abbrev main_call0_case0b0_call3_v4 : Ref sig .tc := ⟨.hbm, 174, rfl⟩
abbrev main_call0_case0b0_call3_v5 : Ref sig .tc := ⟨.hbm, 175, rfl⟩
abbrev main_call0_case0b0_call3_v6 : Ref sig .tc := ⟨.hbm, 176, rfl⟩
abbrev main_call0_case0b0_call3_v7 : Ref sig .tc := ⟨.hbm, 177, rfl⟩
abbrev main_call0_case0b0_call3_v8 : Ref sig .tc := ⟨.hbm, 178, rfl⟩
abbrev main_call0_case0b0_call3_c : Ref sig .tc := ⟨.hbm, 179, rfl⟩
abbrev main_call0_case0b0_call3_v9 : Ref sig .tc := ⟨.hbm, 180, rfl⟩
abbrev main_call0_case0b0_call3_v10 : Ref sig .tc := ⟨.hbm, 181, rfl⟩
abbrev main_call0_case0b0_call3_v11 : Ref sig .tc := ⟨.hbm, 182, rfl⟩
abbrev main_call0_case0b0_call3_c_0 : Ref sig .tc := ⟨.hbm, 183, rfl⟩
abbrev main_call0_case0b0_call3_v12 : Ref sig .tc := ⟨.hbm, 184, rfl⟩
abbrev main_call0_case0b0_call3_v13 : Ref sig .tc := ⟨.hbm, 185, rfl⟩
abbrev main_call0_case0b0_v81 : Ref sig .tc := ⟨.hbm, 186, rfl⟩
abbrev main_call0_case0b0_c_22 : Ref sig .tc := ⟨.hbm, 187, rfl⟩
abbrev main_call0_case0b0_v82 : Ref sig .tc := ⟨.hbm, 188, rfl⟩
abbrev main_call0_case0b0_v83 : Ref sig .tc := ⟨.hbm, 189, rfl⟩
abbrev main_call0_case0b0_c_23 : Ref sig .tc := ⟨.hbm, 190, rfl⟩
abbrev main_call0_case0b0_v84 : Ref sig .tc := ⟨.hbm, 191, rfl⟩
abbrev main_call0_case0b0_v85 : Ref sig .tc := ⟨.hbm, 192, rfl⟩
abbrev main_call0_case0b0_v86 : Ref sig .tc := ⟨.hbm, 193, rfl⟩
abbrev main_call0_case0b0_v87 : Ref sig .tc := ⟨.hbm, 194, rfl⟩
abbrev main_call0_case0b0_v88 : Ref sig .tc := ⟨.hbm, 195, rfl⟩
abbrev main_call0_case0b0_v89 : Ref sig .tc := ⟨.hbm, 196, rfl⟩
abbrev main_call0_case0b0_v90 : Ref sig .tc := ⟨.hbm, 197, rfl⟩
abbrev main_call0_case0b0_v91 : Ref sig .tc := ⟨.hbm, 198, rfl⟩
abbrev main_call0_case0b0_v92 : Ref sig .tc := ⟨.hbm, 199, rfl⟩
abbrev main_call0_case0b0_v93 : Ref sig .tc := ⟨.hbm, 200, rfl⟩
abbrev main_call0_case0b0_v94 : Ref sig .tc := ⟨.hbm, 201, rfl⟩
abbrev main_call0_case0b0_cst_24 : Ref sig .tc := ⟨.hbm, 202, rfl⟩
abbrev main_call0_case0b0_v95 : Ref sig .tc := ⟨.hbm, 203, rfl⟩
abbrev main_call0_case0b0_v96 : Ref sig .tc := ⟨.hbm, 204, rfl⟩
abbrev main_call0_case0b0_cst_25 : Ref sig .tc := ⟨.hbm, 205, rfl⟩
abbrev main_call0_case0b0_call4_v0 : Ref sig .tc := ⟨.hbm, 206, rfl⟩
abbrev main_call0_case0b0_call4_v1 : Ref sig .tc := ⟨.hbm, 207, rfl⟩
abbrev main_call0_case0b0_v97 : Ref sig .tc := ⟨.hbm, 208, rfl⟩
abbrev main_call0_case0b0_values_26 : Ref sig .tc := ⟨.hbm, 209, rfl⟩
abbrev main_call0_case0b0_indices_27 : Ref sig .tc := ⟨.hbm, 210, rfl⟩
abbrev main_call0_case0b0_c_28 : Ref sig .tc := ⟨.hbm, 211, rfl⟩
abbrev main_call0_case0b0_v98 : Ref sig .tc := ⟨.hbm, 212, rfl⟩
abbrev main_call0_case0b0_v99 : Ref sig .tc := ⟨.hbm, 213, rfl⟩
abbrev main_call0_case0b0_c_29 : Ref sig .tc := ⟨.hbm, 214, rfl⟩
abbrev main_call0_case0b0_v100 : Ref sig .tc := ⟨.hbm, 215, rfl⟩
abbrev main_call0_case0b0_v101 : Ref sig .tc := ⟨.hbm, 216, rfl⟩
abbrev main_call0_case0b0_v102 : Ref sig .tc := ⟨.hbm, 217, rfl⟩
abbrev main_call0_case0b0_v103 : Ref sig .tc := ⟨.hbm, 218, rfl⟩
abbrev main_call0_case0b0_v104 : Ref sig .tc := ⟨.hbm, 219, rfl⟩
abbrev main_call0_case0b0_c_30 : Ref sig .tc := ⟨.hbm, 220, rfl⟩
abbrev main_call0_case0b0_call5_v0 : Ref sig .tc := ⟨.hbm, 221, rfl⟩
abbrev main_call0_case0b0_call5_v1 : Ref sig .tc := ⟨.hbm, 222, rfl⟩
abbrev main_call0_case0b0_call5_v2 : Ref sig .tc := ⟨.hbm, 223, rfl⟩
abbrev main_call0_case0b0_call5_v3 : Ref sig .tc := ⟨.hbm, 224, rfl⟩
abbrev main_call0_case0b0_call5_v4 : Ref sig .tc := ⟨.hbm, 225, rfl⟩
abbrev main_call0_case0b0_call5_v5 : Ref sig .tc := ⟨.hbm, 226, rfl⟩
abbrev main_call0_case0b0_call5_v6 : Ref sig .tc := ⟨.hbm, 227, rfl⟩
abbrev main_call0_case0b0_call5_v7 : Ref sig .tc := ⟨.hbm, 228, rfl⟩
abbrev main_call0_case0b0_call5_v8 : Ref sig .tc := ⟨.hbm, 229, rfl⟩
abbrev main_call0_case0b0_call5_c : Ref sig .tc := ⟨.hbm, 230, rfl⟩
abbrev main_call0_case0b0_call5_v9 : Ref sig .tc := ⟨.hbm, 231, rfl⟩
abbrev main_call0_case0b0_call5_v10 : Ref sig .tc := ⟨.hbm, 232, rfl⟩
abbrev main_call0_case0b0_call5_v11 : Ref sig .tc := ⟨.hbm, 233, rfl⟩
abbrev main_call0_case0b0_call5_c_0 : Ref sig .tc := ⟨.hbm, 234, rfl⟩
abbrev main_call0_case0b0_call5_v12 : Ref sig .tc := ⟨.hbm, 235, rfl⟩
abbrev main_call0_case0b0_call5_v13 : Ref sig .tc := ⟨.hbm, 236, rfl⟩
abbrev main_call0_case0b0_v105 : Ref sig .tc := ⟨.hbm, 237, rfl⟩
abbrev main_call0_case0b0_c_31 : Ref sig .tc := ⟨.hbm, 238, rfl⟩
abbrev main_call0_case0b0_call6_v0 : Ref sig .tc := ⟨.hbm, 239, rfl⟩
abbrev main_call0_case0b0_call6_c : Ref sig .tc := ⟨.hbm, 240, rfl⟩
abbrev main_call0_case0b0_call6_v1 : Ref sig .tc := ⟨.hbm, 241, rfl⟩
abbrev main_call0_case0b0_call6_c_0 : Ref sig .tc := ⟨.hbm, 242, rfl⟩
abbrev main_call0_case0b0_call6_v2 : Ref sig .tc := ⟨.hbm, 243, rfl⟩
abbrev main_call0_case0b0_call6_v3 : Ref sig .tc := ⟨.hbm, 244, rfl⟩
abbrev main_call0_case0b0_call6_v4 : Ref sig .tc := ⟨.hbm, 245, rfl⟩
abbrev main_call0_case0b0_call6_c_1 : Ref sig .tc := ⟨.hbm, 246, rfl⟩
abbrev main_call0_case0b0_call6_v5 : Ref sig .tc := ⟨.hbm, 247, rfl⟩
abbrev main_call0_case0b0_call6_v6 : Ref sig .tc := ⟨.hbm, 248, rfl⟩
abbrev main_call0_case0b0_call6_c_2 : Ref sig .tc := ⟨.hbm, 249, rfl⟩
abbrev main_call0_case0b0_call6_v7 : Ref sig .tc := ⟨.hbm, 250, rfl⟩
abbrev main_call0_case0b0_call6_v8 : Ref sig .tc := ⟨.hbm, 251, rfl⟩
abbrev main_call0_case0b0_call6_c_3 : Ref sig .tc := ⟨.hbm, 252, rfl⟩
abbrev main_call0_case0b0_call6_v9 : Ref sig .tc := ⟨.hbm, 253, rfl⟩
abbrev main_call0_case0b0_call6_v10 : Ref sig .tc := ⟨.hbm, 254, rfl⟩
abbrev main_call0_case0b0_call6_v11 : Ref sig .tc := ⟨.hbm, 255, rfl⟩
abbrev main_call0_case0b0_call6_v12 : Ref sig .tc := ⟨.hbm, 256, rfl⟩
abbrev main_call0_case0b0_call6_v13 : Ref sig .tc := ⟨.hbm, 257, rfl⟩
abbrev main_call0_case0b0_call6_v14 : Ref sig .tc := ⟨.hbm, 258, rfl⟩
abbrev main_call0_case0b0_v106 : Ref sig .tc := ⟨.hbm, 259, rfl⟩
abbrev main_call0_case0b0_c_32 : Ref sig .tc := ⟨.hbm, 260, rfl⟩
abbrev main_call0_case0b0_v107 : Ref sig .tc := ⟨.hbm, 261, rfl⟩
abbrev main_call0_case0b0_v108 : Ref sig .tc := ⟨.hbm, 262, rfl⟩
abbrev main_call0_case0b0_c_33 : Ref sig .tc := ⟨.hbm, 263, rfl⟩
abbrev main_call0_case0b0_v109 : Ref sig .tc := ⟨.hbm, 264, rfl⟩
abbrev main_call0_case0b0_v110 : Ref sig .tc := ⟨.hbm, 265, rfl⟩
abbrev main_call0_case0b0_c_34 : Ref sig .tc := ⟨.hbm, 266, rfl⟩
abbrev main_call0_case0b0_v111 : Ref sig .tc := ⟨.hbm, 267, rfl⟩
abbrev main_call0_case0b0_v112 : Ref sig .tc := ⟨.hbm, 268, rfl⟩
abbrev main_call0_case0b0_v113 : Ref sig .tc := ⟨.hbm, 269, rfl⟩
abbrev main_call0_case0b0_v114 : Ref sig .tc := ⟨.hbm, 270, rfl⟩
abbrev main_call0_case0b0_v115 : Ref sig .tc := ⟨.hbm, 271, rfl⟩
abbrev main_call0_case0b0_c_35 : Ref sig .tc := ⟨.hbm, 272, rfl⟩
abbrev main_call0_case0b0_v116 : Ref sig .tc := ⟨.hbm, 273, rfl⟩
abbrev main_call0_case0b0_v117 : Ref sig .tc := ⟨.hbm, 274, rfl⟩
abbrev main_call0_case0b0_c_36 : Ref sig .tc := ⟨.hbm, 275, rfl⟩
abbrev main_call0_case0b0_v118 : Ref sig .tc := ⟨.hbm, 276, rfl⟩
abbrev main_call0_case0b0_v119 : Ref sig .tc := ⟨.hbm, 277, rfl⟩
abbrev main_call0_case0b0_v120 : Ref sig .tc := ⟨.hbm, 278, rfl⟩
abbrev main_call0_case0b0_c_37 : Ref sig .tc := ⟨.hbm, 279, rfl⟩
abbrev main_call0_case0b0_v121 : Ref sig .tc := ⟨.hbm, 280, rfl⟩
abbrev main_call0_case0b0_v122 : Ref sig .tc := ⟨.hbm, 281, rfl⟩
abbrev main_call0_case0b0_c_38 : Ref sig .tc := ⟨.hbm, 282, rfl⟩
abbrev main_call0_case0b0_v123 : Ref sig .tc := ⟨.hbm, 283, rfl⟩
abbrev main_call0_case0b0_v124 : Ref sig .tc := ⟨.hbm, 284, rfl⟩
abbrev main_call0_case0b0_v125 : Ref sig .tc := ⟨.hbm, 285, rfl⟩
abbrev main_call0_case0b0_v126 : Ref sig .tc := ⟨.hbm, 286, rfl⟩
abbrev main_call0_case0b0_v127 : Ref sig .tc := ⟨.hbm, 287, rfl⟩
abbrev main_call0_case0b0_v128 : Ref sig .tc := ⟨.hbm, 288, rfl⟩
abbrev main_call0_case0b0_v129 : Ref sig .tc := ⟨.hbm, 289, rfl⟩
abbrev main_call0_case0b0_v130 : Ref sig .tc := ⟨.hbm, 290, rfl⟩
abbrev main_call0_case0b0_v131 : Ref sig .tc := ⟨.hbm, 291, rfl⟩
abbrev main_call0_case0b0_v132 : Ref sig .tc := ⟨.hbm, 292, rfl⟩
abbrev main_call0_case0b0_v133 : Ref sig .tc := ⟨.hbm, 293, rfl⟩
abbrev main_call0_case0b1_cst_16 : Ref sig .tc := ⟨.hbm, 294, rfl⟩
abbrev main_call0_case0b1_call7_v0 : Ref sig .tc := ⟨.hbm, 295, rfl⟩
abbrev main_call0_case0b1_call7_v1 : Ref sig .tc := ⟨.hbm, 296, rfl⟩
abbrev main_call0_case0b1_v74 : Ref sig .tc := ⟨.hbm, 297, rfl⟩
abbrev main_call0_case0b1_values_17 : Ref sig .tc := ⟨.hbm, 298, rfl⟩
abbrev main_call0_case0b1_indices_18 : Ref sig .tc := ⟨.hbm, 299, rfl⟩
abbrev main_call0_case0b1_c_19 : Ref sig .tc := ⟨.hbm, 300, rfl⟩
abbrev main_call0_case0b1_v75 : Ref sig .tc := ⟨.hbm, 301, rfl⟩
abbrev main_call0_case0b1_v76 : Ref sig .tc := ⟨.hbm, 302, rfl⟩
abbrev main_call0_case0b1_c_20 : Ref sig .tc := ⟨.hbm, 303, rfl⟩
abbrev main_call0_case0b1_v77 : Ref sig .tc := ⟨.hbm, 304, rfl⟩
abbrev main_call0_case0b1_v78 : Ref sig .tc := ⟨.hbm, 305, rfl⟩
abbrev main_call0_case0b1_v79 : Ref sig .tc := ⟨.hbm, 306, rfl⟩
abbrev main_call0_case0b1_v80 : Ref sig .tc := ⟨.hbm, 307, rfl⟩
abbrev main_call0_case0b1_v81 : Ref sig .tc := ⟨.hbm, 308, rfl⟩
abbrev main_call0_case0b1_c_21 : Ref sig .tc := ⟨.hbm, 309, rfl⟩
abbrev main_call0_case0b1_call8_v0 : Ref sig .tc := ⟨.hbm, 310, rfl⟩
abbrev main_call0_case0b1_call8_v1 : Ref sig .tc := ⟨.hbm, 311, rfl⟩
abbrev main_call0_case0b1_call8_v2 : Ref sig .tc := ⟨.hbm, 312, rfl⟩
abbrev main_call0_case0b1_call8_v3 : Ref sig .tc := ⟨.hbm, 313, rfl⟩
abbrev main_call0_case0b1_call8_v4 : Ref sig .tc := ⟨.hbm, 314, rfl⟩
abbrev main_call0_case0b1_call8_v5 : Ref sig .tc := ⟨.hbm, 315, rfl⟩
abbrev main_call0_case0b1_call8_v6 : Ref sig .tc := ⟨.hbm, 316, rfl⟩
abbrev main_call0_case0b1_call8_v7 : Ref sig .tc := ⟨.hbm, 317, rfl⟩
abbrev main_call0_case0b1_call8_v8 : Ref sig .tc := ⟨.hbm, 318, rfl⟩
abbrev main_call0_case0b1_call8_c : Ref sig .tc := ⟨.hbm, 319, rfl⟩
abbrev main_call0_case0b1_call8_v9 : Ref sig .tc := ⟨.hbm, 320, rfl⟩
abbrev main_call0_case0b1_call8_v10 : Ref sig .tc := ⟨.hbm, 321, rfl⟩
abbrev main_call0_case0b1_call8_v11 : Ref sig .tc := ⟨.hbm, 322, rfl⟩
abbrev main_call0_case0b1_call8_c_0 : Ref sig .tc := ⟨.hbm, 323, rfl⟩
abbrev main_call0_case0b1_call8_v12 : Ref sig .tc := ⟨.hbm, 324, rfl⟩
abbrev main_call0_case0b1_call8_v13 : Ref sig .tc := ⟨.hbm, 325, rfl⟩
abbrev main_call0_case0b1_v82 : Ref sig .tc := ⟨.hbm, 326, rfl⟩
abbrev main_call0_case0b1_c_22 : Ref sig .tc := ⟨.hbm, 327, rfl⟩
abbrev main_call0_case0b1_call9_v0 : Ref sig .tc := ⟨.hbm, 328, rfl⟩
abbrev main_call0_case0b1_call9_c : Ref sig .tc := ⟨.hbm, 329, rfl⟩
abbrev main_call0_case0b1_call9_v1 : Ref sig .tc := ⟨.hbm, 330, rfl⟩
abbrev main_call0_case0b1_call9_c_0 : Ref sig .tc := ⟨.hbm, 331, rfl⟩
abbrev main_call0_case0b1_call9_v2 : Ref sig .tc := ⟨.hbm, 332, rfl⟩
abbrev main_call0_case0b1_call9_v3 : Ref sig .tc := ⟨.hbm, 333, rfl⟩
abbrev main_call0_case0b1_call9_v4 : Ref sig .tc := ⟨.hbm, 334, rfl⟩
abbrev main_call0_case0b1_call9_c_1 : Ref sig .tc := ⟨.hbm, 335, rfl⟩
abbrev main_call0_case0b1_call9_v5 : Ref sig .tc := ⟨.hbm, 336, rfl⟩
abbrev main_call0_case0b1_call9_v6 : Ref sig .tc := ⟨.hbm, 337, rfl⟩
abbrev main_call0_case0b1_call9_c_2 : Ref sig .tc := ⟨.hbm, 338, rfl⟩
abbrev main_call0_case0b1_call9_v7 : Ref sig .tc := ⟨.hbm, 339, rfl⟩
abbrev main_call0_case0b1_call9_v8 : Ref sig .tc := ⟨.hbm, 340, rfl⟩
abbrev main_call0_case0b1_call9_c_3 : Ref sig .tc := ⟨.hbm, 341, rfl⟩
abbrev main_call0_case0b1_call9_v9 : Ref sig .tc := ⟨.hbm, 342, rfl⟩
abbrev main_call0_case0b1_call9_v10 : Ref sig .tc := ⟨.hbm, 343, rfl⟩
abbrev main_call0_case0b1_call9_v11 : Ref sig .tc := ⟨.hbm, 344, rfl⟩
abbrev main_call0_case0b1_call9_v12 : Ref sig .tc := ⟨.hbm, 345, rfl⟩
abbrev main_call0_case0b1_call9_v13 : Ref sig .tc := ⟨.hbm, 346, rfl⟩
abbrev main_call0_case0b1_call9_v14 : Ref sig .tc := ⟨.hbm, 347, rfl⟩
abbrev main_call0_case0b1_v83 : Ref sig .tc := ⟨.hbm, 348, rfl⟩
abbrev main_call0_case0b1_c_23 : Ref sig .tc := ⟨.hbm, 349, rfl⟩
abbrev main_call0_case0b1_v84 : Ref sig .tc := ⟨.hbm, 350, rfl⟩
abbrev main_call0_case0b1_v85 : Ref sig .tc := ⟨.hbm, 351, rfl⟩
abbrev main_call0_case0b1_c_24 : Ref sig .tc := ⟨.hbm, 352, rfl⟩
abbrev main_call0_case0b1_v86 : Ref sig .tc := ⟨.hbm, 353, rfl⟩
abbrev main_call0_case0b1_v87 : Ref sig .tc := ⟨.hbm, 354, rfl⟩
abbrev main_call0_case0b1_c_25 : Ref sig .tc := ⟨.hbm, 355, rfl⟩
abbrev main_call0_case0b1_v88 : Ref sig .tc := ⟨.hbm, 356, rfl⟩
abbrev main_call0_case0b1_v89 : Ref sig .tc := ⟨.hbm, 357, rfl⟩
abbrev main_call0_case0b1_v90 : Ref sig .tc := ⟨.hbm, 358, rfl⟩
abbrev main_call0_case0b1_v91 : Ref sig .tc := ⟨.hbm, 359, rfl⟩
abbrev main_call0_case0b1_v92 : Ref sig .tc := ⟨.hbm, 360, rfl⟩
abbrev main_call0_case0b1_c_26 : Ref sig .tc := ⟨.hbm, 361, rfl⟩
abbrev main_call0_case0b1_v93 : Ref sig .tc := ⟨.hbm, 362, rfl⟩
abbrev main_call0_case0b1_v94 : Ref sig .tc := ⟨.hbm, 363, rfl⟩
abbrev main_call0_case0b1_c_27 : Ref sig .tc := ⟨.hbm, 364, rfl⟩
abbrev main_call0_case0b1_v95 : Ref sig .tc := ⟨.hbm, 365, rfl⟩
abbrev main_call0_case0b1_v96 : Ref sig .tc := ⟨.hbm, 366, rfl⟩
abbrev main_call0_case0b1_v97 : Ref sig .tc := ⟨.hbm, 367, rfl⟩
abbrev main_call0_case0b1_c_28 : Ref sig .tc := ⟨.hbm, 368, rfl⟩
abbrev main_call0_case0b1_v98 : Ref sig .tc := ⟨.hbm, 369, rfl⟩
abbrev main_call0_case0b1_v99 : Ref sig .tc := ⟨.hbm, 370, rfl⟩
abbrev main_call0_case0b1_c_29 : Ref sig .tc := ⟨.hbm, 371, rfl⟩
abbrev main_call0_case0b1_v100 : Ref sig .tc := ⟨.hbm, 372, rfl⟩
abbrev main_call0_case0b1_v101 : Ref sig .tc := ⟨.hbm, 373, rfl⟩
abbrev main_call0_case0b1_v102 : Ref sig .tc := ⟨.hbm, 374, rfl⟩
abbrev main_call0_case0b1_v103 : Ref sig .tc := ⟨.hbm, 375, rfl⟩
abbrev main_call0_case0b1_v104 : Ref sig .tc := ⟨.hbm, 376, rfl⟩
abbrev main_call0_case0b1_v105 : Ref sig .tc := ⟨.hbm, 377, rfl⟩
abbrev main_call0_case0b1_v106 : Ref sig .tc := ⟨.hbm, 378, rfl⟩
abbrev main_call0_case0b1_v107 : Ref sig .tc := ⟨.hbm, 379, rfl⟩
abbrev main_call0_case0b1_v108 : Ref sig .tc := ⟨.hbm, 380, rfl⟩
abbrev main_call0_case0b1_v109 : Ref sig .tc := ⟨.hbm, 381, rfl⟩
abbrev main_call0_case0b1_v110 : Ref sig .tc := ⟨.hbm, 382, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc2_scratch1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := .none

abbrev stage0_0 : Fin 1 → Memref sig .tc .vmem S4x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S21x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x20000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x20000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x20000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

def k1_mult1 (arg5 : BitVec 32) : BitVec 32 :=
  let c128_i32 : BitVec 32 := 128#32
  let v4 : BitVec 32 := Scalar.muli arg5 c128_i32
  v4

def k1_off1 (arg5 : BitVec 32) : Fin 2 → Nat :=
  let c128_i32 : BitVec 32 := 128#32
  let v4 : BitVec 32 := Scalar.muli arg5 c128_i32
  let v5 : BitVec 32 := v4
  let v6 : Index := Scalar.indexCast v5
  let c0_2 : Index := 0#32
  ![v6.toNat, 0]
def k1_off2 (arg5 : BitVec 32) : Fin 2 → Nat :=
  let c128_i32 : BitVec 32 := 128#32
  let v4 : BitVec 32 := Scalar.muli arg5 c128_i32
  let v5 : BitVec 32 := v4
  let v9 : Index := Scalar.indexCast v5
  let c1 : Index := 1#32
  ![v9.toNat, 1]
def k1_off3 (arg5 : BitVec 32) : Fin 2 → Nat :=
  let c128_i32 : BitVec 32 := 128#32
  let v4 : BitVec 32 := Scalar.muli arg5 c128_i32
  let v5 : BitVec 32 := v4
  let v12 : Index := Scalar.indexCast v5
  let c2 : Index := 2#32
  ![v12.toNat, 2]
def k1_off4 (arg5 : BitVec 32) : Fin 2 → Nat :=
  let c128_i32 : BitVec 32 := 128#32
  let v4 : BitVec 32 := Scalar.muli arg5 c128_i32
  let v5 : BitVec 32 := v4
  let v15 : Index := Scalar.indexCast v5
  let c3 : Index := 3#32
  ![v15.toNat, 3]
def k1_off5 (arg5 : BitVec 32) : Fin 2 → Nat :=
  let c0_3 : Index := 0#32
  let c128_i32 : BitVec 32 := 128#32
  let v4 : BitVec 32 := Scalar.muli arg5 c128_i32
  let v5 : BitVec 32 := v4
  let v21 : Index := Scalar.indexCast v5
  ![0, v21.toNat]
def k1_off6 (arg5 : BitVec 32) : Fin 2 → Nat :=
  let c1_4 : Index := 1#32
  let c128_i32 : BitVec 32 := 128#32
  let v4 : BitVec 32 := Scalar.muli arg5 c128_i32
  let v5 : BitVec 32 := v4
  let v24 : Index := Scalar.indexCast v5
  ![1, v24.toNat]
def k1_off7 (arg5 : BitVec 32) : Fin 2 → Nat :=
  let c2_5 : Index := 2#32
  let c128_i32 : BitVec 32 := 128#32
  let v4 : BitVec 32 := Scalar.muli arg5 c128_i32
  let v5 : BitVec 32 := v4
  let v27 : Index := Scalar.indexCast v5
  ![2, v27.toNat]
def k1_off8 (arg5 : BitVec 32) : Fin 2 → Nat :=
  let c3_6 : Index := 3#32
  let c128_i32 : BitVec 32 := 128#32
  let v4 : BitVec 32 := Scalar.muli arg5 c128_i32
  let v5 : BitVec 32 := v4
  let v30 : Index := Scalar.indexCast v5
  ![3, v30.toNat]
def k1_off9 (arg5 : BitVec 32) : Fin 2 → Nat :=
  let c0_15 : Index := 0#32
  let c128_i32 : BitVec 32 := 128#32
  let v4 : BitVec 32 := Scalar.muli arg5 c128_i32
  let v5 : BitVec 32 := v4
  let v70 : Index := Scalar.indexCast v5
  ![0, v70.toNat]
@[reducible] def k1_t1_loop : Scf.Loop 32 :=
  let c0_i32_19 : BitVec 32 := 0#32
  let c128_i32_20 : BitVec 32 := 128#32
  let v76 : BitVec 32 := Scalar.addi c0_i32_19 c128_i32_20
  let c1_i32 : BitVec 32 := 1#32
  ⟨c0_i32_19, v76, c1_i32⟩
def k1_off10 (k1_t1 : Fin k1_t1_loop.trips) : Fin 2 → Nat :=
  let c0_i32_19 : BitVec 32 := 0#32
  let c1_i32 : BitVec 32 := 1#32
  let arg7 : BitVec 32 := Scf.iv c0_i32_19 c1_i32 k1_t1
  let v96 : Index := Scalar.indexCast arg7
  let c0_32 : Index := 0#32
  ![v96.toNat, 0]
@[reducible] def k1_t2_loop (arg5 : BitVec 32) : Scf.Loop 32 :=
  let c0_i32_25 : BitVec 32 := 0#32
  let c3_i32 : BitVec 32 := 3#32
  let v81 : BitVec 32 := Scalar.subi c3_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_28 : BitVec 32 := 1#32
  ⟨c0_i32_25, v86, c1_i32_28⟩
def k1_mult2 (arg5 : BitVec 32) (k1_t2 : Fin (k1_t2_loop arg5).trips) : BitVec 32 :=
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k1_t2
  let c128_i32_33 : BitVec 32 := 128#32
  let v97 : BitVec 32 := Scalar.muli arg7 c128_i32_33
  let v98 : BitVec 32 := Scalar.addi v96 v97
  v98
def k1_off11 (arg5 : BitVec 32) (k1_t2 : Fin (k1_t2_loop arg5).trips) : Fin 2 → Nat :=
  let c0_34 : Index := 0#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k1_t2
  let c128_i32_33 : BitVec 32 := 128#32
  let v97 : BitVec 32 := Scalar.muli arg7 c128_i32_33
  let v98 : BitVec 32 := Scalar.addi v96 v97
  let v99 : BitVec 32 := v98
  let v100 : Index := Scalar.indexCast v99
  ![0, v100.toNat]
def k1_off12 (arg5 : BitVec 32) (k1_t2 : Fin (k1_t2_loop arg5).trips) : Fin 2 → Nat :=
  let c1_35 : Index := 1#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k1_t2
  let c128_i32_33 : BitVec 32 := 128#32
  let v97 : BitVec 32 := Scalar.muli arg7 c128_i32_33
  let v98 : BitVec 32 := Scalar.addi v96 v97
  let v99 : BitVec 32 := v98
  let v103 : Index := Scalar.indexCast v99
  ![1, v103.toNat]
def k1_off13 (arg5 : BitVec 32) (k1_t2 : Fin (k1_t2_loop arg5).trips) : Fin 2 → Nat :=
  let c2_36 : Index := 2#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k1_t2
  let c128_i32_33 : BitVec 32 := 128#32
  let v97 : BitVec 32 := Scalar.muli arg7 c128_i32_33
  let v98 : BitVec 32 := Scalar.addi v96 v97
  let v99 : BitVec 32 := v98
  let v106 : Index := Scalar.indexCast v99
  ![2, v106.toNat]
def k1_off14 (arg5 : BitVec 32) (k1_t2 : Fin (k1_t2_loop arg5).trips) : Fin 2 → Nat :=
  let c3_37 : Index := 3#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k1_t2
  let c128_i32_33 : BitVec 32 := 128#32
  let v97 : BitVec 32 := Scalar.muli arg7 c128_i32_33
  let v98 : BitVec 32 := Scalar.addi v96 v97
  let v99 : BitVec 32 := v98
  let v109 : Index := Scalar.indexCast v99
  ![3, v109.toNat]
def k1_off15 (arg5 : BitVec 32) (k1_t2 : Fin (k1_t2_loop arg5).trips) : Fin 2 → Nat :=
  let c0_45 : Index := 0#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k1_t2
  let c128_i32_33 : BitVec 32 := 128#32
  let v97 : BitVec 32 := Scalar.muli arg7 c128_i32_33
  let v98 : BitVec 32 := Scalar.addi v96 v97
  let v99 : BitVec 32 := v98
  let v147 : Index := Scalar.indexCast v99
  ![0, v147.toNat]
@[reducible] def k1_t3_loop (arg5 : BitVec 32) : Scf.Loop 32 :=
  let c0_i32_25 : BitVec 32 := 0#32
  let c3_i32 : BitVec 32 := 3#32
  let v81 : BitVec 32 := Scalar.subi c3_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let v83 : BitVec 32 := Scalar.addi c0_i32_25 v82
  let c1_i32_29 : BitVec 32 := 1#32
  ⟨v86, v83, c1_i32_29⟩
def k1_mult3 (arg5 : BitVec 32) (k1_t3 : Fin (k1_t3_loop arg5).trips) : BitVec 32 :=
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c3_i32 : BitVec 32 := 3#32
  let v81 : BitVec 32 := Scalar.subi c3_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k1_t3
  let c128_i32_33 : BitVec 32 := 128#32
  let v97 : BitVec 32 := Scalar.muli arg7 c128_i32_33
  let v98 : BitVec 32 := Scalar.addi v96 v97
  v98
def k1_off16 (arg5 : BitVec 32) (k1_t3 : Fin (k1_t3_loop arg5).trips) : Fin 2 → Nat :=
  let c0_34 : Index := 0#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c3_i32 : BitVec 32 := 3#32
  let v81 : BitVec 32 := Scalar.subi c3_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k1_t3
  let c128_i32_33 : BitVec 32 := 128#32
  let v97 : BitVec 32 := Scalar.muli arg7 c128_i32_33
  let v98 : BitVec 32 := Scalar.addi v96 v97
  let v99 : BitVec 32 := v98
  let v100 : Index := Scalar.indexCast v99
  ![0, v100.toNat]
def k1_off17 (arg5 : BitVec 32) (k1_t3 : Fin (k1_t3_loop arg5).trips) : Fin 2 → Nat :=
  let c1_35 : Index := 1#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c3_i32 : BitVec 32 := 3#32
  let v81 : BitVec 32 := Scalar.subi c3_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k1_t3
  let c128_i32_33 : BitVec 32 := 128#32
  let v97 : BitVec 32 := Scalar.muli arg7 c128_i32_33
  let v98 : BitVec 32 := Scalar.addi v96 v97
  let v99 : BitVec 32 := v98
  let v103 : Index := Scalar.indexCast v99
  ![1, v103.toNat]
def k1_off18 (arg5 : BitVec 32) (k1_t3 : Fin (k1_t3_loop arg5).trips) : Fin 2 → Nat :=
  let c2_36 : Index := 2#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c3_i32 : BitVec 32 := 3#32
  let v81 : BitVec 32 := Scalar.subi c3_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k1_t3
  let c128_i32_33 : BitVec 32 := 128#32
  let v97 : BitVec 32 := Scalar.muli arg7 c128_i32_33
  let v98 : BitVec 32 := Scalar.addi v96 v97
  let v99 : BitVec 32 := v98
  let v106 : Index := Scalar.indexCast v99
  ![2, v106.toNat]
def k1_off19 (arg5 : BitVec 32) (k1_t3 : Fin (k1_t3_loop arg5).trips) : Fin 2 → Nat :=
  let c3_37 : Index := 3#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c3_i32 : BitVec 32 := 3#32
  let v81 : BitVec 32 := Scalar.subi c3_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k1_t3
  let c128_i32_33 : BitVec 32 := 128#32
  let v97 : BitVec 32 := Scalar.muli arg7 c128_i32_33
  let v98 : BitVec 32 := Scalar.addi v96 v97
  let v99 : BitVec 32 := v98
  let v109 : Index := Scalar.indexCast v99
  ![3, v109.toNat]
def k1_off20 (arg5 : BitVec 32) (k1_t3 : Fin (k1_t3_loop arg5).trips) : Fin 2 → Nat :=
  let c0_45 : Index := 0#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c3_i32 : BitVec 32 := 3#32
  let v81 : BitVec 32 := Scalar.subi c3_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k1_t3
  let c128_i32_33 : BitVec 32 := 128#32
  let v97 : BitVec 32 := Scalar.muli arg7 c128_i32_33
  let v98 : BitVec 32 := Scalar.addi v96 v97
  let v99 : BitVec 32 := v98
  let v147 : Index := Scalar.indexCast v99
  ![0, v147.toNat]

def k1_chk1 (arg5 : BitVec 32) : Prop :=
  (128 ∣ (k1_mult1 arg5).toNat) ∧
  (∀ a, (k1_off1 arg5) a + S128x1.size a ≤ S512x4.size a) ∧
  (∀ a, (k1_off2 arg5) a + S128x1.size a ≤ S512x4.size a) ∧
  (∀ a, (k1_off3 arg5) a + S128x1.size a ≤ S512x4.size a) ∧
  (∀ a, (k1_off4 arg5) a + S128x1.size a ≤ S512x4.size a) ∧
  (∀ a, (k1_off5 arg5) a + S1x128.size a ≤ S4x512.size a) ∧
  (∀ a, (k1_off6 arg5) a + S1x128.size a ≤ S4x512.size a) ∧
  (∀ a, (k1_off7 arg5) a + S1x128.size a ≤ S4x512.size a) ∧
  (∀ a, (k1_off8 arg5) a + S1x128.size a ≤ S4x512.size a) ∧
  (∀ a, (k1_off9 arg5) a + S1x128.size a ≤ S1x512.size a) ∧
  ((k1_t2_loop arg5).OK) ∧
  (∀ k1_t2 : Fin (k1_t2_loop arg5).trips, 128 ∣ (k1_mult2 arg5 k1_t2).toNat) ∧
  (∀ k1_t2 : Fin (k1_t2_loop arg5).trips, ∀ a, (k1_off11 arg5 k1_t2) a + S1x128.size a ≤ S4x512.size a) ∧
  (∀ k1_t2 : Fin (k1_t2_loop arg5).trips, ∀ a, (k1_off12 arg5 k1_t2) a + S1x128.size a ≤ S4x512.size a) ∧
  (∀ k1_t2 : Fin (k1_t2_loop arg5).trips, ∀ a, (k1_off13 arg5 k1_t2) a + S1x128.size a ≤ S4x512.size a) ∧
  (∀ k1_t2 : Fin (k1_t2_loop arg5).trips, ∀ a, (k1_off14 arg5 k1_t2) a + S1x128.size a ≤ S4x512.size a) ∧
  (∀ k1_t2 : Fin (k1_t2_loop arg5).trips, ∀ a, (k1_off15 arg5 k1_t2) a + S1x128.size a ≤ S1x512.size a) ∧
  ((k1_t3_loop arg5).OK) ∧
  (∀ k1_t3 : Fin (k1_t3_loop arg5).trips, 128 ∣ (k1_mult3 arg5 k1_t3).toNat) ∧
  (∀ k1_t3 : Fin (k1_t3_loop arg5).trips, ∀ a, (k1_off16 arg5 k1_t3) a + S1x128.size a ≤ S4x512.size a) ∧
  (∀ k1_t3 : Fin (k1_t3_loop arg5).trips, ∀ a, (k1_off17 arg5 k1_t3) a + S1x128.size a ≤ S4x512.size a) ∧
  (∀ k1_t3 : Fin (k1_t3_loop arg5).trips, ∀ a, (k1_off18 arg5 k1_t3) a + S1x128.size a ≤ S4x512.size a) ∧
  (∀ k1_t3 : Fin (k1_t3_loop arg5).trips, ∀ a, (k1_off19 arg5 k1_t3) a + S1x128.size a ≤ S4x512.size a) ∧
  (∀ k1_t3 : Fin (k1_t3_loop arg5).trips, ∀ a, (k1_off20 arg5 k1_t3) a + S1x128.size a ≤ S1x512.size a)
theorem k1_mult1_dvd : ∀ (arg5 : BitVec 32) (k1_hw1 : k1_chk1 arg5), 128 ∣ (k1_mult1 arg5).toNat := fun arg5 k1_hw1 => k1_hw1.1
theorem k1_off1_inb : ∀ (arg5 : BitVec 32) (k1_hw1 : k1_chk1 arg5), ∀ a, (k1_off1 arg5) a + S128x1.size a ≤ S512x4.size a := fun arg5 k1_hw1 => k1_hw1.2.1
theorem k1_off2_inb : ∀ (arg5 : BitVec 32) (k1_hw1 : k1_chk1 arg5), ∀ a, (k1_off2 arg5) a + S128x1.size a ≤ S512x4.size a := fun arg5 k1_hw1 => k1_hw1.2.2.1
theorem k1_off3_inb : ∀ (arg5 : BitVec 32) (k1_hw1 : k1_chk1 arg5), ∀ a, (k1_off3 arg5) a + S128x1.size a ≤ S512x4.size a := fun arg5 k1_hw1 => k1_hw1.2.2.2.1
theorem k1_off4_inb : ∀ (arg5 : BitVec 32) (k1_hw1 : k1_chk1 arg5), ∀ a, (k1_off4 arg5) a + S128x1.size a ≤ S512x4.size a := fun arg5 k1_hw1 => k1_hw1.2.2.2.2.1
theorem k1_off5_inb : ∀ (arg5 : BitVec 32) (k1_hw1 : k1_chk1 arg5), ∀ a, (k1_off5 arg5) a + S1x128.size a ≤ S4x512.size a := fun arg5 k1_hw1 => k1_hw1.2.2.2.2.2.1
theorem k1_off6_inb : ∀ (arg5 : BitVec 32) (k1_hw1 : k1_chk1 arg5), ∀ a, (k1_off6 arg5) a + S1x128.size a ≤ S4x512.size a := fun arg5 k1_hw1 => k1_hw1.2.2.2.2.2.2.1
theorem k1_off7_inb : ∀ (arg5 : BitVec 32) (k1_hw1 : k1_chk1 arg5), ∀ a, (k1_off7 arg5) a + S1x128.size a ≤ S4x512.size a := fun arg5 k1_hw1 => k1_hw1.2.2.2.2.2.2.2.1
theorem k1_off8_inb : ∀ (arg5 : BitVec 32) (k1_hw1 : k1_chk1 arg5), ∀ a, (k1_off8 arg5) a + S1x128.size a ≤ S4x512.size a := fun arg5 k1_hw1 => k1_hw1.2.2.2.2.2.2.2.2.1
theorem k1_off9_inb : ∀ (arg5 : BitVec 32) (k1_hw1 : k1_chk1 arg5), ∀ a, (k1_off9 arg5) a + S1x128.size a ≤ S1x512.size a := fun arg5 k1_hw1 => k1_hw1.2.2.2.2.2.2.2.2.2.1
theorem k1_t2_ok : ∀ (arg5 : BitVec 32) (k1_hw1 : k1_chk1 arg5), (k1_t2_loop arg5).OK := fun arg5 k1_hw1 => k1_hw1.2.2.2.2.2.2.2.2.2.2.1
theorem k1_mult2_dvd : ∀ (arg5 : BitVec 32) (k1_hw1 : k1_chk1 arg5) (k1_t2 : Fin (k1_t2_loop arg5).trips), 128 ∣ (k1_mult2 arg5 k1_t2).toNat := fun arg5 k1_hw1 k1_t2 => k1_hw1.2.2.2.2.2.2.2.2.2.2.2.1 k1_t2
theorem k1_off11_inb : ∀ (arg5 : BitVec 32) (k1_hw1 : k1_chk1 arg5) (k1_t2 : Fin (k1_t2_loop arg5).trips), ∀ a, (k1_off11 arg5 k1_t2) a + S1x128.size a ≤ S4x512.size a := fun arg5 k1_hw1 k1_t2 => k1_hw1.2.2.2.2.2.2.2.2.2.2.2.2.1 k1_t2
theorem k1_off12_inb : ∀ (arg5 : BitVec 32) (k1_hw1 : k1_chk1 arg5) (k1_t2 : Fin (k1_t2_loop arg5).trips), ∀ a, (k1_off12 arg5 k1_t2) a + S1x128.size a ≤ S4x512.size a := fun arg5 k1_hw1 k1_t2 => k1_hw1.2.2.2.2.2.2.2.2.2.2.2.2.2.1 k1_t2
theorem k1_off13_inb : ∀ (arg5 : BitVec 32) (k1_hw1 : k1_chk1 arg5) (k1_t2 : Fin (k1_t2_loop arg5).trips), ∀ a, (k1_off13 arg5 k1_t2) a + S1x128.size a ≤ S4x512.size a := fun arg5 k1_hw1 k1_t2 => k1_hw1.2.2.2.2.2.2.2.2.2.2.2.2.2.2.1 k1_t2
theorem k1_off14_inb : ∀ (arg5 : BitVec 32) (k1_hw1 : k1_chk1 arg5) (k1_t2 : Fin (k1_t2_loop arg5).trips), ∀ a, (k1_off14 arg5 k1_t2) a + S1x128.size a ≤ S4x512.size a := fun arg5 k1_hw1 k1_t2 => k1_hw1.2.2.2.2.2.2.2.2.2.2.2.2.2.2.2.1 k1_t2
theorem k1_off15_inb : ∀ (arg5 : BitVec 32) (k1_hw1 : k1_chk1 arg5) (k1_t2 : Fin (k1_t2_loop arg5).trips), ∀ a, (k1_off15 arg5 k1_t2) a + S1x128.size a ≤ S1x512.size a := fun arg5 k1_hw1 k1_t2 => k1_hw1.2.2.2.2.2.2.2.2.2.2.2.2.2.2.2.2.1 k1_t2
theorem k1_t3_ok : ∀ (arg5 : BitVec 32) (k1_hw1 : k1_chk1 arg5), (k1_t3_loop arg5).OK := fun arg5 k1_hw1 => k1_hw1.2.2.2.2.2.2.2.2.2.2.2.2.2.2.2.2.2.1
theorem k1_mult3_dvd : ∀ (arg5 : BitVec 32) (k1_hw1 : k1_chk1 arg5) (k1_t3 : Fin (k1_t3_loop arg5).trips), 128 ∣ (k1_mult3 arg5 k1_t3).toNat := fun arg5 k1_hw1 k1_t3 => k1_hw1.2.2.2.2.2.2.2.2.2.2.2.2.2.2.2.2.2.2.1 k1_t3
theorem k1_off16_inb : ∀ (arg5 : BitVec 32) (k1_hw1 : k1_chk1 arg5) (k1_t3 : Fin (k1_t3_loop arg5).trips), ∀ a, (k1_off16 arg5 k1_t3) a + S1x128.size a ≤ S4x512.size a := fun arg5 k1_hw1 k1_t3 => k1_hw1.2.2.2.2.2.2.2.2.2.2.2.2.2.2.2.2.2.2.2.1 k1_t3
theorem k1_off17_inb : ∀ (arg5 : BitVec 32) (k1_hw1 : k1_chk1 arg5) (k1_t3 : Fin (k1_t3_loop arg5).trips), ∀ a, (k1_off17 arg5 k1_t3) a + S1x128.size a ≤ S4x512.size a := fun arg5 k1_hw1 k1_t3 => k1_hw1.2.2.2.2.2.2.2.2.2.2.2.2.2.2.2.2.2.2.2.2.1 k1_t3
theorem k1_off18_inb : ∀ (arg5 : BitVec 32) (k1_hw1 : k1_chk1 arg5) (k1_t3 : Fin (k1_t3_loop arg5).trips), ∀ a, (k1_off18 arg5 k1_t3) a + S1x128.size a ≤ S4x512.size a := fun arg5 k1_hw1 k1_t3 => k1_hw1.2.2.2.2.2.2.2.2.2.2.2.2.2.2.2.2.2.2.2.2.2.1 k1_t3
theorem k1_off19_inb : ∀ (arg5 : BitVec 32) (k1_hw1 : k1_chk1 arg5) (k1_t3 : Fin (k1_t3_loop arg5).trips), ∀ a, (k1_off19 arg5 k1_t3) a + S1x128.size a ≤ S4x512.size a := fun arg5 k1_hw1 k1_t3 => k1_hw1.2.2.2.2.2.2.2.2.2.2.2.2.2.2.2.2.2.2.2.2.2.2.1 k1_t3
theorem k1_off20_inb : ∀ (arg5 : BitVec 32) (k1_hw1 : k1_chk1 arg5) (k1_t3 : Fin (k1_t3_loop arg5).trips), ∀ a, (k1_off20 arg5 k1_t3) a + S1x128.size a ≤ S1x512.size a := fun arg5 k1_hw1 k1_t3 => k1_hw1.2.2.2.2.2.2.2.2.2.2.2.2.2.2.2.2.2.2.2.2.2.2.2 k1_t3

abbrev stage1_0 : Fin 1 → Memref sig .tc .vmem S4x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

def k2_mult1 (arg5 : BitVec 32) : BitVec 32 :=
  let c128_i32 : BitVec 32 := 128#32
  let v4 : BitVec 32 := Scalar.muli arg5 c128_i32
  v4

def k2_off1 (arg5 : BitVec 32) : Fin 2 → Nat :=
  let c128_i32 : BitVec 32 := 128#32
  let v4 : BitVec 32 := Scalar.muli arg5 c128_i32
  let v5 : BitVec 32 := v4
  let v6 : Index := Scalar.indexCast v5
  let c0_2 : Index := 0#32
  ![v6.toNat, 0]
def k2_off2 (arg5 : BitVec 32) : Fin 2 → Nat :=
  let c128_i32 : BitVec 32 := 128#32
  let v4 : BitVec 32 := Scalar.muli arg5 c128_i32
  let v5 : BitVec 32 := v4
  let v9 : Index := Scalar.indexCast v5
  let c1 : Index := 1#32
  ![v9.toNat, 1]
def k2_off3 (arg5 : BitVec 32) : Fin 2 → Nat :=
  let c128_i32 : BitVec 32 := 128#32
  let v4 : BitVec 32 := Scalar.muli arg5 c128_i32
  let v5 : BitVec 32 := v4
  let v12 : Index := Scalar.indexCast v5
  let c2 : Index := 2#32
  ![v12.toNat, 2]
def k2_off4 (arg5 : BitVec 32) : Fin 2 → Nat :=
  let c128_i32 : BitVec 32 := 128#32
  let v4 : BitVec 32 := Scalar.muli arg5 c128_i32
  let v5 : BitVec 32 := v4
  let v15 : Index := Scalar.indexCast v5
  let c3 : Index := 3#32
  ![v15.toNat, 3]
def k2_off5 (arg5 : BitVec 32) : Fin 2 → Nat :=
  let c0_3 : Index := 0#32
  let c128_i32 : BitVec 32 := 128#32
  let v4 : BitVec 32 := Scalar.muli arg5 c128_i32
  let v5 : BitVec 32 := v4
  let v21 : Index := Scalar.indexCast v5
  ![0, v21.toNat]
def k2_off6 (arg5 : BitVec 32) : Fin 2 → Nat :=
  let c1_4 : Index := 1#32
  let c128_i32 : BitVec 32 := 128#32
  let v4 : BitVec 32 := Scalar.muli arg5 c128_i32
  let v5 : BitVec 32 := v4
  let v24 : Index := Scalar.indexCast v5
  ![1, v24.toNat]
def k2_off7 (arg5 : BitVec 32) : Fin 2 → Nat :=
  let c2_5 : Index := 2#32
  let c128_i32 : BitVec 32 := 128#32
  let v4 : BitVec 32 := Scalar.muli arg5 c128_i32
  let v5 : BitVec 32 := v4
  let v27 : Index := Scalar.indexCast v5
  ![2, v27.toNat]
def k2_off8 (arg5 : BitVec 32) : Fin 2 → Nat :=
  let c3_6 : Index := 3#32
  let c128_i32 : BitVec 32 := 128#32
  let v4 : BitVec 32 := Scalar.muli arg5 c128_i32
  let v5 : BitVec 32 := v4
  let v30 : Index := Scalar.indexCast v5
  ![3, v30.toNat]
def k2_off9 (arg5 : BitVec 32) : Fin 2 → Nat :=
  let c0_15 : Index := 0#32
  let c128_i32 : BitVec 32 := 128#32
  let v4 : BitVec 32 := Scalar.muli arg5 c128_i32
  let v5 : BitVec 32 := v4
  let v70 : Index := Scalar.indexCast v5
  ![0, v70.toNat]
@[reducible] def k2_t1_loop : Scf.Loop 32 :=
  let c0_i32_19 : BitVec 32 := 0#32
  let c128_i32_20 : BitVec 32 := 128#32
  let v76 : BitVec 32 := Scalar.addi c0_i32_19 c128_i32_20
  let c1_i32 : BitVec 32 := 1#32
  ⟨c0_i32_19, v76, c1_i32⟩
def k2_off10 (k2_t1 : Fin k2_t1_loop.trips) : Fin 2 → Nat :=
  let c0_i32_19 : BitVec 32 := 0#32
  let c1_i32 : BitVec 32 := 1#32
  let arg7 : BitVec 32 := Scf.iv c0_i32_19 c1_i32 k2_t1
  let v96 : Index := Scalar.indexCast arg7
  let c0_32 : Index := 0#32
  ![v96.toNat, 0]
@[reducible] def k2_t2_loop (arg5 : BitVec 32) : Scf.Loop 32 :=
  let c0_i32_25 : BitVec 32 := 0#32
  let c31_i32 : BitVec 32 := 31#32
  let v81 : BitVec 32 := Scalar.subi c31_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_28 : BitVec 32 := 1#32
  ⟨c0_i32_25, v86, c1_i32_28⟩
def k2_mult2 (arg5 : BitVec 32) (k2_t2 : Fin (k2_t2_loop arg5).trips) : BitVec 32 :=
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k2_t2
  let c128_i32_33 : BitVec 32 := 128#32
  let v97 : BitVec 32 := Scalar.muli arg7 c128_i32_33
  let v98 : BitVec 32 := Scalar.addi v96 v97
  v98
def k2_off11 (arg5 : BitVec 32) (k2_t2 : Fin (k2_t2_loop arg5).trips) : Fin 2 → Nat :=
  let c0_34 : Index := 0#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k2_t2
  let c128_i32_33 : BitVec 32 := 128#32
  let v97 : BitVec 32 := Scalar.muli arg7 c128_i32_33
  let v98 : BitVec 32 := Scalar.addi v96 v97
  let v99 : BitVec 32 := v98
  let v100 : Index := Scalar.indexCast v99
  ![0, v100.toNat]
def k2_off12 (arg5 : BitVec 32) (k2_t2 : Fin (k2_t2_loop arg5).trips) : Fin 2 → Nat :=
  let c1_35 : Index := 1#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k2_t2
  let c128_i32_33 : BitVec 32 := 128#32
  let v97 : BitVec 32 := Scalar.muli arg7 c128_i32_33
  let v98 : BitVec 32 := Scalar.addi v96 v97
  let v99 : BitVec 32 := v98
  let v103 : Index := Scalar.indexCast v99
  ![1, v103.toNat]
def k2_off13 (arg5 : BitVec 32) (k2_t2 : Fin (k2_t2_loop arg5).trips) : Fin 2 → Nat :=
  let c2_36 : Index := 2#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k2_t2
  let c128_i32_33 : BitVec 32 := 128#32
  let v97 : BitVec 32 := Scalar.muli arg7 c128_i32_33
  let v98 : BitVec 32 := Scalar.addi v96 v97
  let v99 : BitVec 32 := v98
  let v106 : Index := Scalar.indexCast v99
  ![2, v106.toNat]
def k2_off14 (arg5 : BitVec 32) (k2_t2 : Fin (k2_t2_loop arg5).trips) : Fin 2 → Nat :=
  let c3_37 : Index := 3#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k2_t2
  let c128_i32_33 : BitVec 32 := 128#32
  let v97 : BitVec 32 := Scalar.muli arg7 c128_i32_33
  let v98 : BitVec 32 := Scalar.addi v96 v97
  let v99 : BitVec 32 := v98
  let v109 : Index := Scalar.indexCast v99
  ![3, v109.toNat]
def k2_off15 (arg5 : BitVec 32) (k2_t2 : Fin (k2_t2_loop arg5).trips) : Fin 2 → Nat :=
  let c0_45 : Index := 0#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c1_i32_28 : BitVec 32 := 1#32
  let arg7 : BitVec 32 := Scf.iv c0_i32_25 c1_i32_28 k2_t2
  let c128_i32_33 : BitVec 32 := 128#32
  let v97 : BitVec 32 := Scalar.muli arg7 c128_i32_33
  let v98 : BitVec 32 := Scalar.addi v96 v97
  let v99 : BitVec 32 := v98
  let v147 : Index := Scalar.indexCast v99
  ![0, v147.toNat]
@[reducible] def k2_t3_loop (arg5 : BitVec 32) : Scf.Loop 32 :=
  let c0_i32_25 : BitVec 32 := 0#32
  let c31_i32 : BitVec 32 := 31#32
  let v81 : BitVec 32 := Scalar.subi c31_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let v83 : BitVec 32 := Scalar.addi c0_i32_25 v82
  let c1_i32_29 : BitVec 32 := 1#32
  ⟨v86, v83, c1_i32_29⟩
def k2_mult3 (arg5 : BitVec 32) (k2_t3 : Fin (k2_t3_loop arg5).trips) : BitVec 32 :=
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c31_i32 : BitVec 32 := 31#32
  let v81 : BitVec 32 := Scalar.subi c31_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k2_t3
  let c128_i32_33 : BitVec 32 := 128#32
  let v97 : BitVec 32 := Scalar.muli arg7 c128_i32_33
  let v98 : BitVec 32 := Scalar.addi v96 v97
  v98
def k2_off16 (arg5 : BitVec 32) (k2_t3 : Fin (k2_t3_loop arg5).trips) : Fin 2 → Nat :=
  let c0_34 : Index := 0#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c31_i32 : BitVec 32 := 31#32
  let v81 : BitVec 32 := Scalar.subi c31_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k2_t3
  let c128_i32_33 : BitVec 32 := 128#32
  let v97 : BitVec 32 := Scalar.muli arg7 c128_i32_33
  let v98 : BitVec 32 := Scalar.addi v96 v97
  let v99 : BitVec 32 := v98
  let v100 : Index := Scalar.indexCast v99
  ![0, v100.toNat]
def k2_off17 (arg5 : BitVec 32) (k2_t3 : Fin (k2_t3_loop arg5).trips) : Fin 2 → Nat :=
  let c1_35 : Index := 1#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c31_i32 : BitVec 32 := 31#32
  let v81 : BitVec 32 := Scalar.subi c31_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k2_t3
  let c128_i32_33 : BitVec 32 := 128#32
  let v97 : BitVec 32 := Scalar.muli arg7 c128_i32_33
  let v98 : BitVec 32 := Scalar.addi v96 v97
  let v99 : BitVec 32 := v98
  let v103 : Index := Scalar.indexCast v99
  ![1, v103.toNat]
def k2_off18 (arg5 : BitVec 32) (k2_t3 : Fin (k2_t3_loop arg5).trips) : Fin 2 → Nat :=
  let c2_36 : Index := 2#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c31_i32 : BitVec 32 := 31#32
  let v81 : BitVec 32 := Scalar.subi c31_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k2_t3
  let c128_i32_33 : BitVec 32 := 128#32
  let v97 : BitVec 32 := Scalar.muli arg7 c128_i32_33
  let v98 : BitVec 32 := Scalar.addi v96 v97
  let v99 : BitVec 32 := v98
  let v106 : Index := Scalar.indexCast v99
  ![2, v106.toNat]
def k2_off19 (arg5 : BitVec 32) (k2_t3 : Fin (k2_t3_loop arg5).trips) : Fin 2 → Nat :=
  let c3_37 : Index := 3#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c31_i32 : BitVec 32 := 31#32
  let v81 : BitVec 32 := Scalar.subi c31_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k2_t3
  let c128_i32_33 : BitVec 32 := 128#32
  let v97 : BitVec 32 := Scalar.muli arg7 c128_i32_33
  let v98 : BitVec 32 := Scalar.addi v96 v97
  let v99 : BitVec 32 := v98
  let v109 : Index := Scalar.indexCast v99
  ![3, v109.toNat]
def k2_off20 (arg5 : BitVec 32) (k2_t3 : Fin (k2_t3_loop arg5).trips) : Fin 2 → Nat :=
  let c0_45 : Index := 0#32
  let c128_i32 : BitVec 32 := 128#32
  let v4 : BitVec 32 := Scalar.muli arg5 c128_i32
  let v5 : BitVec 32 := v4
  let c128_i32_32 : BitVec 32 := 128#32
  let v96 : BitVec 32 := Scalar.addi v5 c128_i32_32
  let c0_i32_25 : BitVec 32 := 0#32
  let c31_i32 : BitVec 32 := 31#32
  let v81 : BitVec 32 := Scalar.subi c31_i32 arg5
  let v82 : BitVec 32 := Scalar.subi v81 c0_i32_25
  let c1_i32_27 : BitVec 32 := 1#32
  let v84 : BitVec 32 := Scalar.divsi v82 c1_i32_27
  let v85 : BitVec 32 := Scalar.muli v84 c1_i32_27
  let v86 : BitVec 32 := Scalar.addi c0_i32_25 v85
  let c1_i32_29 : BitVec 32 := 1#32
  let arg7 : BitVec 32 := Scf.iv v86 c1_i32_29 k2_t3
  let c128_i32_33 : BitVec 32 := 128#32
  let v97 : BitVec 32 := Scalar.muli arg7 c128_i32_33
  let v98 : BitVec 32 := Scalar.addi v96 v97
  let v99 : BitVec 32 := v98
  let v147 : Index := Scalar.indexCast v99
  ![0, v147.toNat]

def k2_chk1 (arg5 : BitVec 32) : Prop :=
  (128 ∣ (k2_mult1 arg5).toNat) ∧
  (∀ a, (k2_off1 arg5) a + S128x1.size a ≤ S4096x4.size a) ∧
  (∀ a, (k2_off2 arg5) a + S128x1.size a ≤ S4096x4.size a) ∧
  (∀ a, (k2_off3 arg5) a + S128x1.size a ≤ S4096x4.size a) ∧
  (∀ a, (k2_off4 arg5) a + S128x1.size a ≤ S4096x4.size a) ∧
  (∀ a, (k2_off5 arg5) a + S1x128.size a ≤ S4x4096.size a) ∧
  (∀ a, (k2_off6 arg5) a + S1x128.size a ≤ S4x4096.size a) ∧
  (∀ a, (k2_off7 arg5) a + S1x128.size a ≤ S4x4096.size a) ∧
  (∀ a, (k2_off8 arg5) a + S1x128.size a ≤ S4x4096.size a) ∧
  (∀ a, (k2_off9 arg5) a + S1x128.size a ≤ S1x4096.size a) ∧
  ((k2_t2_loop arg5).OK) ∧
  (∀ k2_t2 : Fin (k2_t2_loop arg5).trips, 128 ∣ (k2_mult2 arg5 k2_t2).toNat) ∧
  (∀ k2_t2 : Fin (k2_t2_loop arg5).trips, ∀ a, (k2_off11 arg5 k2_t2) a + S1x128.size a ≤ S4x4096.size a) ∧
  (∀ k2_t2 : Fin (k2_t2_loop arg5).trips, ∀ a, (k2_off12 arg5 k2_t2) a + S1x128.size a ≤ S4x4096.size a) ∧
  (∀ k2_t2 : Fin (k2_t2_loop arg5).trips, ∀ a, (k2_off13 arg5 k2_t2) a + S1x128.size a ≤ S4x4096.size a) ∧
  (∀ k2_t2 : Fin (k2_t2_loop arg5).trips, ∀ a, (k2_off14 arg5 k2_t2) a + S1x128.size a ≤ S4x4096.size a) ∧
  (∀ k2_t2 : Fin (k2_t2_loop arg5).trips, ∀ a, (k2_off15 arg5 k2_t2) a + S1x128.size a ≤ S1x4096.size a) ∧
  ((k2_t3_loop arg5).OK) ∧
  (∀ k2_t3 : Fin (k2_t3_loop arg5).trips, 128 ∣ (k2_mult3 arg5 k2_t3).toNat) ∧
  (∀ k2_t3 : Fin (k2_t3_loop arg5).trips, ∀ a, (k2_off16 arg5 k2_t3) a + S1x128.size a ≤ S4x4096.size a) ∧
  (∀ k2_t3 : Fin (k2_t3_loop arg5).trips, ∀ a, (k2_off17 arg5 k2_t3) a + S1x128.size a ≤ S4x4096.size a) ∧
  (∀ k2_t3 : Fin (k2_t3_loop arg5).trips, ∀ a, (k2_off18 arg5 k2_t3) a + S1x128.size a ≤ S4x4096.size a) ∧
  (∀ k2_t3 : Fin (k2_t3_loop arg5).trips, ∀ a, (k2_off19 arg5 k2_t3) a + S1x128.size a ≤ S4x4096.size a) ∧
  (∀ k2_t3 : Fin (k2_t3_loop arg5).trips, ∀ a, (k2_off20 arg5 k2_t3) a + S1x128.size a ≤ S1x4096.size a)
theorem k2_mult1_dvd : ∀ (arg5 : BitVec 32) (k2_hw1 : k2_chk1 arg5), 128 ∣ (k2_mult1 arg5).toNat := fun arg5 k2_hw1 => k2_hw1.1
theorem k2_off1_inb : ∀ (arg5 : BitVec 32) (k2_hw1 : k2_chk1 arg5), ∀ a, (k2_off1 arg5) a + S128x1.size a ≤ S4096x4.size a := fun arg5 k2_hw1 => k2_hw1.2.1
theorem k2_off2_inb : ∀ (arg5 : BitVec 32) (k2_hw1 : k2_chk1 arg5), ∀ a, (k2_off2 arg5) a + S128x1.size a ≤ S4096x4.size a := fun arg5 k2_hw1 => k2_hw1.2.2.1
theorem k2_off3_inb : ∀ (arg5 : BitVec 32) (k2_hw1 : k2_chk1 arg5), ∀ a, (k2_off3 arg5) a + S128x1.size a ≤ S4096x4.size a := fun arg5 k2_hw1 => k2_hw1.2.2.2.1
theorem k2_off4_inb : ∀ (arg5 : BitVec 32) (k2_hw1 : k2_chk1 arg5), ∀ a, (k2_off4 arg5) a + S128x1.size a ≤ S4096x4.size a := fun arg5 k2_hw1 => k2_hw1.2.2.2.2.1
theorem k2_off5_inb : ∀ (arg5 : BitVec 32) (k2_hw1 : k2_chk1 arg5), ∀ a, (k2_off5 arg5) a + S1x128.size a ≤ S4x4096.size a := fun arg5 k2_hw1 => k2_hw1.2.2.2.2.2.1
theorem k2_off6_inb : ∀ (arg5 : BitVec 32) (k2_hw1 : k2_chk1 arg5), ∀ a, (k2_off6 arg5) a + S1x128.size a ≤ S4x4096.size a := fun arg5 k2_hw1 => k2_hw1.2.2.2.2.2.2.1
theorem k2_off7_inb : ∀ (arg5 : BitVec 32) (k2_hw1 : k2_chk1 arg5), ∀ a, (k2_off7 arg5) a + S1x128.size a ≤ S4x4096.size a := fun arg5 k2_hw1 => k2_hw1.2.2.2.2.2.2.2.1
theorem k2_off8_inb : ∀ (arg5 : BitVec 32) (k2_hw1 : k2_chk1 arg5), ∀ a, (k2_off8 arg5) a + S1x128.size a ≤ S4x4096.size a := fun arg5 k2_hw1 => k2_hw1.2.2.2.2.2.2.2.2.1
theorem k2_off9_inb : ∀ (arg5 : BitVec 32) (k2_hw1 : k2_chk1 arg5), ∀ a, (k2_off9 arg5) a + S1x128.size a ≤ S1x4096.size a := fun arg5 k2_hw1 => k2_hw1.2.2.2.2.2.2.2.2.2.1
theorem k2_t2_ok : ∀ (arg5 : BitVec 32) (k2_hw1 : k2_chk1 arg5), (k2_t2_loop arg5).OK := fun arg5 k2_hw1 => k2_hw1.2.2.2.2.2.2.2.2.2.2.1
theorem k2_mult2_dvd : ∀ (arg5 : BitVec 32) (k2_hw1 : k2_chk1 arg5) (k2_t2 : Fin (k2_t2_loop arg5).trips), 128 ∣ (k2_mult2 arg5 k2_t2).toNat := fun arg5 k2_hw1 k2_t2 => k2_hw1.2.2.2.2.2.2.2.2.2.2.2.1 k2_t2
theorem k2_off11_inb : ∀ (arg5 : BitVec 32) (k2_hw1 : k2_chk1 arg5) (k2_t2 : Fin (k2_t2_loop arg5).trips), ∀ a, (k2_off11 arg5 k2_t2) a + S1x128.size a ≤ S4x4096.size a := fun arg5 k2_hw1 k2_t2 => k2_hw1.2.2.2.2.2.2.2.2.2.2.2.2.1 k2_t2
theorem k2_off12_inb : ∀ (arg5 : BitVec 32) (k2_hw1 : k2_chk1 arg5) (k2_t2 : Fin (k2_t2_loop arg5).trips), ∀ a, (k2_off12 arg5 k2_t2) a + S1x128.size a ≤ S4x4096.size a := fun arg5 k2_hw1 k2_t2 => k2_hw1.2.2.2.2.2.2.2.2.2.2.2.2.2.1 k2_t2
theorem k2_off13_inb : ∀ (arg5 : BitVec 32) (k2_hw1 : k2_chk1 arg5) (k2_t2 : Fin (k2_t2_loop arg5).trips), ∀ a, (k2_off13 arg5 k2_t2) a + S1x128.size a ≤ S4x4096.size a := fun arg5 k2_hw1 k2_t2 => k2_hw1.2.2.2.2.2.2.2.2.2.2.2.2.2.2.1 k2_t2
theorem k2_off14_inb : ∀ (arg5 : BitVec 32) (k2_hw1 : k2_chk1 arg5) (k2_t2 : Fin (k2_t2_loop arg5).trips), ∀ a, (k2_off14 arg5 k2_t2) a + S1x128.size a ≤ S4x4096.size a := fun arg5 k2_hw1 k2_t2 => k2_hw1.2.2.2.2.2.2.2.2.2.2.2.2.2.2.2.1 k2_t2
theorem k2_off15_inb : ∀ (arg5 : BitVec 32) (k2_hw1 : k2_chk1 arg5) (k2_t2 : Fin (k2_t2_loop arg5).trips), ∀ a, (k2_off15 arg5 k2_t2) a + S1x128.size a ≤ S1x4096.size a := fun arg5 k2_hw1 k2_t2 => k2_hw1.2.2.2.2.2.2.2.2.2.2.2.2.2.2.2.2.1 k2_t2
theorem k2_t3_ok : ∀ (arg5 : BitVec 32) (k2_hw1 : k2_chk1 arg5), (k2_t3_loop arg5).OK := fun arg5 k2_hw1 => k2_hw1.2.2.2.2.2.2.2.2.2.2.2.2.2.2.2.2.2.1
theorem k2_mult3_dvd : ∀ (arg5 : BitVec 32) (k2_hw1 : k2_chk1 arg5) (k2_t3 : Fin (k2_t3_loop arg5).trips), 128 ∣ (k2_mult3 arg5 k2_t3).toNat := fun arg5 k2_hw1 k2_t3 => k2_hw1.2.2.2.2.2.2.2.2.2.2.2.2.2.2.2.2.2.2.1 k2_t3
theorem k2_off16_inb : ∀ (arg5 : BitVec 32) (k2_hw1 : k2_chk1 arg5) (k2_t3 : Fin (k2_t3_loop arg5).trips), ∀ a, (k2_off16 arg5 k2_t3) a + S1x128.size a ≤ S4x4096.size a := fun arg5 k2_hw1 k2_t3 => k2_hw1.2.2.2.2.2.2.2.2.2.2.2.2.2.2.2.2.2.2.2.1 k2_t3
theorem k2_off17_inb : ∀ (arg5 : BitVec 32) (k2_hw1 : k2_chk1 arg5) (k2_t3 : Fin (k2_t3_loop arg5).trips), ∀ a, (k2_off17 arg5 k2_t3) a + S1x128.size a ≤ S4x4096.size a := fun arg5 k2_hw1 k2_t3 => k2_hw1.2.2.2.2.2.2.2.2.2.2.2.2.2.2.2.2.2.2.2.2.1 k2_t3
theorem k2_off18_inb : ∀ (arg5 : BitVec 32) (k2_hw1 : k2_chk1 arg5) (k2_t3 : Fin (k2_t3_loop arg5).trips), ∀ a, (k2_off18 arg5 k2_t3) a + S1x128.size a ≤ S4x4096.size a := fun arg5 k2_hw1 k2_t3 => k2_hw1.2.2.2.2.2.2.2.2.2.2.2.2.2.2.2.2.2.2.2.2.2.1 k2_t3
theorem k2_off19_inb : ∀ (arg5 : BitVec 32) (k2_hw1 : k2_chk1 arg5) (k2_t3 : Fin (k2_t3_loop arg5).trips), ∀ a, (k2_off19 arg5 k2_t3) a + S1x128.size a ≤ S4x4096.size a := fun arg5 k2_hw1 k2_t3 => k2_hw1.2.2.2.2.2.2.2.2.2.2.2.2.2.2.2.2.2.2.2.2.2.2.1 k2_t3
theorem k2_off20_inb : ∀ (arg5 : BitVec 32) (k2_hw1 : k2_chk1 arg5) (k2_t3 : Fin (k2_t3_loop arg5).trips), ∀ a, (k2_off20 arg5 k2_t3) a + S1x128.size a ≤ S1x4096.size a := fun arg5 k2_hw1 k2_t3 => k2_hw1.2.2.2.2.2.2.2.2.2.2.2.2.2.2.2.2.2.2.2.2.2.2.2 k2_t3

abbrev stage2_0 : Fin 1 → Memref sig .tc .vmem S4x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== ReferenceIdeal.lean ====
abbrev S1x20000x4 : Shape := ⟨3, ![1, 20000, 4]⟩
abbrev S20000x21 : Shape := ⟨2, ![20000, 21]⟩
abbrev S20000x4 : Shape := ⟨2, ![20000, 4]⟩
abbrev S20000x2 : Shape := ⟨2, ![20000, 2]⟩
abbrev S_ : Shape := ⟨0, ![]⟩
abbrev S20000x1x4 : Shape := ⟨3, ![20000, 1, 4]⟩
abbrev S20000x21x4 : Shape := ⟨3, ![20000, 21, 4]⟩
abbrev S21 : Shape := ⟨1, ![21]⟩
abbrev S1x21 : Shape := ⟨2, ![1, 21]⟩
abbrev S20000x20x4 : Shape := ⟨3, ![20000, 20, 4]⟩
abbrev S400000x4 : Shape := ⟨2, ![400000, 4]⟩
abbrev S20000x20 : Shape := ⟨2, ![20000, 20]⟩
abbrev S400000 : Shape := ⟨1, ![400000]⟩
abbrev S400000x1 : Shape := ⟨2, ![400000, 1]⟩
abbrev S4096 : Shape := ⟨1, ![4096]⟩
abbrev S4096x1 : Shape := ⟨2, ![4096, 1]⟩
abbrev S4096x4 : Shape := ⟨2, ![4096, 4]⟩
abbrev S4096x2 : Shape := ⟨2, ![4096, 2]⟩
abbrev S4096x1x2 : Shape := ⟨3, ![4096, 1, 2]⟩
abbrev S1x4096x2 : Shape := ⟨3, ![1, 4096, 2]⟩
abbrev S4096x4096x2 : Shape := ⟨3, ![4096, 4096, 2]⟩
abbrev S4096x4096x1 : Shape := ⟨3, ![4096, 4096, 1]⟩
abbrev S4096x4096 : Shape := ⟨2, ![4096, 4096]⟩
abbrev S1x4096 : Shape := ⟨2, ![1, 4096]⟩
abbrev S1 : Shape := ⟨1, ![1]⟩
abbrev S200 : Shape := ⟨1, ![200]⟩
abbrev S200x1 : Shape := ⟨2, ![200, 1]⟩
abbrev S200x4 : Shape := ⟨2, ![200, 4]⟩
abbrev S200x6 : Shape := ⟨2, ![200, 6]⟩

abbrev nBuf : Space → Nat
  | .hbm => 212
  | .vmem => 0
  | .smem => 0
  | _ => 0

abbrev hbmTy0_0 (i : Nat) : BufTy := match i % 128 with
  | 0 => ⟨S1x20000x4, .f32⟩
  | 1 => ⟨S20000x21, .f32⟩
  | 2 => ⟨S20000x4, .f32⟩
  | 3 => ⟨S20000x4, .f32⟩
  | 4 => ⟨S20000x2, .f32⟩
  | 5 => ⟨S20000x2, .f32⟩
  | 6 => ⟨S_, .f32⟩
  | 7 => ⟨S20000x2, .f32⟩
  | 8 => ⟨S20000x2, .f32⟩
  | 9 => ⟨S20000x2, .f32⟩
  | 10 => ⟨S20000x2, .f32⟩
  | 11 => ⟨S20000x2, .f32⟩
  | 12 => ⟨S20000x2, .f32⟩
  | 13 => ⟨S20000x2, .f32⟩
  | 14 => ⟨S_, .f32⟩
  | 15 => ⟨S20000x2, .f32⟩
  | 16 => ⟨S20000x2, .f32⟩
  | 17 => ⟨S20000x2, .f32⟩
  | 18 => ⟨S20000x2, .f32⟩
  | 19 => ⟨S_, .f32⟩
  | 20 => ⟨S20000x2, .f32⟩
  | 21 => ⟨S20000x2, .f32⟩
  | 22 => ⟨S20000x2, .f32⟩
  | 23 => ⟨S20000x2, .f32⟩
  | 24 => ⟨S20000x4, .f32⟩
  | 25 => ⟨S20000x1x4, .f32⟩
  | 26 => ⟨S20000x21x4, .f32⟩
  | 27 => ⟨S21, .i32⟩
  | 28 => ⟨S1x21, .i32⟩
  | 29 => ⟨S20000x21, .i32⟩
  | 30 => ⟨S20000x20x4, .f32⟩
  | 31 => ⟨S400000x4, .f32⟩
  | 32 => ⟨S20000x20, .f32⟩
  | 33 => ⟨S400000, .f32⟩
  | 34 => ⟨S20000x20, .i32⟩
  | 35 => ⟨S400000, .i32⟩
  | 36 => ⟨S_, .f32⟩
  | 37 => ⟨S400000, .f32⟩
  | 38 => ⟨S400000, .i1⟩
  | 39 => ⟨S_, .f32⟩
  | 40 => ⟨S_, .f32⟩
  | 41 => ⟨S400000, .f32⟩
  | 42 => ⟨S400000, .f32⟩
  | 43 => ⟨S400000x1, .i1⟩
  | 44 => ⟨S_, .f32⟩
  | 45 => ⟨S_, .f32⟩
  | 46 => ⟨S400000x4, .i1⟩
  | 47 => ⟨S400000x4, .f32⟩
  | 48 => ⟨S400000x4, .f32⟩
  | 49 => ⟨S_, .f32⟩
  | 50 => ⟨S_, .f32⟩
  | 51 => ⟨S400000, .f32⟩
  | 52 => ⟨S_, .f32⟩
  | 53 => ⟨S_, .f32⟩
  | 54 => ⟨S400000, .f32⟩
  | 55 => ⟨S400000, .f32⟩
  | 56 => ⟨S400000x1, .f32⟩
  | 57 => ⟨S400000x4, .f32⟩
  | 58 => ⟨S400000x4, .f32⟩
  | 59 => ⟨S4096, .f32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4096x4, .f32⟩
  | 70 => ⟨S4096x1, .f32⟩
  | 71 => ⟨S4096, .f32⟩
  | 72 => ⟨S4096x1, .f32⟩
  | 73 => ⟨S4096, .f32⟩
  | 74 => ⟨S4096, .f32⟩
  | 75 => ⟨S4096x1, .f32⟩
  | 76 => ⟨S4096, .f32⟩
  | 77 => ⟨S4096x1, .f32⟩
  | 78 => ⟨S4096, .f32⟩
  | 79 => ⟨S4096, .f32⟩
  | 80 => ⟨S4096, .f32⟩
  | 81 => ⟨S4096x2, .f32⟩
  | 82 => ⟨S4096x1x2, .f32⟩
  | 83 => ⟨S4096x2, .f32⟩
  | 84 => ⟨S1x4096x2, .f32⟩
  | 85 => ⟨S4096x4096x2, .f32⟩
  | 86 => ⟨S4096x4096x2, .f32⟩
  | 87 => ⟨S4096x4096x2, .f32⟩
  | 88 => ⟨S4096x2, .f32⟩
  | 89 => ⟨S4096x1x2, .f32⟩
  | 90 => ⟨S4096x2, .f32⟩
  | 91 => ⟨S1x4096x2, .f32⟩
  | 92 => ⟨S4096x4096x2, .f32⟩
  | 93 => ⟨S4096x4096x2, .f32⟩
  | 94 => ⟨S4096x4096x2, .f32⟩
  | 95 => ⟨S4096x4096x2, .f32⟩
  | 96 => ⟨S_, .f32⟩
  | 97 => ⟨S_, .f32⟩
  | 98 => ⟨S4096x4096x2, .f32⟩
  | 99 => ⟨S4096x4096x2, .f32⟩
  | 100 => ⟨S4096x4096x1, .f32⟩
  | 101 => ⟨S4096x4096, .f32⟩
  | 102 => ⟨S4096x4096x1, .f32⟩
  | 103 => ⟨S4096x4096, .f32⟩
  | 104 => ⟨S4096x4096, .f32⟩
  | 105 => ⟨S4096x1, .f32⟩
  | 106 => ⟨S1x4096, .f32⟩
  | 107 => ⟨S4096x4096, .f32⟩
  | 108 => ⟨S4096x4096, .f32⟩
  | 109 => ⟨S4096x4096, .f32⟩
  | 110 => ⟨S4096x4096, .f32⟩
  | 111 => ⟨S_, .f32⟩
  | 112 => ⟨S4096x4096, .f32⟩
  | 113 => ⟨S4096x4096, .f32⟩
  | 114 => ⟨S4096x4096, .f32⟩
  | 115 => ⟨S4096, .i32⟩
  | 116 => ⟨S_, .i1⟩
  | 117 => ⟨S4096, .i1⟩
  | 118 => ⟨S_, .i32⟩
  | 119 => ⟨S_, .i32⟩
  | 120 => ⟨S4096x4096, .f32⟩
  | 121 => ⟨S4096, .i32⟩
  | 122 => ⟨S_, .i32⟩
  | 123 => ⟨S_, .i32⟩
  | 124 => ⟨S4096, .i1⟩
  | 125 => ⟨S_, .i32⟩
  | 126 => ⟨S_, .i1⟩
  | 127 => ⟨S_, .i32⟩
  | _ => ⟨S1x20000x4, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S1x4096, .f32⟩
  | 16 => ⟨S4096, .f32⟩
  | 17 => ⟨S_, .f32⟩
  | 18 => ⟨S4096, .f32⟩
  | 19 => ⟨S4096, .i1⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S1, .i1⟩
  | 27 => ⟨S_, .i1⟩
  | 28 => ⟨S4096, .i1⟩
  | 29 => ⟨S4096, .i1⟩
  | 30 => ⟨S_, .i32⟩
  | 31 => ⟨S4096, .i32⟩
  | 32 => ⟨S4096, .i1⟩
  | 33 => ⟨S4096, .i1⟩
  | 34 => ⟨S4096, .i1⟩
  | 35 => ⟨S4096, .i1⟩
  | 36 => ⟨S_, .i32⟩
  | 37 => ⟨S_, .i32⟩
  | 38 => ⟨S_, .f32⟩
  | 39 => ⟨S_, .f32⟩
  | 40 => ⟨S4096, .f32⟩
  | 41 => ⟨S4096, .f32⟩
  | 42 => ⟨S200, .f32⟩
  | 43 => ⟨S200, .i32⟩
  | 44 => ⟨S_, .i32⟩
  | 45 => ⟨S200, .i32⟩
  | 46 => ⟨S200, .i1⟩
  | 47 => ⟨S_, .i32⟩
  | 48 => ⟨S200, .i32⟩
  | 49 => ⟨S200, .i32⟩
  | 50 => ⟨S200, .i32⟩
  | 51 => ⟨S200x1, .i32⟩
  | 52 => ⟨S200, .i32⟩
  | 53 => ⟨S_, .i32⟩
  | 54 => ⟨S200, .i32⟩
  | 55 => ⟨S200, .i1⟩
  | 56 => ⟨S_, .i32⟩
  | 57 => ⟨S200, .i32⟩
  | 58 => ⟨S200, .i32⟩
  | 59 => ⟨S200, .i32⟩
  | 60 => ⟨S200x1, .i32⟩
  | 61 => ⟨S200x4, .f32⟩
  | 62 => ⟨S_, .i32⟩
  | 63 => ⟨S200, .i32⟩
  | 64 => ⟨S200, .i1⟩
  | 65 => ⟨S_, .i32⟩
  | 66 => ⟨S200, .i32⟩
  | 67 => ⟨S200, .i32⟩
  | 68 => ⟨S200, .i32⟩
  | 69 => ⟨S200x1, .i32⟩
  | 70 => ⟨S200, .f32⟩
  | 71 => ⟨S_, .i32⟩
  | 72 => ⟨S200, .i32⟩
  | 73 => ⟨S200, .i1⟩
  | 74 => ⟨S_, .i32⟩
  | 75 => ⟨S200, .i32⟩
  | 76 => ⟨S200, .i32⟩
  | 77 => ⟨S200, .i32⟩
  | 78 => ⟨S200x1, .i32⟩
  | 79 => ⟨S200, .i32⟩
  | 80 => ⟨S200, .f32⟩
  | 81 => ⟨S200x1, .f32⟩
  | 82 => ⟨S200x1, .f32⟩
  | 83 => ⟨S200x6, .f32⟩
  | _ => ⟨S1x20000x4, .f32⟩

abbrev hbmTy (i : Nat) : BufTy := match i / 128 with
  | 0 => hbmTy0_0 i
  | 1 => hbmTy0_1 i
  | _ => ⟨S1x20000x4, .f32⟩

abbrev bufTy : (tb : Table) → Fin (tcTables nBuf tb) → BufTy
  | .hbm, ⟨i, _⟩ => hbmTy i
  | _, _ => ⟨S1x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_values : Ref sig .tc := ⟨.hbm, 59, rfl⟩
abbrev main_indices : Ref sig .tc := ⟨.hbm, 60, rfl⟩
abbrev main_c : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_call2_v0 : Ref sig .tc := ⟨.hbm, 97, rfl⟩
abbrev main_call2_v1 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_9 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_c_10 : Ref sig .tc := ⟨.hbm, 116, rfl⟩
abbrev main_v92 : Ref sig .tc := ⟨.hbm, 117, rfl⟩
abbrev main_c_11 : Ref sig .tc := ⟨.hbm, 118, rfl⟩
abbrev main_c_12 : Ref sig .tc := ⟨.hbm, 119, rfl⟩
abbrev main_v93_0 : Ref sig .tc := ⟨.hbm, 120, rfl⟩
abbrev main_v93_1 : Ref sig .tc := ⟨.hbm, 121, rfl⟩
abbrev main_v93_2 : Ref sig .tc := ⟨.hbm, 122, rfl⟩
abbrev main_v93_3 : Ref sig .tc := ⟨.hbm, 123, rfl⟩
abbrev main_v93_4 : Ref sig .tc := ⟨.hbm, 124, rfl⟩
abbrev main_while0c_c_28 : Ref sig .tc := ⟨.hbm, 125, rfl⟩
abbrev main_while0c_v127 : Ref sig .tc := ⟨.hbm, 126, rfl⟩
abbrev main_while0b_c_28 : Ref sig .tc := ⟨.hbm, 127, rfl⟩
abbrev main_while0b_v127 : Ref sig .tc := ⟨.hbm, 128, rfl⟩
abbrev main_while0b_v128 : Ref sig .tc := ⟨.hbm, 129, rfl⟩
abbrev main_while0b_c_29 : Ref sig .tc := ⟨.hbm, 130, rfl⟩
abbrev main_while0b_v129 : Ref sig .tc := ⟨.hbm, 131, rfl⟩
abbrev main_while0b_c_30 : Ref sig .tc := ⟨.hbm, 132, rfl⟩
abbrev main_while0b_v130 : Ref sig .tc := ⟨.hbm, 133, rfl⟩
abbrev main_while0b_v131 : Ref sig .tc := ⟨.hbm, 134, rfl⟩
abbrev main_while0b_c_31 : Ref sig .tc := ⟨.hbm, 135, rfl⟩
abbrev main_while0b_c_32 : Ref sig .tc := ⟨.hbm, 136, rfl⟩
abbrev main_while0b_v132 : Ref sig .tc := ⟨.hbm, 137, rfl⟩
abbrev main_while0b_c_33 : Ref sig .tc := ⟨.hbm, 138, rfl⟩
abbrev main_while0b_c_34 : Ref sig .tc := ⟨.hbm, 139, rfl⟩
abbrev main_while0b_v133 : Ref sig .tc := ⟨.hbm, 140, rfl⟩
abbrev main_while0b_c_35 : Ref sig .tc := ⟨.hbm, 141, rfl⟩
abbrev main_while0b_v134 : Ref sig .tc := ⟨.hbm, 142, rfl⟩
abbrev main_while0b_v135 : Ref sig .tc := ⟨.hbm, 143, rfl⟩
abbrev main_while0b_v136 : Ref sig .tc := ⟨.hbm, 144, rfl⟩
abbrev main_while0b_cst_36 : Ref sig .tc := ⟨.hbm, 145, rfl⟩
abbrev main_while0b_v137 : Ref sig .tc := ⟨.hbm, 146, rfl⟩
abbrev main_while0b_v138 : Ref sig .tc := ⟨.hbm, 147, rfl⟩
abbrev main_while0b_c_37 : Ref sig .tc := ⟨.hbm, 148, rfl⟩
abbrev main_while0b_v139 : Ref sig .tc := ⟨.hbm, 149, rfl⟩
abbrev main_while0b_v140 : Ref sig .tc := ⟨.hbm, 150, rfl⟩
abbrev main_while0b_c_38 : Ref sig .tc := ⟨.hbm, 151, rfl⟩
abbrev main_while0b_v141 : Ref sig .tc := ⟨.hbm, 152, rfl⟩
abbrev main_while0b_v142 : Ref sig .tc := ⟨.hbm, 153, rfl⟩
abbrev main_while0b_v143 : Ref sig .tc := ⟨.hbm, 154, rfl⟩
abbrev main_while0b_v144 : Ref sig .tc := ⟨.hbm, 155, rfl⟩
abbrev main_while0b_v145 : Ref sig .tc := ⟨.hbm, 156, rfl⟩
abbrev main_while0b_v146 : Ref sig .tc := ⟨.hbm, 157, rfl⟩
abbrev main_while0b_v147 : Ref sig .tc := ⟨.hbm, 158, rfl⟩
abbrev main_while0b_v148 : Ref sig .tc := ⟨.hbm, 159, rfl⟩
abbrev main_while0b_v149 : Ref sig .tc := ⟨.hbm, 160, rfl⟩
abbrev main_while0b_v150 : Ref sig .tc := ⟨.hbm, 161, rfl⟩
abbrev main_while0b_v151 : Ref sig .tc := ⟨.hbm, 162, rfl⟩
abbrev main_while0b_v152 : Ref sig .tc := ⟨.hbm, 163, rfl⟩
abbrev main_while0b_c_39 : Ref sig .tc := ⟨.hbm, 164, rfl⟩
abbrev main_while0b_v153 : Ref sig .tc := ⟨.hbm, 165, rfl⟩
abbrev main_cst_13 : Ref sig .tc := ⟨.hbm, 166, rfl⟩
abbrev main_call3_v0 : Ref sig .tc := ⟨.hbm, 167, rfl⟩
abbrev main_call3_v1 : Ref sig .tc := ⟨.hbm, 168, rfl⟩
abbrev main_v94 : Ref sig .tc := ⟨.hbm, 169, rfl⟩
abbrev main_values_14 : Ref sig .tc := ⟨.hbm, 170, rfl⟩
abbrev main_indices_15 : Ref sig .tc := ⟨.hbm, 171, rfl⟩
abbrev main_c_16 : Ref sig .tc := ⟨.hbm, 172, rfl⟩
abbrev main_v95 : Ref sig .tc := ⟨.hbm, 173, rfl⟩
abbrev main_v96 : Ref sig .tc := ⟨.hbm, 174, rfl⟩
abbrev main_c_17 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_c_18 : Ref sig .tc := ⟨.hbm, 181, rfl⟩
abbrev main_v102 : Ref sig .tc := ⟨.hbm, 182, rfl⟩
abbrev main_v103 : Ref sig .tc := ⟨.hbm, 183, rfl⟩
abbrev main_c_19 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_c_20 : Ref sig .tc := ⟨.hbm, 190, rfl⟩
abbrev main_v109 : Ref sig .tc := ⟨.hbm, 191, rfl⟩
abbrev main_v110 : Ref sig .tc := ⟨.hbm, 192, rfl⟩
abbrev main_c_21 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_c_22 : Ref sig .tc := ⟨.hbm, 199, rfl⟩
abbrev main_v116 : Ref sig .tc := ⟨.hbm, 200, rfl⟩
abbrev main_v117 : Ref sig .tc := ⟨.hbm, 201, rfl⟩
abbrev main_c_23 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩

abbrev nD : Nat := 1
abbrev τ : Topo := Topo.v7x

variable {F : FTy → Type} [FloatOps F]

abbrev main_while0_count : Scf.Loop 32 := ⟨0#32, 4096#32, 1#32⟩
-- ==== Proof.Nms.Owns.lean ====
/-
  Loads and stores at the level of `owns`: a core that owns a memref at the contents `X` loads the elements of `X` a
  rectangle places, and a full store through a rectangle leaves `X` overlaid there by the stored vector.
-/
module

public import Idealize.ShloMosaic.Lib.Memref
public import Idealize.ShloMosaic.Lib.Pipeline.Sound

@[expose] public section

noncomputable section

namespace Cert.Proof.Nms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U]

local notation "𝕄" => MT nD τ sig Unit Val ℕ U ℕ

/-- The elements of `X` a rectangle places, as a vector of the rectangle's shape. -/
def part {s : Shape} {α : Type} (r : Rect s) (X : s.Idx → α) : r.shape.Idx → α := fun i => X (r.emb i)

section

variable {s : Shape} {e : EltTy} {α : Type} {c : Thread nD τ}
variable {defs : Defs nD τ sig Val Λ}
variable (𝒱 : Variants) (bd : Option 𝒱.V) (E : Set ℕ)

/-- A load through a rectangle of an owned memref: it hands over the elements the rectangle places. -/
theorem wp_load_owns {cs : CoreSpace} {m : Memref sig c.2.kind cs s e} {r : Rect s} {hl : m.view.LoadsAt r}
    {k : (r.shape.Idx → Val e) → Prog (TpuEff nD τ sig Val Λ c.2) α} {Q : α → sProp 𝕄}
    {q : PosShare TreeShare} {X : s.Idx → Val e} :
    (owns c m q X : sProp 𝕄)
      ⊢ iprop((owns c m q X -∗ wp frame (wpE defs 𝒱 c bd) E (k (part r X)) Q)
        -∗ wp frame (wpE defs 𝒱 c bd) E (.op (.load m r hl) k) Q) := by
  unfold owns
  iintro ⟨%f, %hf, H⟩ Hk
  iapply (wp_load_rect 𝒱 c bd E (m := m) (r := r) (View.set_slice_subset _ _)) $$ H
  iintro H
  have hv : (m.access r).read Val f = part r X := by rw [← hf]; rfl
  rw [hv]
  iapply Hk
  iexists f
  isplitr; · ipureintro; exact hf
  iexact H

/-- A full store through a rectangle of a memref owned at the full share: the contents are overlaid there. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {Q : α → sProp 𝕄} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (Mk := Finset.univ)
    (by rw [View.setOn_univ]; exact View.set_slice_subset _ _)) $$ H
  iintro H
  iapply Hk
  iexists _
  isplitr
  swap; · iexact H
  ipureintro
  subst hf
  funext j
  by_cases hj : j ∈ r.set
  · obtain ⟨i, rfl⟩ : ∃ i, r.emb i = j := r.exists_idx_of_mem hj
    rw [Rect.overlay_emb]
    exact View.read_slice_write_emb r f w (Finset.mem_univ i)
  · rw [Rect.overlay_of_not_mem _ _ _ hj]
    exact View.read_slice_write_of_not_mem r f w _ (by rwa [Rect.map_emb_univ])

end

/-- An operation at the head of a program, then the rest. -/
theorem wp_op_bind {α β : Type} {c : Thread nD τ} {defs : Defs nD τ sig Val Λ} {𝒱 : Variants} {bd : Option 𝒱.V} {E : Set ℕ}
    (e : TpuEff nD τ sig Val Λ c.2 β) (k : β → Prog (TpuEff nD τ sig Val Λ c.2) α) (Q : α → sProp 𝕄) :
    wp frame (wpE defs 𝒱 c bd) E (.op e .ret) (fun x => wp frame (wpE defs 𝒱 c bd) E (k x) Q) ⊢ wp frame (wpE defs 𝒱 c bd) E (.op e k) Q := by
  have h : (Prog.op e k) = (Prog.op e .ret >>= k) := rfl
  rw [h, wp_bind]

/-- Everything overlaid: the stored vector is all there is. -/
theorem overlay_all {s : Shape} {α : Type} (r : Rect s) (X : s.Idx → α) (w : r.shape.Idx → α) (Y : s.Idx → α)
    (h : ∀ j, j ∈ r.set) (hY : ∀ i, Y (r.emb i) = w i) : r.overlay X w = Y := by
  funext j
  obtain ⟨i, rfl⟩ : ∃ i, r.emb i = j := r.exists_idx_of_mem (h j)
  rw [Rect.overlay_emb, hY]

/-- A store over a whole row. -/
theorem overlay_row {n : ℕ} {α : Type} (h : ∀ a : Fin 2, (![0, 0] : Fin 2 → ℕ) a + (⟨2, ![1, n]⟩ : Shape).size a ≤ (⟨2, ![1, n]⟩ : Shape).size a)
    (X w : (⟨2, ![1, n]⟩ : Shape).Idx → α) :
    (Rect.unit (s := ⟨2, ![1, n]⟩) ![0, 0] (⟨2, ![1, n]⟩ : Shape).size h).overlay X w = w := by
  have he (i : (⟨2, ![1, n]⟩ : Shape).Idx) : (Rect.unit (s := ⟨2, ![1, n]⟩) ![0, 0] (⟨2, ![1, n]⟩ : Shape).size h).emb i = i := by
    funext a; apply Fin.ext; fin_cases a <;> exact (by show 0 + 1 * _ = _; omega)
  exact overlay_all _ X w w (fun j => by rw [← he j]; exact (Rect.unit (s := ⟨2, ![1, n]⟩) ![0, 0] (⟨2, ![1, n]⟩ : Shape).size h).idx_mem j) fun i => congrArg w (he i)

end Cert.Proof.Nms

end
-- ==== Proof.Nms.Prog.lean ====
/-
  The blocked suppression program, written once for any number of boxes: the body of its loop over blocks of 128
  boxes and what the loop leaves in the flags. A `Code n` lists what a program over `n` boxes computes — the
  offsets of its loads and stores from the block's number, its loop bounds and its arithmetic — and `body` is the
  loop's body over the five buffers. `stepK` and `stepCnt` are one block's effect on the flags and on the count, `runK`
  the loop's effect on the flags.
-/
module

public import Idealize.ShloMosaic.Lib.Pipeline
public import Idealize.ShloMosaic.Lib.Scf
public import Idealize.ShloMosaic.Lib.Sig
public import Idealize.ShloMosaic.PureOps
public import proofs.«01_k».proof.Proof.Nms.Owns

@[expose] public section

noncomputable section

namespace Cert.Proof.Nms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- Flags, one row of `n`; box coordinates by rows and by columns; a block's column and row; a block's square. -/
abbrev Row (n : ℕ) : Shape := ⟨2, ![1, n]⟩
abbrev Rows4 (n : ℕ) : Shape := ⟨2, ![4, n]⟩
abbrev Cols4 (n : ℕ) : Shape := ⟨2, ![n, 4]⟩
abbrev Col : Shape := ⟨2, ![128, 1]⟩
abbrev Lane : Shape := ⟨2, ![1, 128]⟩
abbrev Tile : Shape := ⟨2, ![128, 128]⟩

theorem col_pos : 0 < Col.numel := by decide
theorem lane_pos : 0 < Lane.numel := by decide
theorem tile_pos : 0 < Tile.numel := by decide
theorem lane_inb : ∀ a : Fin 2, (![0, 0] : Fin 2 → ℕ) a + Lane.size a ≤ Lane.size a := by decide
theorem tile_inb : ∀ a : Fin 2, (![0, 0] : Fin 2 → ℕ) a + Tile.size a ≤ Tile.size a := by decide

/-- A statement about each of four. -/
theorem forall4 {p : Fin 4 → Prop} (h0 : p 0) (h1 : p 1) (h2 : p 2) (h3 : p 3) : ∀ q, p q := fun q => by
  fin_cases q
  · exact h0
  · exact h1
  · exact h2
  · exact h3

/-- What a program over `n` boxes computes: the block bound, the side condition of a block's number, the offsets it
    loads and stores at, the loops, and the arithmetic between them. -/
structure Code (F : FTy → Type) [FloatOps F] (n : ℕ) where
  nb : BitVec 32
  chk : BitVec 32 → Prop
  dec : ∀ w, Decidable (chk w)
  oR : Fin 4 → BitVec 32 → Fin 2 → ℕ
  iR : ∀ q w, chk w → ∀ a, oR q w a + Col.size a ≤ (Cols4 n).size a
  oC : Fin 4 → BitVec 32 → Fin 2 → ℕ
  iC : ∀ q w, chk w → ∀ a, oC q w a + Lane.size a ≤ (Rows4 n).size a
  oK : BitVec 32 → Fin 2 → ℕ
  iK : ∀ w, chk w → ∀ a, oK w a + Lane.size a ≤ (Row n).size a
  L1 : Scf.Loop 32
  ok1 : L1.OK
  oS : Fin L1.trips → Fin 2 → ℕ
  iS : ∀ t, ∀ a, oS t a + Lane.size a ≤ Tile.size a
  L2 : BitVec 32 → Scf.Loop 32
  ok2 : ∀ w, chk w → (L2 w).OK
  oX : Fin 4 → ∀ w, Fin (L2 w).trips → Fin 2 → ℕ
  iX : ∀ q w, chk w → ∀ t, ∀ a, oX q w t a + Lane.size a ≤ (Rows4 n).size a
  oY : ∀ w, Fin (L2 w).trips → Fin 2 → ℕ
  iY : ∀ w, chk w → ∀ t, ∀ a, oY w t a + Lane.size a ≤ (Row n).size a
  L3 : BitVec 32 → Scf.Loop 32
  ok3 : ∀ w, chk w → (L3 w).OK
  oX' : Fin 4 → ∀ w, Fin (L3 w).trips → Fin 2 → ℕ
  iX' : ∀ q w, chk w → ∀ t, ∀ a, oX' q w t a + Lane.size a ≤ (Rows4 n).size a
  oY' : ∀ w, Fin (L3 w).trips → Fin 2 → ℕ
  iY' : ∀ w, chk w → ∀ t, ∀ a, oY' w t a + Lane.size a ≤ (Row n).size a
  tile : Vec F Col .f32 → Vec F Col .f32 → Vec F Col .f32 → Vec F Col .f32 →
    Vec F Lane .f32 → Vec F Lane .f32 → Vec F Lane .f32 → Vec F Lane .f32 → Vec F Tile .f32
  start : Vec F Lane .f32 → Vec F Lane .f32
  scan : Fin L1.trips → Vec F Lane .f32 → Vec F Lane .f32 → Vec F Lane .f32
  chunk : Vec F Col .f32 → Vec F Col .f32 → Vec F Col .f32 → Vec F Col .f32 → Vec F Lane .f32 →
    Vec F Lane .f32 → Vec F Lane .f32 → Vec F Lane .f32 → Vec F Lane .f32 → Vec F Lane .f32 → Vec F Lane .f32
  chunk' : Vec F Col .f32 → Vec F Col .f32 → Vec F Col .f32 → Vec F Col .f32 → Vec F Lane .f32 →
    Vec F Lane .f32 → Vec F Lane .f32 → Vec F Lane .f32 → Vec F Lane .f32 → Vec F Lane .f32 → Vec F Lane .f32
  cnt : Vec F Lane .f32 → BitVec 32

/-! ## The rectangles -/

section Rects

variable {F : FTy → Type} [FloatOps F] {n : ℕ} (C : Code F n)

abbrev rR (q : Fin 4) (w : BitVec 32) (h : C.chk w) : Rect (Cols4 n) := Rect.unit (s := Cols4 n) (C.oR q w) Col.size (C.iR q w h)
abbrev rC (q : Fin 4) (w : BitVec 32) (h : C.chk w) : Rect (Rows4 n) := Rect.unit (s := Rows4 n) (C.oC q w) Lane.size (C.iC q w h)
abbrev rK (w : BitVec 32) (h : C.chk w) : Rect (Row n) := Rect.unit (s := Row n) (C.oK w) Lane.size (C.iK w h)
abbrev rS (t : Fin C.L1.trips) : Rect Tile := Rect.unit (s := Tile) (C.oS t) Lane.size (C.iS t)
abbrev rX (q : Fin 4) (w : BitVec 32) (h : C.chk w) (t : Fin (C.L2 w).trips) : Rect (Rows4 n) :=
  Rect.unit (s := Rows4 n) (C.oX q w t) Lane.size (C.iX q w h t)
abbrev rY (w : BitVec 32) (h : C.chk w) (t : Fin (C.L2 w).trips) : Rect (Row n) :=
  Rect.unit (s := Row n) (C.oY w t) Lane.size (C.iY w h t)
abbrev rX' (q : Fin 4) (w : BitVec 32) (h : C.chk w) (t : Fin (C.L3 w).trips) : Rect (Rows4 n) :=
  Rect.unit (s := Rows4 n) (C.oX' q w t) Lane.size (C.iX' q w h t)
abbrev rY' (w : BitVec 32) (h : C.chk w) (t : Fin (C.L3 w).trips) : Rect (Row n) :=
  Rect.unit (s := Row n) (C.oY' w t) Lane.size (C.iY' w h t)
abbrev rL : Rect Lane := Rect.unit (s := Lane) ![0, 0] Lane.size lane_inb
abbrev rT : Rect Tile := Rect.unit (s := Tile) ![0, 0] Tile.size tile_inb

end Rects

/-! ## The program -/

section Program

variable {nD : ℕ} {τ : Topo} {sig : RefSig} {Λ : Labels} {F : FTy → Type} [FloatOps F] {n : ℕ} (C : Code F n)
variable (m1 : Memref sig .tc .vmem (Cols4 n) .f32) (m0 : Memref sig .tc .vmem (Rows4 n) .f32)
variable (m3 : Memref sig .tc .vmem Tile .f32) (m2 : Memref sig .tc .vmem (Row n) .f32) (m4 : Memref sig .tc .vmem Lane .f32)

/-- One trip of the scan down a block: row `t` of the block's square suppresses the later flags if flag `t` stands. -/
def scanTrip (t : Fin C.L1.trips) (_ : BitVec 32) : Prog (TpuEff nD τ sig (Elt F) Λ .tc) (BitVec 32) := do
  let x : Vec F Lane .f32 ← Prog.lift (.load m3 (rS C t).toLoadRect (View.loadsAt_vmem lane_pos))
  let y : Vec F Lane .f32 ← Prog.lift (.load m4 (rL).toLoadRect (View.loadsAt_vmem lane_pos))
  let _ : Vec F Lane .f32 ← Prog.lift (.load m4 (rL).toLoadRect (View.loadsAt_vmem lane_pos))
  Prog.lift (.store m4 (rL) (C.scan t x y) Finset.univ (View.stores_vmem_bits_univ lane_pos rfl) (.inl rfl))
  pure 0#32

/-- One trip of the loop over later blocks: the block's surviving boxes suppress the flags of one later block. -/
def chunkTrip (w : BitVec 32) (h : C.chk w) (r0 r1 r2 r3 : Vec F Col .f32) (kb : Vec F Lane .f32) (t : Fin (C.L2 w).trips) (_ : BitVec 32) :
    Prog (TpuEff nD τ sig (Elt F) Λ .tc) (BitVec 32) := do
  let c0 : Vec F Lane .f32 ← Prog.lift (.load m0 (rX C 0 w h t).toLoadRect (View.loadsAt_vmem lane_pos))
  let c1 : Vec F Lane .f32 ← Prog.lift (.load m0 (rX C 1 w h t).toLoadRect (View.loadsAt_vmem lane_pos))
  let c2 : Vec F Lane .f32 ← Prog.lift (.load m0 (rX C 2 w h t).toLoadRect (View.loadsAt_vmem lane_pos))
  let c3 : Vec F Lane .f32 ← Prog.lift (.load m0 (rX C 3 w h t).toLoadRect (View.loadsAt_vmem lane_pos))
  let u : Vec F Lane .f32 ← Prog.lift (.load m2 (rY C w h t).toLoadRect (View.loadsAt_vmem lane_pos))
  let _ : Vec F Lane .f32 ← Prog.lift (.load m2 (rY C w h t).toLoadRect (View.loadsAt_vmem lane_pos))
  Prog.lift (.store m2 (rY C w h t) (C.chunk r0 r1 r2 r3 kb c0 c1 c2 c3 u) Finset.univ (View.stores_vmem_bits_univ lane_pos rfl) (.inl rfl))
  pure 0#32

/-- The same over the part of that loop left by its first whole strides. -/
def chunkTrip' (w : BitVec 32) (h : C.chk w) (r0 r1 r2 r3 : Vec F Col .f32) (kb : Vec F Lane .f32) (t : Fin (C.L3 w).trips) (_ : BitVec 32) :
    Prog (TpuEff nD τ sig (Elt F) Λ .tc) (BitVec 32) := do
  let c0 : Vec F Lane .f32 ← Prog.lift (.load m0 (rX' C 0 w h t).toLoadRect (View.loadsAt_vmem lane_pos))
  let c1 : Vec F Lane .f32 ← Prog.lift (.load m0 (rX' C 1 w h t).toLoadRect (View.loadsAt_vmem lane_pos))
  let c2 : Vec F Lane .f32 ← Prog.lift (.load m0 (rX' C 2 w h t).toLoadRect (View.loadsAt_vmem lane_pos))
  let c3 : Vec F Lane .f32 ← Prog.lift (.load m0 (rX' C 3 w h t).toLoadRect (View.loadsAt_vmem lane_pos))
  let u : Vec F Lane .f32 ← Prog.lift (.load m2 (rY' C w h t).toLoadRect (View.loadsAt_vmem lane_pos))
  let _ : Vec F Lane .f32 ← Prog.lift (.load m2 (rY' C w h t).toLoadRect (View.loadsAt_vmem lane_pos))
  Prog.lift (.store m2 (rY' C w h t) (C.chunk' r0 r1 r2 r3 kb c0 c1 c2 c3 u) Finset.univ (View.stores_vmem_bits_univ lane_pos rfl) (.inl rfl))
  pure 0#32

/-- The body of the loop over blocks, `again` the call that continues it. -/
def body (again : BitVec 32 → BitVec 32 → Prog (TpuEff nD τ sig (Elt F) Λ .tc) (BitVec 32 × BitVec 32)) (w k : BitVec 32) :
    Prog (TpuEff nD τ sig (Elt F) Λ .tc) (BitVec 32 × BitVec 32) := do
  if Scalar.andi (Scalar.cmpi .slt w C.nb) (Scalar.cmpi .slt k 200#32) = 1#1 then do
    have h : C.chk w := (← Prog.lift (TpuEff.assume (C.chk w) (C.dec w))).down
    let r0 : Vec F Col .f32 ← Prog.lift (.load m1 (rR C 0 w h).toLoadRect (View.loadsAt_vmem col_pos))
    let r1 : Vec F Col .f32 ← Prog.lift (.load m1 (rR C 1 w h).toLoadRect (View.loadsAt_vmem col_pos))
    let r2 : Vec F Col .f32 ← Prog.lift (.load m1 (rR C 2 w h).toLoadRect (View.loadsAt_vmem col_pos))
    let r3 : Vec F Col .f32 ← Prog.lift (.load m1 (rR C 3 w h).toLoadRect (View.loadsAt_vmem col_pos))
    let c0 : Vec F Lane .f32 ← Prog.lift (.load m0 (rC C 0 w h).toLoadRect (View.loadsAt_vmem lane_pos))
    let c1 : Vec F Lane .f32 ← Prog.lift (.load m0 (rC C 1 w h).toLoadRect (View.loadsAt_vmem lane_pos))
    let c2 : Vec F Lane .f32 ← Prog.lift (.load m0 (rC C 2 w h).toLoadRect (View.loadsAt_vmem lane_pos))
    let c3 : Vec F Lane .f32 ← Prog.lift (.load m0 (rC C 3 w h).toLoadRect (View.loadsAt_vmem lane_pos))
    let _ : Vec F Tile .f32 ← Prog.lift (.load m3 (rT).toLoadRect (View.loadsAt_vmem tile_pos))
    Prog.lift (.store m3 (rT) (C.tile r0 r1 r2 r3 c0 c1 c2 c3) Finset.univ (View.stores_vmem_bits_univ tile_pos rfl) (.inl rfl))
    let u : Vec F Lane .f32 ← Prog.lift (.load m2 (rK C w h).toLoadRect (View.loadsAt_vmem lane_pos))
    let _ : Vec F Lane .f32 ← Prog.lift (.load m4 (rL).toLoadRect (View.loadsAt_vmem lane_pos))
    Prog.lift (.store m4 (rL) (C.start u) Finset.univ (View.stores_vmem_bits_univ lane_pos rfl) (.inl rfl))
    let _ : BitVec 32 ← Scf.Loop.for C.L1 C.ok1 0#32 (scanTrip C m3 m4)
    let kb : Vec F Lane .f32 ← Prog.lift (.load m4 (rL).toLoadRect (View.loadsAt_vmem lane_pos))
    let _ : Vec F Lane .f32 ← Prog.lift (.load m2 (rK C w h).toLoadRect (View.loadsAt_vmem lane_pos))
    Prog.lift (.store m2 (rK C w h) kb Finset.univ (View.stores_vmem_bits_univ lane_pos rfl) (.inl rfl))
    let y : BitVec 32 ← Scf.Loop.for (C.L2 w) (C.ok2 w h) 0#32 (chunkTrip C m0 m2 w h r0 r1 r2 r3 kb)
    let _ : BitVec 32 ← Scf.Loop.for (C.L3 w) (C.ok3 w h) y (chunkTrip' C m0 m2 w h r0 r1 r2 r3 kb)
    again (Scalar.addi w 1#32) (Scalar.addi k (C.cnt kb))
  else pure (w, k)

end Program

/-! ## What it computes -/

section Pure

variable {F : FTy → Type} [FloatOps F] {n : ℕ} (C : Code F n)

/-- The block's flags after `t` trips of the scan. -/
def scanTo (S : Vec F Tile .f32) (kb : Vec F Lane .f32) : ℕ → Vec F Lane .f32
  | 0 => kb
  | t + 1 => if h : t < C.L1.trips then C.scan ⟨t, h⟩ (part (rS C ⟨t, h⟩) S) (scanTo S kb t) else scanTo S kb t

variable (B : Vec F (Rows4 n) .f32) (R : Vec F (Cols4 n) .f32) (w : BitVec 32) (h : C.chk w)

/-- The block's square: which of its boxes overlap which. -/
def tileOf : Vec F Tile .f32 :=
  C.tile (part (rR C 0 w h) R) (part (rR C 1 w h) R) (part (rR C 2 w h) R) (part (rR C 3 w h) R)
    (part (rC C 0 w h) B) (part (rC C 1 w h) B) (part (rC C 2 w h) B) (part (rC C 3 w h) B)

/-- The block's flags once its own boxes have suppressed each other. -/
def blockOf (K : Vec F (Row n) .f32) : Vec F Lane .f32 :=
  scanTo C (tileOf C B R w h) (C.start (part (rK C w h) K)) C.L1.trips

/-- What one later block's flags become. -/
def chunkOf (kb : Vec F Lane .f32) (t : Fin (C.L2 w).trips) (u : Vec F Lane .f32) : Vec F Lane .f32 :=
  C.chunk (part (rR C 0 w h) R) (part (rR C 1 w h) R) (part (rR C 2 w h) R) (part (rR C 3 w h) R) kb
    (part (rX C 0 w h t) B) (part (rX C 1 w h t) B) (part (rX C 2 w h t) B) (part (rX C 3 w h t) B) u

/-- All the flags after `t` trips over the later blocks. -/
def chunksTo (kb : Vec F Lane .f32) (K : Vec F (Row n) .f32) : ℕ → Vec F (Row n) .f32
  | 0 => K
  | t + 1 => if ht : t < (C.L2 w).trips then
      (rY C w h ⟨t, ht⟩).overlay (chunksTo kb K t) (chunkOf C B R w h kb ⟨t, ht⟩ (part (rY C w h ⟨t, ht⟩) (chunksTo kb K t)))
    else chunksTo kb K t

/-- The flags after the block, -/
def stepK (K : Vec F (Row n) .f32) : Vec F (Row n) .f32 :=
  chunksTo C B R w h (blockOf C B R w h K) ((rK C w h).overlay K (blockOf C B R w h K)) (C.L2 w).trips

/-- and the count. -/
def stepCnt (k : BitVec 32) (K : Vec F (Row n) .f32) : BitVec 32 := Scalar.addi k (C.cnt (blockOf C B R w h K))

/-- The flags a loop of at most `fuel` more blocks leaves, from block `w`, count `k` and flags `K`. -/
def runK : ℕ → BitVec 32 → BitVec 32 → Vec F (Row n) .f32 → Vec F (Row n) .f32
  | 0, _, _, K => K
  | fuel + 1, w, k, K =>
    have := C.dec
    if Scalar.andi (Scalar.cmpi .slt w C.nb) (Scalar.cmpi .slt k 200#32) = 1#1 then
      if h : C.chk w then runK fuel (Scalar.addi w 1#32) (stepCnt C B R w h k K) (stepK C B R w h K) else K
    else K

end Pure

end Cert.Proof.Nms

end
-- ==== Proof.Nms.Triple.lean ====
/-
  The loop over blocks meets its specification: from the five buffers owned with flags `K`, the loop leaves the flags
  `runK` computes, the coordinates untouched and the two scratch buffers at anything.
-/
module

public import proofs.«01_k».proof.Proof.Nms.Prog

@[expose] public section

noncomputable section

namespace Cert.Proof.Nms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F] {n : ℕ} (C : Code F n)
variable {U : Type} [URA U]

local notation "𝕄" => MT nD τ sig Unit (Elt F) ℕ U ℕ

variable {defs : Defs nD τ sig (Elt F) Λ} (𝒱 : Variants) (c : Dev nD) (E : Set ℕ)
variable (m1 : Memref sig .tc .vmem (Cols4 n) .f32) (m0 : Memref sig .tc .vmem (Rows4 n) .f32)
variable (m3 : Memref sig .tc .vmem Tile .f32) (m2 : Memref sig .tc .vmem (Row n) .f32) (m4 : Memref sig .tc .vmem Lane .f32)
variable (B : Vec F (Rows4 n) .f32) (R : Vec F (Cols4 n) .f32)

/-- What the loop holds: the coordinates by rows and by columns, the flags, the two scratch buffers at anything. -/
def bufs (K : Vec F (Row n) .f32) : sProp 𝕄 :=
  iprop(owns (c : Thread nD τ) m0 fullShare B ∗ owns (c : Thread nD τ) m1 fullShare R ∗ owns (c : Thread nD τ) m2 fullShare K
    ∗ (∃ S, owns (c : Thread nD τ) m3 fullShare S) ∗ (∃ V, owns (c : Thread nD τ) m4 fullShare V))

variable (bd : Option 𝒱.V)

/-- The whole-vector rectangles place every element where it is. -/
theorem rL_emb (i : Lane.Idx) : (rL).emb i = i := by
  funext a; apply Fin.ext; fin_cases a <;> exact (by show 0 + 1 * _ = _; omega)

theorem rT_emb (i : Tile.Idx) : (rT).emb i = i := by
  funext a; apply Fin.ext; fin_cases a <;> exact (by show 0 + 1 * _ = _; omega)

theorem part_rL {α : Type} (X : Lane.Idx → α) : part (rL) X = X := funext fun i => congrArg X (rL_emb i)

theorem overlay_rL {α : Type} (X w : Lane.Idx → α) : (rL).overlay X w = w :=
  overlay_all (rL) X w w (fun j => by rw [← rL_emb j]; exact (rL).idx_mem j) fun i => congrArg w (rL_emb i)

theorem overlay_rT {α : Type} (X w : Tile.Idx → α) : (rT).overlay X w = w :=
  overlay_all (rT) X w w (fun j => by rw [← rT_emb j]; exact (rT).idx_mem j) fun i => congrArg w (rT_emb i)

/-- One trip of the scan. -/
theorem scan_sound (S : Vec F Tile .f32) (kb : Vec F Lane .f32) (t : Fin C.L1.trips) (acc : BitVec 32) :
    (iprop(owns (c : Thread nD τ) m3 fullShare S ∗ owns (c : Thread nD τ) m4 fullShare (scanTo C S kb t)) : sProp 𝕄)
      ⊢ wp frame (wpE defs 𝒱 (c : Thread nD τ) bd) E (scanTrip C m3 m4 t acc)
          (fun _ => iprop(owns (c : Thread nD τ) m3 fullShare S ∗ owns (c : Thread nD τ) m4 fullShare (scanTo C S kb (t.val + 1)))) := by
  unfold scanTrip
  simp only [Prog.lift, Prog.bind_op, Prog.bind_ret, Prog.pure_eq_ret]
  iintro ⟨HS, HV⟩
  iapply (wp_load_owns 𝒱 (c := (c : Thread nD τ)) bd E (m := m3)) $$ HS; iintro HS
  iapply (wp_load_owns 𝒱 (c := (c : Thread nD τ)) bd E (m := m4)) $$ HV; iintro HV
  iapply (wp_load_owns 𝒱 (c := (c : Thread nD τ)) bd E (m := m4)) $$ HV; iintro HV
  iapply (wp_store_owns 𝒱 (c := (c : Thread nD τ)) bd E (m := m4)) $$ HV; iintro HV
  rw [wp_ret]; imodintro
  isplitl [HS]; · iexact HS
  rw [overlay_rL, part_rL, scanTo, dif_pos t.isLt]
  iexact HV

/-- One trip over the later blocks. -/
theorem chunk_sound (w : BitVec 32) (h : C.chk w) (kb : Vec F Lane .f32) (K : Vec F (Row n) .f32) (t : Fin (C.L2 w).trips) (acc : BitVec 32) :
    (iprop(owns (c : Thread nD τ) m0 fullShare B ∗ owns (c : Thread nD τ) m2 fullShare (chunksTo C B R w h kb K t)) : sProp 𝕄)
      ⊢ wp frame (wpE defs 𝒱 (c : Thread nD τ) bd) E
          (chunkTrip C m0 m2 w h (part (rR C 0 w h) R) (part (rR C 1 w h) R) (part (rR C 2 w h) R) (part (rR C 3 w h) R) kb t acc)
          (fun _ => iprop(owns (c : Thread nD τ) m0 fullShare B ∗ owns (c : Thread nD τ) m2 fullShare (chunksTo C B R w h kb K (t.val + 1)))) := by
  unfold chunkTrip
  simp only [Prog.lift, Prog.bind_op, Prog.bind_ret, Prog.pure_eq_ret]
  iintro ⟨HB, HK⟩
  iapply (wp_load_owns 𝒱 (c := (c : Thread nD τ)) bd E (m := m0)) $$ HB; iintro HB
  iapply (wp_load_owns 𝒱 (c := (c : Thread nD τ)) bd E (m := m0)) $$ HB; iintro HB
  iapply (wp_load_owns 𝒱 (c := (c : Thread nD τ)) bd E (m := m0)) $$ HB; iintro HB
  iapply (wp_load_owns 𝒱 (c := (c : Thread nD τ)) bd E (m := m0)) $$ HB; iintro HB
  iapply (wp_load_owns 𝒱 (c := (c : Thread nD τ)) bd E (m := m2)) $$ HK; iintro HK
  iapply (wp_load_owns 𝒱 (c := (c : Thread nD τ)) bd E (m := m2)) $$ HK; iintro HK
  iapply (wp_store_owns 𝒱 (c := (c : Thread nD τ)) bd E (m := m2)) $$ HK; iintro HK
  rw [wp_ret]; imodintro
  isplitl [HB]; · iexact HB
  rw [chunksTo, dif_pos t.isLt]
  unfold chunkOf
  iexact HK

variable (again : BitVec 32 → BitVec 32 → Prog (TpuEff nD τ sig (Elt F) Λ .tc) (BitVec 32 × BitVec 32))

/-- One block: the body leaves the flags `stepK` computes and continues at the next block and count. -/
theorem body_sound (w k : BitVec 32) (h : C.chk w) (h3 : (C.L3 w).trips = 0) (K : Vec F (Row n) .f32)
    (hc : Scalar.andi (Scalar.cmpi .slt w C.nb) (Scalar.cmpi .slt k 200#32) = 1#1) (Q : BitVec 32 × BitVec 32 → sProp 𝕄) :
    iprop(bufs c m1 m0 m3 m2 m4 B R K
        ∗ (bufs c m1 m0 m3 m2 m4 B R (stepK C B R w h K) -∗ wp frame (wpE defs 𝒱 (c : Thread nD τ) bd) E (again (Scalar.addi w 1#32) (stepCnt C B R w h k K)) Q))
      ⊢ wp frame (wpE defs 𝒱 (c : Thread nD τ) bd) E (body C m1 m0 m3 m2 m4 again w k) Q := by
  unfold body
  rw [if_pos hc]
  simp only [Prog.lift, Prog.bind_op, Prog.bind_ret, Prog.pure_eq_ret]
  unfold bufs
  iintro ⟨⟨HB, HR, HK, ⟨%S, HS⟩, ⟨%V, HV⟩⟩, Hk⟩
  iapply (wp_assume 𝒱 (c : Thread nD τ) bd E h)
  iapply (wp_load_owns 𝒱 (c := (c : Thread nD τ)) bd E (m := m1)) $$ HR; iintro HR
  iapply (wp_load_owns 𝒱 (c := (c : Thread nD τ)) bd E (m := m1)) $$ HR; iintro HR
  iapply (wp_load_owns 𝒱 (c := (c : Thread nD τ)) bd E (m := m1)) $$ HR; iintro HR
  iapply (wp_load_owns 𝒱 (c := (c : Thread nD τ)) bd E (m := m1)) $$ HR; iintro HR
  iapply (wp_load_owns 𝒱 (c := (c : Thread nD τ)) bd E (m := m0)) $$ HB; iintro HB
  iapply (wp_load_owns 𝒱 (c := (c : Thread nD τ)) bd E (m := m0)) $$ HB; iintro HB
  iapply (wp_load_owns 𝒱 (c := (c : Thread nD τ)) bd E (m := m0)) $$ HB; iintro HB
  iapply (wp_load_owns 𝒱 (c := (c : Thread nD τ)) bd E (m := m0)) $$ HB; iintro HB
  iapply (wp_load_owns 𝒱 (c := (c : Thread nD τ)) bd E (m := m3)) $$ HS; iintro HS
  iapply (wp_store_owns 𝒱 (c := (c : Thread nD τ)) bd E (m := m3)) $$ HS; iintro HS
  iapply (wp_load_owns 𝒱 (c := (c : Thread nD τ)) bd E (m := m2)) $$ HK; iintro HK
  iapply (wp_load_owns 𝒱 (c := (c : Thread nD τ)) bd E (m := m4)) $$ HV; iintro HV
  iapply (wp_store_owns 𝒱 (c := (c : Thread nD τ)) bd E (m := m4)) $$ HV; iintro HV
  rw [overlay_rT, overlay_rL]
  iapply (Scf.wp_for_bind frame (wpE defs 𝒱 (c : Thread nD τ) bd) E C.L1.lb C.L1.ub C.L1.st C.ok1 _ _
    (fun t _ => iprop(owns (c : Thread nD τ) m3 fullShare (tileOf C B R w h)
      ∗ owns (c : Thread nD τ) m4 fullShare (scanTo C (tileOf C B R w h) (C.start (part (rK C w h) K)) t)))
    (scan_sound C 𝒱 c E m3 m4 bd (tileOf C B R w h) (C.start (part (rK C w h) K)))) $$ [HS HV]
  · isplitl [HS]
    · unfold tileOf; iexact HS
    · unfold scanTo; iexact HV
  iintro %a1 ⟨HS, HV⟩
  iapply (wp_load_owns 𝒱 (c := (c : Thread nD τ)) bd E (m := m4)) $$ HV; iintro HV
  iapply (wp_load_owns 𝒱 (c := (c : Thread nD τ)) bd E (m := m2)) $$ HK; iintro HK
  iapply (wp_store_owns 𝒱 (c := (c : Thread nD τ)) bd E (m := m2)) $$ HK; iintro HK
  rw [part_rL]
  iapply (Scf.wp_for_bind frame (wpE defs 𝒱 (c : Thread nD τ) bd) E (C.L2 w).lb (C.L2 w).ub (C.L2 w).st (C.ok2 w h) _ _
    (fun t _ => iprop(owns (c : Thread nD τ) m0 fullShare B
      ∗ owns (c : Thread nD τ) m2 fullShare (chunksTo C B R w h (blockOf C B R w h K) ((rK C w h).overlay K (blockOf C B R w h K)) t)))
    (chunk_sound C 𝒱 c E m0 m2 B R bd w h (blockOf C B R w h K) ((rK C w h).overlay K (blockOf C B R w h K)))) $$ [HB HK]
  · isplitl [HB]
    · iexact HB
    · unfold chunksTo blockOf; iexact HK
  iintro %a2 ⟨HB, HK⟩
  iapply (Scf.wp_for_bind frame (wpE defs 𝒱 (c : Thread nD τ) bd) E (C.L3 w).lb (C.L3 w).ub (C.L3 w).st (C.ok3 w h) _ _
    (fun _ _ => iprop(⌜True⌝)) (fun t _ => absurd (lt_of_lt_of_eq t.isLt h3) (Nat.not_lt_zero _))) $$ []
  · ipureintro; trivial
  iintro %a3 -
  iapply Hk
  unfold stepK
  isplitl [HB]; · iexact HB
  isplitl [HR]; · iexact HR
  isplitl [HK]; · iexact HK
  isplitl [HS]
  · iexists _; iexact HS
  · iexists _; iexact HV

/-- No word is below itself. -/
theorem slt_self (x : BitVec 32) (y : BitVec 1) : ¬ Scalar.andi (Scalar.cmpi .slt x x) y = 1#1 := by
  have h : Scalar.cmpi .slt x x = 0#1 := by
    show IntOp.cmpi .slt x x = 0#1
    simp [IntOp.cmpi, BitVec.slt]
  rw [h]
  show ¬ (0#1 &&& y) = 1#1
  rw [BitVec.zero_and]
  decide

/-- The loop over blocks, from block `j` of `N`: the flags `runK` computes. -/
theorem loop_sound (𝒱' : Variants) (emb : ℕ → 𝒱'.V) (N : ℕ) (hN : N < 2 ^ 31) (hnb : C.nb = BitVec.ofNat 32 N) (hchk : ∀ j < N, C.chk (BitVec.ofNat 32 j))
    (h3 : ∀ j < N, (C.L3 (BitVec.ofNat 32 j)).trips = 0)
    (hcall : ∀ (i : ℕ) (bd : Option 𝒱'.V) (_ : ∀ u ∈ bd, 𝒱'.lt (emb i) u) (w k : BitVec 32) (Q : BitVec 32 × BitVec 32 → sProp 𝕄),
      wp frame (wpE defs 𝒱' (c : Thread nD τ) (some (emb i))) E (body C m1 m0 m3 m2 m4 again w k) Q
        ⊢ wp frame (wpE defs 𝒱' (c : Thread nD τ) bd) E (again w k) Q)
    (hemb : ∀ i, 𝒱'.lt (emb i) (emb (i + 1)))
    (Q : BitVec 32 × BitVec 32 → sProp 𝕄) :
    ∀ (i j : ℕ) (_ : j + i = N) (bd : Option 𝒱'.V) (_ : ∀ u ∈ bd, 𝒱'.lt (emb i) u) (k : BitVec 32) (K : Vec F (Row n) .f32),
    iprop(bufs c m1 m0 m3 m2 m4 B R K
        ∗ (∀ r, bufs c m1 m0 m3 m2 m4 B R (runK C B R i (BitVec.ofNat 32 j) k K) -∗ Q r))
      ⊢ wp frame (wpE defs 𝒱' (c : Thread nD τ) bd) E (again (BitVec.ofNat 32 j) k) Q := by
  have stop (w k : BitVec 32) (hc : ¬ Scalar.andi (Scalar.cmpi .slt w C.nb) (Scalar.cmpi .slt k 200#32) = 1#1) (bd : Option 𝒱'.V) (P : sProp 𝕄) :
      iprop(P ∗ (∀ r, P -∗ Q r)) ⊢ wp frame (wpE defs 𝒱' (c : Thread nD τ) bd) E (body C m1 m0 m3 m2 m4 again w k) Q := by
    unfold body
    rw [if_neg hc, Prog.pure_eq_ret, wp_ret]
    iintro ⟨H, Hk⟩
    imodintro
    ispecialize Hk $$ %(w, k)
    iapply Hk
    iexact H
  intro i
  induction i with
  | zero =>
    intro j hj bd hbd k K
    refine BIBase.Entails.trans ?_ (hcall 0 bd hbd _ _ Q)
    exact stop _ _ (by rw [hnb, show j = N from hj]; exact slt_self _ _) _ _
  | succ i ih =>
    intro j hj bd hbd k K
    refine BIBase.Entails.trans ?_ (hcall (i + 1) bd hbd _ _ Q)
    by_cases hc : Scalar.andi (Scalar.cmpi .slt (BitVec.ofNat 32 j) C.nb) (Scalar.cmpi .slt k 200#32) = 1#1
    · have hjN : j < N := by omega
      refine BIBase.Entails.trans ?_ (body_sound C 𝒱' c E m1 m0 m3 m2 m4 B R (some (emb (i + 1))) again _ k (hchk j hjN) (h3 j hjN) K hc Q)
      refine sep_mono_right ?_
      have h1 : Scalar.addi (BitVec.ofNat 32 j) 1#32 = BitVec.ofNat 32 (j + 1) := by
        show BitVec.ofNat 32 j + BitVec.ofNat 32 1 = _
        rw [← BitVec.ofNat_add]
      rw [runK, if_pos hc, dif_pos (hchk j hjN), h1]
      iintro Hk HB
      iapply (ih (j + 1) (by omega) (some (emb (i + 1))) (fun u hu => by cases hu; exact hemb i)
        (stepCnt C B R _ (hchk j hjN) k K) (stepK C B R _ (hchk j hjN) K))
      isplitl [HB]; · iexact HB
      iexact Hk
    · rw [runK, if_neg hc]
      exact stop _ _ hc _ _

end Cert.Proof.Nms

end
-- ==== Proof.PI.Ops.lean ====
/-
  The host operations of @main, in pieces: each piece computes one thing the comment names. For each piece: that it touches
  TensorCore references only, that it allocates nothing, and the references it writes.
-/
module

public import proofs.«01_k».proof.Proof.Gen.KernelIdeal
public import Idealize.ShloMosaic.Lib.StableHlo.RunRead
public import Idealize.ShloMosaic.Lib.Pipeline.Regions

@[expose] public section

set_option maxRecDepth 4000

noncomputable section

namespace Cert.Proof.PI

open Cert.KernelIdeal Cert.KernelIdeal.Gen
open Idealize.ShloMosaic Idealize.ShloMosaic.TcCoe

variable {F : FTy → Type} [FloatOps F]

/-- What a buffer of one shape and element type holds. -/
abbrev Arr (F : FTy → Type) (S : Shape) (e : EltTy) : Type := (⟨S, e⟩ : BufTy).Contents (Elt F)

/-- The three arguments laid out by rows for the first region. -/
abbrev argOps : List (HloOp τ sig (Elt F)) :=
  [ StableHlo.reshape main_arg0 main_call0_v0 (rfl : (.f32 : EltTy) = .f32) shapeCasts_S1x20000x4_S20000x4,
    StableHlo.unary main_call0_v0 main_call0_v1 ((transpose S4x20000 [1, 0] · transposes_S20000x4_S4x20000_1_0) : Arr F S20000x4 .f32 → Arr F S4x20000 .f32),
    StableHlo.unary main_arg2 main_call0_v2 ((transpose S4x20000 [1, 0] · transposes_S20000x4_S4x20000_1_0) : Arr F S20000x4 .f32 → Arr F S4x20000 .f32),
    StableHlo.unary main_arg1 main_call0_v3 ((transpose S21x20000 [1, 0] · transposes_S20000x21_S21x20000_1_0) : Arr F S20000x21 .f32 → Arr F S21x20000 .f32) ]

theorem argOps_sub : (argOps : List (HloOp τ sig (Elt F))).Forall fun op => op.bufs ⊆ StableHlo.tcRefs τ sig :=
  ⟨StableHlo.reshape_bufs_sub .., StableHlo.unary_bufs_sub .., StableHlo.unary_bufs_sub .., StableHlo.unary_bufs_sub ..⟩

theorem argOps_fresh : (argOps : List (HloOp τ sig (Elt F))).Forall fun op => op.fresh = ∅ :=
  StableHlo.forall_fresh_of_map rfl

abbrev argOps_W : List (Ref sig .tc) := [main_call0_v0, main_call0_v1, main_call0_v2, main_call0_v3]

theorem argOps_writes : (argOps : List (HloOp τ sig (Elt F))).Forall fun op => op.writes ⊆ (argOps_W.map (Proc.devRef (τ := τ) .tc)).toFinset :=
  StableHlo.forall_writes_sub_of_map rfl

/-- The first region's results laid out by prior, and flat. -/
abbrev flatOps : List (HloOp τ sig (Elt F)) :=
  [ StableHlo.unary main_call0_v4_0 main_call0_v5 ((transpose S20000x4 [1, 0] · transposes_S4x20000_S20000x4_1_0) : Arr F S4x20000 .f32 → Arr F S20000x4 .f32),
    StableHlo.unary main_call0_v4_1 main_call0_v6 ((transpose S20000x20 [1, 0] · transposes_S20x20000_S20000x20_1_0) : Arr F S20x20000 .f32 → Arr F S20000x20 .f32),
    StableHlo.reshape main_call0_v6 main_call0_v7 (rfl : (.f32 : EltTy) = .f32) shapeCasts_S20000x20_S400000,
    StableHlo.reshape main_call0_v4_3 main_call0_v8 (rfl : (.f32 : EltTy) = .f32) shapeCasts_S1x1_S_,
    StableHlo.reshape main_call0_v4_2 main_call0_v9 (rfl : (.f32 : EltTy) = .f32) shapeCasts_S1x20000_S20000 ]

theorem flatOps_sub : (flatOps : List (HloOp τ sig (Elt F))).Forall fun op => op.bufs ⊆ StableHlo.tcRefs τ sig :=
  ⟨StableHlo.unary_bufs_sub .., StableHlo.unary_bufs_sub .., StableHlo.reshape_bufs_sub .., StableHlo.reshape_bufs_sub .., StableHlo.reshape_bufs_sub ..⟩

theorem flatOps_fresh : (flatOps : List (HloOp τ sig (Elt F))).Forall fun op => op.fresh = ∅ :=
  StableHlo.forall_fresh_of_map rfl

abbrev flatOps_W : List (Ref sig .tc) := [main_call0_v5, main_call0_v6, main_call0_v7, main_call0_v8, main_call0_v9]

theorem flatOps_writes : (flatOps : List (HloOp τ sig (Elt F))).Forall fun op => op.writes ⊆ (flatOps_W.map (Proc.devRef (τ := τ) .tc)).toFinset :=
  StableHlo.forall_writes_sub_of_map rfl

/-- The 512 priors of largest score, and their rows of class scores, flat. -/
abbrev priorOps : List (HloOp τ sig (Elt F)) :=
  [ StableHlo.unary main_call0_v9 main_call0_values ((fun x => (Host.topK S512 0 (FloatOps.cmpfTotal .gt) x sliceFits_S20000_S512).1) : Arr F S20000 .f32 → Arr F S512 .f32),
    StableHlo.unary main_call0_v9 main_call0_indices ((fun x => (Host.topK S512 0 (FloatOps.cmpfTotal .gt) x sliceFits_S20000_S512).2) : Arr F S20000 .f32 → Arr F S512 .i32),
    StableHlo.nullary main_call0_c (constantI S_ 32 0#32),
    StableHlo.unary main_call0_c main_call0_v10 ((broadcastInDim S512 ![] bcast_S_S512) : Arr F S_ .i32 → Arr F S512 .i32),
    StableHlo.binary main_call0_indices main_call0_v10 main_call0_v11 ((cmpi .slt) : Arr F S512 .i32 → Arr F S512 .i32 → Arr F S512 .i1),
    StableHlo.nullary main_call0_c_0 (constantI S_ 32 20000#32),
    StableHlo.unary main_call0_c_0 main_call0_v12 ((broadcastInDim S512 ![] bcast_S_S512) : Arr F S_ .i32 → Arr F S512 .i32),
    StableHlo.binary main_call0_indices main_call0_v12 main_call0_v13 (addi : Arr F S512 .i32 → Arr F S512 .i32 → Arr F S512 .i32),
    StableHlo.ternary main_call0_v11 main_call0_v13 main_call0_indices main_call0_v14 (select : Arr F S512 .i1 → Arr F S512 .i32 → Arr F S512 .i32 → Arr F S512 .i32),
    StableHlo.unary main_call0_v14 main_call0_v15 ((broadcastInDim S512x1 ![0] bcast_S512_S512x1_0) : Arr F S512 .i32 → Arr F S512x1 .i32),
    StableHlo.binary main_call0_v4_1 main_call0_v15 main_call0_v16 ((fun x i => Host.gather gather_S20x20000_S512x1_S20x512_0_1_n_n_1_1_201 x i) : Arr F S20x20000 .f32 → Arr F S512x1 .i32 → Arr F S20x512 .f32),
    StableHlo.unary main_call0_v16 main_call0_v17 ((transpose S512x20 [1, 0] · transposes_S20x512_S512x20_1_0) : Arr F S20x512 .f32 → Arr F S512x20 .f32),
    StableHlo.reshape main_call0_v17 main_call0_v18 (rfl : (.f32 : EltTy) = .f32) shapeCasts_S512x20_S10240 ]

theorem priorOps_sub : (priorOps : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub ..⟩

theorem priorOps_fresh : (priorOps : List (HloOp τ sig (Elt F))).Forall fun op => op.fresh = ∅ :=
  StableHlo.forall_fresh_of_map rfl

abbrev priorOps_W : List (Ref sig .tc) := [main_call0_values, main_call0_indices, main_call0_c, main_call0_v10, main_call0_v11, main_call0_c_0, main_call0_v12, main_call0_v13, main_call0_v14, main_call0_v15, main_call0_v16, main_call0_v17, main_call0_v18]

theorem priorOps_writes : (priorOps : List (HloOp τ sig (Elt F))).Forall fun op => op.writes ⊆ (priorOps_W.map (Proc.devRef (τ := τ) .tc)).toFinset :=
  StableHlo.forall_writes_sub_of_map rfl

/-- The flat index of each of those 10240 scores. -/
abbrev candOps : List (HloOp τ sig (Elt F)) :=
  [ StableHlo.unary main_call0_indices main_call0_v19 ((broadcastInDim S512x1 ![0] bcast_S512_S512x1_0) : Arr F S512 .i32 → Arr F S512x1 .i32),
    StableHlo.nullary main_call0_c_1 (constantI S_ 32 20#32),
    StableHlo.unary main_call0_c_1 main_call0_v20 ((broadcastInDim S512x1 ![] bcast_S_S512x1) : Arr F S_ .i32 → Arr F S512x1 .i32),
    StableHlo.binary main_call0_v19 main_call0_v20 main_call0_v21 (muli : Arr F S512x1 .i32 → Arr F S512x1 .i32 → Arr F S512x1 .i32),
    StableHlo.nullary main_call0_v22 (iotaInDim S20 32 0),
    StableHlo.unary main_call0_v22 main_call0_v23 ((broadcastInDim S1x20 ![1] bcast_S20_S1x20_1) : Arr F S20 .i32 → Arr F S1x20 .i32),
    StableHlo.unary main_call0_v21 main_call0_v24 ((broadcastInDim S512x20 ![0, 1] bcast_S512x1_S512x20_0_1) : Arr F S512x1 .i32 → Arr F S512x20 .i32),
    StableHlo.unary main_call0_v23 main_call0_v25 ((broadcastInDim S512x20 ![0, 1] bcast_S1x20_S512x20_0_1) : Arr F S1x20 .i32 → Arr F S512x20 .i32),
    StableHlo.binary main_call0_v24 main_call0_v25 main_call0_v26 (addi : Arr F S512x20 .i32 → Arr F S512x20 .i32 → Arr F S512x20 .i32),
    StableHlo.reshape main_call0_v26 main_call0_v27 (rfl : (.i32 : EltTy) = .i32) shapeCasts_S512x20_S10240 ]

theorem candOps_sub : (candOps : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩

theorem candOps_fresh : (candOps : List (HloOp τ sig (Elt F))).Forall fun op => op.fresh = ∅ :=
  StableHlo.forall_fresh_of_map rfl

abbrev candOps_W : List (Ref sig .tc) := [main_call0_v19, main_call0_c_1, main_call0_v20, main_call0_v21, main_call0_v22, main_call0_v23, main_call0_v24, main_call0_v25, main_call0_v26, main_call0_v27]

theorem candOps_writes : (candOps : List (HloOp τ sig (Elt F))).Forall fun op => op.writes ⊆ (candOps_W.map (Proc.devRef (τ := τ) .tc)).toFinset :=
  StableHlo.forall_writes_sub_of_map rfl

/-- The 512 largest of those scores, put in the order of decreasing score and increasing index. -/
abbrev pickOps : List (HloOp τ sig (Elt F)) :=
  [ StableHlo.unary main_call0_v18 main_call0_values_2 ((fun x => (Host.topK S512 0 (FloatOps.cmpfTotal .gt) x sliceFits_S10240_S512).1) : Arr F S10240 .f32 → Arr F S512 .f32),
    StableHlo.unary main_call0_v18 main_call0_indices_3 ((fun x => (Host.topK S512 0 (FloatOps.cmpfTotal .gt) x sliceFits_S10240_S512).2) : Arr F S10240 .f32 → Arr F S512 .i32),
    StableHlo.nullary main_call0_c_4 (constantI S_ 32 0#32),
    StableHlo.unary main_call0_c_4 main_call0_v28 ((broadcastInDim S512 ![] bcast_S_S512) : Arr F S_ .i32 → Arr F S512 .i32),
    StableHlo.binary main_call0_indices_3 main_call0_v28 main_call0_v29 ((cmpi .slt) : Arr F S512 .i32 → Arr F S512 .i32 → Arr F S512 .i1),
    StableHlo.nullary main_call0_c_5 (constantI S_ 32 10240#32),
    StableHlo.unary main_call0_c_5 main_call0_v30 ((broadcastInDim S512 ![] bcast_S_S512) : Arr F S_ .i32 → Arr F S512 .i32),
    StableHlo.binary main_call0_indices_3 main_call0_v30 main_call0_v31 (addi : Arr F S512 .i32 → Arr F S512 .i32 → Arr F S512 .i32),
    StableHlo.ternary main_call0_v29 main_call0_v31 main_call0_indices_3 main_call0_v32 (select : Arr F S512 .i1 → Arr F S512 .i32 → Arr F S512 .i32 → Arr F S512 .i32),
    StableHlo.unary main_call0_v32 main_call0_v33 ((broadcastInDim S512x1 ![0] bcast_S512_S512x1_0) : Arr F S512 .i32 → Arr F S512x1 .i32),
    StableHlo.binary main_call0_v27 main_call0_v33 main_call0_v34 ((fun x i => Host.gather gather_S10240_S512x1_S512_n_0_n_n_0_1_1 x i) : Arr F S10240 .i32 → Arr F S512x1 .i32 → Arr F S512 .i32),
    StableHlo.unary main_call0_values_2 main_call0_v35 (Host.negf : Arr F S512 .f32 → Arr F S512 .f32),
    StableHlo.binary main_call0_v35 main_call0_v34 main_call0_v36_0 ((fun x y => (Host.sort2 S512 0 comparator_f32_i32_d0 x y).1) : Arr F S512 .f32 → Arr F S512 .i32 → Arr F S512 .f32),
    StableHlo.binary main_call0_v35 main_call0_v34 main_call0_v36_1 ((fun x y => (Host.sort2 S512 0 comparator_f32_i32_d0 x y).2) : Arr F S512 .f32 → Arr F S512 .i32 → Arr F S512 .i32),
    StableHlo.unary main_call0_v36_0 main_call0_v37 (Host.negf : Arr F S512 .f32 → Arr F S512 .f32) ]

theorem pickOps_sub : (pickOps : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.binary_bufs_sub .., StableHlo.unary_bufs_sub ..⟩

theorem pickOps_fresh : (pickOps : List (HloOp τ sig (Elt F))).Forall fun op => op.fresh = ∅ :=
  StableHlo.forall_fresh_of_map rfl

abbrev pickOps_W : List (Ref sig .tc) := [main_call0_values_2, main_call0_indices_3, main_call0_c_4, main_call0_v28, main_call0_v29, main_call0_c_5, main_call0_v30, main_call0_v31, main_call0_v32, main_call0_v33, main_call0_v34, main_call0_v35, main_call0_v36_0, main_call0_v36_1, main_call0_v37]

theorem pickOps_writes : (pickOps : List (HloOp τ sig (Elt F))).Forall fun op => op.writes ⊆ (pickOps_W.map (Proc.devRef (τ := τ) .tc)).toFinset :=
  StableHlo.forall_writes_sub_of_map rfl

/-- Whether exactly 512 scores are at least the least of those. -/
abbrev countOps : List (HloOp τ sig (Elt F)) :=
  [ StableHlo.unary main_call0_v37 main_call0_v38 ((extractStridedSlice S1 ![511] · slices_S512_S1_511) : Arr F S512 .f32 → Arr F S1 .f32),
    StableHlo.reshape main_call0_v38 main_call0_v39 (rfl : (.f32 : EltTy) = .f32) shapeCasts_S1_S_,
    StableHlo.unary main_call0_v39 main_call0_v40 ((broadcastInDim S400000 ![] bcast_S_S400000) : Arr F S_ .f32 → Arr F S400000 .f32),
    StableHlo.binary main_call0_v7 main_call0_v40 main_call0_v41 ((cmpf .oge) : Arr F S400000 .f32 → Arr F S400000 .f32 → Arr F S400000 .i1),
    StableHlo.unary main_call0_v41 main_call0_v42 ((extui 32 · natLt_1_32) : Arr F S400000 .i1 → Arr F S400000 .i32),
    StableHlo.nullary main_call0_c_6 (constantI S_ 32 0#32),
    StableHlo.binary main_call0_v42 main_call0_c_6 main_call0_v43 ((fun x v => Host.reduce IntOp.addi x v reducesTo_S400000_S_d0 h_S_) : Arr F S400000 .i32 → Arr F S_ .i32 → Arr F S_ .i32),
    StableHlo.nullary main_call0_c_7 (constantI S_ 32 512#32),
    StableHlo.binary main_call0_v43 main_call0_c_7 main_call0_v44 ((cmpi .eq) : Arr F S_ .i32 → Arr F S_ .i32 → Arr F S_ .i1) ]

theorem countOps_sub : (countOps : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub ..⟩

theorem countOps_fresh : (countOps : List (HloOp τ sig (Elt F))).Forall fun op => op.fresh = ∅ :=
  StableHlo.forall_fresh_of_map rfl

abbrev countOps_W : List (Ref sig .tc) := [main_call0_v38, main_call0_v39, main_call0_v40, main_call0_v41, main_call0_v42, main_call0_c_6, main_call0_v43, main_call0_c_7, main_call0_v44]

theorem countOps_writes : (countOps : List (HloOp τ sig (Elt F))).Forall fun op => op.writes ⊆ (countOps_W.map (Proc.devRef (τ := τ) .tc)).toFinset :=
  StableHlo.forall_writes_sub_of_map rfl

/-- The class of each candidate. -/
abbrev clsOps : List (HloOp τ sig (Elt F)) :=
  [ StableHlo.nullary main_call0_c_8 (constantI S_ 32 20#32),
    StableHlo.unary main_call0_c_8 main_call0_call0_v0 (id : Arr F S_ .i32 → Arr F S_ .i32),
    StableHlo.nullary main_call0_call0_c (constantI S_ 32 0#32),
    StableHlo.binary main_call0_call0_v0 main_call0_call0_c main_call0_call0_v1 ((cmpi .eq) : Arr F S_ .i32 → Arr F S_ .i32 → Arr F S_ .i1),
    StableHlo.nullary main_call0_call0_c_0 (constantI S_ 32 1#32),
    StableHlo.ternary main_call0_call0_v1 main_call0_call0_c_0 main_call0_call0_v0 main_call0_call0_v2 (select : Arr F S_ .i1 → Arr F S_ .i32 → Arr F S_ .i32 → Arr F S_ .i32),
    StableHlo.unary main_call0_call0_v2 main_call0_call0_v3 ((broadcastInDim S512 ![] bcast_S_S512) : Arr F S_ .i32 → Arr F S512 .i32),
    StableHlo.binary main_call0_v36_1 main_call0_call0_v3 main_call0_call0_v4 (Host.remsi : Arr F S512 .i32 → Arr F S512 .i32 → Arr F S512 .i32),
    StableHlo.nullary main_call0_call0_c_1 (constantI S_ 32 0#32),
    StableHlo.unary main_call0_call0_c_1 main_call0_call0_v5 ((broadcastInDim S512 ![] bcast_S_S512) : Arr F S_ .i32 → Arr F S512 .i32),
    StableHlo.binary main_call0_call0_v4 main_call0_call0_v5 main_call0_call0_v6 ((cmpi .ne) : Arr F S512 .i32 → Arr F S512 .i32 → Arr F S512 .i1),
    StableHlo.nullary main_call0_call0_c_2 (constantI S_ 32 0#32),
    StableHlo.unary main_call0_call0_c_2 main_call0_call0_v7 ((broadcastInDim S512 ![] bcast_S_S512) : Arr F S_ .i32 → Arr F S512 .i32),
    StableHlo.binary main_call0_call0_v4 main_call0_call0_v7 main_call0_call0_v8 ((cmpi .slt) : Arr F S512 .i32 → Arr F S512 .i32 → Arr F S512 .i1),
    StableHlo.nullary main_call0_call0_c_3 (constantI S_ 32 0#32),
    StableHlo.binary main_call0_call0_v2 main_call0_call0_c_3 main_call0_call0_v9 ((cmpi .slt) : Arr F S_ .i32 → Arr F S_ .i32 → Arr F S_ .i1),
    StableHlo.unary main_call0_call0_v9 main_call0_call0_v10 ((broadcastInDim S512 ![] bcast_S_S512) : Arr F S_ .i1 → Arr F S512 .i1),
    StableHlo.binary main_call0_call0_v8 main_call0_call0_v10 main_call0_call0_v11 ((cmpi .ne) : Arr F S512 .i1 → Arr F S512 .i1 → Arr F S512 .i1),
    StableHlo.binary main_call0_call0_v11 main_call0_call0_v6 main_call0_call0_v12 (andi : Arr F S512 .i1 → Arr F S512 .i1 → Arr F S512 .i1),
    StableHlo.unary main_call0_call0_v2 main_call0_call0_v13 ((broadcastInDim S512 ![] bcast_S_S512) : Arr F S_ .i32 → Arr F S512 .i32),
    StableHlo.binary main_call0_call0_v4 main_call0_call0_v13 main_call0_call0_v14 (addi : Arr F S512 .i32 → Arr F S512 .i32 → Arr F S512 .i32),
    StableHlo.ternary main_call0_call0_v12 main_call0_call0_v14 main_call0_call0_v4 main_call0_v45 (select : Arr F S512 .i1 → Arr F S512 .i32 → Arr F S512 .i32 → Arr F S512 .i32) ]

theorem clsOps_sub : (clsOps : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

theorem clsOps_fresh : (clsOps : List (HloOp τ sig (Elt F))).Forall fun op => op.fresh = ∅ :=
  StableHlo.forall_fresh_of_map rfl

abbrev clsOps_W : List (Ref sig .tc) := [main_call0_c_8, main_call0_call0_v0, main_call0_call0_c, main_call0_call0_v1, main_call0_call0_c_0, main_call0_call0_v2, main_call0_call0_v3, main_call0_call0_v4, main_call0_call0_c_1, main_call0_call0_v5, main_call0_call0_v6, main_call0_call0_c_2, main_call0_call0_v7, main_call0_call0_v8, main_call0_call0_c_3, main_call0_call0_v9, main_call0_call0_v10, main_call0_call0_v11, main_call0_call0_v12, main_call0_call0_v13, main_call0_call0_v14, main_call0_v45]

theorem clsOps_writes : (clsOps : List (HloOp τ sig (Elt F))).Forall fun op => op.writes ⊆ (clsOps_W.map (Proc.devRef (τ := τ) .tc)).toFinset :=
  StableHlo.forall_writes_sub_of_map rfl

/-- Each candidate's class offset. -/
abbrev offOps : List (HloOp τ sig (Elt F)) :=
  [ StableHlo.nullary main_call0_c_9 (constantI S_ 32 1#32),
    StableHlo.unary main_call0_c_9 main_call0_v46 ((broadcastInDim S512 ![] bcast_S_S512) : Arr F S_ .i32 → Arr F S512 .i32),
    StableHlo.binary main_call0_v45 main_call0_v46 main_call0_v47 (addi : Arr F S512 .i32 → Arr F S512 .i32 → Arr F S512 .i32),
    StableHlo.unary main_call0_v47 main_call0_v48 ((sitofp .f32) : Arr F S512 .i32 → Arr F S512 .f32),
    StableHlo.nullary main_call0_cst (constant S_ .f32 0x3F800000#32),
    StableHlo.binary main_call0_v8 main_call0_cst main_call0_v49 (addf : Arr F S_ .f32 → Arr F S_ .f32 → Arr F S_ .f32),
    StableHlo.unary main_call0_v49 main_call0_v50 ((broadcastInDim S512 ![] bcast_S_S512) : Arr F S_ .f32 → Arr F S512 .f32),
    StableHlo.binary main_call0_v48 main_call0_v50 main_call0_v51 (mulf : Arr F S512 .f32 → Arr F S512 .f32 → Arr F S512 .f32) ]

theorem offOps_sub : (offOps : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub ..⟩

theorem offOps_fresh : (offOps : List (HloOp τ sig (Elt F))).Forall fun op => op.fresh = ∅ :=
  StableHlo.forall_fresh_of_map rfl

abbrev offOps_W : List (Ref sig .tc) := [main_call0_c_9, main_call0_v46, main_call0_v47, main_call0_v48, main_call0_cst, main_call0_v49, main_call0_v50, main_call0_v51]

theorem offOps_writes : (offOps : List (HloOp τ sig (Elt F))).Forall fun op => op.writes ⊆ (offOps_W.map (Proc.devRef (τ := τ) .tc)).toFinset :=
  StableHlo.forall_writes_sub_of_map rfl

/-- The prior of each candidate. -/
abbrev priOps : List (HloOp τ sig (Elt F)) :=
  [ StableHlo.nullary main_call0_c_10 (constantI S_ 32 20#32),
    StableHlo.unary main_call0_c_10 main_call0_call1_v0 (id : Arr F S_ .i32 → Arr F S_ .i32),
    StableHlo.unary main_call0_call1_v0 main_call0_call1_v1 ((broadcastInDim S512 ![] bcast_S_S512) : Arr F S_ .i32 → Arr F S512 .i32),
    StableHlo.binary main_call0_v36_1 main_call0_call1_v1 main_call0_call1_v2 (Host.divsi : Arr F S512 .i32 → Arr F S512 .i32 → Arr F S512 .i32),
    StableHlo.unary main_call0_v36_1 main_call0_call1_v3 (signi : Arr F S512 .i32 → Arr F S512 .i32),
    StableHlo.unary main_call0_call1_v0 main_call0_call1_v4 (signi : Arr F S_ .i32 → Arr F S_ .i32),
    StableHlo.unary main_call0_call1_v4 main_call0_call1_v5 ((broadcastInDim S512 ![] bcast_S_S512) : Arr F S_ .i32 → Arr F S512 .i32),
    StableHlo.binary main_call0_call1_v3 main_call0_call1_v5 main_call0_call1_v6 ((cmpi .ne) : Arr F S512 .i32 → Arr F S512 .i32 → Arr F S512 .i1),
    StableHlo.unary main_call0_call1_v0 main_call0_call1_v7 ((broadcastInDim S512 ![] bcast_S_S512) : Arr F S_ .i32 → Arr F S512 .i32),
    StableHlo.binary main_call0_v36_1 main_call0_call1_v7 main_call0_call1_v8 (Host.remsi : Arr F S512 .i32 → Arr F S512 .i32 → Arr F S512 .i32),
    StableHlo.nullary main_call0_call1_c (constantI S_ 32 0#32),
    StableHlo.unary main_call0_call1_c main_call0_call1_v9 ((broadcastInDim S512 ![] bcast_S_S512) : Arr F S_ .i32 → Arr F S512 .i32),
    StableHlo.binary main_call0_call1_v8 main_call0_call1_v9 main_call0_call1_v10 ((cmpi .ne) : Arr F S512 .i32 → Arr F S512 .i32 → Arr F S512 .i1),
    StableHlo.binary main_call0_call1_v6 main_call0_call1_v10 main_call0_call1_v11 (andi : Arr F S512 .i1 → Arr F S512 .i1 → Arr F S512 .i1),
    StableHlo.nullary main_call0_call1_c_0 (constantI S_ 32 1#32),
    StableHlo.unary main_call0_call1_c_0 main_call0_call1_v12 ((broadcastInDim S512 ![] bcast_S_S512) : Arr F S_ .i32 → Arr F S512 .i32),
    StableHlo.binary main_call0_call1_v2 main_call0_call1_v12 main_call0_call1_v13 (subi : Arr F S512 .i32 → Arr F S512 .i32 → Arr F S512 .i32),
    StableHlo.ternary main_call0_call1_v11 main_call0_call1_v13 main_call0_call1_v2 main_call0_v52 (select : Arr F S512 .i1 → Arr F S512 .i32 → Arr F S512 .i32 → Arr F S512 .i32) ]

theorem priOps_sub : (priOps : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

theorem priOps_fresh : (priOps : List (HloOp τ sig (Elt F))).Forall fun op => op.fresh = ∅ :=
  StableHlo.forall_fresh_of_map rfl

abbrev priOps_W : List (Ref sig .tc) := [main_call0_c_10, main_call0_call1_v0, main_call0_call1_v1, main_call0_call1_v2, main_call0_call1_v3, main_call0_call1_v4, main_call0_call1_v5, main_call0_call1_v6, main_call0_call1_v7, main_call0_call1_v8, main_call0_call1_c, main_call0_call1_v9, main_call0_call1_v10, main_call0_call1_v11, main_call0_call1_c_0, main_call0_call1_v12, main_call0_call1_v13, main_call0_v52]

theorem priOps_writes : (priOps : List (HloOp τ sig (Elt F))).Forall fun op => op.writes ⊆ (priOps_W.map (Proc.devRef (τ := τ) .tc)).toFinset :=
  StableHlo.forall_writes_sub_of_map rfl

/-- The candidates' boxes, shifted by their class offsets. -/
abbrev boxOps : List (HloOp τ sig (Elt F)) :=
  [ StableHlo.nullary main_call0_c_11 (constantI S_ 32 0#32),
    StableHlo.unary main_call0_c_11 main_call0_v53 ((broadcastInDim S512 ![] bcast_S_S512) : Arr F S_ .i32 → Arr F S512 .i32),
    StableHlo.binary main_call0_v52 main_call0_v53 main_call0_v54 ((cmpi .slt) : Arr F S512 .i32 → Arr F S512 .i32 → Arr F S512 .i1),
    StableHlo.nullary main_call0_c_12 (constantI S_ 32 20000#32),
    StableHlo.unary main_call0_c_12 main_call0_v55 ((broadcastInDim S512 ![] bcast_S_S512) : Arr F S_ .i32 → Arr F S512 .i32),
    StableHlo.binary main_call0_v52 main_call0_v55 main_call0_v56 (addi : Arr F S512 .i32 → Arr F S512 .i32 → Arr F S512 .i32),
    StableHlo.ternary main_call0_v54 main_call0_v56 main_call0_v52 main_call0_v57 (select : Arr F S512 .i1 → Arr F S512 .i32 → Arr F S512 .i32 → Arr F S512 .i32),
    StableHlo.unary main_call0_v57 main_call0_v58 ((broadcastInDim S512x1 ![0] bcast_S512_S512x1_0) : Arr F S512 .i32 → Arr F S512x1 .i32),
    StableHlo.binary main_call0_v5 main_call0_v58 main_call0_v59 ((fun x i => Host.gather gather_S20000x4_S512x1_S512x4_1_0_n_n_0_1_14 x i) : Arr F S20000x4 .f32 → Arr F S512x1 .i32 → Arr F S512x4 .f32),
    StableHlo.unary main_call0_v51 main_call0_v60 ((broadcastInDim S512x1 ![0] bcast_S512_S512x1_0) : Arr F S512 .f32 → Arr F S512x1 .f32),
    StableHlo.unary main_call0_v60 main_call0_v61 ((broadcastInDim S512x4 ![0, 1] bcast_S512x1_S512x4_0_1) : Arr F S512x1 .f32 → Arr F S512x4 .f32),
    StableHlo.binary main_call0_v59 main_call0_v61 main_call0_v62 (addf : Arr F S512x4 .f32 → Arr F S512x4 .f32 → Arr F S512x4 .f32),
    StableHlo.unary main_call0_v62 main_call0_v63 ((transpose S4x512 [1, 0] · transposes_S512x4_S4x512_1_0) : Arr F S512x4 .f32 → Arr F S4x512 .f32) ]

theorem boxOps_sub : (boxOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub ..⟩

theorem boxOps_fresh : (boxOps : List (HloOp τ sig (Elt F))).Forall fun op => op.fresh = ∅ :=
  StableHlo.forall_fresh_of_map rfl

abbrev boxOps_W : List (Ref sig .tc) := [main_call0_c_11, main_call0_v53, main_call0_v54, main_call0_c_12, main_call0_v55, main_call0_v56, main_call0_v57, main_call0_v58, main_call0_v59, main_call0_v60, main_call0_v61, main_call0_v62, main_call0_v63]

theorem boxOps_writes : (boxOps : List (HloOp τ sig (Elt F))).Forall fun op => op.writes ⊆ (boxOps_W.map (Proc.devRef (τ := τ) .tc)).toFinset :=
  StableHlo.forall_writes_sub_of_map rfl

/-- Whether 200 candidates were kept, and whether the 512 are the right ones. -/
abbrev enoughOps : List (HloOp τ sig (Elt F)) :=
  [ StableHlo.reshape main_call0_v64 main_call0_v65 (rfl : (.f32 : EltTy) = .f32) shapeCasts_S1x512_S512,
    StableHlo.nullary main_call0_cst_13 (constant S_ .f32 0x3F000000#32),
    StableHlo.unary main_call0_cst_13 main_call0_v66 ((broadcastInDim S512 ![] bcast_S_S512) : Arr F S_ .f32 → Arr F S512 .f32),
    StableHlo.binary main_call0_v65 main_call0_v66 main_call0_v67 ((cmpf .ogt) : Arr F S512 .f32 → Arr F S512 .f32 → Arr F S512 .i1),
    StableHlo.unary main_call0_v67 main_call0_v68 ((extui 32 · natLt_1_32) : Arr F S512 .i1 → Arr F S512 .i32),
    StableHlo.nullary main_call0_c_14 (constantI S_ 32 0#32),
    StableHlo.binary main_call0_v68 main_call0_c_14 main_call0_v69 ((fun x v => Host.reduce IntOp.addi x v reducesTo_S512_S_d0 h_S_) : Arr F S512 .i32 → Arr F S_ .i32 → Arr F S_ .i32),
    StableHlo.nullary main_call0_c_15 (constantI S_ 32 200#32),
    StableHlo.binary main_call0_v69 main_call0_c_15 main_call0_v70 ((cmpi .sge) : Arr F S_ .i32 → Arr F S_ .i32 → Arr F S_ .i1),
    StableHlo.binary main_call0_v44 main_call0_v70 main_call0_v71 (andi : Arr F S_ .i1 → Arr F S_ .i1 → Arr F S_ .i1) ]

theorem enoughOps_sub : (enoughOps : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub ..⟩

theorem enoughOps_fresh : (enoughOps : List (HloOp τ sig (Elt F))).Forall fun op => op.fresh = ∅ :=
  StableHlo.forall_fresh_of_map rfl

abbrev enoughOps_W : List (Ref sig .tc) := [main_call0_v65, main_call0_cst_13, main_call0_v66, main_call0_v67, main_call0_v68, main_call0_c_14, main_call0_v69, main_call0_c_15, main_call0_v70, main_call0_v71]

theorem enoughOps_writes : (enoughOps : List (HloOp τ sig (Elt F))).Forall fun op => op.writes ⊆ (enoughOps_W.map (Proc.devRef (τ := τ) .tc)).toFinset :=
  StableHlo.forall_writes_sub_of_map rfl

/-- The long branch: the 4096 largest scores. -/
abbrev fTopOps : List (HloOp τ sig (Elt F)) :=
  [ StableHlo.unary main_call0_v7 main_call0_case0b0_values_16 ((fun x => (Host.topK S4096 0 (FloatOps.cmpfTotal .gt) x sliceFits_S400000_S4096).1) : Arr F S400000 .f32 → Arr F S4096 .f32),
    StableHlo.unary main_call0_v7 main_call0_case0b0_indices_17 ((fun x => (Host.topK S4096 0 (FloatOps.cmpfTotal .gt) x sliceFits_S400000_S4096).2) : Arr F S400000 .f32 → Arr F S4096 .i32) ]

theorem fTopOps_sub : (fTopOps : List (HloOp τ sig (Elt F))).Forall fun op => op.bufs ⊆ StableHlo.tcRefs τ sig :=
  ⟨StableHlo.unary_bufs_sub .., StableHlo.unary_bufs_sub ..⟩

theorem fTopOps_fresh : (fTopOps : List (HloOp τ sig (Elt F))).Forall fun op => op.fresh = ∅ :=
  StableHlo.forall_fresh_of_map rfl

abbrev fTopOps_W : List (Ref sig .tc) := [main_call0_case0b0_values_16, main_call0_case0b0_indices_17]

theorem fTopOps_writes : (fTopOps : List (HloOp τ sig (Elt F))).Forall fun op => op.writes ⊆ (fTopOps_W.map (Proc.devRef (τ := τ) .tc)).toFinset :=
  StableHlo.forall_writes_sub_of_map rfl

/-- Their classes. -/
abbrev fClsOps : List (HloOp τ sig (Elt F)) :=
  [ StableHlo.nullary main_call0_case0b0_c_18 (constantI S_ 32 20#32),
    StableHlo.unary main_call0_case0b0_c_18 main_call0_case0b0_call2_v0 (id : Arr F S_ .i32 → Arr F S_ .i32),
    StableHlo.nullary main_call0_case0b0_call2_c (constantI S_ 32 0#32),
    StableHlo.binary main_call0_case0b0_call2_v0 main_call0_case0b0_call2_c main_call0_case0b0_call2_v1 ((cmpi .eq) : Arr F S_ .i32 → Arr F S_ .i32 → Arr F S_ .i1),
    StableHlo.nullary main_call0_case0b0_call2_c_0 (constantI S_ 32 1#32),
    StableHlo.ternary main_call0_case0b0_call2_v1 main_call0_case0b0_call2_c_0 main_call0_case0b0_call2_v0 main_call0_case0b0_call2_v2 (select : Arr F S_ .i1 → Arr F S_ .i32 → Arr F S_ .i32 → Arr F S_ .i32),
    StableHlo.unary main_call0_case0b0_call2_v2 main_call0_case0b0_call2_v3 ((broadcastInDim S4096 ![] bcast_S_S4096) : Arr F S_ .i32 → Arr F S4096 .i32),
    StableHlo.binary main_call0_case0b0_indices_17 main_call0_case0b0_call2_v3 main_call0_case0b0_call2_v4 (Host.remsi : Arr F S4096 .i32 → Arr F S4096 .i32 → Arr F S4096 .i32),
    StableHlo.nullary main_call0_case0b0_call2_c_1 (constantI S_ 32 0#32),
    StableHlo.unary main_call0_case0b0_call2_c_1 main_call0_case0b0_call2_v5 ((broadcastInDim S4096 ![] bcast_S_S4096) : Arr F S_ .i32 → Arr F S4096 .i32),
    StableHlo.binary main_call0_case0b0_call2_v4 main_call0_case0b0_call2_v5 main_call0_case0b0_call2_v6 ((cmpi .ne) : Arr F S4096 .i32 → Arr F S4096 .i32 → Arr F S4096 .i1),
    StableHlo.nullary main_call0_case0b0_call2_c_2 (constantI S_ 32 0#32),
    StableHlo.unary main_call0_case0b0_call2_c_2 main_call0_case0b0_call2_v7 ((broadcastInDim S4096 ![] bcast_S_S4096) : Arr F S_ .i32 → Arr F S4096 .i32),
    StableHlo.binary main_call0_case0b0_call2_v4 main_call0_case0b0_call2_v7 main_call0_case0b0_call2_v8 ((cmpi .slt) : Arr F S4096 .i32 → Arr F S4096 .i32 → Arr F S4096 .i1),
    StableHlo.nullary main_call0_case0b0_call2_c_3 (constantI S_ 32 0#32),
    StableHlo.binary main_call0_case0b0_call2_v2 main_call0_case0b0_call2_c_3 main_call0_case0b0_call2_v9 ((cmpi .slt) : Arr F S_ .i32 → Arr F S_ .i32 → Arr F S_ .i1),
    StableHlo.unary main_call0_case0b0_call2_v9 main_call0_case0b0_call2_v10 ((broadcastInDim S4096 ![] bcast_S_S4096) : Arr F S_ .i1 → Arr F S4096 .i1),
    StableHlo.binary main_call0_case0b0_call2_v8 main_call0_case0b0_call2_v10 main_call0_case0b0_call2_v11 ((cmpi .ne) : Arr F S4096 .i1 → Arr F S4096 .i1 → Arr F S4096 .i1),
    StableHlo.binary main_call0_case0b0_call2_v11 main_call0_case0b0_call2_v6 main_call0_case0b0_call2_v12 (andi : Arr F S4096 .i1 → Arr F S4096 .i1 → Arr F S4096 .i1),
    StableHlo.unary main_call0_case0b0_call2_v2 main_call0_case0b0_call2_v13 ((broadcastInDim S4096 ![] bcast_S_S4096) : Arr F S_ .i32 → Arr F S4096 .i32),
    StableHlo.binary main_call0_case0b0_call2_v4 main_call0_case0b0_call2_v13 main_call0_case0b0_call2_v14 (addi : Arr F S4096 .i32 → Arr F S4096 .i32 → Arr F S4096 .i32),
    StableHlo.ternary main_call0_case0b0_call2_v12 main_call0_case0b0_call2_v14 main_call0_case0b0_call2_v4 main_call0_case0b0_v74 (select : Arr F S4096 .i1 → Arr F S4096 .i32 → Arr F S4096 .i32 → Arr F S4096 .i32) ]

theorem fClsOps_sub : (fClsOps : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

theorem fClsOps_fresh : (fClsOps : List (HloOp τ sig (Elt F))).Forall fun op => op.fresh = ∅ :=
  StableHlo.forall_fresh_of_map rfl

abbrev fClsOps_W : List (Ref sig .tc) := [main_call0_case0b0_c_18, main_call0_case0b0_call2_v0, main_call0_case0b0_call2_c, main_call0_case0b0_call2_v1, main_call0_case0b0_call2_c_0, main_call0_case0b0_call2_v2, main_call0_case0b0_call2_v3, main_call0_case0b0_call2_v4, main_call0_case0b0_call2_c_1, main_call0_case0b0_call2_v5, main_call0_case0b0_call2_v6, main_call0_case0b0_call2_c_2, main_call0_case0b0_call2_v7, main_call0_case0b0_call2_v8, main_call0_case0b0_call2_c_3, main_call0_case0b0_call2_v9, main_call0_case0b0_call2_v10, main_call0_case0b0_call2_v11, main_call0_case0b0_call2_v12, main_call0_case0b0_call2_v13, main_call0_case0b0_call2_v14, main_call0_case0b0_v74]

theorem fClsOps_writes : (fClsOps : List (HloOp τ sig (Elt F))).Forall fun op => op.writes ⊆ (fClsOps_W.map (Proc.devRef (τ := τ) .tc)).toFinset :=
  StableHlo.forall_writes_sub_of_map rfl

/-- Their class offsets. -/
abbrev fOffOps : List (HloOp τ sig (Elt F)) :=
  [ StableHlo.nullary main_call0_case0b0_c_19 (constantI S_ 32 1#32),
    StableHlo.unary main_call0_case0b0_c_19 main_call0_case0b0_v75 ((broadcastInDim S4096 ![] bcast_S_S4096) : Arr F S_ .i32 → Arr F S4096 .i32),
    StableHlo.binary main_call0_case0b0_v74 main_call0_case0b0_v75 main_call0_case0b0_v76 (addi : Arr F S4096 .i32 → Arr F S4096 .i32 → Arr F S4096 .i32),
    StableHlo.unary main_call0_case0b0_v76 main_call0_case0b0_v77 ((sitofp .f32) : Arr F S4096 .i32 → Arr F S4096 .f32),
    StableHlo.nullary main_call0_case0b0_cst_20 (constant S_ .f32 0x3F800000#32),
    StableHlo.binary main_call0_v8 main_call0_case0b0_cst_20 main_call0_case0b0_v78 (addf : Arr F S_ .f32 → Arr F S_ .f32 → Arr F S_ .f32),
    StableHlo.unary main_call0_case0b0_v78 main_call0_case0b0_v79 ((broadcastInDim S4096 ![] bcast_S_S4096) : Arr F S_ .f32 → Arr F S4096 .f32),
    StableHlo.binary main_call0_case0b0_v77 main_call0_case0b0_v79 main_call0_case0b0_v80 (mulf : Arr F S4096 .f32 → Arr F S4096 .f32 → Arr F S4096 .f32) ]

theorem fOffOps_sub : (fOffOps : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub ..⟩

theorem fOffOps_fresh : (fOffOps : List (HloOp τ sig (Elt F))).Forall fun op => op.fresh = ∅ :=
  StableHlo.forall_fresh_of_map rfl

abbrev fOffOps_W : List (Ref sig .tc) := [main_call0_case0b0_c_19, main_call0_case0b0_v75, main_call0_case0b0_v76, main_call0_case0b0_v77, main_call0_case0b0_cst_20, main_call0_case0b0_v78, main_call0_case0b0_v79, main_call0_case0b0_v80]

theorem fOffOps_writes : (fOffOps : List (HloOp τ sig (Elt F))).Forall fun op => op.writes ⊆ (fOffOps_W.map (Proc.devRef (τ := τ) .tc)).toFinset :=
  StableHlo.forall_writes_sub_of_map rfl

/-- Their priors. -/
abbrev fPriOps : List (HloOp τ sig (Elt F)) :=
  [ StableHlo.nullary main_call0_case0b0_c_21 (constantI S_ 32 20#32),
    StableHlo.unary main_call0_case0b0_c_21 main_call0_case0b0_call3_v0 (id : Arr F S_ .i32 → Arr F S_ .i32),
    StableHlo.unary main_call0_case0b0_call3_v0 main_call0_case0b0_call3_v1 ((broadcastInDim S4096 ![] bcast_S_S4096) : Arr F S_ .i32 → Arr F S4096 .i32),
    StableHlo.binary main_call0_case0b0_indices_17 main_call0_case0b0_call3_v1 main_call0_case0b0_call3_v2 (Host.divsi : Arr F S4096 .i32 → Arr F S4096 .i32 → Arr F S4096 .i32),
    StableHlo.unary main_call0_case0b0_indices_17 main_call0_case0b0_call3_v3 (signi : Arr F S4096 .i32 → Arr F S4096 .i32),
    StableHlo.unary main_call0_case0b0_call3_v0 main_call0_case0b0_call3_v4 (signi : Arr F S_ .i32 → Arr F S_ .i32),
    StableHlo.unary main_call0_case0b0_call3_v4 main_call0_case0b0_call3_v5 ((broadcastInDim S4096 ![] bcast_S_S4096) : Arr F S_ .i32 → Arr F S4096 .i32),
    StableHlo.binary main_call0_case0b0_call3_v3 main_call0_case0b0_call3_v5 main_call0_case0b0_call3_v6 ((cmpi .ne) : Arr F S4096 .i32 → Arr F S4096 .i32 → Arr F S4096 .i1),
    StableHlo.unary main_call0_case0b0_call3_v0 main_call0_case0b0_call3_v7 ((broadcastInDim S4096 ![] bcast_S_S4096) : Arr F S_ .i32 → Arr F S4096 .i32),
    StableHlo.binary main_call0_case0b0_indices_17 main_call0_case0b0_call3_v7 main_call0_case0b0_call3_v8 (Host.remsi : Arr F S4096 .i32 → Arr F S4096 .i32 → Arr F S4096 .i32),
    StableHlo.nullary main_call0_case0b0_call3_c (constantI S_ 32 0#32),
    StableHlo.unary main_call0_case0b0_call3_c main_call0_case0b0_call3_v9 ((broadcastInDim S4096 ![] bcast_S_S4096) : Arr F S_ .i32 → Arr F S4096 .i32),
    StableHlo.binary main_call0_case0b0_call3_v8 main_call0_case0b0_call3_v9 main_call0_case0b0_call3_v10 ((cmpi .ne) : Arr F S4096 .i32 → Arr F S4096 .i32 → Arr F S4096 .i1),
    StableHlo.binary main_call0_case0b0_call3_v6 main_call0_case0b0_call3_v10 main_call0_case0b0_call3_v11 (andi : Arr F S4096 .i1 → Arr F S4096 .i1 → Arr F S4096 .i1),
    StableHlo.nullary main_call0_case0b0_call3_c_0 (constantI S_ 32 1#32),
    StableHlo.unary main_call0_case0b0_call3_c_0 main_call0_case0b0_call3_v12 ((broadcastInDim S4096 ![] bcast_S_S4096) : Arr F S_ .i32 → Arr F S4096 .i32),
    StableHlo.binary main_call0_case0b0_call3_v2 main_call0_case0b0_call3_v12 main_call0_case0b0_call3_v13 (subi : Arr F S4096 .i32 → Arr F S4096 .i32 → Arr F S4096 .i32),
    StableHlo.ternary main_call0_case0b0_call3_v11 main_call0_case0b0_call3_v13 main_call0_case0b0_call3_v2 main_call0_case0b0_v81 (select : Arr F S4096 .i1 → Arr F S4096 .i32 → Arr F S4096 .i32 → Arr F S4096 .i32) ]

theorem fPriOps_sub : (fPriOps : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

theorem fPriOps_fresh : (fPriOps : List (HloOp τ sig (Elt F))).Forall fun op => op.fresh = ∅ :=
  StableHlo.forall_fresh_of_map rfl

abbrev fPriOps_W : List (Ref sig .tc) := [main_call0_case0b0_c_21, main_call0_case0b0_call3_v0, main_call0_case0b0_call3_v1, main_call0_case0b0_call3_v2, main_call0_case0b0_call3_v3, main_call0_case0b0_call3_v4, main_call0_case0b0_call3_v5, main_call0_case0b0_call3_v6, main_call0_case0b0_call3_v7, main_call0_case0b0_call3_v8, main_call0_case0b0_call3_c, main_call0_case0b0_call3_v9, main_call0_case0b0_call3_v10, main_call0_case0b0_call3_v11, main_call0_case0b0_call3_c_0, main_call0_case0b0_call3_v12, main_call0_case0b0_call3_v13, main_call0_case0b0_v81]

theorem fPriOps_writes : (fPriOps : List (HloOp τ sig (Elt F))).Forall fun op => op.writes ⊆ (fPriOps_W.map (Proc.devRef (τ := τ) .tc)).toFinset :=
  StableHlo.forall_writes_sub_of_map rfl

/-- Their boxes, shifted. -/
abbrev fBoxOps : List (HloOp τ sig (Elt F)) :=
  [ StableHlo.nullary main_call0_case0b0_c_22 (constantI S_ 32 0#32),
    StableHlo.unary main_call0_case0b0_c_22 main_call0_case0b0_v82 ((broadcastInDim S4096 ![] bcast_S_S4096) : Arr F S_ .i32 → Arr F S4096 .i32),
    StableHlo.binary main_call0_case0b0_v81 main_call0_case0b0_v82 main_call0_case0b0_v83 ((cmpi .slt) : Arr F S4096 .i32 → Arr F S4096 .i32 → Arr F S4096 .i1),
    StableHlo.nullary main_call0_case0b0_c_23 (constantI S_ 32 20000#32),
    StableHlo.unary main_call0_case0b0_c_23 main_call0_case0b0_v84 ((broadcastInDim S4096 ![] bcast_S_S4096) : Arr F S_ .i32 → Arr F S4096 .i32),
    StableHlo.binary main_call0_case0b0_v81 main_call0_case0b0_v84 main_call0_case0b0_v85 (addi : Arr F S4096 .i32 → Arr F S4096 .i32 → Arr F S4096 .i32),
    StableHlo.ternary main_call0_case0b0_v83 main_call0_case0b0_v85 main_call0_case0b0_v81 main_call0_case0b0_v86 (select : Arr F S4096 .i1 → Arr F S4096 .i32 → Arr F S4096 .i32 → Arr F S4096 .i32),
    StableHlo.unary main_call0_case0b0_v86 main_call0_case0b0_v87 ((broadcastInDim S4096x1 ![0] bcast_S4096_S4096x1_0) : Arr F S4096 .i32 → Arr F S4096x1 .i32),
    StableHlo.binary main_call0_v5 main_call0_case0b0_v87 main_call0_case0b0_v88 ((fun x i => Host.gather gather_S20000x4_S4096x1_S4096x4_1_0_n_n_0_1_14 x i) : Arr F S20000x4 .f32 → Arr F S4096x1 .i32 → Arr F S4096x4 .f32),
    StableHlo.unary main_call0_case0b0_v80 main_call0_case0b0_v89 ((broadcastInDim S4096x1 ![0] bcast_S4096_S4096x1_0) : Arr F S4096 .f32 → Arr F S4096x1 .f32),
    StableHlo.unary main_call0_case0b0_v89 main_call0_case0b0_v90 ((broadcastInDim S4096x4 ![0, 1] bcast_S4096x1_S4096x4_0_1) : Arr F S4096x1 .f32 → Arr F S4096x4 .f32),
    StableHlo.binary main_call0_case0b0_v88 main_call0_case0b0_v90 main_call0_case0b0_v91 (addf : Arr F S4096x4 .f32 → Arr F S4096x4 .f32 → Arr F S4096x4 .f32),
    StableHlo.unary main_call0_case0b0_v91 main_call0_case0b0_v92 ((transpose S4x4096 [1, 0] · transposes_S4096x4_S4x4096_1_0) : Arr F S4096x4 .f32 → Arr F S4x4096 .f32) ]

theorem fBoxOps_sub : (fBoxOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub ..⟩

theorem fBoxOps_fresh : (fBoxOps : List (HloOp τ sig (Elt F))).Forall fun op => op.fresh = ∅ :=
  StableHlo.forall_fresh_of_map rfl

abbrev fBoxOps_W : List (Ref sig .tc) := [main_call0_case0b0_c_22, main_call0_case0b0_v82, main_call0_case0b0_v83, main_call0_case0b0_c_23, main_call0_case0b0_v84, main_call0_case0b0_v85, main_call0_case0b0_v86, main_call0_case0b0_v87, main_call0_case0b0_v88, main_call0_case0b0_v89, main_call0_case0b0_v90, main_call0_case0b0_v91, main_call0_case0b0_v92]

theorem fBoxOps_writes : (fBoxOps : List (HloOp τ sig (Elt F))).Forall fun op => op.writes ⊆ (fBoxOps_W.map (Proc.devRef (τ := τ) .tc)).toFinset :=
  StableHlo.forall_writes_sub_of_map rfl

/-- The 200 largest kept scores. -/
abbrev fRankOps : List (HloOp τ sig (Elt F)) :=
  [ StableHlo.reshape main_call0_case0b0_v93 main_call0_case0b0_v94 (rfl : (.f32 : EltTy) = .f32) shapeCasts_S1x4096_S4096,
    StableHlo.nullary main_call0_case0b0_cst_24 (constant S_ .f32 0x3F000000#32),
    StableHlo.unary main_call0_case0b0_cst_24 main_call0_case0b0_v95 ((broadcastInDim S4096 ![] bcast_S_S4096) : Arr F S_ .f32 → Arr F S4096 .f32),
    StableHlo.binary main_call0_case0b0_v94 main_call0_case0b0_v95 main_call0_case0b0_v96 ((cmpf .ogt) : Arr F S4096 .f32 → Arr F S4096 .f32 → Arr F S4096 .i1),
    StableHlo.nullary main_call0_case0b0_cst_25 (constant S_ .f32 0xFF800000#32),
    StableHlo.unary main_call0_case0b0_cst_25 main_call0_case0b0_call4_v0 (id : Arr F S_ .f32 → Arr F S_ .f32),
    StableHlo.unary main_call0_case0b0_call4_v0 main_call0_case0b0_call4_v1 ((broadcastInDim S4096 ![] bcast_S_S4096) : Arr F S_ .f32 → Arr F S4096 .f32),
    StableHlo.ternary main_call0_case0b0_v96 main_call0_case0b0_values_16 main_call0_case0b0_call4_v1 main_call0_case0b0_v97 (select : Arr F S4096 .i1 → Arr F S4096 .f32 → Arr F S4096 .f32 → Arr F S4096 .f32),
    StableHlo.unary main_call0_case0b0_v97 main_call0_case0b0_values_26 ((fun x => (Host.topK S200 0 (FloatOps.cmpfTotal .gt) x sliceFits_S4096_S200).1) : Arr F S4096 .f32 → Arr F S200 .f32),
    StableHlo.unary main_call0_case0b0_v97 main_call0_case0b0_indices_27 ((fun x => (Host.topK S200 0 (FloatOps.cmpfTotal .gt) x sliceFits_S4096_S200).2) : Arr F S4096 .f32 → Arr F S200 .i32) ]

theorem fRankOps_sub : (fRankOps : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub ..⟩

theorem fRankOps_fresh : (fRankOps : List (HloOp τ sig (Elt F))).Forall fun op => op.fresh = ∅ :=
  StableHlo.forall_fresh_of_map rfl

abbrev fRankOps_W : List (Ref sig .tc) := [main_call0_case0b0_v94, main_call0_case0b0_cst_24, main_call0_case0b0_v95, main_call0_case0b0_v96, main_call0_case0b0_cst_25, main_call0_case0b0_call4_v0, main_call0_case0b0_call4_v1, main_call0_case0b0_v97, main_call0_case0b0_values_26, main_call0_case0b0_indices_27]

theorem fRankOps_writes : (fRankOps : List (HloOp τ sig (Elt F))).Forall fun op => op.writes ⊆ (fRankOps_W.map (Proc.devRef (τ := τ) .tc)).toFinset :=
  StableHlo.forall_writes_sub_of_map rfl

/-- Their flat indices. -/
abbrev fOrdOps : List (HloOp τ sig (Elt F)) :=
  [ StableHlo.nullary main_call0_case0b0_c_28 (constantI S_ 32 0#32),
    StableHlo.unary main_call0_case0b0_c_28 main_call0_case0b0_v98 ((broadcastInDim S200 ![] bcast_S_S200) : Arr F S_ .i32 → Arr F S200 .i32),
    StableHlo.binary main_call0_case0b0_indices_27 main_call0_case0b0_v98 main_call0_case0b0_v99 ((cmpi .slt) : Arr F S200 .i32 → Arr F S200 .i32 → Arr F S200 .i1),
    StableHlo.nullary main_call0_case0b0_c_29 (constantI S_ 32 4096#32),
    StableHlo.unary main_call0_case0b0_c_29 main_call0_case0b0_v100 ((broadcastInDim S200 ![] bcast_S_S200) : Arr F S_ .i32 → Arr F S200 .i32),
    StableHlo.binary main_call0_case0b0_indices_27 main_call0_case0b0_v100 main_call0_case0b0_v101 (addi : Arr F S200 .i32 → Arr F S200 .i32 → Arr F S200 .i32),
    StableHlo.ternary main_call0_case0b0_v99 main_call0_case0b0_v101 main_call0_case0b0_indices_27 main_call0_case0b0_v102 (select : Arr F S200 .i1 → Arr F S200 .i32 → Arr F S200 .i32 → Arr F S200 .i32),
    StableHlo.unary main_call0_case0b0_v102 main_call0_case0b0_v103 ((broadcastInDim S200x1 ![0] bcast_S200_S200x1_0) : Arr F S200 .i32 → Arr F S200x1 .i32),
    StableHlo.binary main_call0_case0b0_indices_17 main_call0_case0b0_v103 main_call0_case0b0_v104 ((fun x i => Host.gather gather_S4096_S200x1_S200_n_0_n_n_0_1_1 x i) : Arr F S4096 .i32 → Arr F S200x1 .i32 → Arr F S200 .i32) ]

theorem fOrdOps_sub : (fOrdOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem fOrdOps_fresh : (fOrdOps : List (HloOp τ sig (Elt F))).Forall fun op => op.fresh = ∅ :=
  StableHlo.forall_fresh_of_map rfl

abbrev fOrdOps_W : List (Ref sig .tc) := [main_call0_case0b0_c_28, main_call0_case0b0_v98, main_call0_case0b0_v99, main_call0_case0b0_c_29, main_call0_case0b0_v100, main_call0_case0b0_v101, main_call0_case0b0_v102, main_call0_case0b0_v103, main_call0_case0b0_v104]

theorem fOrdOps_writes : (fOrdOps : List (HloOp τ sig (Elt F))).Forall fun op => op.writes ⊆ (fOrdOps_W.map (Proc.devRef (τ := τ) .tc)).toFinset :=
  StableHlo.forall_writes_sub_of_map rfl

/-- Their priors. -/
abbrev fOutPriOps : List (HloOp τ sig (Elt F)) :=
  [ StableHlo.nullary main_call0_case0b0_c_30 (constantI S_ 32 20#32),
    StableHlo.unary main_call0_case0b0_c_30 main_call0_case0b0_call5_v0 (id : Arr F S_ .i32 → Arr F S_ .i32),
    StableHlo.unary main_call0_case0b0_call5_v0 main_call0_case0b0_call5_v1 ((broadcastInDim S200 ![] bcast_S_S200) : Arr F S_ .i32 → Arr F S200 .i32),
    StableHlo.binary main_call0_case0b0_v104 main_call0_case0b0_call5_v1 main_call0_case0b0_call5_v2 (Host.divsi : Arr F S200 .i32 → Arr F S200 .i32 → Arr F S200 .i32),
    StableHlo.unary main_call0_case0b0_v104 main_call0_case0b0_call5_v3 (signi : Arr F S200 .i32 → Arr F S200 .i32),
    StableHlo.unary main_call0_case0b0_call5_v0 main_call0_case0b0_call5_v4 (signi : Arr F S_ .i32 → Arr F S_ .i32),
    StableHlo.unary main_call0_case0b0_call5_v4 main_call0_case0b0_call5_v5 ((broadcastInDim S200 ![] bcast_S_S200) : Arr F S_ .i32 → Arr F S200 .i32),
    StableHlo.binary main_call0_case0b0_call5_v3 main_call0_case0b0_call5_v5 main_call0_case0b0_call5_v6 ((cmpi .ne) : Arr F S200 .i32 → Arr F S200 .i32 → Arr F S200 .i1),
    StableHlo.unary main_call0_case0b0_call5_v0 main_call0_case0b0_call5_v7 ((broadcastInDim S200 ![] bcast_S_S200) : Arr F S_ .i32 → Arr F S200 .i32),
    StableHlo.binary main_call0_case0b0_v104 main_call0_case0b0_call5_v7 main_call0_case0b0_call5_v8 (Host.remsi : Arr F S200 .i32 → Arr F S200 .i32 → Arr F S200 .i32),
    StableHlo.nullary main_call0_case0b0_call5_c (constantI S_ 32 0#32),
    StableHlo.unary main_call0_case0b0_call5_c main_call0_case0b0_call5_v9 ((broadcastInDim S200 ![] bcast_S_S200) : Arr F S_ .i32 → Arr F S200 .i32),
    StableHlo.binary main_call0_case0b0_call5_v8 main_call0_case0b0_call5_v9 main_call0_case0b0_call5_v10 ((cmpi .ne) : Arr F S200 .i32 → Arr F S200 .i32 → Arr F S200 .i1),
    StableHlo.binary main_call0_case0b0_call5_v6 main_call0_case0b0_call5_v10 main_call0_case0b0_call5_v11 (andi : Arr F S200 .i1 → Arr F S200 .i1 → Arr F S200 .i1),
    StableHlo.nullary main_call0_case0b0_call5_c_0 (constantI S_ 32 1#32),
    StableHlo.unary main_call0_case0b0_call5_c_0 main_call0_case0b0_call5_v12 ((broadcastInDim S200 ![] bcast_S_S200) : Arr F S_ .i32 → Arr F S200 .i32),
    StableHlo.binary main_call0_case0b0_call5_v2 main_call0_case0b0_call5_v12 main_call0_case0b0_call5_v13 (subi : Arr F S200 .i32 → Arr F S200 .i32 → Arr F S200 .i32),
    StableHlo.ternary main_call0_case0b0_call5_v11 main_call0_case0b0_call5_v13 main_call0_case0b0_call5_v2 main_call0_case0b0_v105 (select : Arr F S200 .i1 → Arr F S200 .i32 → Arr F S200 .i32 → Arr F S200 .i32) ]

theorem fOutPriOps_sub : (fOutPriOps : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

theorem fOutPriOps_fresh : (fOutPriOps : List (HloOp τ sig (Elt F))).Forall fun op => op.fresh = ∅ :=
  StableHlo.forall_fresh_of_map rfl

abbrev fOutPriOps_W : List (Ref sig .tc) := [main_call0_case0b0_c_30, main_call0_case0b0_call5_v0, main_call0_case0b0_call5_v1, main_call0_case0b0_call5_v2, main_call0_case0b0_call5_v3, main_call0_case0b0_call5_v4, main_call0_case0b0_call5_v5, main_call0_case0b0_call5_v6, main_call0_case0b0_call5_v7, main_call0_case0b0_call5_v8, main_call0_case0b0_call5_c, main_call0_case0b0_call5_v9, main_call0_case0b0_call5_v10, main_call0_case0b0_call5_v11, main_call0_case0b0_call5_c_0, main_call0_case0b0_call5_v12, main_call0_case0b0_call5_v13, main_call0_case0b0_v105]

theorem fOutPriOps_writes : (fOutPriOps : List (HloOp τ sig (Elt F))).Forall fun op => op.writes ⊆ (fOutPriOps_W.map (Proc.devRef (τ := τ) .tc)).toFinset :=
  StableHlo.forall_writes_sub_of_map rfl

/-- Their classes. -/
abbrev fOutClsOps : List (HloOp τ sig (Elt F)) :=
  [ StableHlo.nullary main_call0_case0b0_c_31 (constantI S_ 32 20#32),
    StableHlo.unary main_call0_case0b0_c_31 main_call0_case0b0_call6_v0 (id : Arr F S_ .i32 → Arr F S_ .i32),
    StableHlo.nullary main_call0_case0b0_call6_c (constantI S_ 32 0#32),
    StableHlo.binary main_call0_case0b0_call6_v0 main_call0_case0b0_call6_c main_call0_case0b0_call6_v1 ((cmpi .eq) : Arr F S_ .i32 → Arr F S_ .i32 → Arr F S_ .i1),
    StableHlo.nullary main_call0_case0b0_call6_c_0 (constantI S_ 32 1#32),
    StableHlo.ternary main_call0_case0b0_call6_v1 main_call0_case0b0_call6_c_0 main_call0_case0b0_call6_v0 main_call0_case0b0_call6_v2 (select : Arr F S_ .i1 → Arr F S_ .i32 → Arr F S_ .i32 → Arr F S_ .i32),
    StableHlo.unary main_call0_case0b0_call6_v2 main_call0_case0b0_call6_v3 ((broadcastInDim S200 ![] bcast_S_S200) : Arr F S_ .i32 → Arr F S200 .i32),
    StableHlo.binary main_call0_case0b0_v104 main_call0_case0b0_call6_v3 main_call0_case0b0_call6_v4 (Host.remsi : Arr F S200 .i32 → Arr F S200 .i32 → Arr F S200 .i32),
    StableHlo.nullary main_call0_case0b0_call6_c_1 (constantI S_ 32 0#32),
    StableHlo.unary main_call0_case0b0_call6_c_1 main_call0_case0b0_call6_v5 ((broadcastInDim S200 ![] bcast_S_S200) : Arr F S_ .i32 → Arr F S200 .i32),
    StableHlo.binary main_call0_case0b0_call6_v4 main_call0_case0b0_call6_v5 main_call0_case0b0_call6_v6 ((cmpi .ne) : Arr F S200 .i32 → Arr F S200 .i32 → Arr F S200 .i1),
    StableHlo.nullary main_call0_case0b0_call6_c_2 (constantI S_ 32 0#32),
    StableHlo.unary main_call0_case0b0_call6_c_2 main_call0_case0b0_call6_v7 ((broadcastInDim S200 ![] bcast_S_S200) : Arr F S_ .i32 → Arr F S200 .i32),
    StableHlo.binary main_call0_case0b0_call6_v4 main_call0_case0b0_call6_v7 main_call0_case0b0_call6_v8 ((cmpi .slt) : Arr F S200 .i32 → Arr F S200 .i32 → Arr F S200 .i1),
    StableHlo.nullary main_call0_case0b0_call6_c_3 (constantI S_ 32 0#32),
    StableHlo.binary main_call0_case0b0_call6_v2 main_call0_case0b0_call6_c_3 main_call0_case0b0_call6_v9 ((cmpi .slt) : Arr F S_ .i32 → Arr F S_ .i32 → Arr F S_ .i1),
    StableHlo.unary main_call0_case0b0_call6_v9 main_call0_case0b0_call6_v10 ((broadcastInDim S200 ![] bcast_S_S200) : Arr F S_ .i1 → Arr F S200 .i1),
    StableHlo.binary main_call0_case0b0_call6_v8 main_call0_case0b0_call6_v10 main_call0_case0b0_call6_v11 ((cmpi .ne) : Arr F S200 .i1 → Arr F S200 .i1 → Arr F S200 .i1),
    StableHlo.binary main_call0_case0b0_call6_v11 main_call0_case0b0_call6_v6 main_call0_case0b0_call6_v12 (andi : Arr F S200 .i1 → Arr F S200 .i1 → Arr F S200 .i1),
    StableHlo.unary main_call0_case0b0_call6_v2 main_call0_case0b0_call6_v13 ((broadcastInDim S200 ![] bcast_S_S200) : Arr F S_ .i32 → Arr F S200 .i32),
    StableHlo.binary main_call0_case0b0_call6_v4 main_call0_case0b0_call6_v13 main_call0_case0b0_call6_v14 (addi : Arr F S200 .i32 → Arr F S200 .i32 → Arr F S200 .i32),
    StableHlo.ternary main_call0_case0b0_call6_v12 main_call0_case0b0_call6_v14 main_call0_case0b0_call6_v4 main_call0_case0b0_v106 (select : Arr F S200 .i1 → Arr F S200 .i32 → Arr F S200 .i32 → Arr F S200 .i32),
    StableHlo.nullary main_call0_case0b0_c_32 (constantI S_ 32 1#32),
    StableHlo.unary main_call0_case0b0_c_32 main_call0_case0b0_v107 ((broadcastInDim S200 ![] bcast_S_S200) : Arr F S_ .i32 → Arr F S200 .i32),
    StableHlo.binary main_call0_case0b0_v106 main_call0_case0b0_v107 main_call0_case0b0_v108 (addi : Arr F S200 .i32 → Arr F S200 .i32 → Arr F S200 .i32) ]

theorem fOutClsOps_sub : (fOutClsOps : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub ..⟩

theorem fOutClsOps_fresh : (fOutClsOps : List (HloOp τ sig (Elt F))).Forall fun op => op.fresh = ∅ :=
  StableHlo.forall_fresh_of_map rfl

abbrev fOutClsOps_W : List (Ref sig .tc) := [main_call0_case0b0_c_31, main_call0_case0b0_call6_v0, main_call0_case0b0_call6_c, main_call0_case0b0_call6_v1, main_call0_case0b0_call6_c_0, main_call0_case0b0_call6_v2, main_call0_case0b0_call6_v3, main_call0_case0b0_call6_v4, main_call0_case0b0_call6_c_1, main_call0_case0b0_call6_v5, main_call0_case0b0_call6_v6, main_call0_case0b0_call6_c_2, main_call0_case0b0_call6_v7, main_call0_case0b0_call6_v8, main_call0_case0b0_call6_c_3, main_call0_case0b0_call6_v9, main_call0_case0b0_call6_v10, main_call0_case0b0_call6_v11, main_call0_case0b0_call6_v12, main_call0_case0b0_call6_v13, main_call0_case0b0_call6_v14, main_call0_case0b0_v106, main_call0_case0b0_c_32, main_call0_case0b0_v107, main_call0_case0b0_v108]

theorem fOutClsOps_writes : (fOutClsOps : List (HloOp τ sig (Elt F))).Forall fun op => op.writes ⊆ (fOutClsOps_W.map (Proc.devRef (τ := τ) .tc)).toFinset :=
  StableHlo.forall_writes_sub_of_map rfl

/-- Their boxes. -/
abbrev fOutBoxOps : List (HloOp τ sig (Elt F)) :=
  [ StableHlo.nullary main_call0_case0b0_c_33 (constantI S_ 32 0#32),
    StableHlo.unary main_call0_case0b0_c_33 main_call0_case0b0_v109 ((broadcastInDim S200 ![] bcast_S_S200) : Arr F S_ .i32 → Arr F S200 .i32),
    StableHlo.binary main_call0_case0b0_v105 main_call0_case0b0_v109 main_call0_case0b0_v110 ((cmpi .slt) : Arr F S200 .i32 → Arr F S200 .i32 → Arr F S200 .i1),
    StableHlo.nullary main_call0_case0b0_c_34 (constantI S_ 32 20000#32),
    StableHlo.unary main_call0_case0b0_c_34 main_call0_case0b0_v111 ((broadcastInDim S200 ![] bcast_S_S200) : Arr F S_ .i32 → Arr F S200 .i32),
    StableHlo.binary main_call0_case0b0_v105 main_call0_case0b0_v111 main_call0_case0b0_v112 (addi : Arr F S200 .i32 → Arr F S200 .i32 → Arr F S200 .i32),
    StableHlo.ternary main_call0_case0b0_v110 main_call0_case0b0_v112 main_call0_case0b0_v105 main_call0_case0b0_v113 (select : Arr F S200 .i1 → Arr F S200 .i32 → Arr F S200 .i32 → Arr F S200 .i32),
    StableHlo.unary main_call0_case0b0_v113 main_call0_case0b0_v114 ((broadcastInDim S200x1 ![0] bcast_S200_S200x1_0) : Arr F S200 .i32 → Arr F S200x1 .i32),
    StableHlo.binary main_call0_v5 main_call0_case0b0_v114 main_call0_case0b0_v115 ((fun x i => Host.gather gather_S20000x4_S200x1_S200x4_1_0_n_n_0_1_14 x i) : Arr F S20000x4 .f32 → Arr F S200x1 .i32 → Arr F S200x4 .f32) ]

theorem fOutBoxOps_sub : (fOutBoxOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem fOutBoxOps_fresh : (fOutBoxOps : List (HloOp τ sig (Elt F))).Forall fun op => op.fresh = ∅ :=
  StableHlo.forall_fresh_of_map rfl

abbrev fOutBoxOps_W : List (Ref sig .tc) := [main_call0_case0b0_c_33, main_call0_case0b0_v109, main_call0_case0b0_v110, main_call0_case0b0_c_34, main_call0_case0b0_v111, main_call0_case0b0_v112, main_call0_case0b0_v113, main_call0_case0b0_v114, main_call0_case0b0_v115]

theorem fOutBoxOps_writes : (fOutBoxOps : List (HloOp τ sig (Elt F))).Forall fun op => op.writes ⊆ (fOutBoxOps_W.map (Proc.devRef (τ := τ) .tc)).toFinset :=
  StableHlo.forall_writes_sub_of_map rfl

/-- Their scores. -/
abbrev fOutScoreOps : List (HloOp τ sig (Elt F)) :=
  [ StableHlo.nullary main_call0_case0b0_c_35 (constantI S_ 32 0#32),
    StableHlo.unary main_call0_case0b0_c_35 main_call0_case0b0_v116 ((broadcastInDim S200 ![] bcast_S_S200) : Arr F S_ .i32 → Arr F S200 .i32),
    StableHlo.binary main_call0_case0b0_v105 main_call0_case0b0_v116 main_call0_case0b0_v117 ((cmpi .slt) : Arr F S200 .i32 → Arr F S200 .i32 → Arr F S200 .i1),
    StableHlo.nullary main_call0_case0b0_c_36 (constantI S_ 32 20000#32),
    StableHlo.unary main_call0_case0b0_c_36 main_call0_case0b0_v118 ((broadcastInDim S200 ![] bcast_S_S200) : Arr F S_ .i32 → Arr F S200 .i32),
    StableHlo.binary main_call0_case0b0_v105 main_call0_case0b0_v118 main_call0_case0b0_v119 (addi : Arr F S200 .i32 → Arr F S200 .i32 → Arr F S200 .i32),
    StableHlo.ternary main_call0_case0b0_v117 main_call0_case0b0_v119 main_call0_case0b0_v105 main_call0_case0b0_v120 (select : Arr F S200 .i1 → Arr F S200 .i32 → Arr F S200 .i32 → Arr F S200 .i32),
    StableHlo.nullary main_call0_case0b0_c_37 (constantI S_ 32 0#32),
    StableHlo.unary main_call0_case0b0_c_37 main_call0_case0b0_v121 ((broadcastInDim S200 ![] bcast_S_S200) : Arr F S_ .i32 → Arr F S200 .i32),
    StableHlo.binary main_call0_case0b0_v108 main_call0_case0b0_v121 main_call0_case0b0_v122 ((cmpi .slt) : Arr F S200 .i32 → Arr F S200 .i32 → Arr F S200 .i1),
    StableHlo.nullary main_call0_case0b0_c_38 (constantI S_ 32 21#32),
    StableHlo.unary main_call0_case0b0_c_38 main_call0_case0b0_v123 ((broadcastInDim S200 ![] bcast_S_S200) : Arr F S_ .i32 → Arr F S200 .i32),
    StableHlo.binary main_call0_case0b0_v108 main_call0_case0b0_v123 main_call0_case0b0_v124 (addi : Arr F S200 .i32 → Arr F S200 .i32 → Arr F S200 .i32),
    StableHlo.ternary main_call0_case0b0_v122 main_call0_case0b0_v124 main_call0_case0b0_v108 main_call0_case0b0_v125 (select : Arr F S200 .i1 → Arr F S200 .i32 → Arr F S200 .i32 → Arr F S200 .i32),
    StableHlo.unary main_call0_case0b0_v120 main_call0_case0b0_v126 ((broadcastInDim S200x1 ![0] bcast_S200_S200x1_0) : Arr F S200 .i32 → Arr F S200x1 .i32),
    StableHlo.unary main_call0_case0b0_v125 main_call0_case0b0_v127 ((broadcastInDim S200x1 ![0] bcast_S200_S200x1_0) : Arr F S200 .i32 → Arr F S200x1 .i32),
    StableHlo.binary main_call0_case0b0_v126 main_call0_case0b0_v127 main_call0_case0b0_v128 ((fun a b => concatenate S200x2 1 [⟨S200x1, a⟩, ⟨S200x1, b⟩] concatenates_S200x1_S200x1_S200x2_d1) : Arr F S200x1 .i32 → Arr F S200x1 .i32 → Arr F S200x2 .i32),
    StableHlo.binary main_arg1 main_call0_case0b0_v128 main_call0_case0b0_v129 ((fun x i => Host.gather gather_S20000x21_S200x2_S200_n_01_n_n_01_1_11 x i) : Arr F S20000x21 .f32 → Arr F S200x2 .i32 → Arr F S200 .f32) ]

theorem fOutScoreOps_sub : (fOutScoreOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩

theorem fOutScoreOps_fresh : (fOutScoreOps : List (HloOp τ sig (Elt F))).Forall fun op => op.fresh = ∅ :=
  StableHlo.forall_fresh_of_map rfl

abbrev fOutScoreOps_W : List (Ref sig .tc) := [main_call0_case0b0_c_35, main_call0_case0b0_v116, main_call0_case0b0_v117, main_call0_case0b0_c_36, main_call0_case0b0_v118, main_call0_case0b0_v119, main_call0_case0b0_v120, main_call0_case0b0_c_37, main_call0_case0b0_v121, main_call0_case0b0_v122, main_call0_case0b0_c_38, main_call0_case0b0_v123, main_call0_case0b0_v124, main_call0_case0b0_v125, main_call0_case0b0_v126, main_call0_case0b0_v127, main_call0_case0b0_v128, main_call0_case0b0_v129]

theorem fOutScoreOps_writes : (fOutScoreOps : List (HloOp τ sig (Elt F))).Forall fun op => op.writes ⊆ (fOutScoreOps_W.map (Proc.devRef (τ := τ) .tc)).toFinset :=
  StableHlo.forall_writes_sub_of_map rfl

/-- The result's rows. -/
abbrev fOutOps : List (HloOp τ sig (Elt F)) :=
  [ StableHlo.unary main_call0_case0b0_v108 main_call0_case0b0_v130 ((sitofp .f32) : Arr F S200 .i32 → Arr F S200 .f32),
    StableHlo.unary main_call0_case0b0_v130 main_call0_case0b0_v131 ((broadcastInDim S200x1 ![0] bcast_S200_S200x1_0) : Arr F S200 .f32 → Arr F S200x1 .f32),
    StableHlo.unary main_call0_case0b0_v129 main_call0_case0b0_v132 ((broadcastInDim S200x1 ![0] bcast_S200_S200x1_0) : Arr F S200 .f32 → Arr F S200x1 .f32),
    StableHlo.nary ![main_call0_case0b0_v131, main_call0_case0b0_v132, main_call0_case0b0_v115] main_call0_case0b0_v133 (fun u => (concatenate S200x6 1 [⟨S200x1, (u 0 : Arr F S200x1 .f32)⟩, ⟨S200x1, (u 1 : Arr F S200x1 .f32)⟩, ⟨S200x4, (u 2 : Arr F S200x4 .f32)⟩] concatenates_S200x1_S200x1_S200x4_S200x6_d1 : Arr F S200x6 .f32)),
    StableHlo.unary main_call0_case0b0_v133 main_v0 (id : Arr F S200x6 .f32 → Arr F S200x6 .f32) ]

theorem fOutOps_sub : (fOutOps : List (HloOp τ sig (Elt F))).Forall fun op => op.bufs ⊆ StableHlo.tcRefs τ sig :=
  ⟨StableHlo.unary_bufs_sub .., StableHlo.unary_bufs_sub .., StableHlo.unary_bufs_sub .., StableHlo.nary_bufs_sub .., StableHlo.unary_bufs_sub ..⟩

theorem fOutOps_fresh : (fOutOps : List (HloOp τ sig (Elt F))).Forall fun op => op.fresh = ∅ :=
  StableHlo.forall_fresh_of_map rfl

abbrev fOutOps_W : List (Ref sig .tc) := [main_call0_case0b0_v130, main_call0_case0b0_v131, main_call0_case0b0_v132, main_call0_case0b0_v133, main_v0]

theorem fOutOps_writes : (fOutOps : List (HloOp τ sig (Elt F))).Forall fun op => op.writes ⊆ (fOutOps_W.map (Proc.devRef (τ := τ) .tc)).toFinset :=
  StableHlo.forall_writes_sub_of_map rfl

/-- The short branch: the 200 largest kept scores. -/
abbrev sRankOps : List (HloOp τ sig (Elt F)) :=
  [ StableHlo.nullary main_call0_case0b1_cst_16 (constant S_ .f32 0xFF800000#32),
    StableHlo.unary main_call0_case0b1_cst_16 main_call0_case0b1_call7_v0 (id : Arr F S_ .f32 → Arr F S_ .f32),
    StableHlo.unary main_call0_case0b1_call7_v0 main_call0_case0b1_call7_v1 ((broadcastInDim S512 ![] bcast_S_S512) : Arr F S_ .f32 → Arr F S512 .f32),
    StableHlo.ternary main_call0_v67 main_call0_v37 main_call0_case0b1_call7_v1 main_call0_case0b1_v74 (select : Arr F S512 .i1 → Arr F S512 .f32 → Arr F S512 .f32 → Arr F S512 .f32),
    StableHlo.unary main_call0_case0b1_v74 main_call0_case0b1_values_17 ((fun x => (Host.topK S200 0 (FloatOps.cmpfTotal .gt) x sliceFits_S512_S200).1) : Arr F S512 .f32 → Arr F S200 .f32),
    StableHlo.unary main_call0_case0b1_v74 main_call0_case0b1_indices_18 ((fun x => (Host.topK S200 0 (FloatOps.cmpfTotal .gt) x sliceFits_S512_S200).2) : Arr F S512 .f32 → Arr F S200 .i32) ]

theorem sRankOps_sub : (sRankOps : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.unary_bufs_sub ..⟩

theorem sRankOps_fresh : (sRankOps : List (HloOp τ sig (Elt F))).Forall fun op => op.fresh = ∅ :=
  StableHlo.forall_fresh_of_map rfl

abbrev sRankOps_W : List (Ref sig .tc) := [main_call0_case0b1_cst_16, main_call0_case0b1_call7_v0, main_call0_case0b1_call7_v1, main_call0_case0b1_v74, main_call0_case0b1_values_17, main_call0_case0b1_indices_18]

theorem sRankOps_writes : (sRankOps : List (HloOp τ sig (Elt F))).Forall fun op => op.writes ⊆ (sRankOps_W.map (Proc.devRef (τ := τ) .tc)).toFinset :=
  StableHlo.forall_writes_sub_of_map rfl

/-- Their flat indices. -/
abbrev sOrdOps : List (HloOp τ sig (Elt F)) :=
  [ StableHlo.nullary main_call0_case0b1_c_19 (constantI S_ 32 0#32),
    StableHlo.unary main_call0_case0b1_c_19 main_call0_case0b1_v75 ((broadcastInDim S200 ![] bcast_S_S200) : Arr F S_ .i32 → Arr F S200 .i32),
    StableHlo.binary main_call0_case0b1_indices_18 main_call0_case0b1_v75 main_call0_case0b1_v76 ((cmpi .slt) : Arr F S200 .i32 → Arr F S200 .i32 → Arr F S200 .i1),
    StableHlo.nullary main_call0_case0b1_c_20 (constantI S_ 32 512#32),
    StableHlo.unary main_call0_case0b1_c_20 main_call0_case0b1_v77 ((broadcastInDim S200 ![] bcast_S_S200) : Arr F S_ .i32 → Arr F S200 .i32),
    StableHlo.binary main_call0_case0b1_indices_18 main_call0_case0b1_v77 main_call0_case0b1_v78 (addi : Arr F S200 .i32 → Arr F S200 .i32 → Arr F S200 .i32),
    StableHlo.ternary main_call0_case0b1_v76 main_call0_case0b1_v78 main_call0_case0b1_indices_18 main_call0_case0b1_v79 (select : Arr F S200 .i1 → Arr F S200 .i32 → Arr F S200 .i32 → Arr F S200 .i32),
    StableHlo.unary main_call0_case0b1_v79 main_call0_case0b1_v80 ((broadcastInDim S200x1 ![0] bcast_S200_S200x1_0) : Arr F S200 .i32 → Arr F S200x1 .i32),
    StableHlo.binary main_call0_v36_1 main_call0_case0b1_v80 main_call0_case0b1_v81 ((fun x i => Host.gather gather_S512_S200x1_S200_n_0_n_n_0_1_1 x i) : Arr F S512 .i32 → Arr F S200x1 .i32 → Arr F S200 .i32) ]

theorem sOrdOps_sub : (sOrdOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem sOrdOps_fresh : (sOrdOps : List (HloOp τ sig (Elt F))).Forall fun op => op.fresh = ∅ :=
  StableHlo.forall_fresh_of_map rfl

abbrev sOrdOps_W : List (Ref sig .tc) := [main_call0_case0b1_c_19, main_call0_case0b1_v75, main_call0_case0b1_v76, main_call0_case0b1_c_20, main_call0_case0b1_v77, main_call0_case0b1_v78, main_call0_case0b1_v79, main_call0_case0b1_v80, main_call0_case0b1_v81]

theorem sOrdOps_writes : (sOrdOps : List (HloOp τ sig (Elt F))).Forall fun op => op.writes ⊆ (sOrdOps_W.map (Proc.devRef (τ := τ) .tc)).toFinset :=
  StableHlo.forall_writes_sub_of_map rfl

/-- Their priors. -/
abbrev sOutPriOps : List (HloOp τ sig (Elt F)) :=
  [ StableHlo.nullary main_call0_case0b1_c_21 (constantI S_ 32 20#32),
    StableHlo.unary main_call0_case0b1_c_21 main_call0_case0b1_call8_v0 (id : Arr F S_ .i32 → Arr F S_ .i32),
    StableHlo.unary main_call0_case0b1_call8_v0 main_call0_case0b1_call8_v1 ((broadcastInDim S200 ![] bcast_S_S200) : Arr F S_ .i32 → Arr F S200 .i32),
    StableHlo.binary main_call0_case0b1_v81 main_call0_case0b1_call8_v1 main_call0_case0b1_call8_v2 (Host.divsi : Arr F S200 .i32 → Arr F S200 .i32 → Arr F S200 .i32),
    StableHlo.unary main_call0_case0b1_v81 main_call0_case0b1_call8_v3 (signi : Arr F S200 .i32 → Arr F S200 .i32),
    StableHlo.unary main_call0_case0b1_call8_v0 main_call0_case0b1_call8_v4 (signi : Arr F S_ .i32 → Arr F S_ .i32),
    StableHlo.unary main_call0_case0b1_call8_v4 main_call0_case0b1_call8_v5 ((broadcastInDim S200 ![] bcast_S_S200) : Arr F S_ .i32 → Arr F S200 .i32),
    StableHlo.binary main_call0_case0b1_call8_v3 main_call0_case0b1_call8_v5 main_call0_case0b1_call8_v6 ((cmpi .ne) : Arr F S200 .i32 → Arr F S200 .i32 → Arr F S200 .i1),
    StableHlo.unary main_call0_case0b1_call8_v0 main_call0_case0b1_call8_v7 ((broadcastInDim S200 ![] bcast_S_S200) : Arr F S_ .i32 → Arr F S200 .i32),
    StableHlo.binary main_call0_case0b1_v81 main_call0_case0b1_call8_v7 main_call0_case0b1_call8_v8 (Host.remsi : Arr F S200 .i32 → Arr F S200 .i32 → Arr F S200 .i32),
    StableHlo.nullary main_call0_case0b1_call8_c (constantI S_ 32 0#32),
    StableHlo.unary main_call0_case0b1_call8_c main_call0_case0b1_call8_v9 ((broadcastInDim S200 ![] bcast_S_S200) : Arr F S_ .i32 → Arr F S200 .i32),
    StableHlo.binary main_call0_case0b1_call8_v8 main_call0_case0b1_call8_v9 main_call0_case0b1_call8_v10 ((cmpi .ne) : Arr F S200 .i32 → Arr F S200 .i32 → Arr F S200 .i1),
    StableHlo.binary main_call0_case0b1_call8_v6 main_call0_case0b1_call8_v10 main_call0_case0b1_call8_v11 (andi : Arr F S200 .i1 → Arr F S200 .i1 → Arr F S200 .i1),
    StableHlo.nullary main_call0_case0b1_call8_c_0 (constantI S_ 32 1#32),
    StableHlo.unary main_call0_case0b1_call8_c_0 main_call0_case0b1_call8_v12 ((broadcastInDim S200 ![] bcast_S_S200) : Arr F S_ .i32 → Arr F S200 .i32),
    StableHlo.binary main_call0_case0b1_call8_v2 main_call0_case0b1_call8_v12 main_call0_case0b1_call8_v13 (subi : Arr F S200 .i32 → Arr F S200 .i32 → Arr F S200 .i32),
    StableHlo.ternary main_call0_case0b1_call8_v11 main_call0_case0b1_call8_v13 main_call0_case0b1_call8_v2 main_call0_case0b1_v82 (select : Arr F S200 .i1 → Arr F S200 .i32 → Arr F S200 .i32 → Arr F S200 .i32) ]

theorem sOutPriOps_sub : (sOutPriOps : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

theorem sOutPriOps_fresh : (sOutPriOps : List (HloOp τ sig (Elt F))).Forall fun op => op.fresh = ∅ :=
  StableHlo.forall_fresh_of_map rfl

abbrev sOutPriOps_W : List (Ref sig .tc) := [main_call0_case0b1_c_21, main_call0_case0b1_call8_v0, main_call0_case0b1_call8_v1, main_call0_case0b1_call8_v2, main_call0_case0b1_call8_v3, main_call0_case0b1_call8_v4, main_call0_case0b1_call8_v5, main_call0_case0b1_call8_v6, main_call0_case0b1_call8_v7, main_call0_case0b1_call8_v8, main_call0_case0b1_call8_c, main_call0_case0b1_call8_v9, main_call0_case0b1_call8_v10, main_call0_case0b1_call8_v11, main_call0_case0b1_call8_c_0, main_call0_case0b1_call8_v12, main_call0_case0b1_call8_v13, main_call0_case0b1_v82]

theorem sOutPriOps_writes : (sOutPriOps : List (HloOp τ sig (Elt F))).Forall fun op => op.writes ⊆ (sOutPriOps_W.map (Proc.devRef (τ := τ) .tc)).toFinset :=
  StableHlo.forall_writes_sub_of_map rfl

/-- Their classes. -/
abbrev sOutClsOps : List (HloOp τ sig (Elt F)) :=
  [ StableHlo.nullary main_call0_case0b1_c_22 (constantI S_ 32 20#32),
    StableHlo.unary main_call0_case0b1_c_22 main_call0_case0b1_call9_v0 (id : Arr F S_ .i32 → Arr F S_ .i32),
    StableHlo.nullary main_call0_case0b1_call9_c (constantI S_ 32 0#32),
    StableHlo.binary main_call0_case0b1_call9_v0 main_call0_case0b1_call9_c main_call0_case0b1_call9_v1 ((cmpi .eq) : Arr F S_ .i32 → Arr F S_ .i32 → Arr F S_ .i1),
    StableHlo.nullary main_call0_case0b1_call9_c_0 (constantI S_ 32 1#32),
    StableHlo.ternary main_call0_case0b1_call9_v1 main_call0_case0b1_call9_c_0 main_call0_case0b1_call9_v0 main_call0_case0b1_call9_v2 (select : Arr F S_ .i1 → Arr F S_ .i32 → Arr F S_ .i32 → Arr F S_ .i32),
    StableHlo.unary main_call0_case0b1_call9_v2 main_call0_case0b1_call9_v3 ((broadcastInDim S200 ![] bcast_S_S200) : Arr F S_ .i32 → Arr F S200 .i32),
    StableHlo.binary main_call0_case0b1_v81 main_call0_case0b1_call9_v3 main_call0_case0b1_call9_v4 (Host.remsi : Arr F S200 .i32 → Arr F S200 .i32 → Arr F S200 .i32),
    StableHlo.nullary main_call0_case0b1_call9_c_1 (constantI S_ 32 0#32),
    StableHlo.unary main_call0_case0b1_call9_c_1 main_call0_case0b1_call9_v5 ((broadcastInDim S200 ![] bcast_S_S200) : Arr F S_ .i32 → Arr F S200 .i32),
    StableHlo.binary main_call0_case0b1_call9_v4 main_call0_case0b1_call9_v5 main_call0_case0b1_call9_v6 ((cmpi .ne) : Arr F S200 .i32 → Arr F S200 .i32 → Arr F S200 .i1),
    StableHlo.nullary main_call0_case0b1_call9_c_2 (constantI S_ 32 0#32),
    StableHlo.unary main_call0_case0b1_call9_c_2 main_call0_case0b1_call9_v7 ((broadcastInDim S200 ![] bcast_S_S200) : Arr F S_ .i32 → Arr F S200 .i32),
    StableHlo.binary main_call0_case0b1_call9_v4 main_call0_case0b1_call9_v7 main_call0_case0b1_call9_v8 ((cmpi .slt) : Arr F S200 .i32 → Arr F S200 .i32 → Arr F S200 .i1),
    StableHlo.nullary main_call0_case0b1_call9_c_3 (constantI S_ 32 0#32),
    StableHlo.binary main_call0_case0b1_call9_v2 main_call0_case0b1_call9_c_3 main_call0_case0b1_call9_v9 ((cmpi .slt) : Arr F S_ .i32 → Arr F S_ .i32 → Arr F S_ .i1),
    StableHlo.unary main_call0_case0b1_call9_v9 main_call0_case0b1_call9_v10 ((broadcastInDim S200 ![] bcast_S_S200) : Arr F S_ .i1 → Arr F S200 .i1),
    StableHlo.binary main_call0_case0b1_call9_v8 main_call0_case0b1_call9_v10 main_call0_case0b1_call9_v11 ((cmpi .ne) : Arr F S200 .i1 → Arr F S200 .i1 → Arr F S200 .i1),
    StableHlo.binary main_call0_case0b1_call9_v11 main_call0_case0b1_call9_v6 main_call0_case0b1_call9_v12 (andi : Arr F S200 .i1 → Arr F S200 .i1 → Arr F S200 .i1),
    StableHlo.unary main_call0_case0b1_call9_v2 main_call0_case0b1_call9_v13 ((broadcastInDim S200 ![] bcast_S_S200) : Arr F S_ .i32 → Arr F S200 .i32),
    StableHlo.binary main_call0_case0b1_call9_v4 main_call0_case0b1_call9_v13 main_call0_case0b1_call9_v14 (addi : Arr F S200 .i32 → Arr F S200 .i32 → Arr F S200 .i32),
    StableHlo.ternary main_call0_case0b1_call9_v12 main_call0_case0b1_call9_v14 main_call0_case0b1_call9_v4 main_call0_case0b1_v83 (select : Arr F S200 .i1 → Arr F S200 .i32 → Arr F S200 .i32 → Arr F S200 .i32),
    StableHlo.nullary main_call0_case0b1_c_23 (constantI S_ 32 1#32),
    StableHlo.unary main_call0_case0b1_c_23 main_call0_case0b1_v84 ((broadcastInDim S200 ![] bcast_S_S200) : Arr F S_ .i32 → Arr F S200 .i32),
    StableHlo.binary main_call0_case0b1_v83 main_call0_case0b1_v84 main_call0_case0b1_v85 (addi : Arr F S200 .i32 → Arr F S200 .i32 → Arr F S200 .i32) ]

theorem sOutClsOps_sub : (sOutClsOps : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub ..⟩

theorem sOutClsOps_fresh : (sOutClsOps : List (HloOp τ sig (Elt F))).Forall fun op => op.fresh = ∅ :=
  StableHlo.forall_fresh_of_map rfl

abbrev sOutClsOps_W : List (Ref sig .tc) := [main_call0_case0b1_c_22, main_call0_case0b1_call9_v0, main_call0_case0b1_call9_c, main_call0_case0b1_call9_v1, main_call0_case0b1_call9_c_0, main_call0_case0b1_call9_v2, main_call0_case0b1_call9_v3, main_call0_case0b1_call9_v4, main_call0_case0b1_call9_c_1, main_call0_case0b1_call9_v5, main_call0_case0b1_call9_v6, main_call0_case0b1_call9_c_2, main_call0_case0b1_call9_v7, main_call0_case0b1_call9_v8, main_call0_case0b1_call9_c_3, main_call0_case0b1_call9_v9, main_call0_case0b1_call9_v10, main_call0_case0b1_call9_v11, main_call0_case0b1_call9_v12, main_call0_case0b1_call9_v13, main_call0_case0b1_call9_v14, main_call0_case0b1_v83, main_call0_case0b1_c_23, main_call0_case0b1_v84, main_call0_case0b1_v85]

theorem sOutClsOps_writes : (sOutClsOps : List (HloOp τ sig (Elt F))).Forall fun op => op.writes ⊆ (sOutClsOps_W.map (Proc.devRef (τ := τ) .tc)).toFinset :=
  StableHlo.forall_writes_sub_of_map rfl

/-- Their boxes. -/
abbrev sOutBoxOps : List (HloOp τ sig (Elt F)) :=
  [ StableHlo.nullary main_call0_case0b1_c_24 (constantI S_ 32 0#32),
    StableHlo.unary main_call0_case0b1_c_24 main_call0_case0b1_v86 ((broadcastInDim S200 ![] bcast_S_S200) : Arr F S_ .i32 → Arr F S200 .i32),
    StableHlo.binary main_call0_case0b1_v82 main_call0_case0b1_v86 main_call0_case0b1_v87 ((cmpi .slt) : Arr F S200 .i32 → Arr F S200 .i32 → Arr F S200 .i1),
    StableHlo.nullary main_call0_case0b1_c_25 (constantI S_ 32 20000#32),
    StableHlo.unary main_call0_case0b1_c_25 main_call0_case0b1_v88 ((broadcastInDim S200 ![] bcast_S_S200) : Arr F S_ .i32 → Arr F S200 .i32),
    StableHlo.binary main_call0_case0b1_v82 main_call0_case0b1_v88 main_call0_case0b1_v89 (addi : Arr F S200 .i32 → Arr F S200 .i32 → Arr F S200 .i32),
    StableHlo.ternary main_call0_case0b1_v87 main_call0_case0b1_v89 main_call0_case0b1_v82 main_call0_case0b1_v90 (select : Arr F S200 .i1 → Arr F S200 .i32 → Arr F S200 .i32 → Arr F S200 .i32),
    StableHlo.unary main_call0_case0b1_v90 main_call0_case0b1_v91 ((broadcastInDim S200x1 ![0] bcast_S200_S200x1_0) : Arr F S200 .i32 → Arr F S200x1 .i32),
    StableHlo.binary main_call0_v5 main_call0_case0b1_v91 main_call0_case0b1_v92 ((fun x i => Host.gather gather_S20000x4_S200x1_S200x4_1_0_n_n_0_1_14 x i) : Arr F S20000x4 .f32 → Arr F S200x1 .i32 → Arr F S200x4 .f32) ]

theorem sOutBoxOps_sub : (sOutBoxOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem sOutBoxOps_fresh : (sOutBoxOps : List (HloOp τ sig (Elt F))).Forall fun op => op.fresh = ∅ :=
  StableHlo.forall_fresh_of_map rfl

abbrev sOutBoxOps_W : List (Ref sig .tc) := [main_call0_case0b1_c_24, main_call0_case0b1_v86, main_call0_case0b1_v87, main_call0_case0b1_c_25, main_call0_case0b1_v88, main_call0_case0b1_v89, main_call0_case0b1_v90, main_call0_case0b1_v91, main_call0_case0b1_v92]

theorem sOutBoxOps_writes : (sOutBoxOps : List (HloOp τ sig (Elt F))).Forall fun op => op.writes ⊆ (sOutBoxOps_W.map (Proc.devRef (τ := τ) .tc)).toFinset :=
  StableHlo.forall_writes_sub_of_map rfl

/-- Their scores. -/
abbrev sOutScoreOps : List (HloOp τ sig (Elt F)) :=
  [ StableHlo.nullary main_call0_case0b1_c_26 (constantI S_ 32 0#32),
    StableHlo.unary main_call0_case0b1_c_26 main_call0_case0b1_v93 ((broadcastInDim S200 ![] bcast_S_S200) : Arr F S_ .i32 → Arr F S200 .i32),
    StableHlo.binary main_call0_case0b1_v82 main_call0_case0b1_v93 main_call0_case0b1_v94 ((cmpi .slt) : Arr F S200 .i32 → Arr F S200 .i32 → Arr F S200 .i1),
    StableHlo.nullary main_call0_case0b1_c_27 (constantI S_ 32 20000#32),
    StableHlo.unary main_call0_case0b1_c_27 main_call0_case0b1_v95 ((broadcastInDim S200 ![] bcast_S_S200) : Arr F S_ .i32 → Arr F S200 .i32),
    StableHlo.binary main_call0_case0b1_v82 main_call0_case0b1_v95 main_call0_case0b1_v96 (addi : Arr F S200 .i32 → Arr F S200 .i32 → Arr F S200 .i32),
    StableHlo.ternary main_call0_case0b1_v94 main_call0_case0b1_v96 main_call0_case0b1_v82 main_call0_case0b1_v97 (select : Arr F S200 .i1 → Arr F S200 .i32 → Arr F S200 .i32 → Arr F S200 .i32),
    StableHlo.nullary main_call0_case0b1_c_28 (constantI S_ 32 0#32),
    StableHlo.unary main_call0_case0b1_c_28 main_call0_case0b1_v98 ((broadcastInDim S200 ![] bcast_S_S200) : Arr F S_ .i32 → Arr F S200 .i32),
    StableHlo.binary main_call0_case0b1_v85 main_call0_case0b1_v98 main_call0_case0b1_v99 ((cmpi .slt) : Arr F S200 .i32 → Arr F S200 .i32 → Arr F S200 .i1),
    StableHlo.nullary main_call0_case0b1_c_29 (constantI S_ 32 21#32),
    StableHlo.unary main_call0_case0b1_c_29 main_call0_case0b1_v100 ((broadcastInDim S200 ![] bcast_S_S200) : Arr F S_ .i32 → Arr F S200 .i32),
    StableHlo.binary main_call0_case0b1_v85 main_call0_case0b1_v100 main_call0_case0b1_v101 (addi : Arr F S200 .i32 → Arr F S200 .i32 → Arr F S200 .i32),
    StableHlo.ternary main_call0_case0b1_v99 main_call0_case0b1_v101 main_call0_case0b1_v85 main_call0_case0b1_v102 (select : Arr F S200 .i1 → Arr F S200 .i32 → Arr F S200 .i32 → Arr F S200 .i32),
    StableHlo.unary main_call0_case0b1_v97 main_call0_case0b1_v103 ((broadcastInDim S200x1 ![0] bcast_S200_S200x1_0) : Arr F S200 .i32 → Arr F S200x1 .i32),
    StableHlo.unary main_call0_case0b1_v102 main_call0_case0b1_v104 ((broadcastInDim S200x1 ![0] bcast_S200_S200x1_0) : Arr F S200 .i32 → Arr F S200x1 .i32),
    StableHlo.binary main_call0_case0b1_v103 main_call0_case0b1_v104 main_call0_case0b1_v105 ((fun a b => concatenate S200x2 1 [⟨S200x1, a⟩, ⟨S200x1, b⟩] concatenates_S200x1_S200x1_S200x2_d1) : Arr F S200x1 .i32 → Arr F S200x1 .i32 → Arr F S200x2 .i32),
    StableHlo.binary main_arg1 main_call0_case0b1_v105 main_call0_case0b1_v106 ((fun x i => Host.gather gather_S20000x21_S200x2_S200_n_01_n_n_01_1_11 x i) : Arr F S20000x21 .f32 → Arr F S200x2 .i32 → Arr F S200 .f32) ]

theorem sOutScoreOps_sub : (sOutScoreOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩

theorem sOutScoreOps_fresh : (sOutScoreOps : List (HloOp τ sig (Elt F))).Forall fun op => op.fresh = ∅ :=
  StableHlo.forall_fresh_of_map rfl

abbrev sOutScoreOps_W : List (Ref sig .tc) := [main_call0_case0b1_c_26, main_call0_case0b1_v93, main_call0_case0b1_v94, main_call0_case0b1_c_27, main_call0_case0b1_v95, main_call0_case0b1_v96, main_call0_case0b1_v97, main_call0_case0b1_c_28, main_call0_case0b1_v98, main_call0_case0b1_v99, main_call0_case0b1_c_29, main_call0_case0b1_v100, main_call0_case0b1_v101, main_call0_case0b1_v102, main_call0_case0b1_v103, main_call0_case0b1_v104, main_call0_case0b1_v105, main_call0_case0b1_v106]

theorem sOutScoreOps_writes : (sOutScoreOps : List (HloOp τ sig (Elt F))).Forall fun op => op.writes ⊆ (sOutScoreOps_W.map (Proc.devRef (τ := τ) .tc)).toFinset :=
  StableHlo.forall_writes_sub_of_map rfl

/-- The result's rows. -/
abbrev sOutOps : List (HloOp τ sig (Elt F)) :=
  [ StableHlo.unary main_call0_case0b1_v85 main_call0_case0b1_v107 ((sitofp .f32) : Arr F S200 .i32 → Arr F S200 .f32),
    StableHlo.unary main_call0_case0b1_v107 main_call0_case0b1_v108 ((broadcastInDim S200x1 ![0] bcast_S200_S200x1_0) : Arr F S200 .f32 → Arr F S200x1 .f32),
    StableHlo.unary main_call0_case0b1_v106 main_call0_case0b1_v109 ((broadcastInDim S200x1 ![0] bcast_S200_S200x1_0) : Arr F S200 .f32 → Arr F S200x1 .f32),
    StableHlo.nary ![main_call0_case0b1_v108, main_call0_case0b1_v109, main_call0_case0b1_v92] main_call0_case0b1_v110 (fun u => (concatenate S200x6 1 [⟨S200x1, (u 0 : Arr F S200x1 .f32)⟩, ⟨S200x1, (u 1 : Arr F S200x1 .f32)⟩, ⟨S200x4, (u 2 : Arr F S200x4 .f32)⟩] concatenates_S200x1_S200x1_S200x4_S200x6_d1 : Arr F S200x6 .f32)),
    StableHlo.unary main_call0_case0b1_v110 main_v0 (id : Arr F S200x6 .f32 → Arr F S200x6 .f32) ]

theorem sOutOps_sub : (sOutOps : List (HloOp τ sig (Elt F))).Forall fun op => op.bufs ⊆ StableHlo.tcRefs τ sig :=
  ⟨StableHlo.unary_bufs_sub .., StableHlo.unary_bufs_sub .., StableHlo.unary_bufs_sub .., StableHlo.nary_bufs_sub .., StableHlo.unary_bufs_sub ..⟩

theorem sOutOps_fresh : (sOutOps : List (HloOp τ sig (Elt F))).Forall fun op => op.fresh = ∅ :=
  StableHlo.forall_fresh_of_map rfl

abbrev sOutOps_W : List (Ref sig .tc) := [main_call0_case0b1_v107, main_call0_case0b1_v108, main_call0_case0b1_v109, main_call0_case0b1_v110, main_v0]

theorem sOutOps_writes : (sOutOps : List (HloOp τ sig (Elt F))).Forall fun op => op.writes ⊆ (sOutOps_W.map (Proc.devRef (τ := τ) .tc)).toFinset :=
  StableHlo.forall_writes_sub_of_map rfl

theorem mono {ls : List (HloOp τ sig (Elt F))} {S T : List (Ref sig .tc)}
    (h : ls.Forall fun op => op.writes ⊆ (S.map (Proc.devRef (τ := τ) .tc)).toFinset) (hST : S ⊆ T) :
    ls.Forall fun op => op.writes ⊆ (T.map (Proc.devRef (τ := τ) .tc)).toFinset :=
  List.forall_iff_forall_mem.mpr fun op hop b hb =>
    List.mem_toFinset.mpr (List.map_subset _ hST (List.mem_toFinset.mp (List.forall_iff_forall_mem.mp h op hop hb)))

/-- A property of every operation of every piece is one of every operation of the pieces put together. -/
theorem forall_flatten {P : HloOp τ sig (Elt F) → Prop} {ls : List (List (HloOp τ sig (Elt F)))} (h : ls.Forall fun l => l.Forall P) :
    ∀ op ∈ ls.flatten, P op := by
  intro op hop
  obtain ⟨l, hl, hop⟩ := List.mem_flatten.mp hop
  exact List.forall_iff_forall_mem.mp (List.forall_iff_forall_mem.mp h l hl) op hop

/-- Before the first region. -/
abbrev opsAs : List (List (HloOp τ sig (Elt F))) := [argOps]
/-- Before the first region. -/
abbrev opsA : List (HloOp τ sig (Elt F)) := opsAs.flatten

theorem opsA_sub : ∀ op ∈ (opsA : List (HloOp τ sig (Elt F))), op.bufs ⊆ StableHlo.tcRefs τ sig :=
  forall_flatten (ls := opsAs) argOps_sub

theorem opsA_fresh : ∀ op ∈ (opsA : List (HloOp τ sig (Elt F))), op.fresh = ∅ :=
  forall_flatten (ls := opsAs) argOps_fresh

abbrev opsA_W : List (Ref sig .tc) := [argOps_W].flatten

theorem opsA_writes : ∀ op ∈ (opsA : List (HloOp τ sig (Elt F))), op.writes ⊆ (opsA_W.map (Proc.devRef (τ := τ) .tc)).toFinset :=
  forall_flatten (ls := opsAs) (mono argOps_writes (by decide))

/-- Between the first two regions. -/
abbrev opsBs : List (List (HloOp τ sig (Elt F))) := [flatOps, priorOps, candOps, pickOps, countOps, clsOps, offOps, priOps, boxOps]
/-- Between the first two regions. -/
abbrev opsB : List (HloOp τ sig (Elt F)) := opsBs.flatten

theorem opsB_sub : ∀ op ∈ (opsB : List (HloOp τ sig (Elt F))), op.bufs ⊆ StableHlo.tcRefs τ sig :=
  forall_flatten (ls := opsBs) ⟨flatOps_sub, priorOps_sub, candOps_sub, pickOps_sub, countOps_sub, clsOps_sub, offOps_sub, priOps_sub, boxOps_sub⟩

theorem opsB_fresh : ∀ op ∈ (opsB : List (HloOp τ sig (Elt F))), op.fresh = ∅ :=
  forall_flatten (ls := opsBs) ⟨flatOps_fresh, priorOps_fresh, candOps_fresh, pickOps_fresh, countOps_fresh, clsOps_fresh, offOps_fresh, priOps_fresh, boxOps_fresh⟩

abbrev opsB_W : List (Ref sig .tc) := [flatOps_W, priorOps_W, candOps_W, pickOps_W, countOps_W, clsOps_W, offOps_W, priOps_W, boxOps_W].flatten

theorem opsB_writes : ∀ op ∈ (opsB : List (HloOp τ sig (Elt F))), op.writes ⊆ (opsB_W.map (Proc.devRef (τ := τ) .tc)).toFinset :=
  forall_flatten (ls := opsBs) ⟨mono flatOps_writes (by decide), mono priorOps_writes (by decide), mono candOps_writes (by decide), mono pickOps_writes (by decide), mono countOps_writes (by decide), mono clsOps_writes (by decide), mono offOps_writes (by decide), mono priOps_writes (by decide), mono boxOps_writes (by decide)⟩

/-- Between the second region and the branch. -/
abbrev opsCs : List (List (HloOp τ sig (Elt F))) := [enoughOps]
/-- Between the second region and the branch. -/
abbrev opsC : List (HloOp τ sig (Elt F)) := opsCs.flatten

theorem opsC_sub : ∀ op ∈ (opsC : List (HloOp τ sig (Elt F))), op.bufs ⊆ StableHlo.tcRefs τ sig :=
  forall_flatten (ls := opsCs) enoughOps_sub

theorem opsC_fresh : ∀ op ∈ (opsC : List (HloOp τ sig (Elt F))), op.fresh = ∅ :=
  forall_flatten (ls := opsCs) enoughOps_fresh

abbrev opsC_W : List (Ref sig .tc) := [enoughOps_W].flatten

theorem opsC_writes : ∀ op ∈ (opsC : List (HloOp τ sig (Elt F))), op.writes ⊆ (opsC_W.map (Proc.devRef (τ := τ) .tc)).toFinset :=
  forall_flatten (ls := opsCs) (mono enoughOps_writes (by decide))

/-- The long branch, before its region. -/
abbrev opsDs : List (List (HloOp τ sig (Elt F))) := [fTopOps, fClsOps, fOffOps, fPriOps, fBoxOps]
/-- The long branch, before its region. -/
abbrev opsD : List (HloOp τ sig (Elt F)) := opsDs.flatten

theorem opsD_sub : ∀ op ∈ (opsD : List (HloOp τ sig (Elt F))), op.bufs ⊆ StableHlo.tcRefs τ sig :=
  forall_flatten (ls := opsDs) ⟨fTopOps_sub, fClsOps_sub, fOffOps_sub, fPriOps_sub, fBoxOps_sub⟩

theorem opsD_fresh : ∀ op ∈ (opsD : List (HloOp τ sig (Elt F))), op.fresh = ∅ :=
  forall_flatten (ls := opsDs) ⟨fTopOps_fresh, fClsOps_fresh, fOffOps_fresh, fPriOps_fresh, fBoxOps_fresh⟩

abbrev opsD_W : List (Ref sig .tc) := [fTopOps_W, fClsOps_W, fOffOps_W, fPriOps_W, fBoxOps_W].flatten

theorem opsD_writes : ∀ op ∈ (opsD : List (HloOp τ sig (Elt F))), op.writes ⊆ (opsD_W.map (Proc.devRef (τ := τ) .tc)).toFinset :=
  forall_flatten (ls := opsDs) ⟨mono fTopOps_writes (by decide), mono fClsOps_writes (by decide), mono fOffOps_writes (by decide), mono fPriOps_writes (by decide), mono fBoxOps_writes (by decide)⟩

/-- The long branch, after its region. -/
abbrev opsEs : List (List (HloOp τ sig (Elt F))) := [fRankOps, fOrdOps, fOutPriOps, fOutClsOps, fOutBoxOps, fOutScoreOps, fOutOps]
/-- The long branch, after its region. -/
abbrev opsE : List (HloOp τ sig (Elt F)) := opsEs.flatten

theorem opsE_sub : ∀ op ∈ (opsE : List (HloOp τ sig (Elt F))), op.bufs ⊆ StableHlo.tcRefs τ sig :=
  forall_flatten (ls := opsEs) ⟨fRankOps_sub, fOrdOps_sub, fOutPriOps_sub, fOutClsOps_sub, fOutBoxOps_sub, fOutScoreOps_sub, fOutOps_sub⟩

theorem opsE_fresh : ∀ op ∈ (opsE : List (HloOp τ sig (Elt F))), op.fresh = ∅ :=
  forall_flatten (ls := opsEs) ⟨fRankOps_fresh, fOrdOps_fresh, fOutPriOps_fresh, fOutClsOps_fresh, fOutBoxOps_fresh, fOutScoreOps_fresh, fOutOps_fresh⟩

abbrev opsE_W : List (Ref sig .tc) := [fRankOps_W, fOrdOps_W, fOutPriOps_W, fOutClsOps_W, fOutBoxOps_W, fOutScoreOps_W, fOutOps_W].flatten

theorem opsE_writes : ∀ op ∈ (opsE : List (HloOp τ sig (Elt F))), op.writes ⊆ (opsE_W.map (Proc.devRef (τ := τ) .tc)).toFinset :=
  forall_flatten (ls := opsEs) ⟨mono fRankOps_writes (by decide), mono fOrdOps_writes (by decide), mono fOutPriOps_writes (by decide), mono fOutClsOps_writes (by decide), mono fOutBoxOps_writes (by decide), mono fOutScoreOps_writes (by decide), mono fOutOps_writes (by decide)⟩

/-- The short branch. -/
abbrev opsGs : List (List (HloOp τ sig (Elt F))) := [sRankOps, sOrdOps, sOutPriOps, sOutClsOps, sOutBoxOps, sOutScoreOps, sOutOps]
/-- The short branch. -/
abbrev opsG : List (HloOp τ sig (Elt F)) := opsGs.flatten

theorem opsG_sub : ∀ op ∈ (opsG : List (HloOp τ sig (Elt F))), op.bufs ⊆ StableHlo.tcRefs τ sig :=
  forall_flatten (ls := opsGs) ⟨sRankOps_sub, sOrdOps_sub, sOutPriOps_sub, sOutClsOps_sub, sOutBoxOps_sub, sOutScoreOps_sub, sOutOps_sub⟩

theorem opsG_fresh : ∀ op ∈ (opsG : List (HloOp τ sig (Elt F))), op.fresh = ∅ :=
  forall_flatten (ls := opsGs) ⟨sRankOps_fresh, sOrdOps_fresh, sOutPriOps_fresh, sOutClsOps_fresh, sOutBoxOps_fresh, sOutScoreOps_fresh, sOutOps_fresh⟩

abbrev opsG_W : List (Ref sig .tc) := [sRankOps_W, sOrdOps_W, sOutPriOps_W, sOutClsOps_W, sOutBoxOps_W, sOutScoreOps_W, sOutOps_W].flatten

theorem opsG_writes : ∀ op ∈ (opsG : List (HloOp τ sig (Elt F))), op.writes ⊆ (opsG_W.map (Proc.devRef (τ := τ) .tc)).toFinset :=
  forall_flatten (ls := opsGs) ⟨mono sRankOps_writes (by decide), mono sOrdOps_writes (by decide), mono sOutPriOps_writes (by decide), mono sOutClsOps_writes (by decide), mono sOutBoxOps_writes (by decide), mono sOutScoreOps_writes (by decide), mono sOutOps_writes (by decide)⟩

end Cert.Proof.PI

end
-- ==== Proof.PI.Chain.lean ====
/-
  @main as a chain of items: stretches of host operations, the kernel calls, and the branch on the read word.
-/
module

public import proofs.«01_k».proof.Proof.PI.Ops

@[expose] public section

set_option maxRecDepth 65536

noncomputable section

namespace Cert.Proof.PI

open Cert.KernelIdeal Cert.KernelIdeal.Gen
open Idealize.ShloMosaic
open Idealize.ShloMosaic.TcCoe
open Idealize.SL.Sem

variable {F : FTy → Type} [FloatOps F]

/-- @main's labels. -/
abbrev Lbl (F : FTy → Type) [FloatOps F] : Labels := Pipeline.Sig (Λ₀ F) (Fin 3) fun p => (pcfgs (F := F) p).Adm

/-- The read: whether the short list is enough, as the word the branch takes. -/
abbrev rdOp : HloOp τ sig (Elt F) :=
  StableHlo.unary main_call0_v71 main_call0_v72 ((extui 32 · natLt_1_32) : Arr F S_ .i1 → Arr F S_ .i32)

/-- @main's statements up to the class offsets, as a chain of items ending in the offsets' first operation. -/
theorem part0_chain : fn_detect.body_part0 (F := F) (.of main_arg0) (.of main_arg1) (.of main_arg2) main_call0 = Pipeline.chainK [StableHlo.seq argOps,
    Prog.lift (.customCall (Pipeline.entry (0 : Fin 3)) ()),
    StableHlo.seq flatOps, StableHlo.seq priorOps, StableHlo.seq candOps, StableHlo.seq pickOps, StableHlo.seq countOps, StableHlo.seq clsOps] (StableHlo.seq (offOps.take 1)) := by
  rewrite [StableHlo.chainK_seq_cons, Pipeline.chainK_cons, StableHlo.chainK_seq_cons, StableHlo.chainK_seq_cons, StableHlo.chainK_seq_cons, StableHlo.chainK_seq_cons, StableHlo.chainK_seq_cons, StableHlo.chainK_seq_cons]
  chain_rfl

/-- The rest of @main's statements. -/
theorem part1_chain : fn_detect.body_part1 (F := F) (.of main_arg0) (.of main_arg1) (.of main_arg2) main_call0 = Pipeline.chain [StableHlo.seq (offOps.drop 1),
    StableHlo.seq priOps, StableHlo.seq boxOps,
    Prog.lift (.customCall (Pipeline.entry (1 : Fin 3)) ()),
    StableHlo.seq enoughOps,
    hlo rfl (rdOp (F := F)) (HostLoop.elt main_call0_v72) >>= fun x => HostLoop.case 2 x fun
      | 0 => Pipeline.chain [StableHlo.seq fTopOps, StableHlo.seq fClsOps, StableHlo.seq fOffOps, StableHlo.seq fPriOps, StableHlo.seq fBoxOps,
        Prog.lift (.customCall (Pipeline.entry (2 : Fin 3)) ()),
        StableHlo.seq fRankOps, StableHlo.seq fOrdOps, StableHlo.seq fOutPriOps, StableHlo.seq fOutClsOps, StableHlo.seq fOutBoxOps, StableHlo.seq fOutScoreOps, StableHlo.seq fOutOps]
      | 1 => Pipeline.chain [StableHlo.seq sRankOps, StableHlo.seq sOrdOps, StableHlo.seq sOutPriOps, StableHlo.seq sOutClsOps, StableHlo.seq sOutBoxOps, StableHlo.seq sOutScoreOps, StableHlo.seq sOutOps]
      | ⟨_ + 2, h⟩ => absurd h (Nat.not_lt.2 (Nat.le_add_left _ _))] := by
  repeat rewrite [StableHlo.chain_seq_cons]
  rewrite [Pipeline.chain_cons]
  repeat rewrite [StableHlo.chain_seq_cons]
  rewrite [Pipeline.chain_cons]
  repeat rewrite [StableHlo.chain_seq_cons]
  rewrite [Pipeline.chain_cons]
  repeat rewrite [StableHlo.chain_seq_cons]
  chain_rfl

/-- The branches over whole stretches: the long list's selection around its suppression call, and the short list's. -/
def arms : Fin 2 → Prog (TpuEff nD τ sig (Elt F) (Lbl F) .tc) PUnit
  | 0 => Pipeline.chain [StableHlo.seq opsD, Prog.lift (.customCall (Pipeline.entry (2 : Fin 3)) ()), StableHlo.seq opsE]
  | 1 => Pipeline.chain [StableHlo.seq opsG]
  | ⟨_ + 2, h⟩ => absurd h (Nat.not_lt.2 (Nat.le_add_left _ _))

/-- The pieces of @main's stretches, with the piece the statement boundary cuts given as its two parts. -/
abbrev mainGroups : List (StableHlo.Group nD τ sig (Elt F) (Lbl F)) :=
  [.ops [argOps], .prog (Prog.lift (.customCall (Pipeline.entry (0 : Fin 3)) ())),
    .ops [flatOps, priorOps, candOps, pickOps, countOps, clsOps, offOps.take 1, offOps.drop 1, priOps, boxOps],
    .prog (Prog.lift (.customCall (Pipeline.entry (1 : Fin 3)) ())), .ops [enoughOps],
    .prog (hlo rfl (rdOp (F := F)) (HostLoop.elt main_call0_v72) >>= fun x => HostLoop.case 2 x arms)]

/-- @main is the chain of its items. -/
theorem main_chain (c : Dev nD) : main (F := F) c = Pipeline.chain [StableHlo.seq opsA,
    Prog.lift (.customCall (Pipeline.entry (0 : Fin 3)) ()), StableHlo.seq opsB,
    Prog.lift (.customCall (Pipeline.entry (1 : Fin 3)) ()), StableHlo.seq opsC,
    hlo rfl (rdOp (F := F)) (HostLoop.elt main_call0_v72) >>= fun x => HostLoop.case 2 x arms] := by
  refine Eq.trans ?_ (StableHlo.chain_cut_eq_whole (mainGroups (F := F)))
  show ((fn_detect.body_part0 (F := F) (.of main_arg0) (.of main_arg1) (.of main_arg2) main_call0 >>= fun _ =>
    fn_detect.body_part1 (F := F) (.of main_arg0) (.of main_arg1) (.of main_arg2) main_call0) >>= fun _ => pure PUnit.unit) = _
  rewrite [part0_chain, part1_chain, Pipeline.chainK_bind_chain]
  have harms : (fun
      | 0 => Pipeline.chain [StableHlo.seq fTopOps, StableHlo.seq fClsOps, StableHlo.seq fOffOps, StableHlo.seq fPriOps, StableHlo.seq fBoxOps,
        Prog.lift (.customCall (Pipeline.entry (2 : Fin 3)) ()),
        StableHlo.seq fRankOps, StableHlo.seq fOrdOps, StableHlo.seq fOutPriOps, StableHlo.seq fOutClsOps, StableHlo.seq fOutBoxOps, StableHlo.seq fOutScoreOps, StableHlo.seq fOutOps]
      | 1 => Pipeline.chain [StableHlo.seq sRankOps, StableHlo.seq sOrdOps, StableHlo.seq sOutPriOps, StableHlo.seq sOutClsOps, StableHlo.seq sOutBoxOps, StableHlo.seq sOutScoreOps, StableHlo.seq sOutOps]
      | ⟨_ + 2, h⟩ => absurd h (Nat.not_lt.2 (Nat.le_add_left _ _)) : Fin 2 → Prog (TpuEff nD τ sig (Elt F) (Lbl F) .tc) PUnit) = arms := by
    funext b
    fin_cases b
    · exact StableHlo.chain_cut_eq_whole [.ops opsDs, .prog (Prog.lift (.customCall (Pipeline.entry (2 : Fin 3)) ())), .ops opsEs]
    · exact StableHlo.chain_cut_eq_whole [.ops opsGs]
  rewrite [harms]
  exact bind_pure _

end Cert.Proof.PI

end
-- ==== Proof.PI.Codes.lean ====
/-
  The two suppression kernels of the program as instances of the one written in `Proof/Nms`: what each computes
  (`code1` over 512 boxes, `code2` over 4096), and that each printed loop over blocks is that program's body.
-/
module

public import proofs.«01_k».proof.Proof.Nms.Prog
public import proofs.«01_k».proof.Proof.Gen.KernelIdeal
public import proofs.«01_k».proof.Proof.Gen.KernelIdeal.Skeleton

@[expose] public section

set_option maxRecDepth 65536

noncomputable section

namespace Cert.Proof.PI

open Cert.KernelIdeal Cert.KernelIdeal.Gen Cert.Proof.Nms
open Idealize.ShloMosaic Idealize.SL.Sem

variable {F : FTy → Type} [FloatOps F]

/-- The lanes' numbers, which the scan compares with the trip's. -/
abbrev lanes : IVec S1x128 32 := iota .tc S1x128 32 [1] iota_S1x128_d1_w32

def code1 : Code F 512 where
  nb := 4#32
  chk := k1_chk1
  dec := k1_chk1.dec
  oR := ![k1_off1, k1_off2, k1_off3, k1_off4]
  iR := forall4 k1_off1_inb k1_off2_inb k1_off3_inb k1_off4_inb
  oC := ![k1_off5, k1_off6, k1_off7, k1_off8]
  iC := forall4 k1_off5_inb k1_off6_inb k1_off7_inb k1_off8_inb
  oK := k1_off9
  iK := k1_off9_inb
  L1 := k1_t1_loop
  ok1 := k1_t1_ok
  oS := k1_off10
  iS := k1_off10_inb
  L2 := k1_t2_loop
  ok2 := k1_t2_ok
  oX := ![k1_off11, k1_off12, k1_off13, k1_off14]
  iX := forall4 k1_off11_inb k1_off12_inb k1_off13_inb k1_off14_inb
  oY := k1_off15
  iY := k1_off15_inb
  L3 := k1_t3_loop
  ok3 := k1_t3_ok
  oX' := ![k1_off16, k1_off17, k1_off18, k1_off19]
  iX' := forall4 k1_off16_inb k1_off17_inb k1_off18_inb k1_off19_inb
  oY' := k1_off20
  iY' := k1_off20_inb
  tile r0 r1 r2 r3 c0 c1 c2 c3 := k1_pay19 (k1_pay11 r0 r1 r2 r3) (k1_pay16 c0 c1 c2 c3) (k1_pay17 r0 r2 c0 c2) (k1_pay18 r1 r3 c1 c3)
    (Scalar.ofBits .f32 0x00000000#32)
  start := k1_pay20
  scan := k1_pay21 lanes
  chunk r0 r1 r2 r3 kb c0 c1 c2 c3 u := k1_pay2 kb (k1_pay5 (k1_pay7 r0) (k1_pay8 r1) (k1_pay9 r2) (k1_pay10 r3) (k1_pay11 r0 r1 r2 r3) c0 c1 c2 c3)
    (Scalar.ofBits .f32 0x3F800000#32) (Scalar.ofBits .f32 0x00000000#32) u
  chunk' r0 r1 r2 r3 kb c0 c1 c2 c3 u := k1_pay3 kb (k1_pay6 (k1_pay7 r0) (k1_pay8 r1) (k1_pay9 r2) (k1_pay10 r3) (k1_pay11 r0 r1 r2 r3) c0 c1 c2 c3)
    (Scalar.ofBits .f32 0x3F800000#32) (Scalar.ofBits .f32 0x00000000#32) u
  cnt kb := Scalar.fptosi 32 (k1_pay4 kb)

def code2 : Code F 4096 where
  nb := 32#32
  chk := k2_chk1
  dec := k2_chk1.dec
  oR := ![k2_off1, k2_off2, k2_off3, k2_off4]
  iR := forall4 k2_off1_inb k2_off2_inb k2_off3_inb k2_off4_inb
  oC := ![k2_off5, k2_off6, k2_off7, k2_off8]
  iC := forall4 k2_off5_inb k2_off6_inb k2_off7_inb k2_off8_inb
  oK := k2_off9
  iK := k2_off9_inb
  L1 := k2_t1_loop
  ok1 := k2_t1_ok
  oS := k2_off10
  iS := k2_off10_inb
  L2 := k2_t2_loop
  ok2 := k2_t2_ok
  oX := ![k2_off11, k2_off12, k2_off13, k2_off14]
  iX := forall4 k2_off11_inb k2_off12_inb k2_off13_inb k2_off14_inb
  oY := k2_off15
  iY := k2_off15_inb
  L3 := k2_t3_loop
  ok3 := k2_t3_ok
  oX' := ![k2_off16, k2_off17, k2_off18, k2_off19]
  iX' := forall4 k2_off16_inb k2_off17_inb k2_off18_inb k2_off19_inb
  oY' := k2_off20
  iY' := k2_off20_inb
  tile := (code1 (F := F)).tile
  start := (code1 (F := F)).start
  scan := (code1 (F := F)).scan
  chunk := (code1 (F := F)).chunk
  chunk' := (code1 (F := F)).chunk'
  cnt := (code1 (F := F)).cnt

section

variable (m1 : Memref sig .tc .vmem S512x4 .f32) (h1 : m1.IsWhole) (m0 : Memref sig .tc .vmem S4x512 .f32) (h0 : m0.IsWhole)
  (m3 : Memref sig .tc .vmem S128x128 .f32) (h3 : m3.IsWhole) (m2 : Memref sig .tc .vmem S1x512 .f32) (h2 : m2.IsWhole)
  (m4 : Memref sig .tc .vmem S1x128 .f32) (h4 : m4.IsWhole)

theorem while1_eq (w k : BitVec 32) :
    cc1_while1 (F := F) m1 h1 m0 h0 m3 h3 m2 h2 m4 h4 lanes w k
      = body code1 m1 m0 m3 m2 m4 (fun w k => Prog.lift (.call (3 : (Λ₀ F).Label) ⟨m1, h1, m0, h0, m3, h3, m2, h2, m4, h4, lanes, w, k⟩)) w k := by
  simp only [cc1_while1_eq_skeleton]
  unfold cc1_while1_skel body
  by_cases hc : Scalar.andi (Scalar.cmpi .slt w 4#32) (Scalar.cmpi .slt k 200#32) = 1#1
  · rw [if_pos hc, if_pos (show Scalar.andi (Scalar.cmpi .slt w (code1 (F := F)).nb) (Scalar.cmpi .slt k 200#32) = 1#1 from hc)]
    simp only [k1_part1_eq_skeleton, k1_part2_eq_skeleton, k1_part3_eq_skeleton, k1_part4_eq_skeleton]
    unfold k1_part1_skel k1_part2_skel k1_part3_skel k1_part4_skel
    simp only [Prog.lift, Prog.bind_op, Prog.bind_ret, Prog.pure_eq_ret, Prog.bind_assoc]
    rfl
  · rw [if_neg hc, if_neg (show ¬ Scalar.andi (Scalar.cmpi .slt w (code1 (F := F)).nb) (Scalar.cmpi .slt k 200#32) = 1#1 from hc)]

end

section

variable (m1 : Memref sig .tc .vmem S4096x4 .f32) (h1 : m1.IsWhole) (m0 : Memref sig .tc .vmem S4x4096 .f32) (h0 : m0.IsWhole)
  (m3 : Memref sig .tc .vmem S128x128 .f32) (h3 : m3.IsWhole) (m2 : Memref sig .tc .vmem S1x4096 .f32) (h2 : m2.IsWhole)
  (m4 : Memref sig .tc .vmem S1x128 .f32) (h4 : m4.IsWhole)

theorem while2_eq (w k : BitVec 32) :
    cc2_while1 (F := F) m1 h1 m0 h0 m3 h3 m2 h2 m4 h4 lanes w k
      = body code2 m1 m0 m3 m2 m4 (fun w k => Prog.lift (.call (4 : (Λ₀ F).Label) ⟨m1, h1, m0, h0, m3, h3, m2, h2, m4, h4, lanes, w, k⟩)) w k := by
  simp only [cc2_while1_eq_skeleton]
  unfold cc2_while1_skel body
  by_cases hc : Scalar.andi (Scalar.cmpi .slt w 32#32) (Scalar.cmpi .slt k 200#32) = 1#1
  · rw [if_pos hc, if_pos (show Scalar.andi (Scalar.cmpi .slt w (code2 (F := F)).nb) (Scalar.cmpi .slt k 200#32) = 1#1 from hc)]
    simp only [k2_part1_eq_skeleton, k2_part2_eq_skeleton, k2_part3_eq_skeleton, k2_part4_eq_skeleton]
    unfold k2_part1_skel k2_part2_skel k2_part3_skel k2_part4_skel
    simp only [Prog.lift, Prog.bind_op, Prog.bind_ret, Prog.pure_eq_ret, Prog.bind_assoc]
    rfl
  · rw [if_neg hc, if_neg (show ¬ Scalar.andi (Scalar.cmpi .slt w (code2 (F := F)).nb) (Scalar.cmpi .slt k 200#32) = 1#1 from hc)]

end

end Cert.Proof.PI

end
-- ==== Proof.PI.Kernels.lean ====
/-
  The two suppression kernels' bodies: each sets every flag, then runs the loop over blocks.
-/
module

public import proofs.«01_k».proof.Proof.Nms.Triple
public import proofs.«01_k».proof.Proof.PI.Codes

@[expose] public section

set_option maxRecDepth 65536

noncomputable section

namespace Cert.Proof.PI

open Cert.KernelIdeal Cert.KernelIdeal.Gen Cert.Proof.Nms
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-- The variants: the naturals, the blocks still to run. -/
abbrev 𝒱₀ : Variants := Variants.nat

/-- The blocks' numbers meet their side conditions, and the last loop of a block makes no trip. -/
theorem chk1 : ∀ j < 4, (code1 (F := F)).chk (BitVec.ofNat 32 j) := show ∀ j < 4, k1_chk1 (BitVec.ofNat 32 j) by decide
theorem rest1 : ∀ j < 4, ((code1 (F := F)).L3 (BitVec.ofNat 32 j)).trips = 0 := show ∀ j < 4, (k1_t3_loop (BitVec.ofNat 32 j)).trips = 0 by decide
theorem chk2 : ∀ j < 32, (code2 (F := F)).chk (BitVec.ofNat 32 j) := show ∀ j < 32, k2_chk1 (BitVec.ofNat 32 j) by decide +kernel
theorem rest2 : ∀ j < 32, ((code2 (F := F)).L3 (BitVec.ofNat 32 j)).trips = 0 := show ∀ j < 32, (k2_t3_loop (BitVec.ofNat 32 j)).trips = 0 by decide +kernel

/-- Every flag set. -/
abbrev ones1 : Vec F S1x512 .f32 := k1_pay1 (F := F)
abbrev ones2 : Vec F S1x4096 .f32 := k2_pay1 (F := F)

/-- The flags the kernels leave. -/
def flags1 (B : Vec F S4x512 .f32) (R : Vec F S512x4 .f32) : Vec F S1x512 .f32 := runK code1 B R 4 (BitVec.ofNat 32 0) 0#32 ones1
def flags2 (B : Vec F S4x4096 .f32) (R : Vec F S4096x4 .f32) : Vec F S1x4096 .f32 := runK code2 B R 32 (BitVec.ofNat 32 0) 0#32 ones2

theorem flags1_eq (B : Vec F S4x512 .f32) (R : Vec F S512x4 .f32) : runK code1 B R 4 (BitVec.ofNat 32 0) 0#32 ones1 = flags1 B R := rfl
theorem flags2_eq (B : Vec F S4x4096 .f32) (R : Vec F S4096x4 .f32) : runK code2 B R 32 (BitVec.ofNat 32 0) 0#32 ones2 = flags2 B R := rfl

section

variable (c : Dev nD) (E : Set ℕ)
  (m1 : Memref sig .tc .vmem S512x4 .f32) (h1 : m1.IsWhole) (m0 : Memref sig .tc .vmem S4x512 .f32) (h0 : m0.IsWhole)
  (m3 : Memref sig .tc .vmem S128x128 .f32) (h3 : m3.IsWhole) (m2 : Memref sig .tc .vmem S1x512 .f32) (h2 : m2.IsWhole)
  (m4 : Memref sig .tc .vmem S1x128 .f32) (h4 : m4.IsWhole)

/-- The kernel over 512 boxes leaves the flags `flags1`. -/
theorem kernel1_sound (B : Vec F S4x512 .f32) (R : Vec F S512x4 .f32) (K : Vec F S1x512 .f32) (Q : PUnit → sProp 𝕄) :
    iprop(bufs c m1 m0 m3 m2 m4 B R K ∗ (bufs c m1 m0 m3 m2 m4 B R (flags1 B R) -∗ Q ⟨⟩))
      ⊢ wp frame (wpE (defs₀ (F := F)) 𝒱₀ (c : Thread nD τ) none) E (cc1__nms_kernel (F := F) m0 h0 m1 h1 m2 h2 m3 h3 m4 h4) Q := by
  simp only [cc1__nms_kernel_eq_skeleton]
  unfold cc1__nms_kernel_skel
  have hcall : ∀ (i : ℕ) (bd : Option 𝒱₀.V) (_ : ∀ u ∈ bd, 𝒱₀.lt (id i) u) (w k : BitVec 32) (Q : BitVec 32 × BitVec 32 → sProp 𝕄),
      wp frame (wpE (defs₀ (F := F)) 𝒱₀ (c : Thread nD τ) (some (id i))) E
          (body code1 m1 m0 m3 m2 m4 (fun w k => Prog.lift (.call (3 : (Λ₀ F).Label) ⟨m1, h1, m0, h0, m3, h3, m2, h2, m4, h4, lanes, w, k⟩)) w k) Q
        ⊢ wp frame (wpE (defs₀ (F := F)) 𝒱₀ (c : Thread nD τ) bd) E
          (Prog.lift (.call (3 : (Λ₀ F).Label) ⟨m1, h1, m0, h0, m3, h3, m2, h2, m4, h4, lanes, w, k⟩)) Q := by
    intro i bd hv w k Q
    rw [← while1_eq]
    refine BIBase.Entails.trans ?_ (wp_call 𝒱₀ (c : Thread nD τ) bd E i hv)
    refine wp_mono frame _ _ fun r => ?_
    rw [wp_ret]
    exact BI.fupd_intro
  have hl := loop_sound code1 c E m1 m0 m3 m2 m4 B R
    (fun w k => Prog.lift (.call (3 : (Λ₀ F).Label) ⟨m1, h1, m0, h0, m3, h3, m2, h2, m4, h4, lanes, w, k⟩))
    𝒱₀ id 4 (by decide) rfl chk1 rest1 hcall (fun i => Nat.lt_succ_self i) (fun _ => wp frame (wpE (defs₀ (F := F)) 𝒱₀ (c : Thread nD τ) none) E (.ret ⟨⟩) Q) 4 0 rfl none (fun u hu => nomatch hu) 0#32 ones1
  rw [flags1_eq] at hl
  generalize hfl : flags1 B R = fl at hl ⊢
  simp only [Prog.lift, Prog.bind_op, Prog.bind_ret, Prog.pure_eq_ret] at hl ⊢
  unfold bufs at hl ⊢
  iintro ⟨⟨HB, HR, HK, HS, HV⟩, Hk⟩
  iapply (wp_load_owns 𝒱₀ (c := (c : Thread nD τ)) none E (m := m2)) $$ HK; iintro HK
  iapply (wp_store_owns 𝒱₀ (c := (c : Thread nD τ)) none E (m := m2)) $$ HK; iintro HK
  rw [overlay_row]
  iapply (wp_op_bind _ _ _)
  iapply hl
  isplitl [HB HR HK HS HV]
  · isplitl [HB]; · iexact HB
    isplitl [HR]; · iexact HR
    isplitl [HK]; · iexact HK
    isplitl [HS]; · iexact HS
    iexact HV
  iintro %r H
  rw [wp_ret]; imodintro
  iapply Hk
  iexact H

end

section

variable (c : Dev nD) (E : Set ℕ)
  (m1 : Memref sig .tc .vmem S4096x4 .f32) (h1 : m1.IsWhole) (m0 : Memref sig .tc .vmem S4x4096 .f32) (h0 : m0.IsWhole)
  (m3 : Memref sig .tc .vmem S128x128 .f32) (h3 : m3.IsWhole) (m2 : Memref sig .tc .vmem S1x4096 .f32) (h2 : m2.IsWhole)
  (m4 : Memref sig .tc .vmem S1x128 .f32) (h4 : m4.IsWhole)

/-- The kernel over 4096 boxes leaves the flags `flags2`. -/
theorem kernel2_sound (B : Vec F S4x4096 .f32) (R : Vec F S4096x4 .f32) (K : Vec F S1x4096 .f32) (Q : PUnit → sProp 𝕄) :
    iprop(bufs c m1 m0 m3 m2 m4 B R K ∗ (bufs c m1 m0 m3 m2 m4 B R (flags2 B R) -∗ Q ⟨⟩))
      ⊢ wp frame (wpE (defs₀ (F := F)) 𝒱₀ (c : Thread nD τ) none) E (cc2__nms_kernel (F := F) m0 h0 m1 h1 m2 h2 m3 h3 m4 h4) Q := by
  simp only [cc2__nms_kernel_eq_skeleton]
  unfold cc2__nms_kernel_skel
  have hcall : ∀ (i : ℕ) (bd : Option 𝒱₀.V) (_ : ∀ u ∈ bd, 𝒱₀.lt (id i) u) (w k : BitVec 32) (Q : BitVec 32 × BitVec 32 → sProp 𝕄),
      wp frame (wpE (defs₀ (F := F)) 𝒱₀ (c : Thread nD τ) (some (id i))) E
          (body code2 m1 m0 m3 m2 m4 (fun w k => Prog.lift (.call (4 : (Λ₀ F).Label) ⟨m1, h1, m0, h0, m3, h3, m2, h2, m4, h4, lanes, w, k⟩)) w k) Q
        ⊢ wp frame (wpE (defs₀ (F := F)) 𝒱₀ (c : Thread nD τ) bd) E
          (Prog.lift (.call (4 : (Λ₀ F).Label) ⟨m1, h1, m0, h0, m3, h3, m2, h2, m4, h4, lanes, w, k⟩)) Q := by
    intro i bd hv w k Q
    rw [← while2_eq]
    refine BIBase.Entails.trans ?_ (wp_call 𝒱₀ (c : Thread nD τ) bd E i hv)
    refine wp_mono frame _ _ fun r => ?_
    rw [wp_ret]
    exact BI.fupd_intro
  have hl := loop_sound code2 c E m1 m0 m3 m2 m4 B R
    (fun w k => Prog.lift (.call (4 : (Λ₀ F).Label) ⟨m1, h1, m0, h0, m3, h3, m2, h2, m4, h4, lanes, w, k⟩))
    𝒱₀ id 32 (by decide) rfl chk2 rest2 hcall (fun i => Nat.lt_succ_self i) (fun _ => wp frame (wpE (defs₀ (F := F)) 𝒱₀ (c : Thread nD τ) none) E (.ret ⟨⟩) Q) 32 0 rfl none (fun u hu => nomatch hu) 0#32 ones2
  rw [flags2_eq] at hl
  generalize hfl : flags2 B R = fl at hl ⊢
  simp only [Prog.lift, Prog.bind_op, Prog.bind_ret, Prog.pure_eq_ret] at hl ⊢
  unfold bufs at hl ⊢
  iintro ⟨⟨HB, HR, HK, HS, HV⟩, Hk⟩
  iapply (wp_load_owns 𝒱₀ (c := (c : Thread nD τ)) none E (m := m2)) $$ HK; iintro HK
  iapply (wp_store_owns 𝒱₀ (c := (c : Thread nD τ)) none E (m := m2)) $$ HK; iintro HK
  rw [overlay_row]
  iapply (wp_op_bind _ _ _)
  iapply hl
  isplitl [HB HR HK HS HV]
  · isplitl [HB]; · iexact HB
    isplitl [HR]; · iexact HR
    isplitl [HK]; · iexact HK
    isplitl [HS]; · iexact HS
    iexact HV
  iintro %r H
  rw [wp_ret]; imodintro
  iapply Hk
  iexact H

end

end Cert.Proof.PI

end
-- ==== Proof.PI.Prep.lean ====
/-
  The decoding kernel's body: boxes from locations and priors, scores thresholded, the best score of every prior,
  and the greatest corner of the boxes some score of which passes.
-/
module

public import proofs.«01_k».proof.Proof.Nms.Owns
public import proofs.«01_k».proof.Proof.PI.Kernels
public import Idealize.ShloMosaic.Lib.ValueIdxCore

@[expose] public section

set_option maxRecDepth 65536

noncomputable section

namespace Cert.Proof.PI

open Cert.KernelIdeal Cert.KernelIdeal.Gen Cert.Proof.Nms
open Idealize.ShloMosaic
open Idealize.ShloMosaic.ValueIdx (ix2)
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-- Row `k` of four rows. -/
abbrev rowRect (k : Fin 4) : Rect S4x20000 :=
  Rect.unit (s := S4x20000) ![(k : ℕ), 0] S1x20000.size fun a => by fin_cases a <;> fin_cases k <;> decide

theorem rowRect_emb (k : Fin 4) (i : S1x20000.Idx) : (rowRect k).emb i = (ix2 k (i 1) : S4x20000.Idx) := by
  funext a; apply Fin.ext
  have h0 : (i 0).1 = 0 := Nat.lt_one_iff.mp (i 0).2
  fin_cases a
  · show (k : ℕ) + 1 * (i 0).1 = _; rw [h0]; rfl
  · show 0 + 1 * (i 1).1 = _; rw [Nat.zero_add, Nat.one_mul]

/-- Four rows one under another. -/
def stack4 (w : Fin 4 → Vec F S1x20000 .f32) : Vec F S4x20000 .f32 := fun j => w (j 0) (ix2 0 (j 1))

/-- A row stored. -/
theorem overlay_rowRect (k : Fin 4) (X : Vec F S4x20000 .f32) (w : Vec F S1x20000 .f32) (j : S4x20000.Idx) :
    (rowRect k).overlay X w j = if (j 0).val = k.val then w (ix2 0 (j 1)) else X j := by
  by_cases h : (j 0).val = k.val
  · rw [if_pos h]
    have hj : (rowRect k).emb (ix2 0 (j 1) : S1x20000.Idx) = j := by
      rw [rowRect_emb]; funext a; fin_cases a
      · exact Fin.ext h.symm
      · rfl
    conv_lhs => rw [← hj]
    rw [Rect.overlay_emb]
  · rw [if_neg h, Rect.overlay_of_not_mem]
    intro hm
    obtain ⟨i, hi⟩ := (rowRect k).exists_idx_of_mem hm
    have hj := (rowRect_emb k i).symm.trans hi
    exact h (by rw [← hj])

/-- Every row stored: nothing is left of what was there. -/
theorem overlay_rows (X : Vec F S4x20000 .f32) (w : Fin 4 → Vec F S1x20000 .f32) :
    (rowRect 3).overlay ((rowRect 2).overlay ((rowRect 1).overlay ((rowRect 0).overlay X (w 0)) (w 1)) (w 2)) (w 3) = stack4 w := by
  funext j
  rw [overlay_rowRect, overlay_rowRect, overlay_rowRect, overlay_rowRect]
  obtain ⟨k, hk⟩ : ∃ k : Fin 4, (j 0 : Fin 4) = k := ⟨j 0, rfl⟩
  unfold stack4
  rw [hk]
  fin_cases k <;> rfl

/-- Row `k` of four rows, alone. -/
abbrev rowOf (X : Vec F S4x20000 .f32) (k : Fin 4) : Vec F S1x20000 .f32 := part (rowRect k) X

/-- The twenty rows of scores after the background's. -/
abbrev classes (S : Vec F S21x20000 .f32) : Vec F S20x20000 .f32 :=
  part (Rect.unit (s := S21x20000) ![1, 0] S20x20000.size inb_S21x20000_S20x20000_1_0) S

/-- The widths, the heights and the upper corners the kernel decodes. -/
abbrev decW (L P : Vec F S4x20000 .f32) : Vec F S1x20000 .f32 := k0_pay9 (rowOf L 2) (rowOf P 2)
abbrev decH (L P : Vec F S4x20000 .f32) : Vec F S1x20000 .f32 := k0_pay10 (rowOf L 3) (rowOf P 3)
abbrev decX (L P : Vec F S4x20000 .f32) : Vec F S1x20000 .f32 := k0_pay11 (rowOf L 0) (rowOf L 2) (rowOf P 0) (rowOf P 2)
abbrev decY (L P : Vec F S4x20000 .f32) : Vec F S1x20000 .f32 := k0_pay12 (rowOf L 1) (rowOf L 3) (rowOf P 1) (rowOf P 3)

/-- What the kernel leaves: the boxes' corners, the scores that pass, the best of each prior's, the greatest corner. -/
def prepBoxes (L P : Vec F S4x20000 .f32) : Vec F S4x20000 .f32 :=
  stack4 ![decX L P, decY L P, k0_pay1 (decW L P) (decX L P), k0_pay2 (decH L P) (decY L P)]
def prepScores (S : Vec F S21x20000 .f32) : Vec F S20x20000 .f32 := k0_pay4 (classes S)
def prepBest (S : Vec F S21x20000 .f32) : Vec F S1x20000 .f32 := k0_pay5 (classes S)
def prepCorner (L P : Vec F S4x20000 .f32) (S : Vec F S21x20000 .f32) : Vec F S1x1 .f32 :=
  k0_pay6 (decW L P) (decH L P) (decX L P) (decY L P) (classes S)

/-- A store over the whole of a two-axis array. -/
theorem overlay_whole {m n : ℕ} {α : Type} (h : ∀ a : Fin 2, (![0, 0] : Fin 2 → ℕ) a + (⟨2, ![m, n]⟩ : Shape).size a ≤ (⟨2, ![m, n]⟩ : Shape).size a)
    (X w : (⟨2, ![m, n]⟩ : Shape).Idx → α) :
    (Rect.unit (s := ⟨2, ![m, n]⟩) ![0, 0] (⟨2, ![m, n]⟩ : Shape).size h).overlay X w = w := by
  have he (i : (⟨2, ![m, n]⟩ : Shape).Idx) : (Rect.unit (s := ⟨2, ![m, n]⟩) ![0, 0] (⟨2, ![m, n]⟩ : Shape).size h).emb i = i := by
    funext a; apply Fin.ext; fin_cases a <;> exact (by show 0 + 1 * _ = _; omega)
  exact overlay_all _ X w w (fun j => by rw [← he j]; exact (Rect.unit (s := ⟨2, ![m, n]⟩) ![0, 0] (⟨2, ![m, n]⟩ : Shape).size h).idx_mem j) fun i => congrArg w (he i)

/-- The decoding kernel's buffers. -/
def pbufs (c : Dev nD) (m0 m1 : Memref sig .tc .vmem S4x20000 .f32) (m2 : Memref sig .tc .vmem S21x20000 .f32) (m3 : Memref sig .tc .vmem S4x20000 .f32)
    (m4 : Memref sig .tc .vmem S20x20000 .f32) (m5 : Memref sig .tc .vmem S1x20000 .f32) (m6 : Memref sig .tc .vmem S1x1 .f32)
    (L P : Vec F S4x20000 .f32) (S : Vec F S21x20000 .f32) (B : Vec F S4x20000 .f32) (C : Vec F S20x20000 .f32) (M : Vec F S1x20000 .f32) (G : Vec F S1x1 .f32) : sProp 𝕄 :=
  iprop(owns (c : Thread nD τ) m0 fullShare L ∗ owns (c : Thread nD τ) m1 fullShare P ∗ owns (c : Thread nD τ) m2 fullShare S
    ∗ owns (c : Thread nD τ) m3 fullShare B ∗ owns (c : Thread nD τ) m4 fullShare C ∗ owns (c : Thread nD τ) m5 fullShare M ∗ owns (c : Thread nD τ) m6 fullShare G)

/-- The decoding kernel, run. -/
theorem kernel0_sound (c : Dev nD) (E : Set ℕ) (m0 : Memref sig .tc .vmem S4x20000 .f32) (h0 : m0.IsWhole) (m1 : Memref sig .tc .vmem S4x20000 .f32) (h1 : m1.IsWhole)
    (m2 : Memref sig .tc .vmem S21x20000 .f32) (h2 : m2.IsWhole) (m3 : Memref sig .tc .vmem S4x20000 .f32) (h3 : m3.IsWhole)
    (m4 : Memref sig .tc .vmem S20x20000 .f32) (h4 : m4.IsWhole) (m5 : Memref sig .tc .vmem S1x20000 .f32) (h5 : m5.IsWhole)
    (m6 : Memref sig .tc .vmem S1x1 .f32) (h6 : m6.IsWhole)
    (L P : Vec F S4x20000 .f32) (S : Vec F S21x20000 .f32) (B : Vec F S4x20000 .f32) (C : Vec F S20x20000 .f32) (M : Vec F S1x20000 .f32) (G : Vec F S1x1 .f32)
    (Q : PUnit → sProp 𝕄) :
    iprop(pbufs c m0 m1 m2 m3 m4 m5 m6 L P S B C M G
        ∗ (pbufs c m0 m1 m2 m3 m4 m5 m6 L P S (prepBoxes L P) (prepScores S) (prepBest S) (prepCorner L P S) -∗ Q ⟨⟩))
      ⊢ wp frame (wpE (defs₀ (F := F)) 𝒱₀ (c : Thread nD τ) none) E (cc0__prep_kernel m0 h0 m1 h1 m2 h2 m3 h3 m4 h4 m5 h5 m6 h6) Q := by
  rw [cc0__prep_kernel_eq_skeleton]
  unfold cc0__prep_kernel_skel
  rw [k0_part1_eq_skeleton]
  unfold k0_part1_skel
  simp only [Prog.lift, Prog.bind_op, Prog.bind_ret, Prog.pure_eq_ret]
  unfold pbufs
  iintro ⟨⟨H0, H1, H2, H3, H4, H5, H6⟩, Hk⟩
  iapply (wp_load_owns 𝒱₀ (c := (c : Thread nD τ)) none E (m := m0)) $$ H0; iintro H0
  iapply (wp_load_owns 𝒱₀ (c := (c : Thread nD τ)) none E (m := m0)) $$ H0; iintro H0
  iapply (wp_load_owns 𝒱₀ (c := (c : Thread nD τ)) none E (m := m0)) $$ H0; iintro H0
  iapply (wp_load_owns 𝒱₀ (c := (c : Thread nD τ)) none E (m := m0)) $$ H0; iintro H0
  iapply (wp_load_owns 𝒱₀ (c := (c : Thread nD τ)) none E (m := m1)) $$ H1; iintro H1
  iapply (wp_load_owns 𝒱₀ (c := (c : Thread nD τ)) none E (m := m1)) $$ H1; iintro H1
  iapply (wp_load_owns 𝒱₀ (c := (c : Thread nD τ)) none E (m := m1)) $$ H1; iintro H1
  iapply (wp_load_owns 𝒱₀ (c := (c : Thread nD τ)) none E (m := m1)) $$ H1; iintro H1
  iapply (wp_load_owns 𝒱₀ (c := (c : Thread nD τ)) none E (m := m3)) $$ H3; iintro H3
  iapply (wp_store_owns 𝒱₀ (c := (c : Thread nD τ)) none E (m := m3)) $$ H3; iintro H3
  iapply (wp_load_owns 𝒱₀ (c := (c : Thread nD τ)) none E (m := m3)) $$ H3; iintro H3
  iapply (wp_store_owns 𝒱₀ (c := (c : Thread nD τ)) none E (m := m3)) $$ H3; iintro H3
  iapply (wp_load_owns 𝒱₀ (c := (c : Thread nD τ)) none E (m := m3)) $$ H3; iintro H3
  iapply (wp_store_owns 𝒱₀ (c := (c : Thread nD τ)) none E (m := m3)) $$ H3; iintro H3
  iapply (wp_load_owns 𝒱₀ (c := (c : Thread nD τ)) none E (m := m3)) $$ H3; iintro H3
  iapply (wp_store_owns 𝒱₀ (c := (c : Thread nD τ)) none E (m := m3)) $$ H3; iintro H3
  iapply (wp_load_owns 𝒱₀ (c := (c : Thread nD τ)) none E (m := m2)) $$ H2; iintro H2
  iapply (wp_load_owns 𝒱₀ (c := (c : Thread nD τ)) none E (m := m4)) $$ H4; iintro H4
  iapply (wp_store_owns 𝒱₀ (c := (c : Thread nD τ)) none E (m := m4)) $$ H4; iintro H4
  iapply (wp_load_owns 𝒱₀ (c := (c : Thread nD τ)) none E (m := m5)) $$ H5; iintro H5
  iapply (wp_store_owns 𝒱₀ (c := (c : Thread nD τ)) none E (m := m5)) $$ H5; iintro H5
  iapply (wp_load_owns 𝒱₀ (c := (c : Thread nD τ)) none E (m := m6)) $$ H6; iintro H6
  iapply (wp_store_owns 𝒱₀ (c := (c : Thread nD τ)) none E (m := m6)) $$ H6; iintro H6
  rw [wp_ret, overlay_whole, overlay_whole, overlay_whole]
  rw [show (prepBoxes L P) = (rowRect 3).overlay ((rowRect 2).overlay ((rowRect 1).overlay ((rowRect 0).overlay B (decX L P)) (decY L P))
    (k0_pay1 (decW L P) (decX L P))) (k0_pay2 (decH L P) (decY L P)) from
      (overlay_rows B ![decX L P, decY L P, k0_pay1 (decW L P) (decX L P), k0_pay2 (decH L P) (decY L P)]).symm]
  imodintro
  iapply Hk
  isplitl [H0]; · iexact H0
  isplitl [H1]; · iexact H1
  isplitl [H2]; · iexact H2
  isplitl [H3]; · iexact H3
  isplitl [H4]; · iexact H4
  isplitl [H5]; · iexact H5
  iexact H6

end Cert.Proof.PI

end
-- ==== Proof.PI.Regions.lean ====
/-
  The three pallas_calls as regions over "every unscoped buffer at a valuation": each takes its windows' arrays from
  the valuation, runs its kernel's body and leaves the valuation updated at its results.
-/
module

public import proofs.«01_k».proof.Proof.PI.Prep
public import proofs.«01_k».proof.Proof.Gen.KernelIdeal.Launch
public import Idealize.ShloMosaic.Lib.Pipeline.RegionsLoop
public import proofs.«01_k».proof.Proof.Gen.KernelIdeal.Points
public import Idealize.ShloMosaic.Lib.Pipeline.Value
public import Idealize.ShloMosaic.Lib.Pipeline.FrameTail
public import Idealize.ShloMosaic.Lib.Tactic

@[expose] public section

set_option maxRecDepth 65536

noncomputable section

namespace Cert.Proof.PI

open Cert.KernelIdeal Cert.KernelIdeal.Gen Cert.Proof.Nms
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local irreducible] prepBoxes prepScores prepBest prepCorner flags1 flags2

/-- The resource algebra: a copy of the pipeline's algebra for each of the three calls, and the transfers' counters. -/
abbrev UU : Type := IProdConst (Fin 3) (UR sig nD τ) × Counters

local notation "𝕄" => MT nD τ sig Unit (Elt F) ℕ UU ℕ

/-- The valuation a region is entered from, on every core. -/
abbrev Vals (F : FTy → Type) : Type := Dev nD → Valuation τ sig (Elt F)

variable (V : Vals F)

/-- What the calls read: locations, priors and scores; the boxes by corner and by box, twice. -/
abbrev locs (c : Dev nD) : Vec F S4x20000 .f32 := V c main_call0_v1
abbrev pris (c : Dev nD) : Vec F S4x20000 .f32 := V c main_call0_v2
abbrev scos (c : Dev nD) : Vec F S21x20000 .f32 := V c main_call0_v3
abbrev cols1 (c : Dev nD) : Vec F S4x512 .f32 := V c main_call0_v63
abbrev rows1 (c : Dev nD) : Vec F S512x4 .f32 := V c main_call0_v62
abbrev cols2 (c : Dev nD) : Vec F S4x4096 .f32 := V c main_call0_case0b0_v92
abbrev rows2 (c : Dev nD) : Vec F S4096x4 .f32 := V c main_call0_case0b0_v91

/-- The decoding call's proof data: what each window's staging buffer holds after the body. -/
def dat0 (c : Dev nD) : Dat τ (Elt F) Unit ℕ UU ℕ (cfg0 (F := F)) c where
  A w := V c (Pipeline.arrRef spec0 w)
  after w _ := match w with
    | ⟨0, _⟩ => locs V c
    | ⟨1, _⟩ => pris V c
    | ⟨2, _⟩ => scos V c
    | ⟨3, _⟩ => prepBoxes (locs V c) (pris V c)
    | ⟨4, _⟩ => prepScores (scos V c)
    | ⟨5, _⟩ => prepBest (scos V c)
    | ⟨6, _⟩ => prepCorner (locs V c) (pris V c) (scos V c)
  Φ _ := Pipeline.scopedRest (Ix := Unit) (Name := ℕ) (U := UU) (Lvl := ℕ) (Val := Elt F) spec0 c
  q _ := fullShare
  owed _ := 0

/-- The short suppression call's proof data. -/
def dat1 (c : Dev nD) : Dat τ (Elt F) Unit ℕ UU ℕ (cfg1 (F := F)) c where
  A w := V c (Pipeline.arrRef spec1 w)
  after w _ := match w with
    | ⟨0, _⟩ => cols1 V c
    | ⟨1, _⟩ => rows1 V c
    | ⟨2, _⟩ => flags1 (cols1 V c) (rows1 V c)
  Φ _ := Pipeline.scopedRest (Ix := Unit) (Name := ℕ) (U := UU) (Lvl := ℕ) (Val := Elt F) spec1 c
  q _ := fullShare
  owed _ := 0

/-- The long suppression call's proof data. -/
def dat2 (c : Dev nD) : Dat τ (Elt F) Unit ℕ UU ℕ (cfg2 (F := F)) c where
  A w := V c (Pipeline.arrRef spec2 w)
  after w _ := match w with
    | ⟨0, _⟩ => cols2 V c
    | ⟨1, _⟩ => rows2 V c
    | ⟨2, _⟩ => flags2 (cols2 V c) (rows2 V c)
  Φ _ := Pipeline.scopedRest (Ix := Unit) (Name := ℕ) (U := UU) (Lvl := ℕ) (Val := Elt F) spec2 c
  q _ := fullShare
  owed _ := 0

/-- A fetched window's buffer holds its block when the body runs. -/
theorem before0_0 (c : Dev nD) (d) : (dat0 V c).before 0 t0_0 d = locs V c := by
  unfold Dat.before
  refine (if_pos (fetch0_0 (F := F) t0_0)).trans (funext fun j => ?_)
  exact congrArg (locs V c) (funext fun a => Fin.ext (Window.rect_emb_val_of_index_zero ((cfg0 (F := F)).win 0) t0_0 a rfl j))
theorem before0_1 (c : Dev nD) (d) : (dat0 V c).before 1 t0_0 d = pris V c := by
  unfold Dat.before
  refine (if_pos (fetch0_1 (F := F) t0_0)).trans (funext fun j => ?_)
  exact congrArg (pris V c) (funext fun a => Fin.ext (Window.rect_emb_val_of_index_zero ((cfg0 (F := F)).win 1) t0_0 a rfl j))
theorem before0_2 (c : Dev nD) (d) : (dat0 V c).before 2 t0_0 d = scos V c := by
  unfold Dat.before
  refine (if_pos (fetch0_2 (F := F) t0_0)).trans (funext fun j => ?_)
  exact congrArg (scos V c) (funext fun a => Fin.ext (Window.rect_emb_val_of_index_zero ((cfg0 (F := F)).win 2) t0_0 a rfl j))
theorem before1_0 (c : Dev nD) (d) : (dat1 V c).before 0 t1_0 d = cols1 V c := by
  unfold Dat.before
  refine (if_pos (fetch1_0 (F := F) t1_0)).trans (funext fun j => ?_)
  exact congrArg (cols1 V c) (funext fun a => Fin.ext (Window.rect_emb_val_of_index_zero ((cfg1 (F := F)).win 0) t1_0 a rfl j))
theorem before1_1 (c : Dev nD) (d) : (dat1 V c).before 1 t1_0 d = rows1 V c := by
  unfold Dat.before
  refine (if_pos (fetch1_1 (F := F) t1_0)).trans (funext fun j => ?_)
  exact congrArg (rows1 V c) (funext fun a => Fin.ext (Window.rect_emb_val_of_index_zero ((cfg1 (F := F)).win 1) t1_0 a rfl j))
theorem before2_0 (c : Dev nD) (d) : (dat2 V c).before 0 t2_0 d = cols2 V c := by
  unfold Dat.before
  refine (if_pos (fetch2_0 (F := F) t2_0)).trans (funext fun j => ?_)
  exact congrArg (cols2 V c) (funext fun a => Fin.ext (Window.rect_emb_val_of_index_zero ((cfg2 (F := F)).win 0) t2_0 a rfl j))
theorem before2_1 (c : Dev nD) (d) : (dat2 V c).before 1 t2_0 d = rows2 V c := by
  unfold Dat.before
  refine (if_pos (fetch2_1 (F := F) t2_0)).trans (funext fun j => ?_)
  exact congrArg (rows2 V c) (funext fun a => Fin.ext (Window.rect_emb_val_of_index_zero ((cfg2 (F := F)).win 1) t2_0 a rfl j))

-- a rule stated for any thread meets the goal at the TensorCore only when unification may unfold definitions in types
set_option backward.isDefEq.respectTransparency.types false in
/-- The decoding call's body obligation. -/
theorem body0 (c : Dev nD) : BodyObligation (dat0 V c) (defs₀ (F := F)) 𝒱₀ () Set.univ := fun t => by
  obtain rfl := fin_N0 t
  rw [bigSep_W0, bigSep_W0]
  rw [show (dat0 V c).Φ t0_0.succ = (dat0 V c).Φ t0_0.castSucc from rfl,
    show (dat0 V c).owesAt () t0_0.succ = (dat0 V c).owesAt () t0_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before0_0, before0_1, before0_2]
  iapply (kernel0_sound c Set.univ (stage0_0 0) (hstage0_0 0) (stage0_1 0) (hstage0_1 0) (stage0_2 0) (hstage0_2 0) (stage0_3 0) (hstage0_3 0)
    (stage0_4 0) (hstage0_4 0) (stage0_5 0) (hstage0_5 0) (stage0_6 0) (hstage0_6 0) (locs V c) (pris V c) (scos V c) _ _ _ _ _)
  isplitl [H0 H1 H2 H3 H4 H5 H6]
  · unfold pbufs
    isplitl [H0]; · iexact H0
    isplitl [H1]; · iexact H1
    isplitl [H2]; · iexact H2
    isplitl [H3]; · iexact H3
    isplitl [H4]; · iexact H4
    isplitl [H5]; · iexact H5
    iexact H6
  unfold pbufs
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

-- as for the first call
set_option backward.isDefEq.respectTransparency.types false in
/-- The short suppression call's body obligation: the kernel's two scratch buffers come out of the invariant and go back. -/
theorem body1 (c : Dev nD) : BodyObligation (dat1 V c) (defs₀ (F := F)) 𝒱₀ () Set.univ := fun t => by
  obtain rfl := fin_N1 t
  rw [bigSep_W1, bigSep_W1]
  rw [show (dat1 V c).Φ t1_0.castSucc = Pipeline.scopedRest (Ix := Unit) (Name := ℕ) (U := UU) (Lvl := ℕ) (Val := Elt F) spec1 c from rfl,
    show (dat1 V c).Φ t1_0.succ = Pipeline.scopedRest (Ix := Unit) (Name := ℕ) (U := UU) (Lvl := ℕ) (Val := Elt F) spec1 c from rfl,
    show (dat1 V c).owesAt () t1_0.succ = (dat1 V c).owesAt () t1_0.castSucc from rfl, scopedRest1_eq]
  iintro ⟨⟨A0, A1, A2, A3, A4, A5, A6, ⟨%f0, S0⟩, ⟨%f1, S1⟩, A9⟩, Howes, ⟨%d0, H0⟩, ⟨%d1, H1⟩, ⟨%d2, H2⟩⟩
  rw [before1_0, before1_1]
  iapply (kernel1_sound c Set.univ (stage1_1 0) (hstage1_1 0) (stage1_0 0) (hstage1_0 0) (Memref.whole cc1_scratch0) (Memref.isWhole_whole _)
    (stage1_2 0) (hstage1_2 0) (Memref.whole cc1_scratch1) (Memref.isWhole_whole _) (cols1 V c) (rows1 V c) _ _)
  isplitl [H0 H1 H2 S0 S1]
  · unfold bufs
    isplitl [H0]; · iexact H0
    isplitl [H1]; · iexact H1
    isplitl [H2]; · iexact H2
    isplitl [S0]; · iexists f0; rw [owns_whole]; iexact S0
    iexists f1; rw [owns_whole]; iexact S1
  unfold bufs
  iintro ⟨H0, H1, H2, ⟨%g0, S0⟩, ⟨%g1, S1⟩⟩
  isplitl [A0 A1 A2 A3 A4 A5 A6 A9 S0 S1]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [S0]
    · iexists g0; rw [← owns_whole (c : Thread nD τ) cc1_scratch0]; iexact S0
    isplitl [S1]
    · iexists g1; rw [← owns_whole (c : Thread nD τ) cc1_scratch1]; iexact S1
    iexact A9
  isplitl [Howes]; · iexact Howes
  isplitl [H0]; · iexact H0
  isplitl [H1]; · iexact H1
  iexact H2

-- as for the first call
set_option backward.isDefEq.respectTransparency.types false in
/-- The long suppression call's body obligation: the kernel's two scratch buffers come out of the invariant and go back. -/
theorem body2 (c : Dev nD) : BodyObligation (dat2 V c) (defs₀ (F := F)) 𝒱₀ () Set.univ := fun t => by
  obtain rfl := fin_N2 t
  rw [bigSep_W2, bigSep_W2]
  rw [show (dat2 V c).Φ t2_0.castSucc = Pipeline.scopedRest (Ix := Unit) (Name := ℕ) (U := UU) (Lvl := ℕ) (Val := Elt F) spec2 c from rfl,
    show (dat2 V c).Φ t2_0.succ = Pipeline.scopedRest (Ix := Unit) (Name := ℕ) (U := UU) (Lvl := ℕ) (Val := Elt F) spec2 c from rfl,
    show (dat2 V c).owesAt () t2_0.succ = (dat2 V c).owesAt () t2_0.castSucc from rfl, scopedRest2_eq]
  iintro ⟨⟨A0, A1, A2, A3, A4, A5, A6, A7, A8, A9, B0, B1, ⟨%f0, S0⟩, ⟨%f1, S1⟩⟩, Howes, ⟨%d0, H0⟩, ⟨%d1, H1⟩, ⟨%d2, H2⟩⟩
  rw [before2_0, before2_1]
  iapply (kernel2_sound c Set.univ (stage2_1 0) (hstage2_1 0) (stage2_0 0) (hstage2_0 0) (Memref.whole cc2_scratch0) (Memref.isWhole_whole _)
    (stage2_2 0) (hstage2_2 0) (Memref.whole cc2_scratch1) (Memref.isWhole_whole _) (cols2 V c) (rows2 V c) _ _)
  isplitl [H0 H1 H2 S0 S1]
  · unfold bufs
    isplitl [H0]; · iexact H0
    isplitl [H1]; · iexact H1
    isplitl [H2]; · iexact H2
    isplitl [S0]; · iexists f0; rw [owns_whole]; iexact S0
    iexists f1; rw [owns_whole]; iexact S1
  unfold bufs
  iintro ⟨H0, H1, H2, ⟨%g0, S0⟩, ⟨%g1, S1⟩⟩
  isplitl [A0 A1 A2 A3 A4 A5 A6 A7 A8 A9 B0 B1 S0 S1]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [S0]
    · iexists g0; rw [← owns_whole (c : Thread nD τ) cc2_scratch0]; iexact S0
    iexists g1; rw [← owns_whole (c : Thread nD τ) cc2_scratch1]; iexact S1
  isplitl [Howes]; · iexact Howes
  isplitl [H0]; · iexact H0
  isplitl [H1]; · iexact H1
  iexact H2

/-! ## The regions -/

/-- The TensorCore's unscoped references. -/
abbrev ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- No core owes another anything: no level is assigned, and no table is prefetched. -/
abbrev L : GSem nD τ sig → Finset Unit := fun _ => ∅
abbrev lv : GSem nD τ sig → Unit → ℕ := fun _ _ => 0
abbrev adm : (p : Fin 3) → (pcfgs (F := F) p).Adm := fun p => (cfgs p).toPCfg_adm

/-- The three calls' proof data, each from the valuation it is entered from. -/
def pdats (V0 V1 V2 : Vals F) : (p : Fin 3) → (c : Dev nD) → Dat τ (Elt F) Unit ℕ UU ℕ (Pipeline.pin (pcfgs (F := F)) adm p) c
  | ⟨0, _⟩ => fun c => dat0 V0 c
  | ⟨1, _⟩ => fun c => dat1 V1 c
  | ⟨2, _⟩ => fun c => dat2 V2 c

/-- What rides beside the buffers: a fact about the core, and nothing owed. -/
abbrev Rd (Q : Dev nD → Prop) (c : Dev nD) : sProp 𝕄 :=
  iprop(⌜Q c⌝ ∗ ∃ W, owes (c : Thread nD τ) (0 : CellTallies nD τ sig Unit) W)

/-- The state of a core between segments: every unscoped buffer at a valuation, and what rides. -/
abbrev st (Q : Dev nD → Prop) (V : Vals F) (c : Dev nD) : sProp 𝕄 :=
  iprop(StableHlo.held (c : Thread nD τ) ucRefs (V c) ∗ Rd Q c)

set_option backward.isDefEq.respectTransparency.types false in
/-- A call as a region from one such state to another, given its layout, its body and its proof data's plain fields. -/
def regOf (pd : (p : Fin 3) → (c : Dev nD) → Dat τ (Elt F) Unit ℕ UU ℕ (Pipeline.pin (pcfgs (F := F)) adm p) c) (p : Fin 3)
    (lf : Pipeline.LaunchFacts (nD := nD) (τ := τ) (cfgs (F := F)) p) (Q : Dev nD → Prop) (V : Vals F)
    (hbody : ∀ c, BodyObligation (pd p c) (defs₀ (F := F)) 𝒱₀ () Set.univ)
    (hA : ∀ c w, (pd p c).A w = V c (Pipeline.arrRef (cfgs (F := F) p).spec w)) (hq : ∀ c w, (pd p c).q w = fullShare)
    (howed : ∀ c t, (pd p c).owed t = 0)
    (hrec : ∀ c t, (pd p c).recorded t = Set.univ)
    (hΦ : ∀ c t, (pd p c).Φ t = Pipeline.scopedRest (Ix := Unit) (Name := ℕ) (U := UU) (Lvl := ℕ) (Val := Elt F) (cfgs (F := F) p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := st Q V
  post := st Q fun c => Pipeline.afterRegion (pd p c) (V c)
  X _ := BI.emp
  Y _ := BI.emp
  Z c := iprop(⌜Q c⌝ ∗ Pipeline.unscopedRest (Ix := Unit) (Name := ℕ) (U := UU) (Lvl := ℕ) (cfgs (F := F) p).spec c (fun b => V c b))
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [unscopedBufs_held c (V c)] at hsplit
    iintro ⟨⟨Hub, %hQ, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitr; · iempintro
    isplitr; · ipureintro; exact hQ
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := Unit) (Name := ℕ) (U := UU) (Lvl := ℕ) lf.win lf.arr_whole c
      pd ((pd p c).share_full (hq c)) (fun b => V c b) (fun b => Pipeline.afterRegion (pd p c) (V c) b) ((pd p c).arrAt · (cfgs (F := F) p).N)
      (fun w => (Pipeline.afterRegion_arr (pd p c) (V c) lf.win.arr_inj w).symm)
      (fun b hb => Pipeline.afterRegion_of_not_arr (pd p c) (V c) fun w h => hb (h ▸ Finset.mem_image.mpr ⟨w, Finset.mem_univ _, rfl⟩))
    rw [unscopedBufs_held c (Pipeline.afterRegion (pd p c) (V c))] at hjoin
    iintro ⟨Ha, HO, -, %hQ, Hrest⟩
    imodintro
    isplitl [Ha Hrest]
    · iapply hjoin; isplitl [Ha] <;> iassumption
    isplitr; · ipureintro; exact hQ
    unfold Pipeline.Dat.owesAt Pipeline.owesWithin
    rw [howed]
    icases HO with ⟨%W, -, HO⟩; iexists W; iexact HO

variable (Q : Dev nD → Prop) (V0 V1 V2 : Vals F)

attribute [local irreducible] Pipeline.scopedRest

/-- The three regions. -/
abbrev reg0 : Pipeline.RegionSeg (pcfgs (F := F)) adm (pdats V0 V1 V2) () defs₀ 𝒱₀ L lv 0 :=
  regOf (pdats V0 V1 V2) 0 launch0 Q V0 (body0 V0) (fun _ _ => rfl) (fun _ _ => rfl) (fun _ _ => rfl) (fun _ _ => rfl) (fun _ _ => rfl)
abbrev reg1 : Pipeline.RegionSeg (pcfgs (F := F)) adm (pdats V0 V1 V2) () defs₀ 𝒱₀ L lv 1 :=
  regOf (pdats V0 V1 V2) 1 launch1 Q V1 (body1 V1) (fun _ _ => rfl) (fun _ _ => rfl) (fun _ _ => rfl) (fun _ _ => rfl) (fun _ _ => rfl)
abbrev reg2 : Pipeline.RegionSeg (pcfgs (F := F)) adm (pdats V0 V1 V2) () defs₀ 𝒱₀ L lv 2 :=
  regOf (pdats V0 V1 V2) 2 launch2 Q V2 (body2 V2) (fun _ _ => rfl) (fun _ _ => rfl) (fun _ _ => rfl) (fun _ _ => rfl) (fun _ _ => rfl)

end Cert.Proof.PI

end
-- ==== Proof.PI.Run.lean ====
/-
  The run of @main: the host operations, the two calls before the branch, the branch on the read word with the third call
  in its first arm, as one list of segments, and the launch. Every weakly fair execution ends with every unscoped buffer
  at one valuation, `Vend`.
-/
module

public import proofs.«01_k».proof.Proof.PI.Chain
public import proofs.«01_k».proof.Proof.PI.Regions
public import Idealize.ShloMosaic.Lib.Pipeline.RegionsCase
public import Idealize.ShloMosaic.Lib.HostLoop.Lifted
public import Idealize.ShloMosaic.Lib.StableHlo.RunHlo

@[expose] public section

set_option maxRecDepth 65536

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (CSeg CaseSeg Ticket)

variable {F : FTy → Type} [FloatOps F]

local notation "𝕄" => MT nD τ sig Unit (Elt F) ℕ UU ℕ

/-! ## What every buffer holds, point by point -/

section Values

variable (m : (ℓ : Loc nD τ sig) → Buf (Elt F) ℓ)

/-- At launch, and when the decoding call is entered. -/
def Vstart : Vals F := fun c b => m ((c : Dev nD), b)
def VA : Vals F := fun c => after opsA (Vstart m c)
/-- After the decoding call, and when the short suppression call is entered. -/
def V0' : Vals F := fun c => Pipeline.afterRegion (dat0 (VA m) c) (VA m c)
def VB : Vals F := fun c => after opsB (V0' m c)
/-- After the short suppression call, before the read, and after it. -/
def V1' : Vals F := fun c => Pipeline.afterRegion (dat1 (VB m) c) (VB m c)
def VC : Vals F := fun c => after opsC (V1' m c)
def VR : Vals F := fun c => after [rdOp] (VC m c)
/-- The word the branch takes. -/
def word (c : Dev nD) : BitVec 32 := VR m c main_call0_v72 HostLoop.idx0
/-- In the long arm: when its suppression call is entered, after it, and at the arm's end. -/
def VD : Vals F := fun c => after opsD (VR m c)
def V2' : Vals F := fun c => Pipeline.afterRegion (dat2 (VD m) c) (VD m c)
def VE : Vals F := fun c => after opsE (V2' m c)
/-- At the short arm's end. -/
def VG : Vals F := fun c => after opsG (VR m c)
/-- At the end: the arm the word names. -/
def Vend : Vals F := fun c => if HostLoop.branch (word m c) 1 = 0 then VE m c else VG m c

end Values

/-! ## The segments -/

omit [FloatOps F] in
/-- An operation on TensorCore references touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

variable (m : (ℓ : Loc nD τ sig) → Buf (Elt F) ℓ)

/-- No host loop. -/
abbrev loops : Fin 0 → Prog (TpuEff nD τ sig (Elt F) (HostLoop.Sig (Lbl F) 0) .tc) PUnit := fun l => l.elim0

/-- The three calls' data along the run. -/
abbrev pd (p : Fin 3) (c : Dev nD) := pdats (VA m) (VB m) (VD m) p c

/-- One ticket per call, each with its own copy of the pipeline's algebra. -/
def tk : Fin 3 → Ticket (Ix := Unit) (Name := ℕ) (U := UU) (Lvl := ℕ) (nD := nD) (τ := τ) (pcfgs (F := F)) adm :=
  fun k => { p := k, pdats := pdats (VA m) (VB m) (VD m), EP := embAt k }

abbrev Seg' := CSeg (pcfgs (F := F)) adm defs₀ 𝒱₀ L lv loops (tk m)

/-- Host operations as a segment. -/
abbrev opsSeg (Q : Dev nD → Prop) (ops : List (HloOp τ sig (Elt F))) (hs : ∀ op ∈ ops, op.bufs ⊆ StableHlo.tcRefs τ sig)
    (hf : ∀ op ∈ ops, op.fresh = ∅) (V : Vals F) : Seg' m :=
  CSeg.ofOps _ _ _ _ _ _ _ _ ucRefs ops (fun op h => sub_ucRefs op (hs op h)) hf V (Rd Q)

/-- Nothing to remember. -/
abbrev top : Dev nD → Prop := fun _ => True
/-- The arm taken is the one the word names. -/
abbrev isArm (b : Fin 2) : Dev nD → Prop := fun c => b = HostLoop.branch (word m c) 1

/-- The long arm's segments, and the short arm's. -/
def armSegs : Fin 2 → List (Seg' m)
  | 0 => [opsSeg m (isArm m 0) opsD opsD_sub opsD_fresh (VR m),
      CSeg.region _ _ () cellOf_inj _ _ _ _ _ _ (2 : Fin 3) (reg2 (isArm m 0) (VA m) (VB m) (VD m)),
      opsSeg m (isArm m 0) opsE opsE_sub opsE_fresh (V2' m)]
  | 1 => [opsSeg m (isArm m 1) opsG opsG_sub opsG_fresh (VR m)]
  | ⟨_ + 2, h⟩ => absurd h (Nat.not_lt.2 (Nat.le_add_left _ _))

/-- The read, lifted. -/
abbrev rdProg : Prog (TpuEff nD τ sig (Elt F) (HostLoop.Sig (Lbl F) 0) .tc) (BitVec 32) :=
  hlo rfl (rdOp (F := F)) (HostLoop.elt main_call0_v72)

set_option backward.isDefEq.respectTransparency.types false in
/-- The read from the state before it: one operation, its result read for its element. -/
theorem read_spec (c : Dev nD) (bd : Option (Variants.lift 𝒱₀).V) :
    iprop(boundary (c : Thread nD τ) ∗ (st top (VC m) c : sProp 𝕄))
      ⊢ wp frame (wpE (HostLoop.defs loops (Pipeline.defs (pcfgs (F := F)) defs₀)) (Variants.lift 𝒱₀) (c : Thread nD τ) bd) Set.univ (rdProg (F := F))
          (fun v => iprop(⌜True⌝ ∗ boundary (c : Thread nD τ) ∗ st (fun c => v = word m c) (VR m) c)) := by
  unfold rdProg
  iintro ⟨Hb, Hh, %hQ, HR⟩
  iapply (StableHlo.wp_hlo_within (Variants.lift 𝒱₀) (c : Thread nD τ) bd Set.univ (sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; trivial
  isplitl [Hb]; · iexact Hb
  isplitl [Hh]; · unfold VR; rw [StableHlo.after_cons, StableHlo.after_nil]; iexact Hh
  isplitr; · ipureintro; rfl
  iexact HR

/-- The arms, lifted. -/
abbrev armProg : Fin 2 → Prog (TpuEff nD τ sig (Elt F) (HostLoop.Sig (Lbl F) 0) .tc) PUnit := fun b => HostLoop.liftProg (L := 0) (arms b)

theorem armProg_eq (b : Fin 2) : armProg (F := F) b = CSeg.runL (armSegs m b) := by
  unfold armProg
  fin_cases b
  · show HostLoop.liftProg (L := 0) (Pipeline.chain _) = _
    rw [HostLoop.liftProg_chain]
    simp only [List.map_cons, List.map_nil, HostLoop.liftProg_seq]
    rfl
  · show HostLoop.liftProg (L := 0) (Pipeline.chain _) = _
    rw [HostLoop.liftProg_chain]
    simp only [List.map_cons, List.map_nil, HostLoop.liftProg_seq]
    rfl

/-- From a read word the arm it names chains to the end. -/
theorem arm_chains (c : Dev nD) (v : BitVec 32) :
    CSeg.ChainsAt c (st (fun c => v = word m c) (VR m)) (armSegs m (HostLoop.branch v 1)) (st top (Vend m)) := by
  have hb : HostLoop.branch v 1 = 0 ∨ HostLoop.branch v 1 = 1 := by
    generalize HostLoop.branch v 1 = b
    fin_cases b
    · exact Or.inl rfl
    · exact Or.inr rfl
  rcases hb with hb | hb <;> rw [hb]
  · refine ⟨?_, .rfl, .rfl, ?_⟩
    · show iprop(held (c : Thread nD τ) ucRefs (VR m c) ∗ _) ⊢ iprop(held (c : Thread nD τ) ucRefs (VR m c) ∗ _)
      iintro ⟨Hh, %hv, HR⟩
      isplitl [Hh]; · iexact Hh
      isplitr; · ipureintro; exact hb.symm.trans (congrArg (HostLoop.branch · 1) hv)
      iexact HR
    · show iprop(held (c : Thread nD τ) ucRefs (VE m c) ∗ _) ⊢ iprop(held (c : Thread nD τ) ucRefs (Vend m c) ∗ _)
      iintro ⟨Hh, %hv, HR⟩
      rw [show Vend m c = VE m c from if_pos hv.symm]
      isplitl [Hh]; · iexact Hh
      isplitr; · ipureintro; trivial
      iexact HR
  · refine ⟨?_, ?_⟩
    · show iprop(held (c : Thread nD τ) ucRefs (VR m c) ∗ _) ⊢ iprop(held (c : Thread nD τ) ucRefs (VR m c) ∗ _)
      iintro ⟨Hh, %hv, HR⟩
      isplitl [Hh]; · iexact Hh
      isplitr; · ipureintro; exact hb.symm.trans (congrArg (HostLoop.branch · 1) hv)
      iexact HR
    · show iprop(held (c : Thread nD τ) ucRefs (VG m c) ∗ _) ⊢ iprop(held (c : Thread nD τ) ucRefs (Vend m c) ∗ _)
      iintro ⟨Hh, %hv, HR⟩
      rw [show Vend m c = VG m c from if_neg (by rw [← hv]; decide)]
      isplitl [Hh]; · iexact Hh
      isplitr; · ipureintro; trivial
      iexact HR

/-- The branch as a record. -/
def caseW : CaseSeg (pcfgs (F := F)) adm defs₀ 𝒱₀ L lv loops (tk m) :=
  { on := fun _ => True
    N := 1
    rd := rdProg
    br := armProg
    pre := st top (VC m)
    mid := fun v => st (fun c => v = word m c) (VR m)
    post := st top (Vend m)
    live := fun _ => True
    hrd := fun c _ bd => read_spec m c bd
    segs := armSegs m
    hch := fun c _ v _ => arm_chains m c v
    hbr := fun b _ => armProg_eq m b
    B := (Pipeline.pin (pcfgs (F := F)) adm 2).tripCount + 1
    hM := by
      intro b _ s hs
      fin_cases b
      · cases hs with
        | head => exact Nat.zero_le _
        | tail _ hs => cases hs with
          | head => exact le_rfl
          | tail _ hs => cases hs with
            | head => exact Nat.zero_le _
            | tail _ hs => cases hs
      · cases hs with
        | head => exact Nat.zero_le _
        | tail _ hs => cases hs
    T := {2}
    hT := by
      intro b _ s hs
      fin_cases b
      · cases hs with
        | head => exact Finset.empty_subset _
        | tail _ hs => cases hs with
          | head => exact subset_rfl
          | tail _ hs => cases hs with
            | head => exact Finset.empty_subset _
            | tail _ hs => cases hs
      · cases hs with
        | head => exact Finset.empty_subset _
        | tail _ hs => cases hs
    hdisT := by
      intro b _
      fin_cases b
      · refine List.pairwise_cons.mpr ⟨fun _ _ => Finset.disjoint_empty_left _, List.pairwise_cons.mpr ⟨fun s hs => ?_, List.pairwise_singleton ..⟩⟩
        cases hs with
        | head => exact Finset.disjoint_empty_right _
        | tail _ hs => cases hs
      · exact List.pairwise_singleton .. }

/-- @main's segments. -/
def mainSegs : List (Seg' m) :=
  [opsSeg m top opsA opsA_sub opsA_fresh (Vstart m),
    CSeg.region _ _ () cellOf_inj _ _ _ _ _ _ (0 : Fin 3) (reg0 top (VA m) (VB m) (VD m)),
    opsSeg m top opsB opsB_sub opsB_fresh (V0' m),
    CSeg.region _ _ () cellOf_inj _ _ _ _ _ _ (1 : Fin 3) (reg1 top (VA m) (VB m) (VD m)),
    opsSeg m top opsC opsC_sub opsC_fresh (V1' m),
    CSeg.case _ _ _ _ _ _ _ _ (caseW m)]

theorem mainSegs_run (c : Dev nD) : HostLoop.liftProg (L := 0) (main (F := F) c) = CSeg.runL (mainSegs m) := by
  rw [main_chain, HostLoop.liftProg_chain]
  simp only [List.map_cons, List.map_nil, HostLoop.liftProg_seq, HostLoop.liftProg_bind, HostLoop.liftProg_case]
  rfl

theorem mainSegs_chains : CSeg.Chains (st top (Vstart m)) (mainSegs m) fun c => iprop(held (c : Thread nD τ) ucRefs (Vend m c) ∗ ∃ W, owes (c : Thread nD τ) (0 : CellTallies nD τ sig Unit) W) :=
  ⟨fun _ => .rfl, fun _ => .rfl, fun _ => .rfl, fun _ => .rfl, fun _ => .rfl,
    fun _ => CSeg.case_pre _ _ _ _ _ _ _ _ (caseW m) trivial, fun c => by
      show iprop(held (c : Thread nD τ) ucRefs (Vend m c) ∗ _) ⊢ _
      iintro ⟨Hh, -, HR⟩
      isplitl [Hh] <;> iassumption⟩

theorem mainSegs_disjoint : (mainSegs m).Pairwise fun s s' => Disjoint s.T s'.T := by
  unfold mainSegs
  simp only [List.pairwise_cons, List.mem_cons, List.not_mem_nil, or_false, forall_eq_or_imp, forall_eq, List.Pairwise.nil, and_true, false_imp_iff, implies_true]
  refine ⟨⟨?_, ?_, ?_, ?_, ?_⟩, ⟨?_, ?_, ?_, ?_⟩, ⟨?_, ?_, ?_⟩, ⟨?_, ?_⟩, ?_⟩ <;> first | exact Finset.disjoint_empty_left _ | exact Finset.disjoint_empty_right _ | exact Finset.disjoint_singleton.mpr (by decide)

set_option backward.isDefEq.respectTransparency.types false in
/-- The run: from any memory with counters zero every weakly fair execution of @main terminates, nothing faulting, with every
    unscoped buffer at `Vend` and every counter zero. -/
theorem run_main (g : Dev nD → PrngReg) : θ_run (Pipeline.defs (pcfgs (F := F)) defs₀) (onTc (τ := τ) (main (F := F))) ⟨m, fun _ => 0, g⟩
    (fun r => (∀ c : Dev nD, ∀ b ∈ ucRefs, r.2.mem ((c : Dev nD), b) = Vend m c b) ∧ r.2.sem = fun _ => 0) :=
  HostLoop.θ_run_of_lift (fun l => l.elim0) _ _ _ _ <|
  Pipeline.θ_run_regions_loop_kit_sems (pcfgs (F := F)) adm cellOf_inj defs₀ 𝒱₀ L lv loops (tk m) m g _ (mainSegs m)
    (fun c Q => by rw [mainSegs_run m c]) (mainSegs_disjoint m)
    (O₀ := 0) (hL := fun _ _ => rfl) (G := fun _ => iprop(BI.emp))
    (u₀ := ((fun _ => initOf (Pipeline.cells (Pipeline.pin (pcfgs (F := F)) adm) cellOf_inj) (Pipeline.launchToks (Pipeline.pin (pcfgs (F := F)) adm) cellOf_inj) : IProdConst (Fin 3) (UR sig nD τ)), 1))
    (hu₀ := by
      iintro Hu
      ihave H := (ownU_pair _ _) $$ Hu
      icases H with ⟨HP, -⟩
      imodintro
      isplitl [HP]
      · iapply (own_iprod _) $$ HP
      rw [BI.bigSep_emp_const]; iempintro)
    (T₀ := st top (Vstart m)) (Tₙ := fun c => held (c : Thread nD τ) ucRefs (Vend m c))
    (hch := mainSegs_chains m)
    (hinit := by
      refine Pipeline.initEach L lv fun c => ?_
      rw [show unscopedBufs c (fun b => m ((c : Thread nD τ).loc b)) = held (c : Thread nD τ) ucRefs (Vstart m c) from unscopedBufs_held c (Vstart m c)]
      iintro ⟨⟨Hh, -, HO, -, -, -⟩, -⟩
      imodintro
      isplitl [Hh]; · iexact Hh
      isplitr; · ipureintro; trivial
      iexists ∅; iexact HO)
    (QY := fun c s => ∀ b ∈ ucRefs, s.mem ((c : Dev nD), b) = Vend m c b)
    (hfin := fun c s' => by
      unfold held
      iintro ⟨Hh, HSI⟩
      ihave Hp := (pointsTo_read_all ucRefs (fun b => ((c : Dev nD), b)) (Vend m c) s') $$ [Hh HSI]
      · isplitl [Hh] <;> iassumption
      icases Hp with ⟨%hb, HSI⟩
      imodintro
      isplitr; · ipureintro; exact hb
      iexact HSI)
    (hQ := fun _ h hz => ⟨h, funext fun g => hz g (.inr (by revert g; decide))⟩)

/-! ## The arguments -/

/-- A buffer no stretch of operations writes and no call has as an array ends as it was launched. -/
theorem Vend_unwritten (b : Ref sig .tc) (hA : b ∉ opsA_W) (hB : b ∉ opsB_W) (hC : b ∉ opsC_W) (hD : b ∉ opsD_W) (hE : b ∉ opsE_W)
    (hG : b ∉ opsG_W) (hr : b ≠ main_call0_v72) (h0 : ∀ w, b ≠ Pipeline.arrRef spec0 w) (h1 : ∀ w, b ≠ Pipeline.arrRef spec1 w)
    (h2 : ∀ w, b ≠ Pipeline.arrRef spec2 w) (c : Dev nD) : Vend m c b = m ((c : Thread nD τ).loc b) := by
  have keep : ∀ (ops : List (HloOp τ sig (Elt F))) (W : List (Ref sig .tc)),
      (∀ op ∈ ops, op.writes ⊆ (W.map (Proc.devRef (τ := τ) .tc)).toFinset) → b ∉ W → ∀ V : Valuation τ sig (Elt F), after ops V b = V b := by
    intro ops W hw hb V
    refine StableHlo.after_of_forall_not_mem (b := Proc.devRef .tc b) ops V fun op hop hmem => hb ?_
    have := List.mem_toFinset.mp (hw op hop hmem)
    obtain ⟨r, hr, he⟩ := List.mem_map.mp this
    by_cases hrb : r = b
    · exact hrb ▸ hr
    · exact absurd he (StableHlo.devRef_ne_of_ne hrb)
  have hRd : ∀ V : Valuation τ sig (Elt F), after [rdOp] V b = V b := fun V =>
    keep [rdOp] [main_call0_v72] (by
      intro op h
      obtain rfl := List.mem_singleton.mp h
      rw [StableHlo.unary_writes]; rfl) (by simpa using hr) V
  have hVR : VR m c b = m ((c : Thread nD τ).loc b) := by
    unfold VR; rw [hRd]
    unfold VC; rw [keep _ _ opsC_writes hC]
    unfold V1'; rw [Pipeline.afterRegion_of_not_arr _ _ h1]
    unfold VB; rw [keep _ _ opsB_writes hB]
    unfold V0'; rw [Pipeline.afterRegion_of_not_arr _ _ h0]
    unfold VA; rw [keep _ _ opsA_writes hA]
    rfl
  unfold Vend
  split
  · unfold VE; rw [keep _ _ opsE_writes hE]
    unfold V2'; rw [Pipeline.afterRegion_of_not_arr _ _ h2]
    unfold VD; rw [keep _ _ opsD_writes hD]
    exact hVR
  · unfold VG; rw [keep _ _ opsG_writes hG]
    exact hVR

theorem mem_ucRefs (b : Ref sig .tc) (h : (Proc.devRef (τ := τ) .tc b).isScoped = false) : Proc.devRef (τ := τ) .tc b ∈ ucRefs :=
  Finset.mem_filter.mpr ⟨Finset.mem_map.mpr ⟨b, Finset.mem_univ _, rfl⟩, by rw [h]; exact Bool.false_ne_true⟩

theorem Vend_arg0 (c : Dev nD) : Vend m c main_arg0 = m ((c : Thread nD τ).loc main_arg0) :=
  Vend_unwritten m main_arg0 (by decide) (by decide) (by decide) (by decide) (by decide) (by decide) (by decide) (by decide) (by decide) (by decide) c
theorem Vend_arg1 (c : Dev nD) : Vend m c main_arg1 = m ((c : Thread nD τ).loc main_arg1) :=
  Vend_unwritten m main_arg1 (by decide) (by decide) (by decide) (by decide) (by decide) (by decide) (by decide) (by decide) (by decide) (by decide) c
theorem Vend_arg2 (c : Dev nD) : Vend m c main_arg2 = m ((c : Thread nD τ).loc main_arg2) :=
  Vend_unwritten m main_arg2 (by decide) (by decide) (by decide) (by decide) (by decide) (by decide) (by decide) (by decide) (by decide) (by decide) c

/-- The run with what is asked of it: the result at `Vend`, the arguments as launched, the counters zero. -/
theorem run_result (g : Dev nD → PrngReg) : θ_run (Pipeline.defs (pcfgs (F := F)) defs₀) (onTc (τ := τ) (main (F := F))) ⟨m, fun _ => 0, g⟩
    (fun r => (∀ c : Dev nD, r.2.mem ((c : Thread nD τ).loc main_v0) = Vend m c main_v0)
      ∧ (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) := by
  refine θ_run_mono (run_main m g) fun r h => ?_
  exact ⟨fun c => h.1 c _ (mem_ucRefs main_v0 rfl),
    fun c => ⟨(h.1 c _ (mem_ucRefs main_arg0 rfl)).trans (Vend_arg0 m c), (h.1 c _ (mem_ucRefs main_arg1 rfl)).trans (Vend_arg1 m c),
      (h.1 c _ (mem_ucRefs main_arg2 rfl)).trans (Vend_arg2 m c)⟩, h.2⟩

end Cert.Proof.PI

end
-- ==== Proof.RI.Frame.lean ====
/- The reference's run: what its result holds, that its arguments stay, and that its semaphores are at zero. -/
module

public import proofs.«01_k».proof.Proof.Gen.ReferenceIdeal.Run
public import Idealize.ShloMosaic.Lib.StableHlo.RunHlo
public import Idealize.ShloMosaic.Lib.Quiescent

@[expose] public section

set_option maxRecDepth 65536

noncomputable section

namespace Cert.Proof.RI

open Idealize.ShloMosaic Idealize.SL.Sem Idealize.ShloMosaic.StableHlo
open Cert.ReferenceIdeal Cert.ReferenceIdeal.Gen Cert.ReferenceIdeal.Value

variable {F : FTy → Type} [FloatOps F]
variable (m : (ℓ : Loc nD τ sig) → Buf (Elt F) ℓ)

/-- What the operations of `hostOps0_7` write, in order. -/
abbrev hostOps0_7_W : List (Ref sig .tc) := [main_cst_13]
theorem hostOps0_7_writes : (hostOps0_7 : List (HloOp τ sig (Elt F))).Forall fun op => op.writes ⊆ (hostOps0_7_W.map (Proc.devRef (τ := τ) .tc)).toFinset :=
  forall_writes_sub_of_map rfl

/-- What the operations of `hostOps0_8` write, in order. -/
abbrev hostOps0_8_W : List (Ref sig .tc) := [main_call3_v0, main_call3_v1, main_v94]
theorem hostOps0_8_writes : (hostOps0_8 : List (HloOp τ sig (Elt F))).Forall fun op => op.writes ⊆ (hostOps0_8_W.map (Proc.devRef (τ := τ) .tc)).toFinset :=
  forall_writes_sub_of_map rfl

/-- What the operations of `hostOps0_9` write, in order. -/
abbrev hostOps0_9_W : List (Ref sig .tc) := [main_values_14, main_indices_15, main_c_16, main_v95, main_v96, main_c_17, main_v97, main_v98, main_v99, main_v100, main_v101, main_c_18, main_v102, main_v103, main_c_19, main_v104, main_v105, main_v106, main_v107, main_v108, main_c_20, main_v109, main_v110, main_c_21, main_v111, main_v112, main_v113, main_v114, main_v115, main_c_22, main_v116, main_v117, main_c_23, main_v118, main_v119, main_v120, main_v121, main_v122, main_v123, main_v124, main_v125, main_v126]
theorem hostOps0_9_writes : (hostOps0_9 : List (HloOp τ sig (Elt F))).Forall fun op => op.writes ⊆ (hostOps0_9_W.map (Proc.devRef (τ := τ) .tc)).toFinset :=
  forall_writes_sub_of_map rfl

/-- The buffers before the loop. -/
def entry (c : Dev nD) : Valuation τ sig (Elt F) := entryContents preI m c

/-- The buffers when the loop has run. -/
def left (c : Dev nD) : Valuation τ sig (Elt F) := after condOps (atK m 4096 c)

/-- The buffers at the end. -/
def done (c : Dev nD) : Valuation τ sig (Elt F) := afterL postI (left m c)

/-- Before the loop: what none of its operations write stays. -/
theorem entry_keeps (b : Ref sig .tc) (h0 : b ∉ hostOps0_W) (h1 : b ∉ hostOps0_1_W) (h2 : b ∉ hostOps0_2_W) (h3 : b ∉ hostOps0_3_W)
    (h4 : b ∉ hostOps0_4_W) (h5 : b ∉ hostOps0_5_W) (h6 : b ∉ hostOps0_6_W) (c : Dev nD) :
    entry m c (Proc.devRef .tc b) = m ((c.tc : Thread nD τ).loc b) := by
  show after hostOps0_6 (after hostOps0_5 (after hostOps0_4 (after hostOps0_3 (after hostOps0_2 (after hostOps0_1 (after hostOps0 (launchContents m c))))))) _ = _
  rw [after_of_writes_sub _ _ hostOps0_6_writes h6, after_of_writes_sub _ _ hostOps0_5_writes h5, after_of_writes_sub _ _ hostOps0_4_writes h4,
    after_of_writes_sub _ _ hostOps0_3_writes h3, after_of_writes_sub _ _ hostOps0_2_writes h2, after_of_writes_sub _ _ hostOps0_1_writes h1,
    after_of_writes_sub _ _ hostOps0_writes h0]

/-- The loop: what neither its condition nor its body write stays. -/
theorem left_keeps (b : Ref sig .tc) (hc : b ∉ condOps_W) (hb : b ∉ while0Ops0_W) (c : Dev nD) :
    left m c (Proc.devRef .tc b) = entry m c (Proc.devRef .tc b) := by
  have trip : ∀ k, atK m k c (Proc.devRef .tc b) = entry m c (Proc.devRef .tc b) := by
    intro k
    induction k with
    | zero => rfl
    | succ k ih =>
      show after while0Ops0 (after condOps (atK m k c)) _ = _
      rw [after_of_writes_sub _ _ while0Ops0_writes hb, after_of_writes_sub _ _ condOps_writes hc, ih]
  unfold left
  rw [after_of_writes_sub _ _ condOps_writes hc, trip]

/-- After the loop: what none of its operations write stays. -/
theorem done_keeps (b : Ref sig .tc) (h7 : b ∉ hostOps0_7_W) (h8 : b ∉ hostOps0_8_W) (h9 : b ∉ hostOps0_9_W) (c : Dev nD) :
    done m c (Proc.devRef .tc b) = left m c (Proc.devRef .tc b) := by
  show after hostOps0_9 (after hostOps0_8 (after hostOps0_7 (left m c))) _ = _
  rw [after_of_writes_sub _ _ hostOps0_9_writes h9, after_of_writes_sub _ _ hostOps0_8_writes h8, after_of_writes_sub _ _ hostOps0_7_writes h7]

/-- A buffer nothing writes ends as launched. -/
theorem done_arg (b : Ref sig .tc) (h0 : b ∉ hostOps0_W) (h1 : b ∉ hostOps0_1_W) (h2 : b ∉ hostOps0_2_W) (h3 : b ∉ hostOps0_3_W)
    (h4 : b ∉ hostOps0_4_W) (h5 : b ∉ hostOps0_5_W) (h6 : b ∉ hostOps0_6_W) (hc : b ∉ condOps_W) (hb : b ∉ while0Ops0_W)
    (h7 : b ∉ hostOps0_7_W) (h8 : b ∉ hostOps0_8_W) (h9 : b ∉ hostOps0_9_W) (c : Dev nD) :
    done m c (Proc.devRef .tc b) = m ((c.tc : Thread nD τ).loc b) :=
  (done_keeps m b h7 h8 h9 c).trans ((left_keeps m b hc hb c).trans (entry_keeps m b h0 h1 h2 h3 h4 h5 h6 c))

/-- The run with what is asked of it: the result at `done`, the arguments as launched, the counters zero. -/
theorem run_result (g : Dev nD → PrngReg) : θ_run (defs (F := F)) (onTc (τ := τ) (main (F := F))) ⟨m, fun _ => 0, g⟩
    (fun r => (∀ c : Dev nD, r.2.mem ((c.tc : Thread nD τ).loc main_v126) = done m c (Proc.devRef .tc main_v126))
      ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) := by
  refine θ_run_mono (run_fold m g) fun r h => ?_
  have arg := fun (b : Ref sig .tc) (hs : (Proc.devRef .tc b : DevRef τ sig).isScoped = false) h0 h1 h2 h3 h4 h5 h6 hc hb h7 h8 h9 (c : Dev nD) =>
    (h c b hs).trans (done_arg m b h0 h1 h2 h3 h4 h5 h6 hc hb h7 h8 h9 c)
  exact ⟨fun c => h c main_v126 rfl,
    fun c => ⟨arg main_arg0 rfl (by decide) (by decide) (by decide) (by decide) (by decide) (by decide) (by decide) (by decide) (by decide)
        (by decide) (by decide) (by decide) c,
      arg main_arg1 rfl (by decide) (by decide) (by decide) (by decide) (by decide) (by decide) (by decide) (by decide) (by decide)
        (by decide) (by decide) (by decide) c,
      arg main_arg2 rfl (by decide) (by decide) (by decide) (by decide) (by decide) (by decide) (by decide) (by decide) (by decide)
        (by decide) (by decide) (by decide) c⟩,
    sem_eq_zero_of_no_sems (by decide) r.2⟩

end Cert.Proof.RI

end
-- ==== Proof.Val.Words.lean ====
/-
  Facts about 32-bit words that hold small numbers, and about one-bit words: comparisons, the choice between two
  values, and the remainder and quotient by 20 as the program computes them (`remW`, `divW`).
-/
module

public import Idealize.ShloMosaic.PureOps.Ideal

@[expose] public section

namespace Cert.Proof.Val

open Idealize.ShloMosaic

theorem ofBits_negInf : Ideal.ofBits .f32 0xFF800000#32 = ⊥ := by
  simp [Ideal.ofBits, Ideal.ieee, -EReal.coe_mul]

theorem ofBool_decide_eq_one (p : Prop) [Decidable p] : BitVec.ofBool (decide p) = 1#1 ↔ p := by
  by_cases h : p <;> simp [h]

theorem ofBool_eq_one (b : Bool) : BitVec.ofBool b = 1#1 ↔ b = true := by cases b <;> decide

theorem andi_eq_one (x y : BitVec 1) : IntOp.andi x y = 1#1 ↔ x = 1#1 ∧ y = 1#1 := by
  revert x y; decide

theorem eq_zero_of_ne_one (x : BitVec 1) (h : x ≠ 1#1) : x = 0#1 := by
  revert x; decide

theorem select_pos {α : Type} {c : BitVec 1} (h : c = 1#1) (x y : α) : Scalar.select c x y = x := if_pos h

theorem select_neg {α : Type} {c : BitVec 1} (h : c ≠ 1#1) (x y : α) : Scalar.select c x y = y := if_neg h

theorem toInt_ofNat_lt {a : ℕ} (ha : a < 2 ^ 31) : (BitVec.ofNat 32 a).toInt = a := by
  rw [BitVec.toInt_ofNat', Int.bmod_eq_of_le] <;> omega

theorem ofNat_inj {a b : ℕ} (ha : a < 2 ^ 31) (hb : b < 2 ^ 31) (h : BitVec.ofNat 32 a = BitVec.ofNat 32 b) : a = b := by
  have := congrArg BitVec.toInt h
  rw [toInt_ofNat_lt ha, toInt_ofNat_lt hb] at this
  exact_mod_cast this

theorem cmpi_eq {a b : ℕ} (ha : a < 2 ^ 31) (hb : b < 2 ^ 31) :
    IntOp.cmpi .eq (BitVec.ofNat 32 a) (BitVec.ofNat 32 b) = 1#1 ↔ a = b := by
  rw [IntOp.cmpi, ofBool_eq_one, beq_iff_eq]
  exact ⟨ofNat_inj ha hb, fun h => by rw [h]⟩

theorem cmpi_slt {a b : ℕ} (ha : a < 2 ^ 31) (hb : b < 2 ^ 31) :
    IntOp.cmpi .slt (BitVec.ofNat 32 a) (BitVec.ofNat 32 b) = 1#1 ↔ a < b := by
  rw [IntOp.cmpi, ofBool_eq_one]
  show (BitVec.slt _ _) = true ↔ _
  rw [BitVec.slt_iff_toInt_lt, toInt_ofNat_lt ha, toInt_ofNat_lt hb]
  exact_mod_cast Iff.rfl

theorem cmpi_sgt {a b : ℕ} (ha : a < 2 ^ 31) (hb : b < 2 ^ 31) :
    IntOp.cmpi .sgt (BitVec.ofNat 32 a) (BitVec.ofNat 32 b) = 1#1 ↔ b < a := cmpi_slt hb ha

theorem cmpi_sge {a b : ℕ} (ha : a < 2 ^ 31) (hb : b < 2 ^ 31) :
    IntOp.cmpi .sge (BitVec.ofNat 32 a) (BitVec.ofNat 32 b) = 1#1 ↔ b ≤ a := by
  rw [IntOp.cmpi, ofBool_eq_one]
  show (BitVec.sle _ _) = true ↔ _
  rw [BitVec.sle_iff_toInt_le, toInt_ofNat_lt ha, toInt_ofNat_lt hb]
  exact_mod_cast Iff.rfl

/-- An index counted from the end if it is negative: a small number is left as it is. -/
theorem wrap_ofNat {a : ℕ} (ha : a < 2 ^ 31) (n : BitVec 32) :
    Scalar.select (IntOp.cmpi .slt (BitVec.ofNat 32 a) 0#32) (IntOp.addi (BitVec.ofNat 32 a) n) (BitVec.ofNat 32 a) = BitVec.ofNat 32 a :=
  select_neg (fun h => by
    have := (cmpi_slt (b := 0) ha (by norm_num)).mp h
    omega) _ _

/-- The divisor 20, replaced by 1 if it were 0. -/
abbrev twenty : BitVec 32 := Scalar.select (IntOp.cmpi .eq 20#32 0#32) 1#32 20#32

/-- The remainder by 20 with the sign of the divisor. -/
def remW (x : BitVec 32) : BitVec 32 :=
  Scalar.select (IntOp.andi (IntOp.cmpi .ne (IntOp.cmpi .slt (IntOp.remsi .host x twenty) 0#32) (IntOp.cmpi .slt twenty 0#32))
    (IntOp.cmpi .ne (IntOp.remsi .host x twenty) 0#32)) (IntOp.addi (IntOp.remsi .host x twenty) twenty) (IntOp.remsi .host x twenty)

/-- The sign of a word. -/
def sgnW (x : BitVec 32) : BitVec 32 := if x = 0 then 0 else if x.msb then -1 else 1

/-- The quotient by 20 rounded down. -/
def divW (x : BitVec 32) : BitVec 32 :=
  Scalar.select (IntOp.andi (IntOp.cmpi .ne (sgnW x) (sgnW 20#32)) (IntOp.cmpi .ne (IntOp.remsi .host x 20#32) 0#32))
    (IntOp.subi (IntOp.divsi .host x 20#32) 1#32) (IntOp.divsi .host x 20#32)

theorem remsi20 {i : ℕ} (hi : i < 2 ^ 31) : IntOp.remsi .host (BitVec.ofNat 32 i) 20#32 = BitVec.ofNat 32 (i % 20) := by
  rw [IntOp.remsi, if_neg (by simp [IntOp.SDivCorner])]
  apply BitVec.eq_of_toInt_eq
  rw [BitVec.toInt_srem, toInt_ofNat_lt hi, toInt_ofNat_lt (a := i % 20) (by omega)]
  show Int.tmod (i : ℤ) 20 = _
  rw [Int.tmod_eq_emod_of_nonneg (by positivity)]
  norm_cast

theorem divsi20 {i : ℕ} (hi : i < 2 ^ 31) : IntOp.divsi .host (BitVec.ofNat 32 i) 20#32 = BitVec.ofNat 32 (i / 20) := by
  rw [IntOp.divsi, if_neg (by simp [IntOp.SDivCorner])]
  apply BitVec.eq_of_toInt_eq
  rw [BitVec.toInt_sdiv, toInt_ofNat_lt hi, toInt_ofNat_lt (a := i / 20) (by omega)]
  show (Int.tdiv (i : ℤ) 20).bmod _ = _
  rw [Int.tdiv_eq_ediv_of_nonneg (by positivity), Int.bmod_eq_of_le] <;> omega

theorem remW_ofNat {i : ℕ} (hi : i < 2 ^ 31) : remW (BitVec.ofNat 32 i) = BitVec.ofNat 32 (i % 20) := by
  have ht : twenty = 20#32 := by decide
  rw [remW, ht, remsi20 hi]
  refine select_neg (fun h => ?_) _ _
  have h1 := ((andi_eq_one _ _).mp h).1
  have h2 : IntOp.cmpi .slt (BitVec.ofNat 32 (i % 20)) 0#32 = 0#1 := eq_zero_of_ne_one _ fun e => by
    have := (cmpi_slt (a := i % 20) (b := 0) (by omega) (by norm_num)).mp e
    omega
  rw [h2] at h1
  revert h1; decide

theorem divW_ofNat {i : ℕ} (hi : i < 2 ^ 31) : divW (BitVec.ofNat 32 i) = BitVec.ofNat 32 (i / 20) := by
  rw [divW, divsi20 hi, remsi20 hi]
  refine select_neg (fun h => ?_) _ _
  obtain ⟨h1, h2⟩ := (andi_eq_one _ _).mp h
  by_cases h0 : i = 0
  · subst h0
    revert h2; decide
  · have hs : sgnW (BitVec.ofNat 32 i) = 1#32 := by
      have hne : BitVec.ofNat 32 i ≠ 0 := fun e => h0 (ofNat_inj hi (by norm_num) (b := 0) e)
      have hm : (BitVec.ofNat 32 i).msb = false := by
        rw [BitVec.msb_eq_toInt, toInt_ofNat_lt hi]
        simp
      rw [sgnW, if_neg hne, hm]
      rfl
    rw [hs] at h1
    revert h1; decide

end Cert.Proof.Val

end
-- ==== Proof.Val.Order.lean ====
/-
  Ranked lists. A score on `n` positions ranks them: the greater score first, equal scores in order of position. `IsTop`
  says that a list is the first so many positions of that ranking. There is one such list of each length
  (`IsTop.unique`), the stable sort gives it (`isTop_sortedFrom`), and so does any ranked list that fills a set of scores at
  least the list's last one (`isTop_of_count`). `final_unique` is the fact the fast path rests on: the 200 first of the
  kept positions do not depend on the positions after them.
-/
module

public import Idealize.ShloMosaic.PureOps.Ideal
public import Idealize.ShloMosaic.Lib.SortPrefix

@[expose] public section

noncomputable section

namespace Cert.Proof.Val

open Idealize.ShloMosaic

/-- Position `a` is ranked before position `b`. -/
def Ahead {n : ℕ} (key : Fin n → EReal) (a b : Fin n) : Prop := key b < key a ∨ (key a = key b ∧ a < b)

/-- `σ` lists the first `k` positions of the ranking. -/
structure IsTop {n k : ℕ} (key : Fin n → EReal) (σ : Fin k → Fin n) : Prop where
  ord : ∀ i j, i < j → Ahead key (σ i) (σ j)
  dom : ∀ p, (∀ j, σ j ≠ p) → ∀ i, Ahead key (σ i) p

section Rank

variable {n k : ℕ} {key : Fin n → EReal}

theorem Ahead.irrefl (a : Fin n) : ¬ Ahead key a a := by
  rintro (h | ⟨_, h⟩) <;> exact lt_irrefl _ h

theorem Ahead.trans {a b c : Fin n} (h : Ahead key a b) (h' : Ahead key b c) : Ahead key a c := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem Ahead.total {a b : Fin n} (h : a ≠ b) : Ahead key a b ∨ Ahead key b a := by
  rcases lt_trichotomy (key a) (key b) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem Ahead.le {a b : Fin n} (h : Ahead key a b) : key b ≤ key a := by
  rcases h with h | ⟨e, _⟩
  · exact h.le
  · exact e.ge

open Classical in
/-- The ranking pulled back along a list without repeats is a strict total order. -/
theorem strict_of_injective {κ : Type} (σ : κ → Fin n) (hσ : Function.Injective σ) :
    StrictTotalBefore fun a b : κ => decide (Ahead key (σ a) (σ b)) where
  irrefl a := by simp [Ahead.irrefl]
  trans a b c h h' := by simp only [decide_eq_true_eq] at *; exact h.trans h'
  total a b h := by simp only [decide_eq_true_eq]; exact Ahead.total (hσ.ne h)

theorem IsTop.injective {σ : Fin k → Fin n} (h : IsTop key σ) : Function.Injective σ := by
  intro i j e
  by_contra hne
  rcases lt_or_gt_of_ne hne with h' | h'
  · exact Ahead.irrefl _ (e ▸ h.ord _ _ h')
  · exact Ahead.irrefl _ (e ▸ h.ord _ _ h')

/-- There is one ranked list of each length. -/
theorem IsTop.unique {σ τ : Fin k → Fin n} (h : IsTop key σ) (h' : IsTop key τ) : σ = τ := by
  classical
  have hk : k ≤ n := by simpa using Fintype.card_le_of_injective σ h.injective
  have hB := strict_of_injective (key := key) (fun a : Fin n => a) (fun _ _ e => e)
  have key1 : ∀ ρ : Fin k → Fin n, IsTop key ρ → ∀ i, sortedFrom (fun a b => decide (Ahead key a b)) (i.castLE hk) = ρ i :=
    fun ρ hρ i => hB.sortedFrom_eq_of_prefix hk ρ hρ.injective
      (fun i j hij => hB.asymm _ _ (by simpa using hρ.ord i j hij))
      (fun i p hp => hB.asymm _ _ (by simpa using hρ.dom p hp i)) i
  funext i
  rw [← key1 σ h i, key1 τ h' i]

/-- The start of a ranked list is a ranked list. -/
theorem IsTop.take {σ : Fin k → Fin n} (h : IsTop key σ) {k' : ℕ} (hk : k' ≤ k) : IsTop key fun i : Fin k' => σ (i.castLE hk) where
  ord i j hij := h.ord _ _ (by simpa using hij)
  dom p hp i := by
    by_cases hq : ∃ j, σ j = p
    · obtain ⟨j, rfl⟩ := hq
      refine h.ord _ _ ?_
      by_contra hlt
      have : j.val < k' := lt_of_le_of_lt (not_lt.mp hlt : j.val ≤ i.val) i.isLt
      exact hp ⟨j.val, this⟩ (congrArg σ (Fin.ext rfl))
    · exact h.dom p (fun j e => hq ⟨j, e⟩) _

/-- A sort by score alone that keeps equal scores in place is the sort by the ranking. -/
theorem stableSort_rank {R B : Fin n → Fin n → Bool} (h : ∀ a b, a < b → R b a = B b a) :
    ∀ l : List (Fin n), l.Pairwise (· < ·) → stableSort R l = stableSort B l
  | [], _ => rfl
  | a :: l, hl => by
    have hl' := List.pairwise_cons.mp hl
    show insertBefore R a (stableSort R l) = insertBefore B a (stableSort B l)
    rw [stableSort_rank h l hl'.2]
    exact insertBefore_congr _ _ _ _ fun b hb => h a b (hl'.1 b ((perm_stableSort B l).mem_iff.mp hb))

/-- The sort by a strict total order puts no later position before an earlier one. -/
theorem sortedFrom_ordered {m : ℕ} {B : Fin m → Fin m → Bool} (hB : StrictTotalBefore B) (i j : Fin m) (h : i < j) :
    B (sortedFrom B i) (sortedFrom B j) = true := by
  have h1 := sortedFrom_noInversion B B (fun a b h => hB.asymm a b h) (fun _ _ h => h) hB.negTrans i j h
  rcases hB.total _ _ ((sortedFrom_injective B).ne h.ne) with h2 | h2
  · exact h2
  · rw [h1] at h2; exact absurd h2 (by decide)

/-- The stable sort by decreasing score lists the ranking. -/
theorem isTop_sortedFrom (key : Fin n → Ideal .f32) (hk : k ≤ n) :
    IsTop key fun i : Fin k => sortedFrom (fun a b => FloatOps.cmpfTotal .gt (key a) (key b) == 1#1) (i.castLE hk) := by
  classical
  have hB := strict_of_injective (key := key) (fun a : Fin n => a) (fun _ _ e => e)
  have hR : sortedFrom (fun a b => FloatOps.cmpfTotal .gt (key a) (key b) == 1#1)
      = sortedFrom (fun a b => decide (Ahead key a b)) := by
    funext i
    unfold sortedFrom
    have : sortPositions n (fun a b => FloatOps.cmpfTotal .gt (key a) (key b) == 1#1)
        = sortPositions n (fun a b => decide (Ahead key a b)) := by
      refine stableSort_rank (fun a b hab => ?_) _ (List.pairwise_lt_finRange n)
      show (Ideal.cmpTotal .gt (key b) (key a) == 1#1) = _
      have : Ahead key b a ↔ key a < key b :=
        ⟨fun h => h.elim id fun h => absurd h.2 (lt_asymm hab), .inl⟩
      by_cases h : key a < key b <;> simp [this, h, Ideal.cmpTotal, Ideal.cmp, CmpDirection.ordered]
    rw [List.get_of_eq this]
    rfl
  rw [hR]
  constructor
  · intro i j hij
    simpa using sortedFrom_ordered hB (i.castLE hk) (j.castLE hk) (by simpa using hij)
  · intro p hp i
    obtain ⟨q, rfl⟩ := sortedFrom_surjective (fun a b => decide (Ahead key a b)) p
    have hq : k ≤ q.val := by
      by_contra hlt
      exact hp ⟨q.val, by omega⟩ (congrArg _ (Fin.ext rfl))
    simpa using sortedFrom_ordered hB (i.castLE hk) q (Fin.lt_def.mpr (lt_of_lt_of_le (show (i.castLE hk).val < k from i.isLt) hq))

/-- A ranked list whose positions are as many as the positions that score at least its last one. -/
theorem isTop_of_count {σ : Fin (k + 1) → Fin n} (hord : ∀ i j, i < j → Ahead key (σ i) (σ j))
    (hc : (Finset.univ.filter fun p => key (σ (Fin.last k)) ≤ key p).card = k + 1) : IsTop key σ := by
  classical
  have hinj : Function.Injective σ := by
    intro i j e
    by_contra hne
    rcases lt_or_gt_of_ne hne with h' | h' <;> exact Ahead.irrefl _ (e ▸ hord _ _ h')
  have hle : ∀ i, key (σ (Fin.last k)) ≤ key (σ i) := fun i => by
    rcases lt_or_eq_of_le (Fin.le_last i) with h | h
    · exact (hord _ _ h).le
    · rw [h]
  have himg : Finset.univ.image σ = Finset.univ.filter fun p => key (σ (Fin.last k)) ≤ key p := by
    refine Finset.eq_of_subset_of_card_le (fun p hp => ?_) ?_
    · obtain ⟨i, _, rfl⟩ := Finset.mem_image.mp hp
      simpa using hle i
    · rw [hc, Finset.card_image_of_injective _ hinj]; simp
  refine ⟨hord, fun p hp i => .inl ?_⟩
  have : p ∉ Finset.univ.image σ := fun h => by
    obtain ⟨j, _, e⟩ := Finset.mem_image.mp h
    exact hp j e
  rw [himg] at this
  simp only [Finset.mem_filter, Finset.mem_univ, true_and, not_le] at this
  exact this.trans_le (hle i)

end Rank

/-! ## The last ranking -/

open Classical in
/-- A score with the positions not kept put below everything. -/
def ranked {n : ℕ} (key : Fin n → EReal) (keep : Fin n → Prop) (i : Fin n) : EReal := if keep i then key i else ⊥

/-- The last ranking over `n` positions gives, where 200 of the first `q` positions are kept, positions below `q` that are kept. -/
theorem final_kept {n k q : ℕ} {key : Fin n → EReal} (hbot : ∀ i, ⊥ < key i) (hanti : ∀ i j, i ≤ j → key j ≤ key i)
    {keep : Fin n → Prop} {σ : Fin k → Fin n} (h : IsTop (ranked key keep) σ)
    (s : Finset (Fin n)) (hs : ∀ i ∈ s, keep i ∧ i.val < q) (hc : k ≤ s.card) (i : Fin k) : keep (σ i) ∧ (σ i).val < q := by
  classical
  by_contra hno
  obtain ⟨y, hy, hyr⟩ : ∃ y ∈ s, ∀ j, σ j ≠ y := by
    by_contra hall
    simp only [not_exists, not_and, not_forall, not_not] at hall
    have hsub : s ⊆ (Finset.univ.erase i).image σ := fun y hy => by
      obtain ⟨j, hj⟩ := hall y hy
      refine Finset.mem_image.mpr ⟨j, Finset.mem_erase.mpr ⟨?_, Finset.mem_univ _⟩, hj⟩
      rintro rfl
      exact hno (hj ▸ hs y hy)
    have h1 := (Finset.card_le_card hsub).trans Finset.card_image_le
    rw [Finset.card_erase_of_mem (Finset.mem_univ _), Finset.card_univ, Fintype.card_fin] at h1
    have := i.isLt
    omega
  have hya : ranked key keep y = key y := if_pos (hs y hy).1
  have ha := h.dom y hyr i
  by_cases hk : keep (σ i)
  · have hi : ranked key keep (σ i) = key (σ i) := if_pos hk
    have hq : q ≤ (σ i).val := by by_contra hlt; exact hno ⟨hk, by omega⟩
    have hlt : y < σ i := Fin.lt_def.mpr (lt_of_lt_of_le (hs y hy).2 hq)
    rcases ha with ha | ⟨_, ha⟩
    · rw [hi, hya] at ha; exact absurd (hanti y (σ i) hlt.le) (not_le.mpr ha)
    · exact lt_asymm ha hlt
  · have hi : ranked key keep (σ i) = ⊥ := if_neg hk
    rcases ha with ha | ⟨ha, _⟩
    · rw [hi] at ha; exact absurd ha not_lt_bot
    · rw [hi, hya] at ha; exact absurd ha.symm (hbot y).ne'

/-- Two last rankings, over `n` and `n'` positions, that agree on the first `q` positions, 200 of them kept, list the same. -/
theorem final_unique {n n' k q : ℕ} (hq : q ≤ n) (hq' : q ≤ n') {key : Fin n → EReal} {key' : Fin n' → EReal}
    (hbot : ∀ i, ⊥ < key i) (hanti : ∀ i j, i ≤ j → key j ≤ key i)
    (hanti' : ∀ i j, i ≤ j → key' j ≤ key' i)
    {keep : Fin n → Prop} {keep' : Fin n' → Prop}
    (hkey : ∀ i (h : i < q), key ⟨i, h.trans_le hq⟩ = key' ⟨i, h.trans_le hq'⟩)
    (hkeep : ∀ i (h : i < q), keep ⟨i, h.trans_le hq⟩ ↔ keep' ⟨i, h.trans_le hq'⟩)
    {σ : Fin k → Fin n} {σ' : Fin k → Fin n'} (h : IsTop (ranked key keep) σ) (h' : IsTop (ranked key' keep') σ')
    (s : Finset (Fin n)) (hs : ∀ i ∈ s, keep i ∧ i.val < q) (hc : k ≤ s.card) (i : Fin k) : (σ i).val = (σ' i).val := by
  classical
  have hlt := final_kept hbot hanti h s hs hc
  let τ : Fin k → Fin n' := fun i => ⟨(σ i).val, (hlt i).2.trans_le hq'⟩
  have hval : ∀ j (hj : j < q), ranked key keep ⟨j, hj.trans_le hq⟩ = ranked key' keep' ⟨j, hj.trans_le hq'⟩ := fun j hj => by
    unfold ranked
    by_cases hk : keep ⟨j, hj.trans_le hq⟩
    · rw [if_pos hk, if_pos ((hkeep j hj).mp hk), hkey j hj]
    · rw [if_neg hk, if_neg (fun e => hk ((hkeep j hj).mpr e))]
  have hτ : ∀ i, ranked key' keep' (τ i) = ranked key keep (σ i) := fun i => (hval _ (hlt i).2).symm
  have htop : IsTop (ranked key' keep') τ := by
    constructor
    · intro i j hij
      rcases h.ord i j hij with ha | ⟨ha, hb⟩
      · exact .inl (by rw [hτ, hτ]; exact ha)
      · exact .inr ⟨by rw [hτ, hτ]; exact ha, hb⟩
    · intro p hp i
      by_cases hpq : p.val < q
      · rcases h.dom ⟨p.val, hpq.trans_le hq⟩ (fun j e => hp j (Fin.ext (show (σ j).val = p.val from congrArg Fin.val e))) i with ha | ⟨ha, hb⟩
        · exact .inl (by rw [hτ, ← hval p.val hpq]; exact ha)
        · exact .inr ⟨by rw [hτ, ← hval p.val hpq]; exact ha, hb⟩
      · have hi : τ i < p := Fin.lt_def.mpr (lt_of_lt_of_le (show (τ i).val < q from (hlt i).2) (not_lt.mp hpq))
        have hle : ranked key' keep' p ≤ ranked key' keep' (τ i) := by
          rw [hτ, show ranked key keep (σ i) = key (σ i) from if_pos (hlt i).1]
          refine le_trans ?_ ((hanti' _ _ hi.le).trans_eq (hkey _ (hlt i).2).symm)
          unfold ranked
          split
          · exact le_rfl
          · exact bot_le
        rcases lt_or_eq_of_le hle with hl | hl
        · exact .inl hl
        · exact .inr ⟨hl.symm, hi⟩
  have := congrFun (htop.unique h') i
  exact congrArg Fin.val this

end Cert.Proof.Val

end
-- ==== Proof.Val.TopK.lean ====
/-
  Selecting the greatest entries of a flat array, and sorting one by a key and a tie-breaking word, read
  at an index over the extended reals.
-/
module

public import proofs.«01_k».proof.Proof.Val.Order
public import proofs.«01_k».proof.Proof.Val.Words
public import Idealize.ShloMosaic.Lib.Routing.Shapes
public import Idealize.ShloMosaic.Lib.Routing.Ops
public import Idealize.ShloMosaic.Lib.Routing.OpsSet
public import Idealize.ShloMosaic.Lib.SortFacts
public import Idealize.ShloMosaic.Lib.Pointwise
public import Idealize.ShloMosaic.Lib.Pointwise.IndexBridge
public import Idealize.ShloMosaic.PureOps.Ideal

@[expose] public section

set_option maxRecDepth 65536

noncomputable section

namespace Cert.Proof.Val

open Idealize.ShloMosaic

/-- The greatest of a list and a start is below what all of them are below. -/
theorem foldl_max_le {ι : Type} (g : ι → EReal) (y : EReal) : ∀ (l : List ι) (b : EReal),
    l.foldl (fun r n => max r (g n)) b ≤ y ↔ b ≤ y ∧ ∀ n ∈ l, g n ≤ y
  | [], b => by simp
  | a :: l, b => by
    rw [List.foldl_cons, foldl_max_le g y l, max_le_iff, List.forall_mem_cons, and_assoc]

/-- The maximum of a whole array. -/
theorem reduceMax_le {s t u : Shape} {axes : List (Fin s.rank)} (ht : t.rank = 0) (x : FVec Ideal s .f32) (init : FVec Ideal u .f32)
    (h : s.ReducesTo axes t) (hu : 0 < u.numel) (j : t.Idx) (y : EReal) :
    (Host.reduce (FloatOps.maximumf (F := Ideal) (φ := .f32)) x init h hu j : EReal) ≤ y
      ↔ (init (Shape.Idx.first hu) : EReal) ≤ y ∧ ∀ i, (x i : EReal) ≤ y := by
  unfold Host.reduce
  refine (foldl_max_le (fun n => x (s.rowMajor.symm n)) y _ _).trans (and_congr_right fun _ => ?_)
  constructor
  · intro g i
    have := g (s.rowMajor i) (List.mem_filter.mpr ⟨List.mem_finRange _, decide_eq_true (funext fun a => absurd a.isLt (by omega))⟩)
    rwa [Equiv.symm_apply_apply] at this
  · exact fun g n _ => g _

/-- A flat index moved along its axis is the index at the new coordinate. -/
theorem along_ix1 {n : ℕ} (j : (⟨1, ![n]⟩ : Shape).Idx) (c : Fin n) : j.along (0 : Fin 1) c = ix1 c :=
  (Shape.Idx.along_rank1 j c).trans ((Routing.ofFin_eq_ix1 c).trans (ix1_eq_valueIdx c).symm)

/-- A sort of two flat arrays, as one permutation applied to both. -/
theorem sort2_eq {n : ℕ} {α β : Type} (cmp : α × β → α × β → BitVec 1) (x : (⟨1, ![n]⟩ : Shape).Idx → α) (y : (⟨1, ![n]⟩ : Shape).Idx → β)
    (R : Fin n → Fin n → Bool) (hR : ∀ a b, (cmp (x (ix1 a), y (ix1 a)) (x (ix1 b), y (ix1 b)) == 1#1) = R a b) :
    Host.sort2 ⟨1, ![n]⟩ 0 cmp x y = (fun j => x (ix1 (sortedFrom R (j 0))), fun j => y (ix1 (sortedFrom R (j 0)))) := by
  unfold Host.sort2
  rw [dif_pos (show 0 < (⟨1, ![n]⟩ : Shape).rank from Nat.one_pos)]
  have hR' : ∀ j : (⟨1, ![n]⟩ : Shape).Idx, (fun k k' : Fin n => cmp (x (j.along (0 : Fin 1) k), y (j.along (0 : Fin 1) k))
      (x (j.along (0 : Fin 1) k'), y (j.along (0 : Fin 1) k')) == 1#1) = R := fun j => by
    funext k k'
    rw [along_ix1, along_ix1]
    exact hR k k'
  refine Prod.ext (funext fun j => congrArg x ?_) (funext fun j => congrArg y ?_)
  all_goals exact (along_ix1 j _).trans (congrArg ix1 (congrFun (congrArg sortedFrom (hR' j)) (j 0)))

/-- The values and positions of the `k` greatest entries: the first `k` places of the ranking. -/
theorem topK_spec {n k : ℕ} (hk : k ≤ n) (x : FVec Ideal ⟨1, ![n]⟩ .f32) (h : (⟨1, ![n]⟩ : Shape).Slices (fun _ => 0) ⟨1, ![k]⟩) :
    ∃ σ : Fin k → Fin n, IsTop (fun i => (x (ix1 i) : EReal)) σ
      ∧ (∀ j, @Eq EReal ((Host.topK ⟨1, ![k]⟩ 0 (FloatOps.cmpfTotal .gt) x h).1 (ix1 j)) (x (ix1 (σ j))))
      ∧ ∀ j, (Host.topK ⟨1, ![k]⟩ 0 (FloatOps.cmpfTotal .gt) x h).2 (ix1 j) = BitVec.ofNat 32 (σ j).val := by
  refine ⟨_, isTop_sortedFrom (fun i => x (ix1 i)) hk, fun j => ?_, fun j => ?_⟩
  · show extractStridedSlice ⟨1, ![k]⟩ (fun _ => 0) (Host.sort2 ⟨1, ![n]⟩ 0 (fun l r => FloatOps.cmpfTotal .gt l.1 r.1) x (iotaInDim ⟨1, ![n]⟩ 32 0)).1 h (ix1 j) = _
    rw [sort2_eq (fun l r => FloatOps.cmpfTotal .gt l.1 r.1) _ _ (fun a b => FloatOps.cmpfTotal .gt (x (ix1 a)) (x (ix1 b)) == 1#1) fun _ _ => rfl]
    exact congrArg (fun c => x (ix1 (sortedFrom (fun a b => FloatOps.cmpfTotal .gt (x (ix1 a)) (x (ix1 b)) == 1#1) c))) (Fin.ext (Nat.zero_add _))
  · show extractStridedSlice ⟨1, ![k]⟩ (fun _ => 0) (Host.sort2 ⟨1, ![n]⟩ 0 (fun l r => FloatOps.cmpfTotal .gt l.1 r.1) x (iotaInDim ⟨1, ![n]⟩ 32 0)).2 h (ix1 j) = _
    rw [sort2_eq (fun l r => FloatOps.cmpfTotal .gt l.1 r.1) _ _ (fun a b => FloatOps.cmpfTotal .gt (x (ix1 a)) (x (ix1 b)) == 1#1) fun _ _ => rfl]
    exact congrArg (fun c => BitVec.ofNat 32 (sortedFrom (fun a b => FloatOps.cmpfTotal .gt (x (ix1 a)) (x (ix1 b)) == 1#1) c).val)
      (Fin.ext (Nat.zero_add _))

/-- The comparator that puts the smaller key first, and on equal keys the smaller word. -/
theorem sort2_spec {n : ℕ} (cmp : Ideal .f32 × BitVec 32 → Ideal .f32 × BitVec 32 → BitVec 1) (x : FVec Ideal ⟨1, ![n]⟩ .f32)
    (y : IVec ⟨1, ![n]⟩ 32) (B : Fin n → Fin n → Prop) [DecidableRel B]
    (hB : StrictTotalBefore fun a b => decide (B a b))
    (hc : ∀ a b, cmp (x (ix1 a), y (ix1 a)) (x (ix1 b), y (ix1 b)) = 1#1 ↔ B a b) :
    ∃ π : Fin n → Fin n, (∀ i j, i < j → B (π i) (π j))
      ∧ (∀ j, @Eq EReal ((Host.sort2 ⟨1, ![n]⟩ 0 cmp x y).1 (ix1 j)) (x (ix1 (π j))))
      ∧ ∀ j, (Host.sort2 ⟨1, ![n]⟩ 0 cmp x y).2 (ix1 j) = y (ix1 (π j)) := by
  have he : ∀ a b : Fin n, (cmp (x (ix1 a), y (ix1 a)) (x (ix1 b), y (ix1 b)) == 1#1) = decide (B a b) := fun a b => by
    rw [Bool.eq_iff_iff, beq_iff_eq, decide_eq_true_eq, hc]
  rw [sort2_eq cmp x y _ he]
  exact ⟨sortedFrom fun a b => decide (B a b), fun i j h => of_decide_eq_true (sortedFrom_ordered hB i j h), fun _ => rfl, fun _ => rfl⟩

/-- Rows of a table, taken by number. -/
theorem gather_rows {α : Type} {nb B n : ℕ} (d : GatherDims ⟨2, ![nb, B]⟩ ⟨2, ![n, 1]⟩ ⟨2, ![n, B]⟩) (hoff : d.offsetDims = [1])
    (hcoll : d.collapsedSliceDims = [0]) (hob : d.operandBatchingDims = []) (hsim : d.startIndexMap = [0]) (hivd : d.indexVectorDim = 1)
    (hnb : nb < 2 ^ 31) (x : (⟨2, ![nb, B]⟩ : Shape).Idx → α) (idx : IVec ⟨2, ![n, 1]⟩ 32) (c : Fin n) (y : Fin B) (b : Fin nb)
    (hb : idx (ix2 c 0) = BitVec.ofNat 32 b.val) : Host.gather d x idx (ix2 c y) = x (ix2 b y) := by
  rw [ix2_eq_valueIdx] at hb
  rw [ix2_eq_valueIdx, ix2_eq_valueIdx]
  exact Routing.gather_row d hoff hcoll hob hsim hivd x idx c y b hb hnb

/-- Entries of a flat table, taken by number. -/
theorem gather_entries {α : Type} {N n : ℕ} (d : GatherDims ⟨1, ![N]⟩ ⟨2, ![n, 1]⟩ ⟨1, ![n]⟩) (hcoll : d.collapsedSliceDims = [0])
    (hob : d.operandBatchingDims = []) (hsim : d.startIndexMap = [0]) (hivd : d.indexVectorDim = 1) (hN : N < 2 ^ 31)
    (x : (⟨1, ![N]⟩ : Shape).Idx → α) (idx : IVec ⟨2, ![n, 1]⟩ 32) (p : Fin n) (b : Fin N)
    (hb : idx (ix2 p 0) = BitVec.ofNat 32 b.val) : Host.gather d x idx (ix1 p) = x (ix1 b) := by
  rw [ix2_eq_valueIdx] at hb
  rw [ix1_eq_valueIdx, ix1_eq_valueIdx]
  exact Routing.gather_take1 d hcoll hob hsim hivd x idx p b hb hN

end Cert.Proof.Val

end
-- ==== Proof.PI.Gathers.lean ====
/-
  The two ways the kernel takes entries of a table by number that are not rows: columns, and single points.
-/
module

public import proofs.«01_k».proof.Proof.PI.Ops
public import proofs.«01_k».proof.Proof.Val.Words
public import proofs.«01_k».proof.Proof.Val.TopK
public import Idealize.ShloMosaic.Lib.Routing.Ops
public import Idealize.ShloMosaic.Lib.Pointwise

@[expose] public section

set_option maxRecDepth 65536

noncomputable section

namespace Cert.Proof.PI

open Idealize.ShloMosaic
open Cert.KernelIdeal Cert.KernelIdeal.Gen Cert.Proof.Val

/-- A small number, kept below a bound it is below. -/
theorem clamp_ofNat {n b : ℕ} (hb : b < n) (hn : n < 2 ^ 31) {w : BitVec 32} (hw : w = BitVec.ofNat 32 b) : min w.toInt.toNat (n - 1) = b := by
  subst hw
  rw [toInt_ofNat_lt (by omega)]
  omega

/-- Columns of a table, taken by number. -/
theorem gather_columns {α : Type} (x : S20x20000.Idx → α) (idx : IVec S512x1 32) (c : Fin 20) (j : Fin 512) (b : Fin 20000)
    (hb : idx (ix2 j 0) = BitVec.ofNat 32 b.val) :
    Host.gather gather_S20x20000_S512x1_S20x512_0_1_n_n_1_1_201 x idx (ix2 c j) = x (ix2 c b) := by
  unfold Host.gather
  refine congrArg x (funext fun a => Fin.ext ?_)
  fin_cases a
  · show 0 + 0 + c.val = c.val
    omega
  · show min (idx _).toInt.toNat (20000 - 1) + 0 + 0 = b.val
    refine clamp_ofNat b.isLt (by decide) ((congrArg idx ?_).trans hb)
    funext a
    fin_cases a <;> rfl

/-- Points of a table, taken by row and column. -/
theorem gather_points {α : Type} (x : S20000x21.Idx → α) (idx : IVec S200x2 32) (j : Fin 200) (p : Fin 20000) (c : Fin 21)
    (hp : idx (ix2 j 0) = BitVec.ofNat 32 p.val) (hc : idx (ix2 j 1) = BitVec.ofNat 32 c.val) :
    Host.gather gather_S20000x21_S200x2_S200_n_01_n_n_01_1_11 x idx (ix1 j) = x (ix2 p c) := by
  unfold Host.gather
  refine congrArg x (funext fun a => Fin.ext ?_)
  fin_cases a
  · show min (idx _).toInt.toNat (20000 - 1) + 0 + 0 = p.val
    refine clamp_ofNat p.isLt (by decide) ((congrArg idx ?_).trans hp)
    funext a
    fin_cases a <;> rfl
  · show min (idx _).toInt.toNat (21 - 1) + 0 + 0 = c.val
    refine clamp_ofNat c.isLt (by decide) ((congrArg idx ?_).trans hc)
    funext a
    fin_cases a <;> rfl

end Cert.Proof.PI

end
-- ==== Proof.Val.Keep.lean ====
/-
  Which boxes are kept. `Stage S P t on`: `on` is what is left of `P` once each of the first `t` boxes, in order, has
  removed the later boxes it overlaps (`S`), if it is itself still there. One box's step (`Stage.step`), a whole block's
  step (`Stage.block`), and that the first `t` of two such sets are equal (`Stage.agree`). `overlaps` is the test of two
  boxes: the area they share over the area they cover.
-/
module

public import Idealize.ShloMosaic.PureOps.Ideal

@[expose] public section

noncomputable section

namespace Cert.Proof.Val

open Idealize.ShloMosaic

/-- What is left of `P` once the first `t` boxes have removed the later boxes they overlap. -/
def Stage {n : ℕ} (S : Fin n → Fin n → Prop) (P : Fin n → Prop) (t : ℕ) (on : Fin n → Prop) : Prop :=
  ∀ j, on j ↔ P j ∧ ∀ i, i.val < t → i < j → on i → ¬ S i j

section

variable {n : ℕ} {S : Fin n → Fin n → Prop} {P : Fin n → Prop}

theorem Stage.zero : Stage S P 0 P := fun j => by simp

/-- One more box. -/
theorem Stage.step {t : ℕ} {on on' : Fin n → Prop} (h : Stage S P t on) (ht : t < n)
    (hs : ∀ j, on' j ↔ on j ∧ ¬ (S ⟨t, ht⟩ j ∧ on ⟨t, ht⟩ ∧ ⟨t, ht⟩ < j)) : Stage S P (t + 1) on' := by
  have hle : ∀ i : Fin n, i.val ≤ t → (on' i ↔ on i) := fun i hi => by
    rw [hs]
    exact and_iff_left fun e => absurd (Fin.lt_def.mp e.2.2) (not_lt.mpr hi)
  intro j
  rw [hs, h]
  constructor
  · rintro ⟨⟨hp, hall⟩, hno⟩
    refine ⟨hp, fun i hi hij hon hS => ?_⟩
    rcases Nat.lt_succ_iff_lt_or_eq.mp hi with hlt | heq
    · exact hall i hlt hij ((hle i hlt.le).mp hon) hS
    · obtain rfl : i = ⟨t, ht⟩ := Fin.ext heq
      exact hno ⟨hS, (hle _ le_rfl).mp hon, hij⟩
  · rintro ⟨hp, hall⟩
    refine ⟨⟨hp, fun i hi hij hon => hall i (by omega) hij ((hle i hi.le).mpr hon)⟩, ?_⟩
    rintro ⟨hS, hon, hij⟩
    exact hall ⟨t, ht⟩ (Nat.lt_succ_self t) hij ((hle _ le_rfl).mpr hon) hS

/-- One more block of `b` boxes: the block's own boxes first remove each other, then the later boxes. -/
theorem Stage.block {base b : ℕ} {on on' : Fin n → Prop} (h : Stage S P base on) (hb : base + b ≤ n) {blk : Fin b → Prop}
    (hblk : Stage (fun a a' : Fin b => S ⟨base + a.val, by omega⟩ ⟨base + a'.val, by omega⟩)
      (fun a => on ⟨base + a.val, by omega⟩) b blk)
    (h1 : ∀ j, j.val < base → (on' j ↔ on j))
    (h2 : ∀ a : Fin b, on' ⟨base + a.val, by omega⟩ ↔ blk a)
    (h3 : ∀ j, base + b ≤ j.val → (on' j ↔ on j ∧ ¬ ∃ a : Fin b, blk a ∧ S ⟨base + a.val, by omega⟩ j)) :
    Stage S P (base + b) on' := by
  have hin : ∀ i : Fin n, base ≤ i.val → i.val < base + b → ∃ a : Fin b, i = ⟨base + a.val, by omega⟩ := fun i hi hi' =>
    ⟨⟨i.val - base, by omega⟩, Fin.ext (by show i.val = base + (i.val - base); omega)⟩
  intro j
  by_cases hj : j.val < base
  · rw [h1 j hj, h]
    refine and_congr_right fun _ => ⟨fun hall i _ hij hon => ?_, fun hall i hi hij hon => ?_⟩
    · have hi : i.val < base := lt_trans (Fin.lt_def.mp hij) hj
      exact hall i hi hij ((h1 i hi).mp hon)
    · exact hall i (by omega) hij ((h1 i hi).mpr hon)
  · by_cases hj' : j.val < base + b
    · obtain ⟨a, rfl⟩ := hin j (by omega) hj'
      rw [h2, hblk]
      beta_reduce
      rw [h, and_assoc]
      refine and_congr_right fun _ => ⟨fun ⟨hall, hblk'⟩ i _ hij hon => ?_, fun hall => ⟨fun i hi hij hon => ?_, fun a' _ haa hon => ?_⟩⟩
      · by_cases hi : i.val < base
        · exact hall i hi hij ((h1 i hi).mp hon)
        · have hlt := Fin.lt_def.mp hij
          obtain ⟨a', rfl⟩ := hin i (by omega) (by omega)
          exact hblk' a' a'.isLt (Fin.lt_def.mpr (by simpa using hlt)) ((h2 a').mp hon)
      · exact hall i (by omega) hij ((h1 i hi).mpr hon)
      · exact hall ⟨base + a'.val, by omega⟩ (by show base + a'.val < base + b; omega)
          (Fin.lt_def.mpr (by show base + a'.val < base + a.val; have := Fin.lt_def.mp haa; omega)) ((h2 a').mpr hon)
    · rw [h3 j (by omega), h, and_assoc]
      refine and_congr_right fun _ => ⟨fun ⟨hall, hno⟩ i hi hij hon hS => ?_, fun hall => ⟨fun i hi hij hon => ?_, ?_⟩⟩
      · by_cases hi' : i.val < base
        · exact hall i hi' hij ((h1 i hi').mp hon) hS
        · obtain ⟨a', rfl⟩ := hin i (by omega) hi
          exact hno ⟨a', (h2 a').mp hon, hS⟩
      · exact hall i (by omega) hij ((h1 i hi).mpr hon)
      · rintro ⟨a', hon, hS⟩
        exact hall ⟨base + a'.val, by omega⟩ (by show base + a'.val < base + b; omega)
          (Fin.lt_def.mpr (by show base + a'.val < j.val; omega)) ((h2 a').mpr hon) hS

/-- After all the boxes there is nothing more to remove. -/
theorem Stage.mono {t : ℕ} {on : Fin n → Prop} (h : Stage S P t on) (j : Fin n) (hj : j.val ≤ t) :
    on j ↔ P j ∧ ∀ i, i < j → on i → ¬ S i j := by
  rw [h]
  exact and_congr_right fun _ => ⟨fun hall i hij => hall i (lt_of_lt_of_le (Fin.lt_def.mp hij) hj) hij, fun hall i _ => hall i⟩

end

/-- Two such sets, over `n` and `n'` boxes whose first `q` overlap alike, have the same boxes among the first `q`. -/
theorem Stage.agree {n n' q t t' : ℕ} (hq : q ≤ n) (hq' : q ≤ n') (ht : q ≤ t) (ht' : q ≤ t') {S : Fin n → Fin n → Prop}
    {S' : Fin n' → Fin n' → Prop} {on : Fin n → Prop} {on' : Fin n' → Prop}
    (hS : ∀ i j (hi : i < q) (hj : j < q), S ⟨i, hi.trans_le hq⟩ ⟨j, hj.trans_le hq⟩ ↔ S' ⟨i, hi.trans_le hq'⟩ ⟨j, hj.trans_le hq'⟩)
    (h : Stage S (fun _ => True) t on) (h' : Stage S' (fun _ => True) t' on') :
    ∀ j (hj : j < q), on ⟨j, hj.trans_le hq⟩ ↔ on' ⟨j, hj.trans_le hq'⟩ := by
  intro j
  induction j using Nat.strong_induction_on with
  | _ j ih =>
    intro hj
    rw [h.mono ⟨j, _⟩ (hj.le.trans ht), h'.mono ⟨j, _⟩ (hj.le.trans ht')]
    refine and_congr_right fun _ => ⟨fun hall i hij hon => ?_, fun hall i hij hon => ?_⟩
    · have hi : i.val < j := Fin.lt_def.mp hij
      have := hall ⟨i.val, (hi.trans hj).trans_le hq⟩ (Fin.lt_def.mpr hi) ((ih i.val hi (hi.trans hj)).mpr hon)
      exact fun e => this ((hS i.val j (hi.trans hj) hj).mpr e)
    · have hi : i.val < j := Fin.lt_def.mp hij
      have := hall ⟨i.val, (hi.trans hj).trans_le hq'⟩ (Fin.lt_def.mpr hi) ((ih i.val hi (hi.trans hj)).mp hon)
      exact fun e => this ((hS i.val j (hi.trans hj) hj).mp e)

/-! ## The test of two boxes -/

/-- A box's area. -/
def areaOf (r : Fin 4 → EReal) : EReal := (r 2 - r 0) * (r 3 - r 1)

/-- The area two boxes share. -/
def shared (r c : Fin 4 → EReal) : EReal :=
  max (min (r 2) (c 2) - max (r 0) (c 0)) 0 * max (min (r 3) (c 3) - max (r 1) (c 1)) 0

/-- The area two boxes share over the area they cover. -/
def iou (r c : Fin 4 → EReal) : EReal :=
  Ideal.div (shared r c) (areaOf r + areaOf c - shared r c + Ideal.ofBits .f32 0x2B8CBCCC#32)

/-- Two boxes overlap too much. -/
def overlaps (r c : Fin 4 → EReal) : Prop := Ideal.ofBits .f32 0x3EE66666#32 < iou r c

end Cert.Proof.Val

end
-- ==== Proof.Val.Spec.lean ====
/-
  What both programs compute. A flat position `i` of the 400000 names prior `i / 20` and class `i % 20 + 1`. `Scene` is
  the problem's data as the programs read them; `Picked` says which 200 positions are returned; `Scene.out` is the
  result. Two ways to be picked give the same positions (`Picked.unique`).
-/
module

public import proofs.«01_k».proof.Proof.Val.Order
public import proofs.«01_k».proof.Proof.Val.Keep

@[expose] public section

noncomputable section

namespace Cert.Proof.Val

open Idealize.ShloMosaic

/-- How many flat positions there are. -/
abbrev flatN : ℕ := 400000

def priorOf (i : Fin flatN) : Fin 20000 := ⟨i.val / 20, by have := i.isLt; simp only [flatN] at this; omega⟩
def classOf (i : Fin flatN) : Fin 21 := ⟨i.val % 20 + 1, by omega⟩
/-- A class's number as a float. -/
def labelOf (i : Fin flatN) : EReal := FloatOps.sitofp (F := Ideal) .f32 (BitVec.ofNat 32 (i.val % 20 + 1))

/-- Locations, confidences and priors. -/
structure Scene where
  loc : Fin 20000 → Fin 4 → EReal
  conf : Fin 20000 → Fin 21 → EReal
  pri : Fin 20000 → Fin 4 → EReal

namespace Scene

variable (s : Scene)

/-- The extent of prior `p` along axis `k`, and its lower corner. -/
def extent (p : Fin 20000) (k k' : Fin 4) : EReal := s.pri p k' * Ideal.exp (s.loc p k' * Ideal.ofBits .f32 0x3E4CCCCD#32)
def lower (p : Fin 20000) (k k' : Fin 4) : EReal :=
  s.pri p k + s.loc p k * Ideal.ofBits .f32 0x3DCCCCCD#32 * s.pri p k' - Ideal.div (s.extent p k k') (Ideal.ofBits .f32 0x40000000#32)

/-- The box of prior `p`. -/
def box (p : Fin 20000) : Fin 4 → EReal :=
  ![s.lower p 0 2, s.lower p 1 3, s.lower p 0 2 + s.extent p 0 2, s.lower p 1 3 + s.extent p 1 3]

/-- A position's score passes. -/
def Passes (i : Fin flatN) : Prop := Ideal.ofBits .f32 0x3C23D70A#32 < s.conf (priorOf i) (classOf i)

open Classical in
/-- The score of a position. -/
def sco (i : Fin flatN) : EReal := if s.Passes i then s.conf (priorOf i) (classOf i) else 0

/-- The greatest corner of a box some score of which passes. -/
def corner : EReal := ⨆ (i : Fin flatN) (k : Fin 4) (_ : s.Passes i), s.box (priorOf i) k

/-- The box of a position, boxes of different classes far apart. -/
def nbx (i : Fin flatN) (k : Fin 4) : EReal := s.box (priorOf i) k + labelOf i * (s.corner + 1)

/-- One row of the result. -/
def out (i : Fin flatN) : Fin 6 → EReal :=
  ![labelOf i, s.conf (priorOf i) (classOf i), s.box (priorOf i) 0, s.box (priorOf i) 1, s.box (priorOf i) 2, s.box (priorOf i) 3]

theorem ofBits_thr_pos : (0 : EReal) ≤ Ideal.ofBits .f32 0x3C23D70A#32 := by
  simp [Ideal.ofBits, Ideal.ieee, -EReal.coe_mul]

theorem bot_lt_sco (i : Fin flatN) : ⊥ < s.sco i := by
  unfold sco
  split
  · rename_i h
    exact lt_of_le_of_lt bot_le h
  · exact EReal.bot_lt_zero

/-- The corner is the least bound of the passing boxes' corners. -/
theorem corner_eq {x : EReal} (h : ∀ y, x ≤ y ↔ ∀ i, s.Passes i → ∀ k, s.box (priorOf i) k ≤ y) : x = s.corner := by
  have h' : ∀ y, s.corner ≤ y ↔ ∀ i, s.Passes i → ∀ k, s.box (priorOf i) k ≤ y := fun y => by
    simp only [corner, iSup_le_iff]
    exact forall_congr' fun i => ⟨fun g hp k => g k hp, fun g k hp => g hp k⟩
  exact le_antisymm ((h _).mpr ((h' _).mp le_rfl)) ((h' _).mpr ((h _).mp le_rfl))

/-- Of the ranked positions `ord`, some suppress others. -/
def Sup {n : ℕ} (ord : Fin n → Fin flatN) (a b : Fin n) : Prop := overlaps (s.nbx (ord a)) (s.nbx (ord b))

open Classical in
/-- `sel` is picked from the first `n` positions of the ranking, the first `q` of them tried: all 4096, or enough to keep
    200. -/
structure Picks (n q : ℕ) (sel : Fin 200 → Fin flatN) (ord : Fin n → Fin flatN) (on : Fin n → Prop) (k2 : Fin 200 → Fin n) : Prop where
  top : IsTop s.sco ord
  hq : q ≤ n
  hn : n ≤ 4096
  keep : Stage (s.Sup ord) (fun _ => True) q on
  enough : (q = 4096) ∨ 200 ≤ (Finset.univ.filter fun j : Fin n => j.val < q ∧ on j).card
  rank : IsTop (ranked (fun j => s.sco (ord j)) on) k2
  sel_eq : ∀ j, sel j = ord (k2 j)

def Picked (sel : Fin 200 → Fin flatN) : Prop := ∃ n q ord on k2, s.Picks n q sel ord on k2

theorem anti {n : ℕ} {ord : Fin n → Fin flatN} (h : IsTop s.sco ord) (i j : Fin n) (hij : i ≤ j) : s.sco (ord j) ≤ s.sco (ord i) := by
  rcases hij.lt_or_eq with h' | rfl
  · exact (h.ord i j h').le
  · exact le_rfl

open Classical in
/-- The picks of a program that tried all 4096 are those of any other. -/
theorem Picks.unique {n q : ℕ} {sel sel' : Fin 200 → Fin flatN} {ord : Fin n → Fin flatN} {on : Fin n → Prop} {k2 : Fin 200 → Fin n}
    {ord' : Fin 4096 → Fin flatN} {on' : Fin 4096 → Prop} {k2' : Fin 200 → Fin 4096} (h : s.Picks n q sel ord on k2)
    (h' : s.Picks 4096 4096 sel' ord' on' k2') : sel = sel' := by
  have hq' : q ≤ 4096 := h.hq.trans h.hn
  have hord : ∀ i (hi : i < n), ord ⟨i, hi⟩ = ord' ⟨i, hi.trans_le h.hn⟩ := fun i hi =>
    congrFun (h.top.unique (h'.top.take h.hn)) ⟨i, hi⟩
  have hkeep := Stage.agree (S := s.Sup ord) (S' := s.Sup ord') h.hq hq' le_rfl hq'
    (fun i j hi hj => by unfold Sup; rw [hord i (hi.trans_le h.hq), hord j (hj.trans_le h.hq)]) h.keep h'.keep
  funext j
  rw [h.sel_eq, h'.sel_eq]
  rcases h.enough with e | e
  · subst e
    obtain rfl : n = 4096 := le_antisymm h.hn h.hq
    have e1 : ord = ord' := funext fun i => hord i.val i.isLt
    have e2 : on = on' := funext fun i => propext (hkeep i.val i.isLt)
    subst e1 e2
    rw [h.rank.unique h'.rank]
  · have hf := final_unique (key := fun j => s.sco (ord j)) (key' := fun j => s.sco (ord' j)) h.hq hq' (fun i => s.bot_lt_sco _)
      (s.anti h.top) (s.anti h'.top) (fun i hi => by show s.sco _ = s.sco _; rw [hord]) hkeep h.rank h'.rank _
      (fun i hi => by have := (Finset.mem_filter.mp hi).2; exact ⟨this.2, this.1⟩) e j
    rw [show k2 j = ⟨(k2 j).val, (k2 j).isLt⟩ from rfl, hord]
    exact congrArg ord' (Fin.ext hf)

end Scene

end Cert.Proof.Val

end
-- ==== Proof.Val.Reads.lean ====
/-
  Arrays read at an index, with the type of what is read.
-/
module

public import Idealize.ShloMosaic.Lib.Pointwise
public import Idealize.ShloMosaic.PureOps.Ideal

@[expose] public section

noncomputable section

namespace Cert.Proof.Val

open Idealize.ShloMosaic

/-- A float array at an index. -/
abbrev rd0 (x : (⟨⟨0, ![]⟩, .f32⟩ : BufTy).Contents (Elt Ideal)) : EReal := x ix0
abbrev rd1 {n : ℕ} (i : Fin n) (x : (⟨⟨1, ![n]⟩, .f32⟩ : BufTy).Contents (Elt Ideal)) : EReal := x (ix1 i)
abbrev rd2 {n m : ℕ} (i : Fin n) (k : Fin m) (x : (⟨⟨2, ![n, m]⟩, .f32⟩ : BufTy).Contents (Elt Ideal)) : EReal := x (ix2 i k)
abbrev rd3 {n m l : ℕ} (i : Fin n) (j : Fin m) (k : Fin l) (x : (⟨⟨3, ![n, m, l]⟩, .f32⟩ : BufTy).Contents (Elt Ideal)) : EReal := x (ix3 i j k)

/-- An array of words at an index, and one of bits. -/
abbrev wd0 (x : (⟨⟨0, ![]⟩, .i32⟩ : BufTy).Contents (Elt Ideal)) : BitVec 32 := x ix0
abbrev wd1 {n : ℕ} (i : Fin n) (x : (⟨⟨1, ![n]⟩, .i32⟩ : BufTy).Contents (Elt Ideal)) : BitVec 32 := x (ix1 i)
abbrev wd2 {n m : ℕ} (i : Fin n) (k : Fin m) (x : (⟨⟨2, ![n, m]⟩, .i32⟩ : BufTy).Contents (Elt Ideal)) : BitVec 32 := x (ix2 i k)
abbrev bt0 (x : (⟨⟨0, ![]⟩, .i1⟩ : BufTy).Contents (Elt Ideal)) : BitVec 1 := x ix0
abbrev bt1 {n : ℕ} (i : Fin n) (x : (⟨⟨1, ![n]⟩, .i1⟩ : BufTy).Contents (Elt Ideal)) : BitVec 1 := x (ix1 i)

end Cert.Proof.Val

end
-- ==== Proof.PI.PrepValue.lean ====
/-
  What the decoding call leaves, over the extended reals: the boxes, the scores that pass, and the greatest corner of a
  box some score of which passes.
-/
module

public import proofs.«01_k».proof.Proof.PI.Prep
public import proofs.«01_k».proof.Proof.Val.Spec
public import proofs.«01_k».proof.Proof.Val.Words
public import proofs.«01_k».proof.Proof.Val.Reads
public import Idealize.ShloMosaic.Lib.Pointwise
public import Idealize.ShloMosaic.PureOps.Ideal

@[expose] public section

set_option maxRecDepth 65536

noncomputable section

namespace Cert.Proof.PI

open Idealize.ShloMosaic
open Cert.KernelIdeal Cert.KernelIdeal.Gen Cert.Proof.Val

/-- The position of prior `p` and class `c + 1`. -/
def flatOf (p : Fin 20000) (c : Fin 20) : Fin flatN := ⟨20 * p.val + c.val, by show _ < 400000; omega⟩

theorem priorOf_flatOf (p : Fin 20000) (c : Fin 20) : priorOf (flatOf p c) = p := Fin.ext (by show (20 * p.val + c.val) / 20 = p.val; omega)
theorem classOf_flatOf (p : Fin 20000) (c : Fin 20) : classOf (flatOf p c) = ⟨1 + c.val, by omega⟩ :=
  Fin.ext (by show (20 * p.val + c.val) % 20 + 1 = 1 + c.val; omega)
theorem flatOf_split (i : Fin flatN) : flatOf (priorOf i) ⟨i.val % 20, by omega⟩ = i := Fin.ext (by show 20 * (i.val / 20) + i.val % 20 = i.val; omega)

variable (s : Scene) (L P : Vec Ideal S4x20000 .f32) (S : Vec Ideal S21x20000 .f32)

theorem row_apply (X : Vec Ideal S4x20000 .f32) (k : Fin 4) (p : Fin 20000) : rowOf (F := Ideal) X k (ix2 0 p) = X (ix2 k p) :=
  congrArg X (rowRect_emb k (ix2 0 p))

theorem classes_apply (c : Fin 20) (p : Fin 20000) : classes (F := Ideal) S (ix2 c p) = S (ix2 ⟨1 + c.val, by omega⟩ p) := by
  refine congrArg S (funext fun a => Fin.ext ?_)
  fin_cases a
  · show 1 + 1 * c.val = 1 + c.val
    omega
  · show 0 + 1 * p.val = p.val
    omega

section Boxes

variable (hL : ∀ k p, rd2 k p L = s.loc p k) (hP : ∀ k p, rd2 k p P = s.pri p k)
include hL hP

theorem decW_apply (p : Fin 20000) : rd2 (0 : Fin 1) p (decW L P) = s.extent p 0 2 := by
  dsimp only [rd2] at hL hP
  unfold decW k0_pay9 k0_pay7
  pointwise
  rw [row_apply, row_apply, hL, hP]
  rfl

theorem decH_apply (p : Fin 20000) : rd2 (0 : Fin 1) p (decH L P) = s.extent p 1 3 := by
  dsimp only [rd2] at hL hP
  unfold decH k0_pay10 k0_pay8
  pointwise
  rw [row_apply, row_apply, hL, hP]
  rfl

theorem decX_apply (p : Fin 20000) : rd2 (0 : Fin 1) p (decX L P) = s.lower p 0 2 := by
  dsimp only [rd2] at hL hP
  unfold decX k0_pay11 k0_pay9 k0_pay7
  pointwise
  rw [row_apply, row_apply, row_apply, row_apply, hL, hL, hP, hP]
  rfl

theorem decY_apply (p : Fin 20000) : rd2 (0 : Fin 1) p (decY L P) = s.lower p 1 3 := by
  dsimp only [rd2] at hL hP
  unfold decY k0_pay12 k0_pay10 k0_pay8
  pointwise
  rw [row_apply, row_apply, row_apply, row_apply, hL, hL, hP, hP]
  rfl

theorem farX_apply (p : Fin 20000) : rd2 (0 : Fin 1) p (k0_pay1 (F := Ideal) (decW (F := Ideal) L P) (decX (F := Ideal) L P)) = s.lower p 0 2 + s.extent p 0 2 := by
  unfold k0_pay1
  pointwise
  exact congrArg₂ (· + · : EReal → EReal → EReal) (decX_apply s L P hL hP p) (decW_apply s L P hL hP p)

theorem farY_apply (p : Fin 20000) : rd2 (0 : Fin 1) p (k0_pay2 (F := Ideal) (decH (F := Ideal) L P) (decY (F := Ideal) L P)) = s.lower p 1 3 + s.extent p 1 3 := by
  unfold k0_pay2
  pointwise
  exact congrArg₂ (· + · : EReal → EReal → EReal) (decY_apply s L P hL hP p) (decH_apply s L P hL hP p)

theorem prepBoxes_apply (k : Fin 4) (p : Fin 20000) : rd2 k p (prepBoxes L P) = s.box p k := by
  fin_cases k
  · exact decX_apply s L P hL hP p
  · exact decY_apply s L P hL hP p
  · exact farX_apply s L P hL hP p
  · exact farY_apply s L P hL hP p

end Boxes

section Scores

variable (hS : ∀ c p, rd2 c p S = s.conf p c)
include hS

theorem classes_conf (c : Fin 20) (p : Fin 20000) : rd2 c p (classes S) = s.conf (priorOf (flatOf p c)) (classOf (flatOf p c)) := by
  dsimp only [rd2] at hS ⊢
  rw [classes_apply, hS, priorOf_flatOf, classOf_flatOf]

theorem prepScores_apply (c : Fin 20) (p : Fin 20000) : rd2 c p (prepScores S) = s.sco (flatOf p c) := by
  have hc := classes_conf s S hS
  dsimp only [rd2] at hc
  unfold prepScores k0_pay4 k0_pay3
  pointwise
  simp only [hc]
  unfold Scene.sco Scene.Passes
  split <;> rfl

end Scores

theorem prepCorner_apply (hL : ∀ k p, rd2 k p L = s.loc p k) (hP : ∀ k p, rd2 k p P = s.pri p k)
    (hS : ∀ c p, rd2 c p S = s.conf p c) : rd2 (0 : Fin 1) (0 : Fin 1) (prepCorner L P S) = s.corner := by
  have hc := classes_conf s S hS
  have h0 := decX_apply s L P hL hP
  have h1 := decY_apply s L P hL hP
  have h2 := farX_apply s L P hL hP
  have h3 := farY_apply s L P hL hP
  dsimp only [rd2] at h0 h1 h2 h3
  refine s.corner_eq fun y => ?_
  have hp : ∀ p : Fin 20000, (Ideal.ofBits .f32 0x3C23D70A#32 < Finset.fold max (Ideal.ofBits .f32 0xFF800000#32)
      (fun c : Fin 20 => rd2 c p (classes (F := Ideal) S)) Finset.univ) ↔ ∃ c : Fin 20, s.Passes (flatOf p c) := fun p => by
    rw [← not_le, Finset.fold_max_le, ofBits_negInf]
    simp only [bot_le, true_and, Finset.mem_univ, true_implies, not_forall, not_le]
    exact exists_congr fun c => by rw [hc]; rfl
  unfold prepCorner k0_pay6 k0_pay3
  pointwise
  simp only [h0, h1, h2, h3]
  rw [Finset.fold_max_le]
  constructor
  · intro g i hi
    have gi := g.2 (priorOf i) (Finset.mem_univ _)
    rw [if_pos ((hp _).mpr ⟨⟨i.val % 20, by omega⟩, by rwa [flatOf_split]⟩)] at gi
    simp only [max_le_iff] at gi
    exact ⟨gi.1.1, gi.1.2, gi.2.1, gi.2.2⟩
  · refine fun g => ⟨ofBits_negInf.le.trans bot_le, fun p _ => ?_⟩
    split
    · rename_i hx
      obtain ⟨c, hx⟩ := (hp p).mp hx
      have gi := g _ hx
      rw [priorOf_flatOf] at gi
      exact max_le (max_le gi.1 gi.2.1) (max_le gi.2.2.1 gi.2.2.2)
    · exact ofBits_negInf.le.trans bot_le

end Cert.Proof.PI

end
-- ==== Proof.PI.Values.lean ====
/-
  The kernel's host operations up to its first suppression call, read at an index over the extended reals.
-/
module

public import proofs.«01_k».proof.Proof.PI.Ops
public import proofs.«01_k».proof.Proof.PI.Gathers
public import proofs.«01_k».proof.Proof.PI.PrepValue
public import proofs.«01_k».proof.Proof.Val.Spec
public import proofs.«01_k».proof.Proof.Val.Words
public import proofs.«01_k».proof.Proof.Val.Reads
public import proofs.«01_k».proof.Proof.Val.TopK
public import Idealize.ShloMosaic.Lib.IndicatorCount
public import Idealize.ShloMosaic.Lib.Pointwise
public import Idealize.ShloMosaic.PureOps.Ideal

@[expose] public section

set_option maxRecDepth 65536

noncomputable section

namespace Cert.Proof.PI

open Idealize.ShloMosaic Idealize.SL.Sem Idealize.ShloMosaic.StableHlo
open Cert.KernelIdeal Cert.KernelIdeal.Gen Cert.Proof.Val

variable (W : Valuation τ sig (Elt Ideal))

/-! ## The decoding call's arrays -/

theorem locT_apply (k : Fin 4) (p : Fin 20000) : rd2 k p (after argOps W (Proc.devRef .tc main_call0_v1)) = rd3 (0 : Fin 1) p k (W (Proc.devRef .tc main_arg0)) := by
  after_reads_simp
  pointwise

theorem priT_apply (k : Fin 4) (p : Fin 20000) : rd2 k p (after argOps W (Proc.devRef .tc main_call0_v2)) = rd2 p k (W (Proc.devRef .tc main_arg2)) := by
  after_reads_simp
  pointwise

theorem confT_apply (k : Fin 21) (p : Fin 20000) : rd2 k p (after argOps W (Proc.devRef .tc main_call0_v3)) = rd2 p k (W (Proc.devRef .tc main_arg1)) := by
  after_reads_simp
  pointwise

theorem boxT_apply (p : Fin 20000) (k : Fin 4) : rd2 p k (after flatOps W (Proc.devRef .tc main_call0_v5)) = rd2 k p (W (Proc.devRef .tc main_call0_v4_0)) := by
  after_reads_simp
  pointwise

theorem flat_apply (i : Fin 400000) : rd1 i (after flatOps W (Proc.devRef .tc main_call0_v7))
    = rd2 (⟨i.val % 20, by omega⟩ : Fin 20) (priorOf i) (W (Proc.devRef .tc main_call0_v4_1)) := by
  after_reads_simp
  pointwise
  rfl

theorem corner_apply : rd0 (after flatOps W (Proc.devRef .tc main_call0_v8)) = rd2 (0 : Fin 1) (0 : Fin 1) (W (Proc.devRef .tc main_call0_v4_3)) := by
  after_reads_simp
  pointwise

/-- Ones added up, as words: how many there are. -/
theorem count_word {n : ℕ} (p : Fin n → Prop) [DecidablePred p] :
    Finset.fold IntOp.addi (0#32) (fun k => BitVec.setWidth 32 (BitVec.ofBool (decide (p k)))) Finset.univ = BitVec.ofNat 32 (Finset.univ.filter p).card := by
  rw [IndicatorCount.fold_addi_setWidth_eq_card (fun k => BitVec.ofBool (decide (p k)))]
  simp only [ofBool_decide_eq_one]

/-! ## The candidates -/

theorem somePriors : ∃ ρ : Fin 512 → Fin 20000, Function.Injective ρ
    ∧ ∀ j, wd1 j (after priorOps W (Proc.devRef .tc main_call0_indices)) = BitVec.ofNat 32 (ρ j).val := by
  obtain ⟨ρ, ht, -, hi⟩ := topK_spec (k := 512) (by decide) (W (Proc.devRef .tc main_call0_v9) : Arr Ideal S20000 .f32) sliceFits_S20000_S512
  refine ⟨ρ, ht.injective, fun j => ?_⟩
  after_reads_simp
  exact hi j

theorem theirScores (ρ : Fin 512 → Fin 20000) (h : ∀ j, wd1 j (after priorOps W (Proc.devRef .tc main_call0_indices)) = BitVec.ofNat 32 (ρ j).val) (i : Fin 10240) :
    rd1 i (after priorOps W (Proc.devRef .tc main_call0_v18))
      = rd2 (⟨i.val % 20, by omega⟩ : Fin 20) (ρ ⟨i.val / 20, by omega⟩) (W (Proc.devRef .tc main_call0_v4_1)) := by
  revert h
  after_reads_simp
  intro h
  dsimp only [wd1] at h
  pointwise
  refine gather_columns _ _ _ _ _ ?_
  pointwise
  rw [h]
  exact wrap_ofNat (by have := (ρ ⟨i.val / 20, by omega⟩).isLt; omega) _

theorem theirWords (ρ : Fin 512 → Fin 20000) (h : ∀ j, wd1 j (W (Proc.devRef .tc main_call0_indices)) = BitVec.ofNat 32 (ρ j).val) (i : Fin 10240) :
    wd1 i (after candOps W (Proc.devRef .tc main_call0_v27)) = BitVec.ofNat 32 (20 * (ρ ⟨i.val / 20, by omega⟩).val + i.val % 20) := by
  dsimp only [wd1] at h
  after_reads_simp
  pointwise
  show IntOp.addi (IntOp.muli ((W (Proc.devRef .tc main_call0_indices) : Arr Ideal S512 .i32) (ix1 ⟨i.val / 20, by omega⟩)) 20#32) (BitVec.ofNat 32 (i.val % 20)) = _
  rw [h]
  show BitVec.ofNat 32 _ * 20#32 + BitVec.ofNat 32 _ = _
  rw [Nat.mul_comm, BitVec.ofNat_add, BitVec.ofNat_mul]

/-- The order of the candidates' sort. -/
theorem comparator_eq_one (l r : EReal × BitVec 32) : comparator_f32_i32_d0 (F := Ideal) l r = 1#1
    ↔ l.1 < r.1 ∨ (l.1 = r.1 ∧ IntOp.cmpi .slt l.2 r.2 = 1#1) := by
  have norm : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := fun x => by
    pointwise
    rw [if_neg (not_not_intro rfl)]
    split
    · rename_i h
      exact h.symm
    · rfl
  unfold comparator_f32_i32_d0
  dsimp only
  rw [norm, norm]
  have hor : ∀ a b : BitVec 1, IntOp.ori a b = 1#1 ↔ a = 1#1 ∨ b = 1#1 := by decide
  rw [hor, andi_eq_one]
  exact or_congr (ofBool_decide_eq_one _) (and_congr_left' (ofBool_decide_eq_one _))

theorem cls_apply (j : Fin 512) : wd1 j (after clsOps W (Proc.devRef .tc main_call0_v45)) = remW (wd1 j (W (Proc.devRef .tc main_call0_v36_1))) := by
  after_reads_simp
  pointwise
  rfl

theorem off_apply (j : Fin 512) : rd1 j (after offOps W (Proc.devRef .tc main_call0_v51))
    = FloatOps.sitofp (F := Ideal) .f32 (IntOp.addi (wd1 j (W (Proc.devRef .tc main_call0_v45))) 1#32) * (rd0 (W (Proc.devRef .tc main_call0_v8)) + 1) := by
  after_reads_simp
  pointwise

theorem pri_apply (j : Fin 512) : wd1 j (after priOps W (Proc.devRef .tc main_call0_v52)) = divW (wd1 j (W (Proc.devRef .tc main_call0_v36_1))) := by
  after_reads_simp
  pointwise
  rfl

theorem rows_apply (ρ : Fin 512 → Fin 20000) (h : ∀ j, wd1 j (W (Proc.devRef .tc main_call0_v52)) = BitVec.ofNat 32 (ρ j).val) (j : Fin 512) (k : Fin 4) :
    rd2 j k (after boxOps W (Proc.devRef .tc main_call0_v62)) = rd2 (ρ j) k (W (Proc.devRef .tc main_call0_v5)) + rd1 j (W (Proc.devRef .tc main_call0_v51)) := by
  dsimp only [wd1] at h
  after_reads_simp
  pointwise
  refine congrArg (· + rd1 j (W (Proc.devRef .tc main_call0_v51))) (gather_rows _ rfl rfl rfl rfl rfl (by decide) _ _ j k (ρ j) ?_)
  pointwise
  rw [h]
  exact wrap_ofNat (by have := (ρ j).isLt; omega) _

theorem cols_apply (j : Fin 512) (k : Fin 4) :
    rd2 k j (after boxOps W (Proc.devRef .tc main_call0_v63)) = rd2 j k (after boxOps W (Proc.devRef .tc main_call0_v62)) := by
  after_reads_simp
  pointwise

theorem count_apply : bt0 (after countOps W (Proc.devRef .tc main_call0_v44)) = 1#1
    ↔ (Finset.univ.filter fun i : Fin 400000 => rd1 (511 : Fin 512) (W (Proc.devRef .tc main_call0_v37)) ≤ rd1 i (W (Proc.devRef .tc main_call0_v7))).card = 512 := by
  after_reads_simp
  pointwise
  refine Iff.trans (iff_of_eq (congrArg (fun z => IntOp.cmpi .eq z 512#32 = 1#1)
    (count_word fun i : Fin 400000 => rd1 (511 : Fin 512) (W (Proc.devRef .tc main_call0_v37)) ≤ rd1 i (W (Proc.devRef .tc main_call0_v7))))) ?_
  exact cmpi_eq (lt_of_le_of_lt (Finset.card_filter_le _ _) (by rw [Finset.card_univ, Fintype.card_fin]; norm_num)) (by norm_num)

end Cert.Proof.PI

end
-- ==== Proof.PI.NmsArith.lean ====
/-
  What the suppression kernels compute between their loads and stores, read at an index over the extended reals.
-/
module

public import proofs.«01_k».proof.Proof.PI.Codes
public import proofs.«01_k».proof.Proof.Val.Keep
public import proofs.«01_k».proof.Proof.Val.Words
public import Idealize.ShloMosaic.Lib.Pointwise
public import Idealize.ShloMosaic.PureOps.Ideal

@[expose] public section

set_option maxRecDepth 65536

noncomputable section

namespace Cert.Proof.PI

open Cert.KernelIdeal Cert.KernelIdeal.Gen Cert.Proof.Nms Cert.Proof.Val
open Idealize.ShloMosaic

theorem ofBits_half : Ideal.ofBits .f32 0x3F000000#32 = ((1 / 2 : ℝ) : EReal) := by
  simp [Ideal.ofBits, Ideal.ieee, -EReal.coe_mul]
  norm_num

theorem half_lt_one : Ideal.ofBits .f32 0x3F000000#32 < 1 := by
  rw [ofBits_half]
  exact_mod_cast (by norm_num : (1 / 2 : ℝ) < 1)

theorem half_pos : ¬ Ideal.ofBits .f32 0x3F000000#32 < 0 := by
  rw [ofBits_half, not_lt]
  exact_mod_cast (by norm_num : (0 : ℝ) ≤ 1 / 2)

theorem half_negInf : ¬ Ideal.ofBits .f32 0x3F000000#32 < Ideal.ofBits .f32 0xFF800000#32 := by
  rw [ofBits_negInf]
  exact not_lt_bot

theorem trips1 : k1_t1_loop.trips = 128 := by decide

theorem iv_eq (t : ℕ) : Scf.iv 0#32 1#32 t = BitVec.ofNat 32 t := by
  simp [Scf.iv]

/-- One box as the four words a row holds, and as the four a column holds. -/
abbrev four {α : Type} (x0 x1 x2 x3 : α) : Fin 4 → α := ![x0, x1, x2, x3]

section

open Classical

variable (r0 r1 r2 r3 : Vec Ideal Col .f32) (c0 c1 c2 c3 kb u : Vec Ideal Lane .f32) (a b : Fin 128)

theorem sup_apply :
    (k1_pay5 (k1_pay7 r0) (k1_pay8 r1) (k1_pay9 r2) (k1_pay10 r3) (k1_pay11 r0 r1 r2 r3) c0 c1 c2 c3) (ix2 a b) = 1#1
      ↔ overlaps (four (r0 (ix2 a 0)) (r1 (ix2 a 0)) (r2 (ix2 a 0)) (r3 (ix2 a 0)))
          (four (c0 (ix2 0 b)) (c1 (ix2 0 b)) (c2 (ix2 0 b)) (c3 (ix2 0 b))) := by
  pointwise [k1_pay5, k1_pay7, k1_pay8, k1_pay9, k1_pay10, k1_pay11]
  rw [ofBool_decide_eq_one]
  rfl

theorem tile_apply :
    (code1 (F := Ideal)).tile r0 r1 r2 r3 c0 c1 c2 c3 (ix2 a b)
      = if overlaps (four (r0 (ix2 a 0)) (r1 (ix2 a 0)) (r2 (ix2 a 0)) (r3 (ix2 a 0)))
          (four (c0 (ix2 0 b)) (c1 (ix2 0 b)) (c2 (ix2 0 b)) (c3 (ix2 0 b))) then (1 : EReal) else 0 := by
  show k1_pay19 (k1_pay11 r0 r1 r2 r3) (k1_pay16 c0 c1 c2 c3) (k1_pay17 r0 r2 c0 c2) (k1_pay18 r1 r3 c1 c3)
    (Scalar.ofBits .f32 0x00000000#32) (ix2 a b) = _
  pointwise [k1_pay7, k1_pay8, k1_pay9, k1_pay10, k1_pay11, k1_pay12, k1_pay13, k1_pay14, k1_pay15, k1_pay16, k1_pay17, k1_pay18, k1_pay19]
  refine if_congr ?_ rfl rfl
  rfl

/-- Trip `t` of the scan: box `t`, if it still stands, removes the later boxes its row marks. -/
theorem scan_apply (hkb : ∀ b, kb (ix2 0 b) = (0 : EReal) ∨ kb (ix2 0 b) = (1 : EReal)) (t : Fin k1_t1_loop.trips) (ht : t.val < 128) :
    (code1 (F := Ideal)).scan t c0 kb (ix2 0 b)
      = if Ideal.ofBits .f32 0x3F000000#32 < c0 (ix2 0 b) ∧ kb (ix2 0 ⟨t.val, ht⟩) = (1 : EReal) ∧ t.val < b.val then (0 : EReal) else kb (ix2 0 b) := by
  show k1_pay21 lanes t c0 kb (ix2 0 b) = _
  pointwise [k1_pay21, lanes]
  rw [iv_eq]
  have hfold : (Ideal.ofBits FTy.f32 0x3F000000#32 < Finset.fold max (Ideal.ofBits FTy.f32 0xFF800000#32)
      (fun x : Fin 128 => Scalar.select (IntOp.cmpi CmpIPredicate.eq (BitVec.ofNat 32 x.val) (BitVec.ofNat 32 t.val)) (kb (ix2 0 x)) 0) Finset.univ)
      ↔ kb (ix2 0 ⟨t.val, ht⟩) = (1 : EReal) := by
    rw [Finset.lt_fold_max]
    constructor
    · rintro (h | ⟨x, -, h⟩)
      · exact absurd h half_negInf
      · by_cases hx : x.val = t.val
        · rw [select_pos ((cmpi_eq (by omega) (by omega)).mpr hx)] at h
          obtain rfl : x = ⟨t.val, ht⟩ := Fin.ext hx
          rcases hkb ⟨t.val, ht⟩ with h0 | h1
          · rw [h0] at h; exact absurd h half_pos
          · exact h1
        · rw [select_neg (fun e => hx ((cmpi_eq (by omega) (by omega)).mp e))] at h
          exact absurd h half_pos
    · intro h
      refine .inr ⟨⟨t.val, ht⟩, Finset.mem_univ _, ?_⟩
      rw [select_pos ((cmpi_eq (by omega) (by omega)).mpr rfl), h]
      exact half_lt_one
  have hiff : IntOp.andi (IntOp.andi (BitVec.ofBool (decide (Ideal.ofBits FTy.f32 0x3F000000#32 < c0 (ix2 0 b))))
        (BitVec.ofBool (decide (Ideal.ofBits FTy.f32 0x3F000000#32 < Finset.fold max (Ideal.ofBits FTy.f32 0xFF800000#32)
          (fun x : Fin 128 => Scalar.select (IntOp.cmpi CmpIPredicate.eq (BitVec.ofNat 32 x.val) (BitVec.ofNat 32 t.val)) (kb (ix2 0 x)) 0) Finset.univ))))
        (IntOp.cmpi CmpIPredicate.sgt (BitVec.ofNat 32 b.val) (BitVec.ofNat 32 t.val)) = 1#1
      ↔ Ideal.ofBits .f32 0x3F000000#32 < c0 (ix2 0 b) ∧ kb (ix2 0 ⟨t.val, ht⟩) = (1 : EReal) ∧ t.val < b.val := by
    rw [andi_eq_one, andi_eq_one, ofBool_decide_eq_one, ofBool_decide_eq_one, hfold, cmpi_sgt (by omega) (by omega), and_assoc]
  exact if_congr hiff rfl rfl

/-- A later block's flags: a box goes if a surviving box of this block overlaps it. -/
theorem chunk_apply (hkb : ∀ b, kb (ix2 0 b) = (0 : EReal) ∨ kb (ix2 0 b) = (1 : EReal)) :
    (code1 (F := Ideal)).chunk r0 r1 r2 r3 kb c0 c1 c2 c3 u (ix2 0 b)
      = if ∃ a, kb (ix2 0 a) = (1 : EReal) ∧ overlaps (four (r0 (ix2 a 0)) (r1 (ix2 a 0)) (r2 (ix2 a 0)) (r3 (ix2 a 0)))
          (four (c0 (ix2 0 b)) (c1 (ix2 0 b)) (c2 (ix2 0 b)) (c3 (ix2 0 b))) then (0 : EReal) else u (ix2 0 b) := by
  show k1_pay2 kb (k1_pay5 (k1_pay7 r0) (k1_pay8 r1) (k1_pay9 r2) (k1_pay10 r3) (k1_pay11 r0 r1 r2 r3) c0 c1 c2 c3)
    (Scalar.ofBits .f32 0x3F800000#32) (Scalar.ofBits .f32 0x00000000#32) u (ix2 0 b) = _
  pointwise [k1_pay2]
  refine if_congr ?_ rfl rfl
  have hnn : ∀ x : Fin 128, (0 : EReal) ≤ Scalar.select ((k1_pay5 (k1_pay7 r0) (k1_pay8 r1) (k1_pay9 r2) (k1_pay10 r3) (k1_pay11 r0 r1 r2 r3) c0 c1 c2 c3) (ix2 x b))
      (kb (ix2 0 x) : EReal) 0 := fun x => by
    by_cases hx : (k1_pay5 (k1_pay7 r0) (k1_pay8 r1) (k1_pay9 r2) (k1_pay10 r3) (k1_pay11 r0 r1 r2 r3) c0 c1 c2 c3) (ix2 x b) = 1#1
    · rw [select_pos hx]
      rcases hkb x with h | h <;> rw [h]
      exact zero_le_one
    · rw [select_neg hx]
  constructor
  · intro h
    by_contra hno
    refine absurd h (not_lt.mpr (le_of_eq (Finset.sum_eq_zero fun x _ => ?_)))
    by_cases hx : (k1_pay5 (k1_pay7 r0) (k1_pay8 r1) (k1_pay9 r2) (k1_pay10 r3) (k1_pay11 r0 r1 r2 r3) c0 c1 c2 c3) (ix2 x b) = 1#1
    · rw [select_pos hx]
      rcases hkb x with h0 | h1
      · exact h0
      · exact absurd ⟨x, h1, (sup_apply r0 r1 r2 r3 c0 c1 c2 c3 x b).mp hx⟩ hno
    · rw [select_neg hx]
  · rintro ⟨x, hx, hS⟩
    refine lt_of_lt_of_le ?_ (Finset.single_le_sum (fun x _ => hnn x) (Finset.mem_univ x))
    rw [select_pos ((sup_apply r0 r1 r2 r3 c0 c1 c2 c3 x b).mpr hS), hx]
    exact zero_lt_one

theorem start_apply : (code1 (F := Ideal)).start u = u := by
  show k1_pay20 u = u
  funext j
  pointwise [k1_pay20]

/-- A sum of zeros and ones counts the ones. -/
theorem sum_flags {ι : Type} [Fintype ι] (f : ι → EReal) (hf : ∀ x, f x = 0 ∨ f x = 1) :
    ∑ x, f x = (((Finset.univ.filter fun x => f x = 1).card : ℝ) : EReal) := by
  have : ∀ x, f x = if f x = 1 then (1 : EReal) else 0 := fun x => by
    rcases hf x with h | h <;> simp [h]
  rw [Finset.sum_congr rfl fun x _ => this x, Finset.sum_boole, EReal.coe_natCast]

theorem cnt_apply (hkb : ∀ b, kb (ix2 0 b) = (0 : EReal) ∨ kb (ix2 0 b) = (1 : EReal)) :
    (code1 (F := Ideal)).cnt kb = BitVec.ofNat 32 (Finset.univ.filter fun b : Fin 128 => kb (ix2 0 b) = (1 : EReal)).card := by
  show Scalar.fptosi 32 (k1_pay4 kb) = _
  pointwise [k1_pay4]
  have hc : (Finset.univ.filter fun b : Fin 128 => kb (ix2 0 b) = (1 : EReal)).card ≤ 128 :=
    (Finset.card_filter_le _ _).trans (by simp)
  rw [Fintype.sum_eq_single (0 : Fin 1) (fun x hx => absurd (Subsingleton.elim x 0) hx),
    sum_flags (fun x : Fin 128 => kb (ix2 0 x)) hkb, Ideal.fptosi, Ideal.toIntClamped_coe, if_pos (by positivity)]
  rw [Int.floor_natCast, max_eq_right, min_eq_right]
  · exact BitVec.ofInt_natCast _ _
  · norm_num; omega
  · refine le_min ?_ ?_ <;> norm_num <;> omega

end

end Cert.Proof.PI

end
-- ==== Proof.PI.Pick.lean ====
/-
  The candidates the kernel sorts: 512 positions in the problem's order, with their scores and their words; and when it
  takes the short way.
-/
module

public import proofs.«01_k».proof.Proof.PI.Values
public import proofs.«01_k».proof.Proof.PI.NmsArith

@[expose] public section

set_option maxRecDepth 65536

noncomputable section

namespace Cert.Proof.PI

open Idealize.ShloMosaic Idealize.SL.Sem Idealize.ShloMosaic.StableHlo
open Cert.KernelIdeal Cert.KernelIdeal.Gen Cert.Proof.Val

variable (W : Valuation τ sig (Elt Ideal))

/-- The best 512 of the scores, negated, with their words. -/
theorem picked_spec : ∃ σ : Fin 512 → Fin 10240, Function.Injective σ
    ∧ (∀ j, rd1 j (after pickOps W (Proc.devRef .tc main_call0_v35)) = - rd1 (σ j) (W (Proc.devRef .tc main_call0_v18)))
    ∧ ∀ j, wd1 j (after pickOps W (Proc.devRef .tc main_call0_v34)) = wd1 (σ j) (W (Proc.devRef .tc main_call0_v27)) := by
  obtain ⟨σ, ht, hv, hi⟩ := topK_spec (k := 512) (by decide) (W (Proc.devRef .tc main_call0_v18) : Arr Ideal S10240 .f32) sliceFits_S10240_S512
  refine ⟨σ, ht.injective, fun j => ?_, fun j => ?_⟩
  · after_reads_simp
    exact congrArg (fun x : EReal => -x) (hv j)
  · after_reads_simp
    refine gather_entries _ rfl rfl rfl rfl (by decide) _ _ j (σ j) ?_
    pointwise
    rw [hi]
    exact wrap_ofNat (by have := (σ j).isLt; omega) _

/-- Scores and words sorted together. -/
abbrev sorted (x : FVec Ideal S512 .f32) (y : IVec S512 32) : FVec Ideal S512 .f32 × IVec S512 32 :=
  Host.sort2 S512 0 (comparator_f32_i32_d0 (F := Ideal)) x y

theorem sortedScores : after pickOps W (Proc.devRef .tc main_call0_v36_0)
    = (sorted (after pickOps W (Proc.devRef .tc main_call0_v35)) (after pickOps W (Proc.devRef .tc main_call0_v34))).1 := by
  after_reads_simp

theorem sortedWords : after pickOps W (Proc.devRef .tc main_call0_v36_1)
    = (sorted (after pickOps W (Proc.devRef .tc main_call0_v35)) (after pickOps W (Proc.devRef .tc main_call0_v34))).2 := by
  after_reads_simp

theorem backScores (j : Fin 512) : rd1 j (after pickOps W (Proc.devRef .tc main_call0_v37))
    = - rd1 j (after pickOps W (Proc.devRef .tc main_call0_v36_0)) := by
  after_reads_simp
  rfl

open Classical in
/-- Of the positions `pos` with their scores and words, the sort leaves 512 in the problem's order. -/
theorem cand_spec (key : Fin flatN → EReal) (pos : Fin 10240 → Fin flatN) (hpos : Function.Injective pos)
    (hs : ∀ i, rd1 i (W (Proc.devRef .tc main_call0_v18)) = key (pos i))
    (hw : ∀ i, wd1 i (W (Proc.devRef .tc main_call0_v27)) = BitVec.ofNat 32 (pos i).val) :
    ∃ cand : Fin 512 → Fin flatN, (∀ i j, i < j → Ahead key (cand i) (cand j))
      ∧ (∀ j, rd1 j (after pickOps W (Proc.devRef .tc main_call0_v37)) = key (cand j))
      ∧ ∀ j, wd1 j (after pickOps W (Proc.devRef .tc main_call0_v36_1)) = BitVec.ofNat 32 (cand j).val := by
  obtain ⟨σ, hσ, hv, hi⟩ := picked_spec W
  have hv' : ∀ j, rd1 j (after pickOps W (Proc.devRef .tc main_call0_v35)) = - key (pos (σ j)) := fun j => by rw [hv, hs]
  have hi' : ∀ j, wd1 j (after pickOps W (Proc.devRef .tc main_call0_v34)) = BitVec.ofNat 32 (pos (σ j)).val := fun j => by rw [hi, hw]
  have lt : ∀ j, (pos (σ j)).val < 2 ^ 31 := fun j => lt_trans (pos (σ j)).isLt (by norm_num)
  obtain ⟨π, ho, h0, h1⟩ := sort2_spec (comparator_f32_i32_d0 (F := Ideal)) (after pickOps W (Proc.devRef .tc main_call0_v35) : Arr Ideal S512 .f32)
    (after pickOps W (Proc.devRef .tc main_call0_v34) : Arr Ideal S512 .i32) (fun a b => Ahead key (pos (σ a)) (pos (σ b)))
    (by convert strict_of_injective (key := key) (fun a => pos (σ a)) (hpos.comp hσ)) fun a b => by
      rw [comparator_eq_one]
      show rd1 a (after pickOps W (Proc.devRef .tc main_call0_v35)) < rd1 b (after pickOps W (Proc.devRef .tc main_call0_v35))
        ∨ (rd1 a (after pickOps W (Proc.devRef .tc main_call0_v35)) = rd1 b (after pickOps W (Proc.devRef .tc main_call0_v35))
          ∧ IntOp.cmpi .slt (wd1 a (after pickOps W (Proc.devRef .tc main_call0_v34))) (wd1 b (after pickOps W (Proc.devRef .tc main_call0_v34))) = 1#1) ↔ _
      rw [hv', hv', hi', hi', EReal.neg_lt_neg_iff, neg_inj, cmpi_slt (lt a) (lt b)]
      rfl
  refine ⟨fun j => pos (σ (π j)), ho, fun j => ?_, fun j => ?_⟩
  · rw [backScores, sortedScores]
    exact (congrArg (fun x : EReal => -x) ((h0 j).trans (hv' (π j)))).trans (neg_neg _)
  · rw [sortedWords]
    exact (h1 j).trans (hi' (π j))

/-! ## Whether the short way will do -/

open Classical in
theorem onBit_apply (j : Fin 512) : bt1 j (after enoughOps W (Proc.devRef .tc main_call0_v67)) = 1#1
    ↔ Ideal.ofBits .f32 0x3F000000#32 < rd2 (0 : Fin 1) j (W (Proc.devRef .tc main_call0_v64)) := by
  after_reads_simp
  pointwise
  exact ofBool_decide_eq_one _

theorem enoughWord_apply : bt0 (after enoughOps W (Proc.devRef .tc main_call0_v71)) = 1#1
    ↔ bt0 (W (Proc.devRef .tc main_call0_v44)) = 1#1
      ∧ 200 ≤ (Finset.univ.filter fun j : Fin 512 => Ideal.ofBits .f32 0x3F000000#32 < rd2 (0 : Fin 1) j (W (Proc.devRef .tc main_call0_v64))).card := by
  after_reads_simp
  pointwise
  refine (andi_eq_one _ _).trans (and_congr_right' ?_)
  refine Iff.trans (iff_of_eq (congrArg (fun z => IntOp.cmpi .sge z 200#32 = 1#1)
    (count_word fun j : Fin 512 => Ideal.ofBits .f32 0x3F000000#32 < rd2 (0 : Fin 1) j (W (Proc.devRef .tc main_call0_v64))))) ?_
  exact cmpi_sge (lt_of_le_of_lt (Finset.card_filter_le _ _) (by rw [Finset.card_univ, Fintype.card_fin]; norm_num)) (by norm_num)

end Cert.Proof.PI

end
-- ==== Proof.PI.Arrays.lean ====
/-
  What the three calls leave in their results' buffers, and that they leave the other buffers alone.
-/
module

public import proofs.«01_k».proof.Proof.PI.Regions
public import Idealize.ShloMosaic.Lib.Pipeline.ValueKit
public import Idealize.ShloMosaic.Lib.Pipeline.RegionArraysS

@[expose] public section

set_option maxRecDepth 65536

noncomputable section

namespace Cert.Proof.PI

open Idealize.ShloMosaic Idealize.SL.Sem
open Cert.KernelIdeal Cert.KernelIdeal.Gen

attribute [local irreducible] prepBoxes prepScores prepBest prepCorner flags1 flags2

variable (V : Vals Ideal) (c : Dev nD)

theorem boxes_left : Pipeline.afterRegion (dat0 V c) (V c) (Proc.devRef .tc main_call0_v4_0) = prepBoxes (locs V c) (pris V c) :=
  (Pipeline.afterRegion_arr (dat0 V c) (V c) launch0.win.arr_inj 3).trans
    ((dat0 V c).arrAt_eq_of_after_last 3 t0_0 (by decide +kernel) (prepBoxes (locs V c) (pris V c)) fun _ => rfl)

theorem scores_left : Pipeline.afterRegion (dat0 V c) (V c) (Proc.devRef .tc main_call0_v4_1) = prepScores (scos V c) :=
  (Pipeline.afterRegion_arr (dat0 V c) (V c) launch0.win.arr_inj 4).trans
    ((dat0 V c).arrAt_eq_of_after_last 4 t0_0 (by decide +kernel) (prepScores (scos V c)) fun _ => rfl)

theorem corner_left : Pipeline.afterRegion (dat0 V c) (V c) (Proc.devRef .tc main_call0_v4_3) = prepCorner (locs V c) (pris V c) (scos V c) :=
  (Pipeline.afterRegion_arr (dat0 V c) (V c) launch0.win.arr_inj 6).trans
    ((dat0 V c).arrAt_eq_of_after_last 6 t0_0 (by decide +kernel) (prepCorner (locs V c) (pris V c) (scos V c)) fun _ => rfl)

theorem flags1_left : Pipeline.afterRegion (dat1 V c) (V c) (Proc.devRef .tc main_call0_v64) = flags1 (cols1 V c) (rows1 V c) :=
  (Pipeline.afterRegion_arr (dat1 V c) (V c) launch1.win.arr_inj 2).trans
    ((dat1 V c).arrAt_eq_of_after_last 2 t1_0 (by decide +kernel) (flags1 (cols1 V c) (rows1 V c)) fun _ => rfl)

theorem flags2_left : Pipeline.afterRegion (dat2 V c) (V c) (Proc.devRef .tc main_call0_case0b0_v93) = flags2 (cols2 V c) (rows2 V c) :=
  (Pipeline.afterRegion_arr (dat2 V c) (V c) launch2.win.arr_inj 2).trans
    ((dat2 V c).arrAt_eq_of_after_last 2 t2_0 (by decide +kernel) (flags2 (cols2 V c) (rows2 V c)) fun _ => rfl)

end Cert.Proof.PI

end
-- ==== Proof.PI.Cands.lean ====
/-
  The kernel when its short suppression call is entered: the scores laid flat, and 512 candidates with their shifted
  boxes.
-/
module

public import proofs.«01_k».proof.Proof.PI.Pick
public import proofs.«01_k».proof.Proof.PI.Arrays
public import proofs.«01_k».proof.Proof.PI.Run

@[expose] public section

set_option maxRecDepth 65536

noncomputable section

namespace Cert.Proof.PI

open Idealize.ShloMosaic Idealize.SL.Sem Idealize.ShloMosaic.StableHlo
open Cert.KernelIdeal Cert.KernelIdeal.Gen Cert.Proof.Val

/-- The problem's data. -/
def scene (V : Valuation τ sig (Elt Ideal)) : Scene where
  loc p k := rd3 (0 : Fin 1) p k (V (Proc.devRef .tc main_arg0))
  conf p c := rd2 p c (V (Proc.devRef .tc main_arg1))
  pri p k := rd2 p k (V (Proc.devRef .tc main_arg2))

/-- What the decoding call leaves. -/
structure Decoded (s : Scene) (U : Valuation τ sig (Elt Ideal)) : Prop where
  boxes : ∀ (k : Fin 4) (p : Fin 20000), rd2 k p (U (Proc.devRef .tc main_call0_v4_0)) = s.box p k
  scores : ∀ (c : Fin 20) (p : Fin 20000), rd2 c p (U (Proc.devRef .tc main_call0_v4_1)) = s.sco (flatOf p c)
  corner : rd2 (0 : Fin 1) (0 : Fin 1) (U (Proc.devRef .tc main_call0_v4_3)) = s.corner
  conf : ∀ (p : Fin 20000) (c : Fin 21), rd2 p c (U (Proc.devRef .tc main_arg1)) = s.conf p c

theorem decoded (m : (ℓ : Loc nD τ sig) → Buf (Elt Ideal) ℓ) (c : Dev nD) : Decoded (scene (Vstart m c)) (V0' m c) := by
  have hA : VA m c = after argOps (Vstart m c) := by
    show after (opsA (F := Ideal)) (Vstart m c) = _
    simp only [opsA, List.flatten_cons, List.flatten_nil, List.append_nil]
  have hL : ∀ k p, rd2 k p (locs (VA m) c) = (scene (Vstart m c)).loc p k := fun k p => by
    show rd2 k p (VA m c (Proc.devRef .tc main_call0_v1)) = _
    rw [hA]
    exact locT_apply _ k p
  have hP : ∀ k p, rd2 k p (pris (VA m) c) = (scene (Vstart m c)).pri p k := fun k p => by
    show rd2 k p (VA m c (Proc.devRef .tc main_call0_v2)) = _
    rw [hA]
    exact priT_apply _ k p
  have hS : ∀ k p, rd2 k p (scos (VA m) c) = (scene (Vstart m c)).conf p k := fun k p => by
    show rd2 k p (VA m c (Proc.devRef .tc main_call0_v3)) = _
    rw [hA]
    exact confT_apply _ k p
  exact {
    boxes := fun k p => (congrArg (rd2 k p) (boxes_left (VA m) c)).trans (prepBoxes_apply _ _ _ hL hP k p)
    scores := fun k p => (congrArg (rd2 k p) (scores_left (VA m) c)).trans (prepScores_apply _ _ hS k p)
    corner := (congrArg (rd2 0 0) (corner_left (VA m) c)).trans (prepCorner_apply _ _ _ _ hL hP hS)
    conf := fun p k => by
      refine congrArg (rd2 p k) ((Pipeline.afterRegion_of_not_arr (b := main_arg1) (dat0 (VA m) c) (VA m c) (by decide)).trans ?_)
      rw [hA]
      exact after_of_writes_sub _ _ argOps_writes (by decide) }

/-- A position's class as a float, from its word. -/
theorem label_word (i : Fin flatN) : FloatOps.sitofp (F := Ideal) .f32 (IntOp.addi (remW (BitVec.ofNat 32 i.val)) 1#32) = labelOf i := by
  rw [remW_ofNat (lt_trans i.isLt (by norm_num))]
  unfold labelOf
  rw [BitVec.ofNat_add]
  rfl

/-- What the kernel holds when the short suppression call is entered, and after it. -/
structure Ready (s : Scene) (cand : Fin 512 → Fin flatN) (U : Valuation τ sig (Elt Ideal)) : Prop where
  flat : ∀ i : Fin flatN, rd1 i (U (Proc.devRef .tc main_call0_v7)) = s.sco i
  box : ∀ (p : Fin 20000) (k : Fin 4), rd2 p k (U (Proc.devRef .tc main_call0_v5)) = s.box p k
  corner : rd0 (U (Proc.devRef .tc main_call0_v8)) = s.corner
  conf : ∀ (p : Fin 20000) (c : Fin 21), rd2 p c (U (Proc.devRef .tc main_arg1)) = s.conf p c
  keys : ∀ j : Fin 512, rd1 j (U (Proc.devRef .tc main_call0_v37)) = s.sco (cand j)
  words : ∀ j : Fin 512, wd1 j (U (Proc.devRef .tc main_call0_v36_1)) = BitVec.ofNat 32 (cand j).val
  best : bt0 (U (Proc.devRef .tc main_call0_v44)) = 1#1 → IsTop s.sco cand

theorem ready (s : Scene) (U : Valuation τ sig (Elt Ideal)) (h : Decoded s U) : ∃ cand, Ready s cand (after opsB U)
    ∧ (∀ j k, rd2 j k (after opsB U (Proc.devRef .tc main_call0_v62)) = s.nbx (cand j) k)
    ∧ ∀ j k, rd2 k j (after opsB U (Proc.devRef .tc main_call0_v63)) = s.nbx (cand j) k := by
  let u1 : Valuation τ sig (Elt Ideal) := after flatOps U
  let u2 : Valuation τ sig (Elt Ideal) := after priorOps u1
  let u3 : Valuation τ sig (Elt Ideal) := after candOps u2
  let u4 : Valuation τ sig (Elt Ideal) := after pickOps u3
  let u5 : Valuation τ sig (Elt Ideal) := after countOps u4
  let u6 : Valuation τ sig (Elt Ideal) := after clsOps u5
  let u7 : Valuation τ sig (Elt Ideal) := after offOps u6
  let u8 : Valuation τ sig (Elt Ideal) := after priOps u7
  have hB : after opsB U = after boxOps u8 := by
    simp only [opsB, List.flatten_cons, List.flatten_nil, List.append_nil, after_append]
    rfl
  have to1 : ∀ b : Ref sig .tc, b ∉ priorOps_W → b ∉ candOps_W → b ∉ pickOps_W → u4 (Proc.devRef .tc b) = u1 (Proc.devRef .tc b) := fun b h2 h3 h4 =>
    (after_of_writes_sub _ _ pickOps_writes h4).trans <| (after_of_writes_sub _ _ candOps_writes h3).trans (after_of_writes_sub _ _ priorOps_writes h2)
  have to5 : ∀ b : Ref sig .tc, b ∉ countOps_W → b ∉ clsOps_W → u6 (Proc.devRef .tc b) = u4 (Proc.devRef .tc b) := fun b h5 h6 =>
    (after_of_writes_sub _ _ clsOps_writes h6).trans (after_of_writes_sub _ _ countOps_writes h5)
  have to6 : ∀ b : Ref sig .tc, b ∉ offOps_W → b ∉ priOps_W → u8 (Proc.devRef .tc b) = u6 (Proc.devRef .tc b) := fun b h7 h8 =>
    (after_of_writes_sub _ _ priOps_writes h8).trans (after_of_writes_sub _ _ offOps_writes h7)
  have flat1 : ∀ i : Fin flatN, rd1 i (u1 (Proc.devRef .tc main_call0_v7)) = s.sco i := fun i =>
    (flat_apply U i).trans <| (h.scores _ _).trans (congrArg s.sco (flatOf_split i))
  obtain ⟨ρ, hρ, hi⟩ := somePriors u1
  let pos : Fin 10240 → Fin flatN := fun i => flatOf (ρ ⟨i.val / 20, by omega⟩) ⟨i.val % 20, by omega⟩
  have hposv : ∀ i, (pos i).val = 20 * (ρ ⟨i.val / 20, by omega⟩).val + i.val % 20 := fun i => rfl
  have hpos : Function.Injective pos := fun a b hab => by
    have e := congrArg Fin.val hab
    rw [hposv, hposv] at e
    have e1 : (ρ ⟨a.val / 20, by omega⟩).val = (ρ ⟨b.val / 20, by omega⟩).val := by omega
    have e2 := congrArg Fin.val (hρ (Fin.ext e1))
    simp only at e2
    exact Fin.ext (by omega)
  have v41 : u1 (Proc.devRef .tc main_call0_v4_1) = U (Proc.devRef .tc main_call0_v4_1) := after_of_writes_sub _ _ flatOps_writes (by decide)
  obtain ⟨cand, ho, hk, hw⟩ := cand_spec u3 s.sco pos hpos
    (fun i => (congrArg (rd1 i) (after_of_writes_sub (r := main_call0_v18) _ _ candOps_writes (by decide))).trans <|
      (theirScores u1 ρ hi i).trans ((congrArg (rd2 _ _) v41).trans (h.scores _ _)))
    (fun i => (theirWords u2 ρ hi i).trans (congrArg (BitVec.ofNat 32) (hposv i).symm))
  have words5 : ∀ j, wd1 j (u5 (Proc.devRef .tc main_call0_v36_1)) = BitVec.ofNat 32 (cand j).val := fun j =>
    (congrArg (wd1 j) (after_of_writes_sub (r := main_call0_v36_1) _ _ countOps_writes (by decide))).trans (hw j)
  have corner6 : rd0 (u6 (Proc.devRef .tc main_call0_v8)) = s.corner :=
    (congrArg rd0 ((to5 main_call0_v8 (by decide) (by decide)).trans (to1 main_call0_v8 (by decide) (by decide) (by decide)))).trans
      ((corner_apply U).trans h.corner)
  have off8 : ∀ j, rd1 j (u8 (Proc.devRef .tc main_call0_v51)) = labelOf (cand j) * (s.corner + 1) := fun j => by
    refine (congrArg (rd1 j) (after_of_writes_sub (r := main_call0_v51) _ _ priOps_writes (by decide))).trans ((off_apply u6 j).trans ?_)
    rw [corner6, show wd1 j (u6 (Proc.devRef .tc main_call0_v45)) = _ from cls_apply u5 j, words5, label_word]
  have pri8 : ∀ j, wd1 j (u8 (Proc.devRef .tc main_call0_v52)) = BitVec.ofNat 32 (priorOf (cand j)).val := fun j => by
    refine (pri_apply u7 j).trans ?_
    rw [show wd1 j (u7 (Proc.devRef .tc main_call0_v36_1)) = BitVec.ofNat 32 (cand j).val from
      (congrArg (wd1 j) ((after_of_writes_sub (r := main_call0_v36_1) _ _ offOps_writes (by decide)).trans
        (after_of_writes_sub (r := main_call0_v36_1) _ _ clsOps_writes (by decide)))).trans (words5 j), divW_ofNat (lt_trans (cand j).isLt (by norm_num))]
    rfl
  have box8 : ∀ p k, rd2 p k (u8 (Proc.devRef .tc main_call0_v5)) = s.box p k := fun p k =>
    (congrArg (rd2 p k) ((to6 main_call0_v5 (by decide) (by decide)).trans ((to5 main_call0_v5 (by decide) (by decide)).trans
      (to1 main_call0_v5 (by decide) (by decide) (by decide))))).trans ((boxT_apply U p k).trans (h.boxes k p))
  have rows : ∀ j k, rd2 j k (after boxOps u8 (Proc.devRef .tc main_call0_v62)) = s.nbx (cand j) k := fun j k => by
    refine (rows_apply u8 (fun j => priorOf (cand j)) pri8 j k).trans ?_
    rw [box8, off8]
    rfl
  rw [hB]
  have last : ∀ b : Ref sig .tc, b ∉ countOps_W → b ∉ clsOps_W → b ∉ offOps_W → b ∉ priOps_W → b ∉ boxOps_W →
      after boxOps u8 (Proc.devRef .tc b) = u4 (Proc.devRef .tc b) := fun b h5 h6 h7 h8 h9 =>
    (after_of_writes_sub _ _ boxOps_writes h9).trans ((to6 b h7 h8).trans (to5 b h5 h6))
  refine ⟨cand, {
    flat := fun i => (congrArg (rd1 i) ((last main_call0_v7 (by decide) (by decide) (by decide) (by decide) (by decide)).trans
      (to1 main_call0_v7 (by decide) (by decide) (by decide)))).trans (flat1 i)
    box := fun p k => (congrArg (rd2 p k) (after_of_writes_sub (r := main_call0_v5) _ _ boxOps_writes (by decide))).trans (box8 p k)
    corner := (congrArg rd0 ((after_of_writes_sub (r := main_call0_v8) _ _ boxOps_writes (by decide)).trans (to6 main_call0_v8 (by decide) (by decide)))).trans corner6
    conf := fun p k => (congrArg (rd2 p k) ((last main_arg1 (by decide) (by decide) (by decide) (by decide) (by decide)).trans
      ((to1 main_arg1 (by decide) (by decide) (by decide)).trans (after_of_writes_sub (r := main_arg1) _ _ flatOps_writes (by decide))))).trans (h.conf p k)
    keys := fun j => (congrArg (rd1 j) (last main_call0_v37 (by decide) (by decide) (by decide) (by decide) (by decide))).trans (hk j)
    words := fun j => (congrArg (wd1 j) (last main_call0_v36_1 (by decide) (by decide) (by decide) (by decide) (by decide))).trans (hw j)
    best := fun hb => by
      have hb' := (count_apply u4).mp <| Eq.trans (congrArg bt0 <| ((after_of_writes_sub (r := main_call0_v44) _ _ boxOps_writes (by decide)).trans
        ((to6 main_call0_v44 (by decide) (by decide)).trans (after_of_writes_sub (r := main_call0_v44) _ _ clsOps_writes (by decide)))).symm) hb
      refine isTop_of_count ho (Eq.trans (congrArg Finset.card (Finset.filter_congr fun i _ => ?_)) hb')
      rw [show rd1 (511 : Fin 512) (u4 (Proc.devRef .tc main_call0_v37)) = s.sco (cand 511) from hk 511,
        show rd1 i (u4 (Proc.devRef .tc main_call0_v7)) = s.sco i from
          (congrArg (rd1 i) (to1 main_call0_v7 (by decide) (by decide) (by decide))).trans (flat1 i)]
      rfl }, rows, fun j k => (cols_apply u8 j k).trans (rows j k)⟩

end Cert.Proof.PI

end
-- ==== Proof.PI.Shared.lean ====
/-
  What the kernel's two ways have in common at their ends: positions turned into rows of the result.
-/
module

public import proofs.«01_k».proof.Proof.PI.Gathers
public import proofs.«01_k».proof.Proof.Val.Spec
public import proofs.«01_k».proof.Proof.Val.Words
public import proofs.«01_k».proof.Proof.Val.Reads
public import proofs.«01_k».proof.Proof.Val.TopK
public import Idealize.ShloMosaic.Lib.Pointwise
public import Idealize.ShloMosaic.PureOps.Ideal

@[expose] public section

set_option maxRecDepth 65536

noncomputable section

namespace Cert.Proof.PI

open Idealize.ShloMosaic Idealize.SL.Sem Idealize.ShloMosaic.StableHlo
open Cert.KernelIdeal Cert.KernelIdeal.Gen Cert.Proof.Val

/-- Two hundred numbers as a column of indices into a table of `n` entries. -/
def indexCol (n : BitVec 32) (x : IVec S200 32) : IVec S200x1 32 :=
  broadcastInDim S200x1 ![0] bcast_S200_S200x1_0
    (select (cmpi .slt x (broadcastInDim S200 ![] bcast_S_S200 (constantI S_ 32 0#32)))
      (addi x (broadcastInDim S200 ![] bcast_S_S200 (constantI S_ 32 n))) x)

theorem indexCol_apply (n : BitVec 32) (x : IVec S200 32) (j : Fin 200) (z : Fin 1) (b : ℕ) (hb : b < 2 ^ 31) (hx : wd1 j x = BitVec.ofNat 32 b) :
    wd2 j z (indexCol n x) = BitVec.ofNat 32 b := by
  dsimp only [wd1] at hx
  unfold indexCol
  pointwise
  rw [hx]
  exact wrap_ofNat hb _

/-- Two columns side by side. -/
theorem beside2 (A B : IVec S200x1 32) (j : Fin 200) (k : Fin 2) :
    wd2 j k (concatenate S200x2 1 [⟨S200x1, A⟩, ⟨S200x1, B⟩] concatenates_S200x1_S200x1_S200x2_d1) = ![wd2 j (0 : Fin 1) A, wd2 j (0 : Fin 1) B] k := by
  pointwise
  fin_cases k
  · exact (dif_pos (by decide)).trans rfl
  · exact (dif_neg (by decide)).trans rfl

/-- Two columns and four side by side. -/
theorem beside6 (A B : FVec Ideal S200x1 .f32) (C : FVec Ideal S200x4 .f32) (j : Fin 200) (k : Fin 6) :
    rd2 j k (concatenate S200x6 1 [⟨S200x1, A⟩, ⟨S200x1, B⟩, ⟨S200x4, C⟩] concatenates_S200x1_S200x1_S200x4_S200x6_d1)
      = ![rd2 j (0 : Fin 1) A, rd2 j (0 : Fin 1) B, rd2 j (0 : Fin 4) C, rd2 j (1 : Fin 4) C, rd2 j (2 : Fin 4) C, rd2 j (3 : Fin 4) C] k := by
  pointwise
  fin_cases k
  · exact (dif_pos (by decide)).trans rfl
  · exact (dif_neg (by decide)).trans ((dif_pos (by decide)).trans rfl)
  all_goals exact (dif_neg (by decide)).trans ((dif_neg (by decide)).trans rfl)

/-- Priors and classes side by side. -/
def points (p c : IVec S200 32) : IVec S200x2 32 :=
  concatenate S200x2 1 [⟨S200x1, indexCol 20000#32 p⟩, ⟨S200x1, indexCol 21#32 c⟩] concatenates_S200x1_S200x1_S200x2_d1

theorem scores_apply (x : FVec Ideal S20000x21 .f32) (p c : IVec S200 32) (j : Fin 200) (a : Fin 20000) (b : Fin 21)
    (hp : wd1 j p = BitVec.ofNat 32 a.val) (hc : wd1 j c = BitVec.ofNat 32 b.val) :
    rd1 j (Host.gather gather_S20000x21_S200x2_S200_n_01_n_n_01_1_11 x (points p c)) = rd2 a b x := by
  refine gather_points _ _ j a b ?_ ?_
  · exact (beside2 _ _ j 0).trans (indexCol_apply _ p j _ a.val (by have := a.isLt; omega) hp)
  · exact (beside2 _ _ j 1).trans (indexCol_apply _ c j _ b.val (by have := b.isLt; omega) hc)

theorem boxes_apply (x : FVec Ideal S20000x4 .f32) (p : IVec S200 32) (j : Fin 200) (k : Fin 4) (a : Fin 20000) (hp : wd1 j p = BitVec.ofNat 32 a.val) :
    rd2 j k (Host.gather gather_S20000x4_S200x1_S200x4_1_0_n_n_0_1_14 x (indexCol 20000#32 p)) = rd2 a k x :=
  gather_rows _ rfl rfl rfl rfl rfl (by decide) _ _ j k a (indexCol_apply _ p j 0 a.val (by have := a.isLt; omega) hp)

/-- Labels, scores and boxes side by side. -/
def resultOf (c : IVec S200 32) (x : FVec Ideal S200 .f32) (b : FVec Ideal S200x4 .f32) : FVec Ideal S200x6 .f32 :=
  concatenate S200x6 1 [⟨S200x1, broadcastInDim S200x1 ![0] bcast_S200_S200x1_0 (sitofp (F := Ideal) .f32 c)⟩,
    ⟨S200x1, broadcastInDim S200x1 ![0] bcast_S200_S200x1_0 x⟩, ⟨S200x4, b⟩] concatenates_S200x1_S200x1_S200x4_S200x6_d1

theorem resultOf_apply (c : IVec S200 32) (x : FVec Ideal S200 .f32) (b : FVec Ideal S200x4 .f32) (j : Fin 200) (k : Fin 6) :
    rd2 j k (resultOf c x b) = ![FloatOps.sitofp (F := Ideal) .f32 (wd1 j c), rd1 j x, rd2 j (0 : Fin 4) b, rd2 j (1 : Fin 4) b,
      rd2 j (2 : Fin 4) b, rd2 j (3 : Fin 4) b] k := by
  have hl : ∀ z, rd2 j z (broadcastInDim S200x1 ![0] bcast_S200_S200x1_0 (sitofp (F := Ideal) .f32 c)) = FloatOps.sitofp (F := Ideal) .f32 (wd1 j c) := fun z => by pointwise
  have hx : ∀ z, rd2 j z (broadcastInDim S200x1 ![0] bcast_S200_S200x1_0 x) = rd1 j x := fun z => by pointwise
  unfold resultOf
  rw [beside6, hl, hx]

/-- The row of a position, put together from its words. -/
theorem row_spec (s : Scene) (conf : FVec Ideal S20000x21 .f32) (box : FVec Ideal S20000x4 .f32) (hconf : ∀ p c, rd2 p c conf = s.conf p c)
    (hbox : ∀ p k, rd2 p k box = s.box p k) (p c : IVec S200 32) (sel : Fin 200 → Fin flatN)
    (hp : ∀ j, wd1 j p = BitVec.ofNat 32 (priorOf (sel j)).val) (hc : ∀ j, wd1 j c = BitVec.ofNat 32 (classOf (sel j)).val) (j : Fin 200) (k : Fin 6) :
    rd2 j k (resultOf c (Host.gather gather_S20000x21_S200x2_S200_n_01_n_n_01_1_11 conf (points p c))
      (Host.gather gather_S20000x4_S200x1_S200x4_1_0_n_n_0_1_14 box (indexCol 20000#32 p))) = s.out (sel j) k := by
  rw [resultOf_apply, scores_apply conf p c j _ _ (hp j) (hc j), boxes_apply box p j _ _ (hp j), boxes_apply box p j _ _ (hp j),
    boxes_apply box p j _ _ (hp j), boxes_apply box p j _ _ (hp j), hc, hconf, hbox, hbox, hbox, hbox]
  rfl

end Cert.Proof.PI

end
-- ==== Proof.PI.Short.lean ====
/-
  The kernel's short way, after its suppression call: from the flags over 512 candidates to the rows of the result.
-/
module

public import proofs.«01_k».proof.Proof.PI.Ops
public import proofs.«01_k».proof.Proof.PI.Shared

@[expose] public section

set_option maxRecDepth 65536

noncomputable section

namespace Cert.Proof.PI

open Idealize.ShloMosaic Idealize.SL.Sem Idealize.ShloMosaic.StableHlo
open Cert.KernelIdeal Cert.KernelIdeal.Gen Cert.Proof.Val

variable (W : Valuation τ sig (Elt Ideal))

theorem sRank_apply (j : Fin 512) : rd1 j (after sRankOps W (Proc.devRef .tc main_call0_case0b1_v74))
    = Scalar.select (bt1 j (W (Proc.devRef .tc main_call0_v67))) (rd1 j (W (Proc.devRef .tc main_call0_v37))) (⊥ : EReal) := by
  rw [← ofBits_negInf]
  after_reads_simp
  show select (W (Proc.devRef .tc main_call0_v67) : Arr Ideal S512 .i1) (W (Proc.devRef .tc main_call0_v37) : Arr Ideal S512 .f32)
    (broadcastInDim S512 ![] bcast_S_S512 (constant (F := Ideal) S_ .f32 0xFF800000#32)) (ix1 j) = _
  pointwise

theorem sTop : ∃ k2 : Fin 200 → Fin 512, IsTop (fun j => rd1 j (after sRankOps W (Proc.devRef .tc main_call0_case0b1_v74))) k2
    ∧ ∀ j, wd1 j (after sRankOps W (Proc.devRef .tc main_call0_case0b1_indices_18)) = BitVec.ofNat 32 (k2 j).val := by
  obtain ⟨k2, ht, -, hi⟩ := topK_spec (k := 200) (by decide)
    (after sRankOps W (Proc.devRef .tc main_call0_case0b1_v74) : Arr Ideal S512 .f32) sliceFits_S512_S200
  refine ⟨k2, ht, fun j => Eq.trans ?_ (hi j)⟩
  after_reads_simp

theorem sOrd_apply (cand : Fin 512 → Fin flatN) (k2 : Fin 200 → Fin 512)
    (h : ∀ j, wd1 j (W (Proc.devRef .tc main_call0_v36_1)) = BitVec.ofNat 32 (cand j).val)
    (h2 : ∀ j, wd1 j (W (Proc.devRef .tc main_call0_case0b1_indices_18)) = BitVec.ofNat 32 (k2 j).val) (j : Fin 200) :
    wd1 j (after sOrdOps W (Proc.devRef .tc main_call0_case0b1_v81)) = BitVec.ofNat 32 (cand (k2 j)).val := by
  after_reads_simp
  exact (gather_entries _ rfl rfl rfl rfl (by decide) _ _ j (k2 j)
    (indexCol_apply 512#32 _ j 0 (k2 j).val (by have := (k2 j).isLt; omega) (h2 j))).trans (h _)

theorem sPri_apply (j : Fin 200) : wd1 j (after sOutPriOps W (Proc.devRef .tc main_call0_case0b1_v82)) = divW (wd1 j (W (Proc.devRef .tc main_call0_case0b1_v81))) := by
  after_reads_simp
  pointwise
  rfl

theorem sCls_apply (j : Fin 200) : wd1 j (after sOutClsOps W (Proc.devRef .tc main_call0_case0b1_v85))
    = IntOp.addi (remW (wd1 j (W (Proc.devRef .tc main_call0_case0b1_v81)))) 1#32 := by
  after_reads_simp
  pointwise
  rfl

theorem sBox_eq : after sOutBoxOps W (Proc.devRef .tc main_call0_case0b1_v92)
    = Host.gather gather_S20000x4_S200x1_S200x4_1_0_n_n_0_1_14 (W (Proc.devRef .tc main_call0_v5)) (indexCol 20000#32 (W (Proc.devRef .tc main_call0_case0b1_v82))) := by
  after_reads_simp
  rfl

theorem sScore_eq : after sOutScoreOps W (Proc.devRef .tc main_call0_case0b1_v106)
    = Host.gather gather_S20000x21_S200x2_S200_n_01_n_n_01_1_11 (W (Proc.devRef .tc main_arg1))
      (points (W (Proc.devRef .tc main_call0_case0b1_v82)) (W (Proc.devRef .tc main_call0_case0b1_v85))) := by
  after_reads_simp
  rfl

theorem sOut_eq : after sOutOps W (Proc.devRef .tc main_v0)
    = resultOf (W (Proc.devRef .tc main_call0_case0b1_v85)) (W (Proc.devRef .tc main_call0_case0b1_v106)) (W (Proc.devRef .tc main_call0_case0b1_v92)) := by
  after_reads_simp
  rfl

end Cert.Proof.PI

end
-- ==== Proof.PI.Long.lean ====
/-
  The kernel's long way: the best 4096 positions, their shifted boxes, and from the flags over them to the rows of the
  result.
-/
module

public import proofs.«01_k».proof.Proof.PI.Ops
public import proofs.«01_k».proof.Proof.PI.Shared

@[expose] public section

set_option maxRecDepth 65536

noncomputable section

namespace Cert.Proof.PI

open Idealize.ShloMosaic Idealize.SL.Sem Idealize.ShloMosaic.StableHlo
open Cert.KernelIdeal Cert.KernelIdeal.Gen Cert.Proof.Val

variable (W : Valuation τ sig (Elt Ideal))

/-! ## Up to the suppression call -/

theorem fTop : ∃ σ : Fin 4096 → Fin 400000, IsTop (fun i => rd1 i (W (Proc.devRef .tc main_call0_v7))) σ
    ∧ (∀ j, rd1 j (after fTopOps W (Proc.devRef .tc main_call0_case0b0_values_16)) = rd1 (σ j) (W (Proc.devRef .tc main_call0_v7)))
    ∧ ∀ j, wd1 j (after fTopOps W (Proc.devRef .tc main_call0_case0b0_indices_17)) = BitVec.ofNat 32 (σ j).val := by
  obtain ⟨σ, ht, hv, hi⟩ := topK_spec (k := 4096) (by decide) (W (Proc.devRef .tc main_call0_v7) : Arr Ideal S400000 .f32) sliceFits_S400000_S4096
  refine ⟨σ, ht, fun j => Eq.trans ?_ (hv j), fun j => Eq.trans ?_ (hi j)⟩
  · after_reads_simp
  · after_reads_simp

theorem fCls_apply (j : Fin 4096) : wd1 j (after fClsOps W (Proc.devRef .tc main_call0_case0b0_v74)) = remW (wd1 j (W (Proc.devRef .tc main_call0_case0b0_indices_17))) := by
  after_reads_simp
  pointwise
  rfl

theorem fOff_apply (j : Fin 4096) : rd1 j (after fOffOps W (Proc.devRef .tc main_call0_case0b0_v80))
    = FloatOps.sitofp (F := Ideal) .f32 (IntOp.addi (wd1 j (W (Proc.devRef .tc main_call0_case0b0_v74))) 1#32) * (rd0 (W (Proc.devRef .tc main_call0_v8)) + 1) := by
  after_reads_simp
  pointwise

theorem fPri_apply (j : Fin 4096) : wd1 j (after fPriOps W (Proc.devRef .tc main_call0_case0b0_v81)) = divW (wd1 j (W (Proc.devRef .tc main_call0_case0b0_indices_17))) := by
  after_reads_simp
  pointwise
  rfl

theorem fRows_apply (ρ : Fin 4096 → Fin 20000) (h : ∀ j, wd1 j (W (Proc.devRef .tc main_call0_case0b0_v81)) = BitVec.ofNat 32 (ρ j).val) (j : Fin 4096) (k : Fin 4) :
    rd2 j k (after fBoxOps W (Proc.devRef .tc main_call0_case0b0_v91))
      = rd2 (ρ j) k (W (Proc.devRef .tc main_call0_v5)) + rd1 j (W (Proc.devRef .tc main_call0_case0b0_v80)) := by
  dsimp only [wd1] at h
  after_reads_simp
  pointwise
  refine congrArg (· + rd1 j (W (Proc.devRef .tc main_call0_case0b0_v80))) (gather_rows _ rfl rfl rfl rfl rfl (by decide) _ _ j k (ρ j) ?_)
  pointwise
  rw [h]
  exact wrap_ofNat (by have := (ρ j).isLt; omega) _

theorem fCols_apply (j : Fin 4096) (k : Fin 4) :
    rd2 k j (after fBoxOps W (Proc.devRef .tc main_call0_case0b0_v92)) = rd2 j k (after fBoxOps W (Proc.devRef .tc main_call0_case0b0_v91)) := by
  after_reads_simp
  pointwise

/-! ## After it -/

open Classical in
theorem fRank_apply (j : Fin 4096) : rd1 j (after fRankOps W (Proc.devRef .tc main_call0_case0b0_v97))
    = if Ideal.ofBits .f32 0x3F000000#32 < rd2 (0 : Fin 1) j (W (Proc.devRef .tc main_call0_case0b0_v93))
      then rd1 j (W (Proc.devRef .tc main_call0_case0b0_values_16)) else (⊥ : EReal) := by
  rw [← ofBits_negInf]
  after_reads_simp
  show select (cmpf (F := Ideal) .ogt _ _) (W (Proc.devRef .tc main_call0_case0b0_values_16) : Arr Ideal S4096 .f32)
    (broadcastInDim S4096 ![] bcast_S_S4096 (constant (F := Ideal) S_ .f32 0xFF800000#32)) (ix1 j) = _
  pointwise

theorem fLast : ∃ k2 : Fin 200 → Fin 4096, IsTop (fun j => rd1 j (after fRankOps W (Proc.devRef .tc main_call0_case0b0_v97))) k2
    ∧ ∀ j, wd1 j (after fRankOps W (Proc.devRef .tc main_call0_case0b0_indices_27)) = BitVec.ofNat 32 (k2 j).val := by
  obtain ⟨k2, ht, -, hi⟩ := topK_spec (k := 200) (by decide)
    (after fRankOps W (Proc.devRef .tc main_call0_case0b0_v97) : Arr Ideal S4096 .f32) sliceFits_S4096_S200
  refine ⟨k2, ht, fun j => Eq.trans ?_ (hi j)⟩
  after_reads_simp

theorem fOrd_apply (cand : Fin 4096 → Fin flatN) (k2 : Fin 200 → Fin 4096)
    (h : ∀ j, wd1 j (W (Proc.devRef .tc main_call0_case0b0_indices_17)) = BitVec.ofNat 32 (cand j).val)
    (h2 : ∀ j, wd1 j (W (Proc.devRef .tc main_call0_case0b0_indices_27)) = BitVec.ofNat 32 (k2 j).val) (j : Fin 200) :
    wd1 j (after fOrdOps W (Proc.devRef .tc main_call0_case0b0_v104)) = BitVec.ofNat 32 (cand (k2 j)).val := by
  after_reads_simp
  exact (gather_entries _ rfl rfl rfl rfl (by decide) _ _ j (k2 j)
    (indexCol_apply 4096#32 _ j 0 (k2 j).val (by have := (k2 j).isLt; omega) (h2 j))).trans (h _)

theorem fOutPri_apply (j : Fin 200) : wd1 j (after fOutPriOps W (Proc.devRef .tc main_call0_case0b0_v105))
    = divW (wd1 j (W (Proc.devRef .tc main_call0_case0b0_v104))) := by
  after_reads_simp
  pointwise
  rfl

theorem fOutCls_apply (j : Fin 200) : wd1 j (after fOutClsOps W (Proc.devRef .tc main_call0_case0b0_v108))
    = IntOp.addi (remW (wd1 j (W (Proc.devRef .tc main_call0_case0b0_v104)))) 1#32 := by
  after_reads_simp
  pointwise
  rfl

theorem fBox_eq : after fOutBoxOps W (Proc.devRef .tc main_call0_case0b0_v115)
    = Host.gather gather_S20000x4_S200x1_S200x4_1_0_n_n_0_1_14 (W (Proc.devRef .tc main_call0_v5)) (indexCol 20000#32 (W (Proc.devRef .tc main_call0_case0b0_v105))) := by
  after_reads_simp
  rfl

theorem fScore_eq : after fOutScoreOps W (Proc.devRef .tc main_call0_case0b0_v129)
    = Host.gather gather_S20000x21_S200x2_S200_n_01_n_n_01_1_11 (W (Proc.devRef .tc main_arg1))
      (points (W (Proc.devRef .tc main_call0_case0b0_v105)) (W (Proc.devRef .tc main_call0_case0b0_v108))) := by
  after_reads_simp
  rfl

theorem fOut_eq : after fOutOps W (Proc.devRef .tc main_v0)
    = resultOf (W (Proc.devRef .tc main_call0_case0b0_v108)) (W (Proc.devRef .tc main_call0_case0b0_v129)) (W (Proc.devRef .tc main_call0_case0b0_v115)) := by
  after_reads_simp
  rfl

end Cert.Proof.PI

end
-- ==== Proof.PI.Ends.lean ====
/-
  The kernel's two ways put together: what is held when the long way's suppression call is entered, and the rows each
  way ends with.
-/
module

public import proofs.«01_k».proof.Proof.PI.Cands
public import proofs.«01_k».proof.Proof.PI.Short
public import proofs.«01_k».proof.Proof.PI.Long

@[expose] public section

set_option maxRecDepth 65536

noncomputable section

namespace Cert.Proof.PI

open Idealize.ShloMosaic Idealize.SL.Sem Idealize.ShloMosaic.StableHlo
open Cert.KernelIdeal Cert.KernelIdeal.Gen Cert.Proof.Val

variable (s : Scene) (R : Valuation τ sig (Elt Ideal))

/-- A position's class, from its word. -/
theorem class_word (i : Fin flatN) : IntOp.addi (remW (BitVec.ofNat 32 i.val)) 1#32 = BitVec.ofNat 32 (classOf i).val := by
  rw [remW_ofNat (lt_trans i.isLt (by norm_num))]
  exact (BitVec.ofNat_add _ _).symm

/-- A position's prior, from its word. -/
theorem prior_word (i : Fin flatN) : divW (BitVec.ofNat 32 i.val) = BitVec.ofNat 32 (priorOf i).val := divW_ofNat (lt_trans i.isLt (by norm_num))

/-! ## The short way -/

theorem short_rows (hbox : ∀ (p : Fin 20000) (k : Fin 4), rd2 p k (R (Proc.devRef .tc main_call0_v5)) = s.box p k)
    (hconf : ∀ (p : Fin 20000) (c : Fin 21), rd2 p c (R (Proc.devRef .tc main_arg1)) = s.conf p c) (cand : Fin 512 → Fin flatN) (k2 : Fin 200 → Fin 512)
    (h : ∀ j, wd1 j (R (Proc.devRef .tc main_call0_v36_1)) = BitVec.ofNat 32 (cand j).val)
    (h2 : ∀ j, wd1 j (after sRankOps R (Proc.devRef .tc main_call0_case0b1_indices_18)) = BitVec.ofNat 32 (k2 j).val) (j : Fin 200) (k : Fin 6) :
    rd2 j k (after opsG R (Proc.devRef .tc main_v0)) = s.out (cand (k2 j)) k := by
  let g1 : Valuation τ sig (Elt Ideal) := after sRankOps R
  let g2 : Valuation τ sig (Elt Ideal) := after sOrdOps g1
  let g3 : Valuation τ sig (Elt Ideal) := after sOutPriOps g2
  let g4 : Valuation τ sig (Elt Ideal) := after sOutClsOps g3
  let g5 : Valuation τ sig (Elt Ideal) := after sOutBoxOps g4
  let g6 : Valuation τ sig (Elt Ideal) := after sOutScoreOps g5
  have hG : after opsG R = after sOutOps g6 := by
    simp only [opsG, List.flatten_cons, List.flatten_nil, List.append_nil, after_append]
    rfl
  have to4 : ∀ b : Ref sig .tc, b ∉ sRankOps_W → b ∉ sOrdOps_W → b ∉ sOutPriOps_W → b ∉ sOutClsOps_W → g4 (Proc.devRef .tc b) = R (Proc.devRef .tc b) :=
    fun b h1 h2 h3 h4 => (after_of_writes_sub _ _ sOutClsOps_writes h4).trans <| (after_of_writes_sub _ _ sOutPriOps_writes h3).trans <|
      (after_of_writes_sub _ _ sOrdOps_writes h2).trans (after_of_writes_sub _ _ sRankOps_writes h1)
  have hx : ∀ j, wd1 j (g2 (Proc.devRef .tc main_call0_case0b1_v81)) = BitVec.ofNat 32 (cand (k2 j)).val :=
    sOrd_apply g1 cand k2 (fun j => (congrArg (wd1 j) (after_of_writes_sub (r := main_call0_v36_1) _ _ sRankOps_writes (by decide))).trans (h j)) h2
  have hp : ∀ j, wd1 j (g4 (Proc.devRef .tc main_call0_case0b1_v82)) = BitVec.ofNat 32 (priorOf (cand (k2 j))).val := fun j =>
    (congrArg (wd1 j) (after_of_writes_sub (r := main_call0_case0b1_v82) _ _ sOutClsOps_writes (by decide))).trans <|
      (sPri_apply g2 j).trans ((congrArg divW (hx j)).trans (prior_word _))
  have hc : ∀ j, wd1 j (g4 (Proc.devRef .tc main_call0_case0b1_v85)) = BitVec.ofNat 32 (classOf (cand (k2 j))).val := fun j =>
    (sCls_apply g3 j).trans <| (congrArg (fun w => IntOp.addi (remW w) 1#32)
      ((congrArg (wd1 j) (after_of_writes_sub (r := main_call0_case0b1_v81) _ _ sOutPriOps_writes (by decide))).trans (hx j))).trans (class_word _)
  have keep : ∀ b : Ref sig .tc, b ∉ sOutBoxOps_W → g5 (Proc.devRef .tc b) = g4 (Proc.devRef .tc b) := fun b hb => after_of_writes_sub _ _ sOutBoxOps_writes hb
  rw [hG, sOut_eq, show g6 (Proc.devRef .tc main_call0_case0b1_v85) = g4 (Proc.devRef .tc main_call0_case0b1_v85) from
      (after_of_writes_sub (r := main_call0_case0b1_v85) _ _ sOutScoreOps_writes (by decide)).trans (keep main_call0_case0b1_v85 (by decide)),
    show g6 (Proc.devRef .tc main_call0_case0b1_v92) = _ from
      (after_of_writes_sub (r := main_call0_case0b1_v92) _ _ sOutScoreOps_writes (by decide)).trans (sBox_eq g4),
    show g6 (Proc.devRef .tc main_call0_case0b1_v106) = _ from sScore_eq g5, keep main_call0_case0b1_v82 (by decide),
    keep main_call0_case0b1_v85 (by decide), keep main_arg1 (by decide)]
  exact row_spec s _ _ (fun p c => (congrArg (rd2 p c) (to4 main_arg1 (by decide) (by decide) (by decide) (by decide))).trans (hconf p c))
    (fun p k => (congrArg (rd2 p k) (to4 main_call0_v5 (by decide) (by decide) (by decide) (by decide))).trans (hbox p k)) _ _ (fun j => cand (k2 j)) hp hc j k

/-! ## The long way -/

/-- What the kernel holds when the long suppression call is entered, and after it. -/
structure Ranked (ord : Fin 4096 → Fin flatN) (U : Valuation τ sig (Elt Ideal)) : Prop where
  box : ∀ (p : Fin 20000) (k : Fin 4), rd2 p k (U (Proc.devRef .tc main_call0_v5)) = s.box p k
  conf : ∀ (p : Fin 20000) (c : Fin 21), rd2 p c (U (Proc.devRef .tc main_arg1)) = s.conf p c
  keys : ∀ j : Fin 4096, rd1 j (U (Proc.devRef .tc main_call0_case0b0_values_16)) = s.sco (ord j)
  words : ∀ j : Fin 4096, wd1 j (U (Proc.devRef .tc main_call0_case0b0_indices_17)) = BitVec.ofNat 32 (ord j).val

variable {s R} in
theorem long_ready {cand : Fin 512 → Fin flatN} (h : Ready s cand R) : ∃ ord, IsTop s.sco ord ∧ Ranked s ord (after opsD R)
    ∧ (∀ j k, rd2 j k (after opsD R (Proc.devRef .tc main_call0_case0b0_v91)) = s.nbx (ord j) k)
    ∧ ∀ j k, rd2 k j (after opsD R (Proc.devRef .tc main_call0_case0b0_v92)) = s.nbx (ord j) k := by
  let d1 : Valuation τ sig (Elt Ideal) := after fTopOps R
  let d2 : Valuation τ sig (Elt Ideal) := after fClsOps d1
  let d3 : Valuation τ sig (Elt Ideal) := after fOffOps d2
  let d4 : Valuation τ sig (Elt Ideal) := after fPriOps d3
  have hD : after opsD R = after fBoxOps d4 := by
    simp only [opsD, List.flatten_cons, List.flatten_nil, List.append_nil, after_append]
    rfl
  obtain ⟨ord, ht, hv, hi⟩ := fTop R
  have hflat : (fun i : Fin 400000 => rd1 i (R (Proc.devRef .tc main_call0_v7))) = s.sco := funext h.flat
  rw [hflat] at ht
  have to3 : ∀ b : Ref sig .tc, b ∉ fClsOps_W → b ∉ fOffOps_W → d3 (Proc.devRef .tc b) = d1 (Proc.devRef .tc b) := fun b h2 h3 =>
    (after_of_writes_sub _ _ fOffOps_writes h3).trans (after_of_writes_sub _ _ fClsOps_writes h2)
  have to4 : ∀ b : Ref sig .tc, b ∉ fTopOps_W → b ∉ fClsOps_W → b ∉ fOffOps_W → b ∉ fPriOps_W → d4 (Proc.devRef .tc b) = R (Proc.devRef .tc b) :=
    fun b h1 h2 h3 h4 => (after_of_writes_sub _ _ fPriOps_writes h4).trans ((to3 b h2 h3).trans (after_of_writes_sub _ _ fTopOps_writes h1))
  have to5 : ∀ b : Ref sig .tc, b ∉ fClsOps_W → b ∉ fOffOps_W → b ∉ fPriOps_W → b ∉ fBoxOps_W →
      after fBoxOps d4 (Proc.devRef .tc b) = d1 (Proc.devRef .tc b) := fun b h2 h3 h4 h5 =>
    (after_of_writes_sub _ _ fBoxOps_writes h5).trans ((after_of_writes_sub _ _ fPriOps_writes h4).trans (to3 b h2 h3))
  have off4 : ∀ j, rd1 j (d4 (Proc.devRef .tc main_call0_case0b0_v80)) = labelOf (ord j) * (s.corner + 1) := fun j => by
    refine (congrArg (rd1 j) (after_of_writes_sub (r := main_call0_case0b0_v80) _ _ fPriOps_writes (by decide))).trans ((fOff_apply d2 j).trans ?_)
    rw [show wd1 j (d2 (Proc.devRef .tc main_call0_case0b0_v74)) = _ from fCls_apply d1 j, hi, label_word,
      show rd0 (d2 (Proc.devRef .tc main_call0_v8)) = s.corner from
        (congrArg rd0 ((after_of_writes_sub (r := main_call0_v8) _ _ fClsOps_writes (by decide)).trans
          (after_of_writes_sub (r := main_call0_v8) _ _ fTopOps_writes (by decide)))).trans h.corner]
  have pri4 : ∀ j, wd1 j (d4 (Proc.devRef .tc main_call0_case0b0_v81)) = BitVec.ofNat 32 (priorOf (ord j)).val := fun j => by
    refine (fPri_apply d3 j).trans ((congrArg divW ?_).trans (prior_word _))
    exact (congrArg (wd1 j) (to3 main_call0_case0b0_indices_17 (by decide) (by decide))).trans (hi j)
  have box4 : ∀ p k, rd2 p k (d4 (Proc.devRef .tc main_call0_v5)) = s.box p k := fun p k =>
    (congrArg (rd2 p k) (to4 main_call0_v5 (by decide) (by decide) (by decide) (by decide))).trans (h.box p k)
  have rows : ∀ j k, rd2 j k (after fBoxOps d4 (Proc.devRef .tc main_call0_case0b0_v91)) = s.nbx (ord j) k := fun j k => by
    refine (fRows_apply d4 (fun j => priorOf (ord j)) pri4 j k).trans ?_
    rw [box4, off4]
    rfl
  rw [hD]
  refine ⟨ord, ht, {
    box := fun p k => (congrArg (rd2 p k) (after_of_writes_sub (r := main_call0_v5) _ _ fBoxOps_writes (by decide))).trans (box4 p k)
    conf := fun p k => (congrArg (rd2 p k) ((after_of_writes_sub (r := main_arg1) _ _ fBoxOps_writes (by decide)).trans
      (to4 main_arg1 (by decide) (by decide) (by decide) (by decide)))).trans (h.conf p k)
    keys := fun j => (congrArg (rd1 j) (to5 main_call0_case0b0_values_16 (by decide) (by decide) (by decide) (by decide))).trans
      ((hv j).trans (h.flat _))
    words := fun j => (congrArg (wd1 j) (to5 main_call0_case0b0_indices_17 (by decide) (by decide) (by decide) (by decide))).trans (hi j) },
    rows, fun j k => (fCols_apply d4 j k).trans (rows j k)⟩

variable {s R} in
theorem long_rows {ord : Fin 4096 → Fin flatN} (h : Ranked s ord R) (k2 : Fin 200 → Fin 4096)
    (h2 : ∀ j, wd1 j (after fRankOps R (Proc.devRef .tc main_call0_case0b0_indices_27)) = BitVec.ofNat 32 (k2 j).val) (j : Fin 200) (k : Fin 6) :
    rd2 j k (after opsE R (Proc.devRef .tc main_v0)) = s.out (ord (k2 j)) k := by
  let g1 : Valuation τ sig (Elt Ideal) := after fRankOps R
  let g2 : Valuation τ sig (Elt Ideal) := after fOrdOps g1
  let g3 : Valuation τ sig (Elt Ideal) := after fOutPriOps g2
  let g4 : Valuation τ sig (Elt Ideal) := after fOutClsOps g3
  let g5 : Valuation τ sig (Elt Ideal) := after fOutBoxOps g4
  let g6 : Valuation τ sig (Elt Ideal) := after fOutScoreOps g5
  have hE : after opsE R = after fOutOps g6 := by
    simp only [opsE, List.flatten_cons, List.flatten_nil, List.append_nil, after_append]
    rfl
  have to4 : ∀ b : Ref sig .tc, b ∉ fRankOps_W → b ∉ fOrdOps_W → b ∉ fOutPriOps_W → b ∉ fOutClsOps_W → g4 (Proc.devRef .tc b) = R (Proc.devRef .tc b) :=
    fun b h1 h2 h3 h4 => (after_of_writes_sub _ _ fOutClsOps_writes h4).trans <| (after_of_writes_sub _ _ fOutPriOps_writes h3).trans <|
      (after_of_writes_sub _ _ fOrdOps_writes h2).trans (after_of_writes_sub _ _ fRankOps_writes h1)
  have hx : ∀ j, wd1 j (g2 (Proc.devRef .tc main_call0_case0b0_v104)) = BitVec.ofNat 32 (ord (k2 j)).val :=
    fOrd_apply g1 ord k2 (fun j => (congrArg (wd1 j) (after_of_writes_sub (r := main_call0_case0b0_indices_17) _ _ fRankOps_writes (by decide))).trans (h.words j)) h2
  have hp : ∀ j, wd1 j (g4 (Proc.devRef .tc main_call0_case0b0_v105)) = BitVec.ofNat 32 (priorOf (ord (k2 j))).val := fun j =>
    (congrArg (wd1 j) (after_of_writes_sub (r := main_call0_case0b0_v105) _ _ fOutClsOps_writes (by decide))).trans <|
      (fOutPri_apply g2 j).trans ((congrArg divW (hx j)).trans (prior_word _))
  have hc : ∀ j, wd1 j (g4 (Proc.devRef .tc main_call0_case0b0_v108)) = BitVec.ofNat 32 (classOf (ord (k2 j))).val := fun j =>
    (fOutCls_apply g3 j).trans <| (congrArg (fun w => IntOp.addi (remW w) 1#32)
      ((congrArg (wd1 j) (after_of_writes_sub (r := main_call0_case0b0_v104) _ _ fOutPriOps_writes (by decide))).trans (hx j))).trans (class_word _)
  have keep : ∀ b : Ref sig .tc, b ∉ fOutBoxOps_W → g5 (Proc.devRef .tc b) = g4 (Proc.devRef .tc b) := fun b hb => after_of_writes_sub _ _ fOutBoxOps_writes hb
  rw [hE, fOut_eq, show g6 (Proc.devRef .tc main_call0_case0b0_v108) = g4 (Proc.devRef .tc main_call0_case0b0_v108) from
      (after_of_writes_sub (r := main_call0_case0b0_v108) _ _ fOutScoreOps_writes (by decide)).trans (keep main_call0_case0b0_v108 (by decide)),
    show g6 (Proc.devRef .tc main_call0_case0b0_v115) = _ from
      (after_of_writes_sub (r := main_call0_case0b0_v115) _ _ fOutScoreOps_writes (by decide)).trans (fBox_eq g4),
    show g6 (Proc.devRef .tc main_call0_case0b0_v129) = _ from fScore_eq g5, keep main_call0_case0b0_v105 (by decide),
    keep main_call0_case0b0_v108 (by decide), keep main_arg1 (by decide)]
  exact row_spec s _ _ (fun p c => (congrArg (rd2 p c) (to4 main_arg1 (by decide) (by decide) (by decide) (by decide))).trans (h.conf p c))
    (fun p k => (congrArg (rd2 p k) (to4 main_call0_v5 (by decide) (by decide) (by decide) (by decide))).trans (h.box p k)) _ _ (fun j => ord (k2 j)) hp hc j k

end Cert.Proof.PI

end
-- ==== Proof.Nms.Value.lean ====
/-
  What the blocked suppression program computes over the extended reals, for any number of boxes: after each block of
  128 boxes the flags are those of the boxes kept one at a time (`Val.Stage`), and the loop ends when every box has been
  tried or 200 are kept (`runK_spec`). `Reads C m` lists what is asked of a program's offsets, bounds and arithmetic.
-/
module

public import proofs.«01_k».proof.Proof.Nms.Prog
public import proofs.«01_k».proof.Proof.Val.Keep
public import proofs.«01_k».proof.Proof.Val.Words
public import Idealize.ShloMosaic.Lib.Pointwise
public import Idealize.ShloMosaic.PureOps.Ideal

@[expose] public section

noncomputable section

namespace Cert.Proof.Nms

open Idealize.ShloMosaic Cert.Proof.Val
open Classical

/-- Every flag of a row is 0 or 1. -/
def Flags {n : ℕ} (K : Vec Ideal (Row n) .f32) : Prop := ∀ j, K (ix2 0 j) = (0 : EReal) ∨ K (ix2 0 j) = (1 : EReal)

/-- A flag is up. -/
def On {n : ℕ} (K : Vec Ideal (Row n) .f32) (j : Fin n) : Prop := K (ix2 0 j) = (1 : EReal)

/-- Box `i` of the boxes by columns, box `j` of the boxes by rows. -/
def boxR {n : ℕ} (R : Vec Ideal (Cols4 n) .f32) (i : Fin n) : Fin 4 → EReal := fun q => R (ix2 i q)
def boxB {n : ℕ} (B : Vec Ideal (Rows4 n) .f32) (j : Fin n) : Fin 4 → EReal := fun q => B (ix2 q j)

theorem zero_or_one {p : Prop} [Decidable p] {x : EReal} (hx : x = 0 ∨ x = 1) : (if p then (0 : EReal) else x) = 0 ∨ (if p then (0 : EReal) else x) = 1 := by
  split
  · exact .inl rfl
  · exact hx

theorem zero_if_eq_one {p : Prop} [Decidable p] {x : EReal} : (if p then (0 : EReal) else x) = 1 ↔ x = 1 ∧ ¬ p := by
  split
  · rename_i h
    exact ⟨fun e => absurd e zero_ne_one, fun e => absurd h e.2⟩
  · rename_i h
    exact ⟨fun e => ⟨e, h⟩, fun e => e.1⟩

/-- What the theorem asks of a program over `n = 128 · m` boxes. -/
structure Reads {n : ℕ} (C : Code Ideal n) (m : ℕ) : Prop where
  hn : n = 128 * m
  hm : m ≤ 32
  nb : C.nb = BitVec.ofNat 32 m
  chk : ∀ w, w < m → C.chk (BitVec.ofNat 32 w)
  oR : ∀ q w, w < m → C.oR q (BitVec.ofNat 32 w) = ![128 * w, q.val]
  oC : ∀ q w, w < m → C.oC q (BitVec.ofNat 32 w) = ![q.val, 128 * w]
  oK : ∀ w, w < m → C.oK (BitVec.ofNat 32 w) = ![0, 128 * w]
  t1 : C.L1.trips = 128
  oS : ∀ t, C.oS t = ![t.val, 0]
  t2 : ∀ w, w < m → (C.L2 (BitVec.ofNat 32 w)).trips = m - 1 - w
  oX : ∀ q w t, w < m → C.oX q (BitVec.ofNat 32 w) t = ![q.val, 128 * (w + 1 + t.val)]
  oY : ∀ w t, w < m → C.oY (BitVec.ofNat 32 w) t = ![0, 128 * (w + 1 + t.val)]
  tile : ∀ r0 r1 r2 r3 c0 c1 c2 c3 a b, C.tile r0 r1 r2 r3 c0 c1 c2 c3 (ix2 a b)
    = if overlaps ![r0 (ix2 a 0), r1 (ix2 a 0), r2 (ix2 a 0), r3 (ix2 a 0)] ![c0 (ix2 0 b), c1 (ix2 0 b), c2 (ix2 0 b), c3 (ix2 0 b)]
      then (1 : EReal) else 0
  start : ∀ u, C.start u = u
  scan : ∀ t x y b (ht : t.val < 128), Flags y → C.scan t x y (ix2 0 b)
    = if Ideal.ofBits .f32 0x3F000000#32 < x (ix2 0 b) ∧ y (ix2 0 ⟨t.val, ht⟩) = (1 : EReal) ∧ t.val < b.val then (0 : EReal) else y (ix2 0 b)
  chunk : ∀ r0 r1 r2 r3 kb c0 c1 c2 c3 u b, Flags kb → C.chunk r0 r1 r2 r3 kb c0 c1 c2 c3 u (ix2 0 b)
    = if ∃ a, kb (ix2 0 a) = (1 : EReal) ∧ overlaps ![r0 (ix2 a 0), r1 (ix2 a 0), r2 (ix2 a 0), r3 (ix2 a 0)] ![c0 (ix2 0 b), c1 (ix2 0 b), c2 (ix2 0 b), c3 (ix2 0 b)]
      then (0 : EReal) else u (ix2 0 b)
  cnt : ∀ kb, Flags kb → C.cnt kb = BitVec.ofNat 32 (Finset.univ.filter fun b : Fin 128 => kb (ix2 0 b) = (1 : EReal)).card
  half : Ideal.ofBits .f32 0x3F000000#32 < 1 ∧ ¬ Ideal.ofBits .f32 0x3F000000#32 < 0

/-! ## A rectangle's elements -/

section Rect

variable {n0 n1 m0 m1 : ℕ} {o0 o1 : ℕ} {off : Fin 2 → ℕ}

/-- A position of a run of 128 is one of its lanes. -/
theorem exists_lane {n : ℕ} (j : Fin n) (q : ℕ) (h1 : q ≤ j.val) (h2 : j.val < q + 128) :
    ∃ (b : Fin 128) (hb : q + b.val < n), j = ⟨q + b.val, hb⟩ :=
  ⟨⟨j.val - q, by omega⟩, by show q + (j.val - q) < n; have := j.isLt; omega, Fin.ext (by show j.val = q + (j.val - q); omega)⟩

theorem emb_unit (ho : off = ![o0, o1]) (inb : ∀ a : Fin 2, off a + (![m0, m1] : Fin 2 → ℕ) a ≤ (![n0, n1] : Fin 2 → ℕ) a)
    (a : Fin m0) (b : Fin m1) (ha : o0 + a.val < n0) (hb : o1 + b.val < n1) :
    (Rect.unit (s := ⟨2, ![n0, n1]⟩) off ![m0, m1] inb).emb (ix2 a b) = ix2 ⟨o0 + a.val, ha⟩ ⟨o1 + b.val, hb⟩ := by
  subst ho
  funext d
  refine Fin.ext ?_
  rw [Rect.emb_apply]
  fin_cases d
  · show o0 + 1 * a.val = o0 + a.val; omega
  · show o1 + 1 * b.val = o1 + b.val; omega

theorem part_unit {α : Type} (X : (⟨2, ![n0, n1]⟩ : Shape).Idx → α) (ho : off = ![o0, o1])
    (inb : ∀ a : Fin 2, off a + (![m0, m1] : Fin 2 → ℕ) a ≤ (![n0, n1] : Fin 2 → ℕ) a)
    (a : Fin m0) (b : Fin m1) (ha : o0 + a.val < n0) (hb : o1 + b.val < n1) :
    part (Rect.unit (s := ⟨2, ![n0, n1]⟩) off ![m0, m1] inb) X (ix2 a b) = X (ix2 ⟨o0 + a.val, ha⟩ ⟨o1 + b.val, hb⟩) :=
  congrArg X (emb_unit ho inb a b ha hb)

/-- A row's flags with one block replaced: in the block, -/
theorem overlay_in {α : Type} {n : ℕ} (X : (Row n).Idx → α) (G : Lane.Idx → α) (ho : off = ![0, o1])
    (inb : ∀ a : Fin 2, off a + Lane.size a ≤ (Row n).size a) (b : Fin 128) (hb : o1 + b.val < n) :
    (Rect.unit (s := Row n) off Lane.size inb).overlay X G (ix2 0 ⟨o1 + b.val, hb⟩) = G (ix2 0 b) := by
  have h := emb_unit (n0 := 1) (n1 := n) (m0 := 1) (m1 := 128) ho inb 0 b (by decide) hb
  have h' : (ix2 (⟨0 + (0 : Fin 1).val, by decide⟩ : Fin 1) ⟨o1 + b.val, hb⟩ : (Row n).Idx) = ix2 0 ⟨o1 + b.val, hb⟩ := rfl
  rw [← h', ← h]
  exact Rect.overlay_emb (Rect.unit (s := Row n) off Lane.size inb) X G (ix2 0 b)

/-- and outside it. -/
theorem overlay_out {α : Type} {n : ℕ} (X : (Row n).Idx → α) (G : Lane.Idx → α) (ho : off = ![0, o1])
    (inb : ∀ a : Fin 2, off a + Lane.size a ≤ (Row n).size a) (j : Fin n) (hj : j.val < o1 ∨ o1 + 128 ≤ j.val) :
    (Rect.unit (s := Row n) off Lane.size inb).overlay X G (ix2 0 j) = X (ix2 0 j) := by
  refine Rect.overlay_of_not_mem (Rect.unit (s := Row n) off Lane.size inb) X G fun hm => ?_
  obtain ⟨k, hk, e⟩ := (LoadRect.mem_set _).mp hm 1
  have e' : j.val = off 1 + 1 * k := e
  have hk' : k < 128 := hk
  rw [ho] at e'
  have : j.val = o1 + 1 * k := e'
  omega

end Rect

variable {n m : ℕ} {C : Code Ideal n} (hC : Reads C m) (B : Vec Ideal (Rows4 n) .f32) (R : Vec Ideal (Cols4 n) .f32)

/-- Box `i` overlaps box `j` too much. -/
def Hits (B : Vec Ideal (Rows4 n) .f32) (R : Vec Ideal (Cols4 n) .f32) (i j : Fin n) : Prop := overlaps (boxR R i) (boxB B j)

theorem four_eq (f : Fin 4 → EReal) : ![f 0, f 1, f 2, f 3] = f := by
  funext q; fin_cases q <;> rfl

section

variable {w : ℕ} (hw : w < m)

include hC hw in
theorem block_le : 128 * w + 128 ≤ n := by
  have := hC.hn
  omega

include hC hw in
theorem partR_apply (h : C.chk (BitVec.ofNat 32 w)) (q : Fin 4) (a : Fin 128) (ha : 128 * w + a.val < n) :
    part (rR C q (BitVec.ofNat 32 w) h) R (ix2 a 0) = boxR R ⟨128 * w + a.val, ha⟩ q := by
  have := part_unit (n0 := n) (n1 := 4) (m0 := 128) (m1 := 1) R (hC.oR q w hw) (C.iR q _ h) a 0 ha (by have := q.isLt; simpa using this)
  exact this

include hC hw in
theorem partC_apply (h : C.chk (BitVec.ofNat 32 w)) (q : Fin 4) (b : Fin 128) (hb : 128 * w + b.val < n) :
    part (rC C q (BitVec.ofNat 32 w) h) B (ix2 0 b) = boxB B ⟨128 * w + b.val, hb⟩ q := by
  have := part_unit (n0 := 4) (n1 := n) (m0 := 1) (m1 := 128) B (hC.oC q w hw) (C.iC q _ h) 0 b (by have := q.isLt; simpa using this) hb
  exact this

include hC hw in
theorem partK_apply (h : C.chk (BitVec.ofNat 32 w)) (K : Vec Ideal (Row n) .f32) (b : Fin 128) (hb : 128 * w + b.val < n) :
    part (rK C (BitVec.ofNat 32 w) h) K (ix2 0 b) = K (ix2 0 ⟨128 * w + b.val, hb⟩) :=
  part_unit (n0 := 1) (n1 := n) (m0 := 1) (m1 := 128) K (hC.oK w hw) (C.iK _ h) 0 b (by decide) hb

include hC hw in
theorem partX_apply (h : C.chk (BitVec.ofNat 32 w)) (q : Fin 4) (t : Fin (C.L2 (BitVec.ofNat 32 w)).trips) (b : Fin 128) (hb : 128 * (w + 1 + t.val) + b.val < n) :
    part (rX C q (BitVec.ofNat 32 w) h t) B (ix2 0 b) = boxB B ⟨128 * (w + 1 + t.val) + b.val, hb⟩ q := by
  have := part_unit (n0 := 4) (n1 := n) (m0 := 1) (m1 := 128) B (hC.oX q w t hw) (C.iX q _ h t) 0 b (by have := q.isLt; simpa using this) hb
  exact this

include hC hw in
theorem partY_apply (h : C.chk (BitVec.ofNat 32 w)) (K : Vec Ideal (Row n) .f32) (t : Fin (C.L2 (BitVec.ofNat 32 w)).trips) (b : Fin 128) (hb : 128 * (w + 1 + t.val) + b.val < n) :
    part (rY C (BitVec.ofNat 32 w) h t) K (ix2 0 b) = K (ix2 0 ⟨128 * (w + 1 + t.val) + b.val, hb⟩) :=
  part_unit (n0 := 1) (n1 := n) (m0 := 1) (m1 := 128) K (hC.oY w t hw) (C.iY _ h t) 0 b (by decide) hb

include hC hw in
theorem tileOf_apply (h : C.chk (BitVec.ofNat 32 w)) (a b : Fin 128) (ha : 128 * w + a.val < n) (hb : 128 * w + b.val < n) :
    tileOf C B R (BitVec.ofNat 32 w) h (ix2 a b) = if Hits B R ⟨128 * w + a.val, ha⟩ ⟨128 * w + b.val, hb⟩ then (1 : EReal) else 0 := by
  rw [tileOf, hC.tile]
  rw [partR_apply hC R hw h 0 a ha, partR_apply hC R hw h 1 a ha, partR_apply hC R hw h 2 a ha, partR_apply hC R hw h 3 a ha,
    partC_apply hC B hw h 0 b hb, partC_apply hC B hw h 1 b hb, partC_apply hC B hw h 2 b hb, partC_apply hC B hw h 3 b hb,
    four_eq, four_eq]
  rfl

include hC hw in
/-- The scan of a block: its boxes remove each other one at a time. -/
theorem scanTo_spec (h : C.chk (BitVec.ofNat 32 w)) (K : Vec Ideal (Row n) .f32) (hK : Flags K) (hle : 128 * w + 128 ≤ n) :
    ∀ t, t ≤ 128 →
      Flags (scanTo C (tileOf C B R (BitVec.ofNat 32 w) h) (C.start (part (rK C (BitVec.ofNat 32 w) h) K)) t)
      ∧ Stage (fun a b : Fin 128 => Hits B R ⟨128 * w + a.val, by omega⟩ ⟨128 * w + b.val, by omega⟩)
        (fun b : Fin 128 => On K ⟨128 * w + b.val, by omega⟩) t
        (On (scanTo C (tileOf C B R (BitVec.ofNat 32 w) h) (C.start (part (rK C (BitVec.ofNat 32 w) h) K)) t)) := by
  intro t
  induction t with
  | zero =>
    intro _
    have hval : ∀ b : Fin 128, scanTo C (tileOf C B R (BitVec.ofNat 32 w) h) (C.start (part (rK C (BitVec.ofNat 32 w) h) K)) 0 (ix2 0 b)
        = K (ix2 0 ⟨128 * w + b.val, by omega⟩) := fun b => by
      rw [scanTo, hC.start]
      exact partK_apply hC hw h K b (by omega)
    refine ⟨fun b => by rw [hval]; exact hK _, ?_⟩
    intro b
    rw [On, hval]
    exact ⟨fun e => ⟨e, fun i hi => absurd hi (Nat.not_lt_zero _)⟩, fun e => e.1⟩
  | succ t ih =>
    intro ht
    obtain ⟨hf, hs⟩ := ih (by omega)
    have ht' : t < C.L1.trips := by rw [hC.t1]; omega
    have hval : ∀ b : Fin 128, scanTo C (tileOf C B R (BitVec.ofNat 32 w) h) (C.start (part (rK C (BitVec.ofNat 32 w) h) K)) (t + 1) (ix2 0 b)
        = if Hits B R ⟨128 * w + t, by omega⟩ ⟨128 * w + b.val, by omega⟩
            ∧ scanTo C (tileOf C B R (BitVec.ofNat 32 w) h) (C.start (part (rK C (BitVec.ofNat 32 w) h) K)) t (ix2 0 ⟨t, by omega⟩) = (1 : EReal) ∧ t < b.val
          then (0 : EReal) else scanTo C (tileOf C B R (BitVec.ofNat 32 w) h) (C.start (part (rK C (BitVec.ofNat 32 w) h) K)) t (ix2 0 b) := fun b => by
      rw [scanTo, dif_pos ht', hC.scan ⟨t, ht'⟩ _ _ b (by show t < 128; omega) hf]
      have hrow : part (rS C ⟨t, ht'⟩) (tileOf C B R (BitVec.ofNat 32 w) h) (ix2 0 b)
          = if Hits B R ⟨128 * w + t, by omega⟩ ⟨128 * w + b.val, by omega⟩ then (1 : EReal) else 0 := by
        have e := part_unit (n0 := 128) (n1 := 128) (m0 := 1) (m1 := 128) (tileOf C B R (BitVec.ofNat 32 w) h) (hC.oS ⟨t, ht'⟩) (C.iS ⟨t, ht'⟩) 0 b
          (by show t + 0 < 128; omega) (by omega)
        rw [e]
        have e1 : (⟨(⟨t, ht'⟩ : Fin C.L1.trips).val + (0 : Fin 1).val, by show t + 0 < 128; omega⟩ : Fin 128) = ⟨t, by omega⟩ := Fin.ext (by show t + 0 = t; omega)
        have e2 : (⟨0 + b.val, by omega⟩ : Fin 128) = b := Fin.ext (by show 0 + b.val = b.val; omega)
        rw [e1, e2]
        exact tileOf_apply hC B R hw h ⟨t, by omega⟩ b (by show 128 * w + t < n; omega) (by omega)
      refine if_congr (and_congr_left fun _ => ?_) rfl rfl
      rw [hrow]
      split
      · rename_i hh; exact ⟨fun _ => hh, fun _ => hC.half.1⟩
      · rename_i hh; exact ⟨fun e => absurd e hC.half.2, fun e => absurd e hh⟩
    refine ⟨fun b => by rw [hval]; exact zero_or_one (hf b), ?_⟩
    refine hs.step (by omega) fun b => ?_
    rw [On, hval, zero_if_eq_one]
    exact Iff.rfl

include hC hw in
/-- A block: its own boxes have removed each other. -/
theorem blockOf_spec (h : C.chk (BitVec.ofNat 32 w)) (K : Vec Ideal (Row n) .f32) (hK : Flags K) (hle : 128 * w + 128 ≤ n) :
    Flags (blockOf C B R (BitVec.ofNat 32 w) h K)
      ∧ Stage (fun a b : Fin 128 => Hits B R ⟨128 * w + a.val, by omega⟩ ⟨128 * w + b.val, by omega⟩)
        (fun b : Fin 128 => On K ⟨128 * w + b.val, by omega⟩) 128 (On (blockOf C B R (BitVec.ofNat 32 w) h K)) := by
  unfold blockOf
  rw [hC.t1]
  exact scanTo_spec hC B R hw h K hK hle 128 le_rfl

include hC hw in
/-- The later blocks, `t` of them done: their boxes that a kept box of this block overlaps are gone. -/
theorem chunksTo_spec (h : C.chk (BitVec.ofNat 32 w)) (kb : Vec Ideal Lane .f32) (hkb : Flags kb) (K : Vec Ideal (Row n) .f32)
    (hle : 128 * w + 128 ≤ n) :
    ∀ t, t ≤ m - 1 - w → ∀ j : Fin n, chunksTo C B R (BitVec.ofNat 32 w) h kb K t (ix2 0 j)
      = if (128 * (w + 1) ≤ j.val ∧ j.val < 128 * (w + 1 + t)) ∧ ∃ a : Fin 128, kb (ix2 0 a) = (1 : EReal) ∧ Hits B R ⟨128 * w + a.val, by omega⟩ j
        then (0 : EReal) else K (ix2 0 j) := by
  intro t
  induction t with
  | zero =>
    intro _ j
    rw [chunksTo, if_neg]
    rintro ⟨⟨h1, h2⟩, -⟩
    omega
  | succ t ih =>
    intro ht j
    have ht' : t < (C.L2 (BitVec.ofNat 32 w)).trips := by rw [hC.t2 w hw]; omega
    have hn := hC.hn
    rw [chunksTo, dif_pos ht']
    by_cases hj : 128 * (w + 1 + t) ≤ j.val ∧ j.val < 128 * (w + 1 + t) + 128
    · obtain ⟨b, hb', rfl⟩ := exists_lane j _ hj.1 hj.2
      have hb : 128 * (w + 1 + (⟨t, ht'⟩ : Fin (C.L2 (BitVec.ofNat 32 w)).trips).val) + b.val < n := by show 128 * (w + 1 + t) + b.val < n; omega
      rw [overlay_in _ _ (hC.oY w ⟨t, ht'⟩ hw) (C.iY _ h ⟨t, ht'⟩) b hb, chunkOf, hC.chunk _ _ _ _ _ _ _ _ _ _ _ hkb,
        partY_apply hC hw h _ ⟨t, ht'⟩ b hb, partX_apply hC B hw h 0 ⟨t, ht'⟩ b hb, partX_apply hC B hw h 1 ⟨t, ht'⟩ b hb,
        partX_apply hC B hw h 2 ⟨t, ht'⟩ b hb, partX_apply hC B hw h 3 ⟨t, ht'⟩ b hb, four_eq, ih (by omega)]
      have hno : ¬ ((128 * (w + 1) ≤ (⟨128 * (w + 1 + t) + b.val, hb⟩ : Fin n).val ∧ (⟨128 * (w + 1 + t) + b.val, hb⟩ : Fin n).val < 128 * (w + 1 + t))
          ∧ ∃ a : Fin 128, kb (ix2 0 a) = (1 : EReal) ∧ Hits B R ⟨128 * w + a.val, by omega⟩ ⟨128 * (w + 1 + t) + b.val, hb⟩) := by
        rintro ⟨⟨-, h2⟩, -⟩
        have h2' : 128 * (w + 1 + t) + b.val < 128 * (w + 1 + t) := h2
        omega
      rw [if_neg hno]
      refine if_congr ?_ rfl rfl
      have hin : 128 * (w + 1) ≤ 128 * (w + 1 + t) + b.val ∧ 128 * (w + 1 + t) + b.val < 128 * (w + 1 + (t + 1)) := by omega
      refine Iff.trans ?_ (and_iff_right hin).symm
      refine exists_congr fun a => and_congr_right fun _ => ?_
      rw [partR_apply hC R hw h 0 a (by omega), partR_apply hC R hw h 1 a (by omega), partR_apply hC R hw h 2 a (by omega), partR_apply hC R hw h 3 a (by omega), four_eq]
      exact Iff.rfl
    · rw [overlay_out _ _ (hC.oY w ⟨t, ht'⟩ hw) (C.iY _ h ⟨t, ht'⟩) j (by show j.val < 128 * (w + 1 + t) ∨ 128 * (w + 1 + t) + 128 ≤ j.val; omega), ih (by omega)]
      refine if_congr (and_congr_left fun _ => ?_) rfl rfl
      constructor <;> rintro ⟨h1, h2⟩ <;> exact ⟨h1, by omega⟩

include hC hw in
/-- One block of the loop. -/
theorem stepK_spec (h : C.chk (BitVec.ofNat 32 w)) (K : Vec Ideal (Row n) .f32) (hK : Flags K)
    (hs : Stage (Hits B R) (fun _ => True) (128 * w) (On K)) :
    Flags (stepK C B R (BitVec.ofNat 32 w) h K)
      ∧ Stage (Hits B R) (fun _ => True) (128 * w + 128) (On (stepK C B R (BitVec.ofNat 32 w) h K))
      ∧ (∀ j : Fin n, j.val < 128 * w → (On (stepK C B R (BitVec.ofNat 32 w) h K) j ↔ On K j))
      ∧ C.cnt (blockOf C B R (BitVec.ofNat 32 w) h K)
        = BitVec.ofNat 32 (Finset.univ.filter fun b : Fin 128 => ∃ hb : 128 * w + b.val < n, On (stepK C B R (BitVec.ofNat 32 w) h K) ⟨128 * w + b.val, hb⟩).card := by
  have hle := block_le hC hw
  have hn := hC.hn
  obtain ⟨hbf, hbs⟩ := blockOf_spec hC B R hw h K hK hle
  have hall : ∀ j : Fin n, stepK C B R (BitVec.ofNat 32 w) h K (ix2 0 j)
      = if 128 * (w + 1) ≤ j.val ∧ ∃ a : Fin 128, On (blockOf C B R (BitVec.ofNat 32 w) h K) a ∧ Hits B R ⟨128 * w + a.val, by omega⟩ j
        then (0 : EReal) else (rK C (BitVec.ofNat 32 w) h).overlay K (blockOf C B R (BitVec.ofNat 32 w) h K) (ix2 0 j) := fun j => by
    have ht := hC.t2 w hw
    rw [stepK, chunksTo_spec hC B R hw h _ hbf _ hle _ (le_of_eq ht) j]
    refine if_congr (and_congr_left fun _ => ?_) rfl rfl
    have := j.isLt
    rw [ht]
    constructor
    · rintro ⟨h1, -⟩; exact h1
    · intro h1; exact ⟨h1, by omega⟩
  have hlo : ∀ j : Fin n, j.val < 128 * w → stepK C B R (BitVec.ofNat 32 w) h K (ix2 0 j) = K (ix2 0 j) := fun j hj => by
    rw [hall, if_neg (by rintro ⟨h1, -⟩; omega)]
    exact overlay_out _ _ (hC.oK w hw) (C.iK _ h) j (.inl hj)
  have hin : ∀ b : Fin 128, stepK C B R (BitVec.ofNat 32 w) h K (ix2 0 ⟨128 * w + b.val, by omega⟩) = blockOf C B R (BitVec.ofNat 32 w) h K (ix2 0 b) := fun b => by
    rw [hall, if_neg (by rintro ⟨h1, -⟩; have h1' : 128 * (w + 1) ≤ 128 * w + b.val := h1; omega)]
    exact overlay_in _ _ (hC.oK w hw) (C.iK _ h) b (by omega)
  have hhi : ∀ j : Fin n, 128 * w + 128 ≤ j.val → stepK C B R (BitVec.ofNat 32 w) h K (ix2 0 j)
      = if ∃ a : Fin 128, On (blockOf C B R (BitVec.ofNat 32 w) h K) a ∧ Hits B R ⟨128 * w + a.val, by omega⟩ j then (0 : EReal) else K (ix2 0 j) := fun j hj => by
    rw [hall, overlay_out _ _ (hC.oK w hw) (C.iK _ h) j (.inr hj)]
    exact if_congr (and_iff_right (by omega)) rfl rfl
  refine ⟨fun j => ?_, hs.block hle hbs (fun j hj => by rw [On, hlo j hj]; exact Iff.rfl) (fun a => by rw [On, hin a]; exact Iff.rfl)
    (fun j hj => by rw [On, hhi j hj, zero_if_eq_one]; exact Iff.rfl), fun j hj => by rw [On, hlo j hj]; exact Iff.rfl, ?_⟩
  · by_cases h1 : j.val < 128 * w
    · rw [hlo j h1]; exact hK j
    · by_cases h2 : 128 * w + 128 ≤ j.val
      · rw [hhi j h2]; exact zero_or_one (hK j)
      · obtain ⟨b, hb', rfl⟩ := exists_lane j _ (not_lt.mp h1) (not_le.mp h2)
        rw [hin b]; exact hbf b
  · rw [hC.cnt _ hbf]
    congr 2
    refine Finset.filter_congr fun b _ => ?_
    constructor
    · intro e
      exact ⟨by omega, by rw [On, hin b]; exact e⟩
    · rintro ⟨hb, e⟩
      rw [← hin b]
      exact e

end

/-! ## The loop -/

/-- How many flags are up among the first `q`. -/
def upTo (K : Vec Ideal (Row n) .f32) (q : ℕ) : ℕ := (Finset.univ.filter fun j : Fin n => j.val < q ∧ On K j).card

theorem upTo_block (K K' : Vec Ideal (Row n) .f32) (q : ℕ) (hq : q + 128 ≤ n) (h : ∀ j : Fin n, j.val < q → (On K' j ↔ On K j)) :
    upTo K' (q + 128) = upTo K q + (Finset.univ.filter fun b : Fin 128 => ∃ hb : q + b.val < n, On K' ⟨q + b.val, hb⟩).card := by
  have himg : (Finset.univ.filter fun j : Fin n => j.val < q + 128 ∧ On K' j)
      = (Finset.univ.filter fun j : Fin n => j.val < q ∧ On K j)
        ∪ (Finset.univ.filter fun b : Fin 128 => ∃ hb : q + b.val < n, On K' ⟨q + b.val, hb⟩).map
          ⟨fun b : Fin 128 => (⟨q + b.val, by omega⟩ : Fin n), fun a b e => Fin.ext (by have := congrArg Fin.val e; simpa using this)⟩ := by
    ext j
    simp only [Finset.mem_filter, Finset.mem_univ, true_and, Finset.mem_union, Finset.mem_map, Function.Embedding.coeFn_mk]
    constructor
    · rintro ⟨h1, h2⟩
      by_cases hj : j.val < q
      · exact .inl ⟨hj, (h j hj).mp h2⟩
      · obtain ⟨b, hb, rfl⟩ := exists_lane j q (not_lt.mp hj) h1
        exact .inr ⟨b, ⟨hb, h2⟩, rfl⟩
    · rintro (⟨h1, h2⟩ | ⟨b, ⟨hb, h2⟩, rfl⟩)
      · exact ⟨by omega, (h j h1).mpr h2⟩
      · exact ⟨by show q + b.val < q + 128; omega, h2⟩
  rw [upTo, himg, Finset.card_union_of_disjoint, Finset.card_map]
  · rfl
  · rw [Finset.disjoint_left]
    intro j h1 h2
    simp only [Finset.mem_filter, Finset.mem_univ, true_and, Finset.mem_map, Function.Embedding.coeFn_mk] at h1 h2
    obtain ⟨b, -, rfl⟩ := h2
    have h3 : q + b.val < q := h1.1
    omega

theorem upTo_le (K : Vec Ideal (Row n) .f32) (q : ℕ) : upTo K q ≤ n :=
  (Finset.card_filter_le _ _).trans (by simp)

include hC in
/-- The loop: it stops with the first `q` boxes tried, all of them or enough to keep 200. -/
theorem runK_spec : ∀ (fuel w : ℕ) (K : Vec Ideal (Row n) .f32), w ≤ m → m ≤ w + fuel → Flags K →
    Stage (Hits B R) (fun _ => True) (128 * w) (On K) →
    ∃ q, q ≤ n ∧ Flags (runK C B R fuel (BitVec.ofNat 32 w) (BitVec.ofNat 32 (upTo K (128 * w))) K)
      ∧ Stage (Hits B R) (fun _ => True) q (On (runK C B R fuel (BitVec.ofNat 32 w) (BitVec.ofNat 32 (upTo K (128 * w))) K))
      ∧ (q = n ∨ 200 ≤ upTo (runK C B R fuel (BitVec.ofNat 32 w) (BitVec.ofNat 32 (upTo K (128 * w))) K) q) := by
  have hn := hC.hn
  have hm := hC.hm
  intro fuel
  induction fuel with
  | zero =>
    intro w K hw hf hK hs
    obtain rfl : w = m := by omega
    exact ⟨128 * w, by omega, hK, hs, .inl (by omega)⟩
  | succ fuel ih =>
    intro w K hw hf hK hs
    have hcard := upTo_le K (128 * w)
    have hcond : Scalar.andi (Scalar.cmpi .slt (BitVec.ofNat 32 w) C.nb) (Scalar.cmpi .slt (BitVec.ofNat 32 (upTo K (128 * w))) 200#32) = 1#1
        ↔ w < m ∧ upTo K (128 * w) < 200 := by
      rw [hC.nb]
      show IntOp.andi (IntOp.cmpi _ _ _) (IntOp.cmpi _ _ (BitVec.ofNat 32 200)) = 1#1 ↔ _
      rw [andi_eq_one, cmpi_slt (by omega) (by omega), cmpi_slt (by omega) (by omega)]
    by_cases hc : w < m ∧ upTo K (128 * w) < 200
    · have hw' := hc.1
      have h := hC.chk w hw'
      obtain ⟨hf', hs', hlo, hcnt⟩ := stepK_spec hC B R hw' h K hK hs
      have hrun : runK C B R (fuel + 1) (BitVec.ofNat 32 w) (BitVec.ofNat 32 (upTo K (128 * w))) K
          = runK C B R fuel (BitVec.ofNat 32 (w + 1)) (BitVec.ofNat 32 (upTo (stepK C B R (BitVec.ofNat 32 w) h K) (128 * (w + 1)))) (stepK C B R (BitVec.ofNat 32 w) h K) := by
        rw [runK, if_pos (hcond.mpr hc), dif_pos h]
        have e1 : Scalar.addi (BitVec.ofNat 32 w) 1#32 = BitVec.ofNat 32 (w + 1) := (BitVec.ofNat_add w 1).symm
        have e2 : stepCnt C B R (BitVec.ofNat 32 w) h (BitVec.ofNat 32 (upTo K (128 * w))) K
            = BitVec.ofNat 32 (upTo (stepK C B R (BitVec.ofNat 32 w) h K) (128 * (w + 1))) := by
          rw [stepCnt, hcnt, show 128 * (w + 1) = 128 * w + 128 by ring,
            upTo_block K _ (128 * w) (block_le hC hw') hlo]
          exact (BitVec.ofNat_add _ _).symm
        rw [e1, e2]
      rw [hrun]
      exact ih (w + 1) _ (by omega) (by omega) hf' (by rw [show 128 * (w + 1) = 128 * w + 128 by ring]; exact hs')
    · have hrun : runK C B R (fuel + 1) (BitVec.ofNat 32 w) (BitVec.ofNat 32 (upTo K (128 * w))) K = K := by
        rw [runK, if_neg (fun e => hc (hcond.mp e))]
      rw [hrun]
      refine ⟨128 * w, by omega, hK, hs, ?_⟩
      by_cases hw' : w < m
      · exact .inr (by omega)
      · exact .inl (by omega)

end Cert.Proof.Nms

end
-- ==== Proof.PI.NmsValue.lean ====
/-
  The two suppression kernels' results: the flags each leaves are those of the first `q` boxes tried in order, all of
  them or enough to keep 200.
-/
module

public import proofs.«01_k».proof.Proof.PI.NmsArith
public import proofs.«01_k».proof.Proof.PI.Kernels
public import proofs.«01_k».proof.Proof.Nms.Value

@[expose] public section

set_option maxRecDepth 65536

noncomputable section

namespace Cert.Proof.PI

open Cert.KernelIdeal Cert.KernelIdeal.Gen Cert.Proof.Nms Cert.Proof.Val
open Idealize.ShloMosaic

/-! The offsets and the bounds, over every block and every later block. -/

theorem chk1_all : ∀ w : Fin 4, k1_chk1 (BitVec.ofNat 32 w.val) := by
  intro w; exact @of_decide_eq_true _ (k1_chk1.dec _) (by revert w; decide +kernel)
theorem oR1_all : ∀ (q : Fin 4) (w : Fin 4), (code1 (F := Ideal)).oR q (BitVec.ofNat 32 w.val) = ![128 * w.val, q.val] := by decide +kernel
theorem oC1_all : ∀ (q : Fin 4) (w : Fin 4), (code1 (F := Ideal)).oC q (BitVec.ofNat 32 w.val) = ![q.val, 128 * w.val] := by decide +kernel
theorem oK1_all : ∀ w : Fin 4, k1_off9 (BitVec.ofNat 32 w.val) = ![0, 128 * w.val] := by decide +kernel
theorem oS1_all : ∀ t : Fin k1_t1_loop.trips, k1_off10 t = ![t.val, 0] := by decide +kernel
theorem t21_all : ∀ w : Fin 4, (k1_t2_loop (BitVec.ofNat 32 w.val)).trips = 4 - 1 - w.val := by decide +kernel
theorem oX1_all : ∀ (q : Fin 4) (w : Fin 4) (t : Fin (k1_t2_loop (BitVec.ofNat 32 w.val)).trips),
    (![k1_off11, k1_off12, k1_off13, k1_off14] : Fin 4 → ∀ w, Fin (k1_t2_loop w).trips → Fin 2 → ℕ) q (BitVec.ofNat 32 w.val) t
      = ![q.val, 128 * (w.val + 1 + t.val)] := by decide +kernel
theorem oY1_all : ∀ (w : Fin 4) (t : Fin (k1_t2_loop (BitVec.ofNat 32 w.val)).trips),
    k1_off15 (BitVec.ofNat 32 w.val) t = ![0, 128 * (w.val + 1 + t.val)] := by decide +kernel

theorem chk2_all : ∀ w : Fin 32, k2_chk1 (BitVec.ofNat 32 w.val) := by
  intro w; exact @of_decide_eq_true _ (k2_chk1.dec _) (by revert w; decide +kernel)
theorem oR2_all : ∀ (q : Fin 4) (w : Fin 32), (code2 (F := Ideal)).oR q (BitVec.ofNat 32 w.val) = ![128 * w.val, q.val] := by decide +kernel
theorem oC2_all : ∀ (q : Fin 4) (w : Fin 32), (code2 (F := Ideal)).oC q (BitVec.ofNat 32 w.val) = ![q.val, 128 * w.val] := by decide +kernel
theorem oK2_all : ∀ w : Fin 32, k2_off9 (BitVec.ofNat 32 w.val) = ![0, 128 * w.val] := by decide +kernel
theorem oS2_all : ∀ t : Fin k2_t1_loop.trips, k2_off10 t = ![t.val, 0] := by decide +kernel
theorem t22_all : ∀ w : Fin 32, (k2_t2_loop (BitVec.ofNat 32 w.val)).trips = 32 - 1 - w.val := by decide +kernel
theorem oX2_all : ∀ (q : Fin 4) (w : Fin 32) (t : Fin (k2_t2_loop (BitVec.ofNat 32 w.val)).trips),
    (![k2_off11, k2_off12, k2_off13, k2_off14] : Fin 4 → ∀ w, Fin (k2_t2_loop w).trips → Fin 2 → ℕ) q (BitVec.ofNat 32 w.val) t
      = ![q.val, 128 * (w.val + 1 + t.val)] := by decide +kernel
theorem oY2_all : ∀ (w : Fin 32) (t : Fin (k2_t2_loop (BitVec.ofNat 32 w.val)).trips),
    k2_off15 (BitVec.ofNat 32 w.val) t = ![0, 128 * (w.val + 1 + t.val)] := by decide +kernel

theorem reads1 : Reads (code1 (F := Ideal)) 4 where
  hn := rfl
  hm := by decide
  nb := rfl
  chk w hw := chk1_all ⟨w, hw⟩
  oR q w hw := oR1_all q ⟨w, hw⟩
  oC q w hw := oC1_all q ⟨w, hw⟩
  oK w hw := oK1_all ⟨w, hw⟩
  t1 := trips1
  oS := oS1_all
  t2 w hw := t21_all ⟨w, hw⟩
  oX q w t hw := oX1_all q ⟨w, hw⟩ t
  oY w t hw := oY1_all ⟨w, hw⟩ t
  tile := tile_apply
  start := start_apply
  scan t x y b ht hy := scan_apply x y b hy t ht
  chunk r0 r1 r2 r3 kb c0 c1 c2 c3 u b hkb := chunk_apply r0 r1 r2 r3 c0 c1 c2 c3 kb u b hkb
  cnt kb hkb := cnt_apply kb hkb
  half := ⟨half_lt_one, half_pos⟩

theorem reads2 : Reads (code2 (F := Ideal)) 32 where
  hn := rfl
  hm := le_rfl
  nb := rfl
  chk w hw := chk2_all ⟨w, hw⟩
  oR q w hw := oR2_all q ⟨w, hw⟩
  oC q w hw := oC2_all q ⟨w, hw⟩
  oK w hw := oK2_all ⟨w, hw⟩
  t1 := trips1
  oS := oS2_all
  t2 w hw := t22_all ⟨w, hw⟩
  oX q w t hw := oX2_all q ⟨w, hw⟩ t
  oY w t hw := oY2_all ⟨w, hw⟩ t
  tile := reads1.tile
  start := reads1.start
  scan := reads1.scan
  chunk := reads1.chunk
  cnt := reads1.cnt
  half := reads1.half

/-- What a kernel's flags say: those of the first `q` boxes. -/
def Kept {n : ℕ} (B : Vec Ideal (Rows4 n) .f32) (R : Vec Ideal (Cols4 n) .f32) (K : Vec Ideal (Row n) .f32) : Prop :=
  ∃ q, q ≤ n ∧ Flags K ∧ Stage (Hits B R) (fun _ => True) q (On K) ∧ (q = n ∨ 200 ≤ upTo K q)

open Classical in
theorem kept_of_ones {n m : ℕ} {C : Code Ideal n} (hC : Reads C m) (B : Vec Ideal (Rows4 n) .f32) (R : Vec Ideal (Cols4 n) .f32)
    (K : Vec Ideal (Row n) .f32) (hK : ∀ j, K (ix2 0 j) = (1 : EReal)) : Kept B R (runK C B R m (BitVec.ofNat 32 0) 0#32 K) := by
  have h0 : upTo K (128 * 0) = 0 := by
    refine Finset.card_eq_zero.mpr (Finset.filter_eq_empty_iff.mpr ?_)
    rintro j - ⟨h, -⟩
    omega
  have h := runK_spec hC B R m 0 K (Nat.zero_le _) (by omega) (fun j => .inr (hK j)) (fun j => ⟨fun _ => ⟨trivial, fun i hi => absurd hi (by omega)⟩, fun _ => hK j⟩)
  rw [h0] at h
  exact h

theorem kept1 (B : Vec Ideal (Rows4 512) .f32) (R : Vec Ideal (Cols4 512) .f32) : Kept B R (flags1 B R) :=
  kept_of_ones reads1 B R ones1 fun j => by show (k1_pay1 : FVec Ideal S1x512 .f32) _ = _; pointwise [k1_pay1]

theorem kept2 (B : Vec Ideal (Rows4 4096) .f32) (R : Vec Ideal (Cols4 4096) .f32) : Kept B R (flags2 B R) :=
  kept_of_ones reads2 B R ones2 fun j => by show (k2_pay1 : FVec Ideal S1x4096 .f32) _ = _; pointwise [k2_pay1]

end Cert.Proof.PI

end
-- ==== Proof.PI.Result.lean ====
/-
  What the kernel returns: 200 rows picked from the ranked positions, enough of them tried, by whichever way it takes.
-/
module

public import proofs.«01_k».proof.Proof.PI.Ends
public import proofs.«01_k».proof.Proof.PI.NmsValue

@[expose] public section

set_option maxRecDepth 65536

noncomputable section

namespace Cert.Proof.PI

open Idealize.ShloMosaic Idealize.SL.Sem Idealize.ShloMosaic.StableHlo
open Cert.KernelIdeal Cert.KernelIdeal.Gen Cert.Proof.Nms Cert.Proof.Val

attribute [local irreducible] flags1 flags2

/-- A flag over a half is up. -/
theorem on_iff {n : ℕ} {K : Vec Ideal (Row n) .f32} (hK : Flags K) (j : Fin n) : Ideal.ofBits .f32 0x3F000000#32 < K (ix2 0 j) ↔ On K j := by
  rcases hK j with h | h
  · rw [On, h]
    exact iff_of_false half_pos zero_ne_one
  · rw [On, h]
    exact iff_of_true half_lt_one rfl

open Classical in
theorem upTo_card {n q : ℕ} {K : Vec Ideal (Row n) .f32} (h : 200 ≤ upTo K q) :
    200 ≤ (Finset.univ.filter fun j : Fin n => j.val < q ∧ On K j).card := by
  unfold upTo at h
  convert h

/-- The calls test the pairs the problem does. -/
theorem hits_eq (s : Scene) {n : ℕ} (ord : Fin n → Fin flatN) (B : Vec Ideal (Rows4 n) .f32) (R : Vec Ideal (Cols4 n) .f32)
    (hR : ∀ j k, rd2 j k R = s.nbx (ord j) k) (hB : ∀ j k, rd2 k j B = s.nbx (ord j) k) : Hits B R = s.Sup ord := by
  funext i j
  show overlaps (boxR R i) (boxB B j) = overlaps (s.nbx (ord i)) (s.nbx (ord j))
  rw [show boxR R i = s.nbx (ord i) from funext (hR i), show boxB B j = s.nbx (ord j) from funext (hB j)]

variable (m : (ℓ : Loc nD τ sig) → Buf (Elt Ideal) ℓ) (c : Dev nD)

/-- The flags of the short call. -/
abbrev K1 : Vec Ideal (Row 512) .f32 := flags1 (cols1 (VB m) c) (rows1 (VB m) c)
/-- The flags of the long one. -/
abbrev K2 : Vec Ideal (Row 4096) .f32 := flags2 (cols2 (VD m) c) (rows2 (VD m) c)

theorem enough_cut (W : Valuation τ sig (Elt Ideal)) : after opsC W = after enoughOps W := by
  simp only [opsC, List.flatten_cons, List.flatten_nil, List.append_nil]

theorem rd_writes : ([rdOp] : List (HloOp τ sig (Elt Ideal))).Forall fun op => op.writes ⊆ ([main_call0_v72].map (Proc.devRef (τ := τ) .tc)).toFinset :=
  StableHlo.forall_writes_sub_of_map rfl

theorem VR_of_VC (b : Ref sig .tc) (h : b ≠ main_call0_v72) : VR m c (Proc.devRef .tc b) = VC m c (Proc.devRef .tc b) :=
  after_of_writes_sub _ _ rd_writes (by simpa using h)

/-- From the short call's entry to the branch. -/
theorem VR_of_VB (b : Ref sig .tc) (h : b ≠ main_call0_v72) (hC : b ∉ enoughOps_W) (h1 : ∀ w, b ≠ Pipeline.arrRef spec1 w) :
    VR m c (Proc.devRef .tc b) = VB m c (Proc.devRef .tc b) := by
  refine (VR_of_VC m c b h).trans ?_
  show after opsC (V1' m c) (Proc.devRef .tc b) = _
  rw [enough_cut]
  exact (after_of_writes_sub _ _ enoughOps_writes hC).trans (Pipeline.afterRegion_of_not_arr _ _ h1)

theorem ready_VR {s : Scene} {cand : Fin 512 → Fin flatN} (h : Ready s cand (VB m c)) : Ready s cand (VR m c) where
  flat i := (congrArg (rd1 i) (VR_of_VB m c main_call0_v7 (by decide) (by decide) (by decide))).trans (h.flat i)
  box p k := (congrArg (rd2 p k) (VR_of_VB m c main_call0_v5 (by decide) (by decide) (by decide))).trans (h.box p k)
  corner := (congrArg rd0 (VR_of_VB m c main_call0_v8 (by decide) (by decide) (by decide))).trans h.corner
  conf p k := (congrArg (rd2 p k) (VR_of_VB m c main_arg1 (by decide) (by decide) (by decide))).trans (h.conf p k)
  keys j := (congrArg (rd1 j) (VR_of_VB m c main_call0_v37 (by decide) (by decide) (by decide))).trans (h.keys j)
  words j := (congrArg (wd1 j) (VR_of_VB m c main_call0_v36_1 (by decide) (by decide) (by decide))).trans (h.words j)
  best hb := h.best ((congrArg bt0 (VR_of_VB m c main_call0_v44 (by decide) (by decide) (by decide))).symm.trans hb)

theorem flags_V1 : V1' m c (Proc.devRef .tc main_call0_v64) = K1 m c := flags1_left (VB m) c

/-- The branch's word names the short way when the bit before it is up. -/
theorem branch_zero : HostLoop.branch (word m c) 1 = 0 ↔ bt0 (VC m c (Proc.devRef .tc main_call0_v71)) ≠ 1#1 := by
  have hw : word m c = (bt0 (VC m c (Proc.devRef .tc main_call0_v71))).setWidth 32 := by
    show (after [rdOp] (VC m c) (Proc.devRef .tc main_call0_v72) : Arr Ideal S_ .i32) HostLoop.idx0 = _
    after_reads_simp
    rfl
  rw [hw]
  generalize bt0 (VC m c (Proc.devRef .tc main_call0_v71)) = b
  revert b
  decide

open Classical in
/-- When it takes the short way, the candidates are the best 512 and 200 of them are kept. -/
theorem bit_iff : bt0 (VC m c (Proc.devRef .tc main_call0_v71)) = 1#1
    ↔ bt0 (VB m c (Proc.devRef .tc main_call0_v44)) = 1#1 ∧ 200 ≤ (Finset.univ.filter fun j : Fin 512 => On (K1 m c) j).card := by
  obtain ⟨q, hq, hf, -⟩ := kept1 (cols1 (VB m) c) (rows1 (VB m) c)
  have hC : VC m c = after enoughOps (V1' m c) := enough_cut _
  rw [hC, enoughWord_apply, flags_V1, show V1' m c (Proc.devRef .tc main_call0_v44) = VB m c (Proc.devRef .tc main_call0_v44) from
    Pipeline.afterRegion_of_not_arr _ _ (by decide)]
  refine and_congr_right' (iff_of_eq (congrArg (200 ≤ ·) ?_))
  refine congrArg Finset.card (Finset.ext fun j => ?_)
  rw [Finset.mem_filter, Finset.mem_filter]
  exact and_congr_right' (on_iff hf j)

open Classical in
theorem short_spec {s : Scene} {cand : Fin 512 → Fin flatN} (h : Ready s cand (VB m c))
    (hrows : ∀ j k, rd2 j k (VB m c (Proc.devRef .tc main_call0_v62)) = s.nbx (cand j) k)
    (hcols : ∀ j k, rd2 k j (VB m c (Proc.devRef .tc main_call0_v63)) = s.nbx (cand j) k)
    (hb : bt0 (VC m c (Proc.devRef .tc main_call0_v71)) = 1#1) :
    ∃ q sel k2, s.Picks 512 q sel cand (On (K1 m c)) k2 ∧ ∀ (j : Fin 200) (k : Fin 6), rd2 j k (VG m c (Proc.devRef .tc main_v0)) = s.out (sel j) k := by
  have hr := ready_VR m c h
  obtain ⟨h44, h200⟩ := (bit_iff m c).mp hb
  obtain ⟨q, hq, hf, hst, he⟩ := kept1 (cols1 (VB m) c) (rows1 (VB m) c)
  obtain ⟨k2, ht, hi⟩ := sTop (VR m c)
  have hC : VC m c = after enoughOps (V1' m c) := enough_cut _
  have hon : ∀ j, bt1 j (VR m c (Proc.devRef .tc main_call0_v67)) = 1#1 ↔ On (K1 m c) j := fun j => by
    rw [VR_of_VC m c main_call0_v67 (by decide), hC, onBit_apply, flags_V1]
    exact on_iff hf j
  have hk : (fun j => rd1 j (after sRankOps (VR m c) (Proc.devRef .tc main_call0_case0b1_v74))) = ranked (fun j => s.sco (cand j)) (On (K1 m c)) := by
    funext j
    rw [sRank_apply, hr.keys]
    unfold ranked
    split
    · rename_i ho
      exact select_pos ((hon j).mpr ho) _ _
    · rename_i ho
      exact select_neg (fun e => ho ((hon j).mp e)) _ _
  rw [hk] at ht
  refine ⟨q, fun j => cand (k2 j), k2, ⟨h.best h44, hq, by decide, ?_, .inr ?_, ht, fun _ => rfl⟩, fun j k => ?_⟩
  · rw [← hits_eq s cand (cols1 (VB m) c) (rows1 (VB m) c) hrows hcols]
    exact hst
  · rcases he with rfl | he
    · refine h200.trans (Finset.card_le_card fun j hj => ?_)
      rw [Finset.mem_filter] at hj ⊢
      exact ⟨hj.1, j.isLt, hj.2⟩
    · exact upTo_card he
  · exact short_rows s (VR m c) hr.box hr.conf cand k2 hr.words hi j k

open Classical in
theorem long_spec {s : Scene} {cand : Fin 512 → Fin flatN} (h : Ready s cand (VB m c)) :
    ∃ q sel ord k2, s.Picks 4096 q sel ord (On (K2 m c)) k2 ∧ ∀ (j : Fin 200) (k : Fin 6), rd2 j k (VE m c (Proc.devRef .tc main_v0)) = s.out (sel j) k := by
  obtain ⟨ord, htop, hd, hrows, hcols⟩ := long_ready (ready_VR m c h)
  obtain ⟨q, hq, hf, hst, he⟩ := kept2 (cols2 (VD m) c) (rows2 (VD m) c)
  have keep : ∀ b : Ref sig .tc, (∀ w, b ≠ Pipeline.arrRef spec2 w) → V2' m c (Proc.devRef .tc b) = after opsD (VR m c) (Proc.devRef .tc b) :=
    fun b hb => Pipeline.afterRegion_of_not_arr _ _ hb
  have hd' : Ranked s ord (V2' m c) := {
    box := fun p k => (congrArg (rd2 p k) (keep main_call0_v5 (by decide))).trans (hd.box p k)
    conf := fun p k => (congrArg (rd2 p k) (keep main_arg1 (by decide))).trans (hd.conf p k)
    keys := fun j => (congrArg (rd1 j) (keep main_call0_case0b0_values_16 (by decide))).trans (hd.keys j)
    words := fun j => (congrArg (wd1 j) (keep main_call0_case0b0_indices_17 (by decide))).trans (hd.words j) }
  obtain ⟨k2, ht, hi⟩ := fLast (V2' m c)
  have hk : (fun j => rd1 j (after fRankOps (V2' m c) (Proc.devRef .tc main_call0_case0b0_v97))) = ranked (fun j => s.sco (ord j)) (On (K2 m c)) := by
    funext j
    rw [fRank_apply, hd'.keys, show V2' m c (Proc.devRef .tc main_call0_case0b0_v93) = K2 m c from flags2_left (VD m) c]
    exact if_congr (on_iff hf j) rfl rfl
  rw [hk] at ht
  refine ⟨q, fun j => ord (k2 j), ord, k2, ⟨htop, hq, le_rfl, ?_, he.imp id fun e => ?_, ht, fun _ => rfl⟩, fun j k => long_rows hd' k2 hi j k⟩
  · rw [← hits_eq s ord (cols2 (VD m) c) (rows2 (VD m) c) hrows hcols]
    exact hst
  · exact upTo_card e

/-- The kernel's result. -/
theorem end_spec : ∃ n q sel ord on k2, (scene (Vstart m c)).Picks n q sel ord on k2
    ∧ ∀ (j : Fin 200) (k : Fin 6), rd2 j k (Vend m c (Proc.devRef .tc main_v0)) = (scene (Vstart m c)).out (sel j) k := by
  obtain ⟨cand, h, hrows, hcols⟩ := ready _ _ (decoded m c)
  by_cases hb : bt0 (VC m c (Proc.devRef .tc main_call0_v71)) = 1#1
  · obtain ⟨q, sel, k2, hp, ho⟩ := short_spec m c h hrows hcols hb
    refine ⟨512, q, sel, cand, _, k2, hp, fun j k => Eq.trans ?_ (ho j k)⟩
    unfold Vend
    rw [if_neg fun e => (branch_zero m c).mp e hb]
  · obtain ⟨q, sel, ord, k2, hp, ho⟩ := long_spec m c h
    refine ⟨4096, q, sel, ord, _, k2, hp, fun j k => Eq.trans ?_ (ho j k)⟩
    unfold Vend
    rw [if_pos ((branch_zero m c).mpr hb)]

end Cert.Proof.PI

end
-- ==== Proof.RI.Ops.lean ====
/-
  The reference's two longest stretches of operations, cut where a value is used more than once.
-/
module

public import proofs.«01_k».proof.Proof.Gen.ReferenceIdeal.Run

@[expose] public section

set_option maxRecDepth 65536

noncomputable section

namespace Cert.Proof.RI

open Idealize.ShloMosaic Idealize.ShloMosaic.StableHlo
open Cert.ReferenceIdeal Cert.ReferenceIdeal.Gen Cert.ReferenceIdeal.Value

variable {F : FTy → Type} [FloatOps F]

/-- A buffer's contents. -/
abbrev Arr (F : FTy → Type) (s : Shape) (e : EltTy) := (⟨s, e⟩ : BufTy).Contents (Elt F)

/-- The greatest corner. -/
abbrev cornerOps : List (HloOp τ sig (Elt F)) :=
  [ StableHlo.nullary main_cst_5 (constant S_ .f32 0xFF800000#32),
    StableHlo.binary main_v34 main_cst_5 main_v35 ((fun x v => Host.reduce FloatOps.maximumf x v reducesTo_S400000x4_S_d0_1 h_S_) : Arr F S400000x4 .f32 → Arr F S_ .f32 → Arr F S_ .f32) ]

abbrev cornerOps_W : List (Ref sig .tc) := [main_cst_5, main_v35]

theorem cornerOps_writes : (cornerOps : List (HloOp τ sig (Elt F))).Forall fun op => op.writes ⊆ (cornerOps_W.map (Proc.devRef (τ := τ) .tc)).toFinset :=
  forall_writes_sub_of_map rfl

/-- The boxes, those of different classes far apart. -/
abbrev nbxOps : List (HloOp τ sig (Elt F)) :=
  [ StableHlo.unary main_v29 main_v36 (sitofp .f32 : Arr F S400000 .i32 → Arr F S400000 .f32),
    StableHlo.nullary main_cst_6 (constant S_ .f32 0x3F800000#32),
    StableHlo.binary main_v35 main_cst_6 main_v37 (addf : Arr F S_ .f32 → Arr F S_ .f32 → Arr F S_ .f32),
    StableHlo.unary main_v37 main_v38 (broadcastInDim S400000 ![] bcast_S_S400000 : Arr F S_ .f32 → Arr F S400000 .f32),
    StableHlo.binary main_v36 main_v38 main_v39 (mulf : Arr F S400000 .f32 → Arr F S400000 .f32 → Arr F S400000 .f32),
    StableHlo.unary main_v39 main_v40 (broadcastInDim S400000x1 ![0] bcast_S400000_S400000x1_0 : Arr F S400000 .f32 → Arr F S400000x1 .f32),
    StableHlo.unary main_v40 main_v41 (broadcastInDim S400000x4 ![0, 1] bcast_S400000x1_S400000x4_0_1 : Arr F S400000x1 .f32 → Arr F S400000x4 .f32),
    StableHlo.binary main_v25 main_v41 main_v42 (addf : Arr F S400000x4 .f32 → Arr F S400000x4 .f32 → Arr F S400000x4 .f32) ]

abbrev nbxOps_W : List (Ref sig .tc) := [main_v36, main_cst_6, main_v37, main_v38, main_v39, main_v40, main_v41, main_v42]

theorem nbxOps_writes : (nbxOps : List (HloOp τ sig (Elt F))).Forall fun op => op.writes ⊆ (nbxOps_W.map (Proc.devRef (τ := τ) .tc)).toFinset :=
  forall_writes_sub_of_map rfl

/-- The 4096 largest scores. -/
abbrev rankOps : List (HloOp τ sig (Elt F)) :=
  [ StableHlo.unary main_v32 main_values ((fun x => (Host.topK S4096 0 (FloatOps.cmpfTotal .gt) x sliceFits_S400000_S4096).1) : Arr F S400000 .f32 → Arr F S4096 .f32),
    StableHlo.unary main_v32 main_indices ((fun x => (Host.topK S4096 0 (FloatOps.cmpfTotal .gt) x sliceFits_S400000_S4096).2) : Arr F S400000 .f32 → Arr F S4096 .i32) ]

abbrev rankOps_W : List (Ref sig .tc) := [main_values, main_indices]

theorem rankOps_writes : (rankOps : List (HloOp τ sig (Elt F))).Forall fun op => op.writes ⊆ (rankOps_W.map (Proc.devRef (τ := τ) .tc)).toFinset :=
  forall_writes_sub_of_map rfl

/-- Their boxes. -/
abbrev pickOps : List (HloOp τ sig (Elt F)) :=
  [ StableHlo.nullary main_c (constantI S_ 32 0#32),
    StableHlo.unary main_c main_v43 (broadcastInDim S4096 ![] bcast_S_S4096 : Arr F S_ .i32 → Arr F S4096 .i32),
    StableHlo.binary main_indices main_v43 main_v44 (cmpi .slt : Arr F S4096 .i32 → Arr F S4096 .i32 → Arr F S4096 .i1),
    StableHlo.nullary main_c_7 (constantI S_ 32 400000#32),
    StableHlo.unary main_c_7 main_v45 (broadcastInDim S4096 ![] bcast_S_S4096 : Arr F S_ .i32 → Arr F S4096 .i32),
    StableHlo.binary main_indices main_v45 main_v46 (addi : Arr F S4096 .i32 → Arr F S4096 .i32 → Arr F S4096 .i32),
    StableHlo.ternary main_v44 main_v46 main_indices main_v47 (select : Arr F S4096 .i1 → Arr F S4096 .i32 → Arr F S4096 .i32 → Arr F S4096 .i32),
    StableHlo.unary main_v47 main_v48 (broadcastInDim S4096x1 ![0] bcast_S4096_S4096x1_0 : Arr F S4096 .i32 → Arr F S4096x1 .i32),
    StableHlo.binary main_v42 main_v48 main_v49 ((fun x i => Host.gather gather_S400000x4_S4096x1_S4096x4_1_0_n_n_0_1_14 x i) : Arr F S400000x4 .f32 → Arr F S4096x1 .i32 → Arr F S4096x4 .f32) ]

abbrev pickOps_W : List (Ref sig .tc) := [main_c, main_v43, main_v44, main_c_7, main_v45, main_v46, main_v47, main_v48, main_v49]

theorem pickOps_writes : (pickOps : List (HloOp τ sig (Elt F))).Forall fun op => op.writes ⊆ (pickOps_W.map (Proc.devRef (τ := τ) .tc)).toFinset :=
  forall_writes_sub_of_map rfl

/-- The areas. -/
abbrev areaOps : List (HloOp τ sig (Elt F)) :=
  [ StableHlo.unary main_v49 main_v50 ((extractStridedSlice S4096x1 ![0, 2] · slices_S4096x4_S4096x1_0_2) : Arr F S4096x4 .f32 → Arr F S4096x1 .f32),
    StableHlo.reshape main_v50 main_v51 (rfl : (.f32 : EltTy) = .f32) shapeCasts_S4096x1_S4096,
    StableHlo.unary main_v49 main_v52 ((extractStridedSlice S4096x1 ![0, 0] · slices_S4096x4_S4096x1_0_0) : Arr F S4096x4 .f32 → Arr F S4096x1 .f32),
    StableHlo.reshape main_v52 main_v53 (rfl : (.f32 : EltTy) = .f32) shapeCasts_S4096x1_S4096,
    StableHlo.binary main_v51 main_v53 main_v54 (subf : Arr F S4096 .f32 → Arr F S4096 .f32 → Arr F S4096 .f32),
    StableHlo.unary main_v49 main_v55 ((extractStridedSlice S4096x1 ![0, 3] · slices_S4096x4_S4096x1_0_3) : Arr F S4096x4 .f32 → Arr F S4096x1 .f32),
    StableHlo.reshape main_v55 main_v56 (rfl : (.f32 : EltTy) = .f32) shapeCasts_S4096x1_S4096,
    StableHlo.unary main_v49 main_v57 ((extractStridedSlice S4096x1 ![0, 1] · slices_S4096x4_S4096x1_0_1) : Arr F S4096x4 .f32 → Arr F S4096x1 .f32),
    StableHlo.reshape main_v57 main_v58 (rfl : (.f32 : EltTy) = .f32) shapeCasts_S4096x1_S4096,
    StableHlo.binary main_v56 main_v58 main_v59 (subf : Arr F S4096 .f32 → Arr F S4096 .f32 → Arr F S4096 .f32),
    StableHlo.binary main_v54 main_v59 main_v60 (mulf : Arr F S4096 .f32 → Arr F S4096 .f32 → Arr F S4096 .f32) ]

abbrev areaOps_W : List (Ref sig .tc) := [main_v50, main_v51, main_v52, main_v53, main_v54, main_v55, main_v56, main_v57, main_v58, main_v59, main_v60]

theorem areaOps_writes : (areaOps : List (HloOp τ sig (Elt F))).Forall fun op => op.writes ⊆ (areaOps_W.map (Proc.devRef (τ := τ) .tc)).toFinset :=
  forall_writes_sub_of_map rfl

/-- The corners of what two boxes share. -/
abbrev meetOps : List (HloOp τ sig (Elt F)) :=
  [ StableHlo.unary main_v49 main_v61 ((extractStridedSlice S4096x2 ![0, 0] · slices_S4096x4_S4096x2_0_0) : Arr F S4096x4 .f32 → Arr F S4096x2 .f32),
    StableHlo.unary main_v61 main_v62 (broadcastInDim S4096x1x2 ![0, 2] bcast_S4096x2_S4096x1x2_0_2 : Arr F S4096x2 .f32 → Arr F S4096x1x2 .f32),
    StableHlo.unary main_v49 main_v63 ((extractStridedSlice S4096x2 ![0, 0] · slices_S4096x4_S4096x2_0_0) : Arr F S4096x4 .f32 → Arr F S4096x2 .f32),
    StableHlo.unary main_v63 main_v64 (broadcastInDim S1x4096x2 ![1, 2] bcast_S4096x2_S1x4096x2_1_2 : Arr F S4096x2 .f32 → Arr F S1x4096x2 .f32),
    StableHlo.unary main_v62 main_v65 (broadcastInDim S4096x4096x2 ![0, 1, 2] bcast_S4096x1x2_S4096x4096x2_0_1_2 : Arr F S4096x1x2 .f32 → Arr F S4096x4096x2 .f32),
    StableHlo.unary main_v64 main_v66 (broadcastInDim S4096x4096x2 ![0, 1, 2] bcast_S1x4096x2_S4096x4096x2_0_1_2 : Arr F S1x4096x2 .f32 → Arr F S4096x4096x2 .f32),
    StableHlo.binary main_v65 main_v66 main_v67 (maximumf : Arr F S4096x4096x2 .f32 → Arr F S4096x4096x2 .f32 → Arr F S4096x4096x2 .f32),
    StableHlo.unary main_v49 main_v68 ((extractStridedSlice S4096x2 ![0, 2] · slices_S4096x4_S4096x2_0_2) : Arr F S4096x4 .f32 → Arr F S4096x2 .f32),
    StableHlo.unary main_v68 main_v69 (broadcastInDim S4096x1x2 ![0, 2] bcast_S4096x2_S4096x1x2_0_2 : Arr F S4096x2 .f32 → Arr F S4096x1x2 .f32),
    StableHlo.unary main_v49 main_v70 ((extractStridedSlice S4096x2 ![0, 2] · slices_S4096x4_S4096x2_0_2) : Arr F S4096x4 .f32 → Arr F S4096x2 .f32),
    StableHlo.unary main_v70 main_v71 (broadcastInDim S1x4096x2 ![1, 2] bcast_S4096x2_S1x4096x2_1_2 : Arr F S4096x2 .f32 → Arr F S1x4096x2 .f32),
    StableHlo.unary main_v69 main_v72 (broadcastInDim S4096x4096x2 ![0, 1, 2] bcast_S4096x1x2_S4096x4096x2_0_1_2 : Arr F S4096x1x2 .f32 → Arr F S4096x4096x2 .f32),
    StableHlo.unary main_v71 main_v73 (broadcastInDim S4096x4096x2 ![0, 1, 2] bcast_S1x4096x2_S4096x4096x2_0_1_2 : Arr F S1x4096x2 .f32 → Arr F S4096x4096x2 .f32),
    StableHlo.binary main_v72 main_v73 main_v74 (minimumf : Arr F S4096x4096x2 .f32 → Arr F S4096x4096x2 .f32 → Arr F S4096x4096x2 .f32),
    StableHlo.binary main_v74 main_v67 main_v75 (subf : Arr F S4096x4096x2 .f32 → Arr F S4096x4096x2 .f32 → Arr F S4096x4096x2 .f32),
    StableHlo.nullary main_cst_8 (constant S_ .f32 0x00000000#32) ]

abbrev meetOps_W : List (Ref sig .tc) := [main_v61, main_v62, main_v63, main_v64, main_v65, main_v66, main_v67, main_v68, main_v69, main_v70, main_v71, main_v72, main_v73, main_v74, main_v75, main_cst_8]

theorem meetOps_writes : (meetOps : List (HloOp τ sig (Elt F))).Forall fun op => op.writes ⊆ (meetOps_W.map (Proc.devRef (τ := τ) .tc)).toFinset :=
  forall_writes_sub_of_map rfl

/-- The last ranking. -/
abbrev lastOps : List (HloOp τ sig (Elt F)) :=
  [ StableHlo.unary main_v94 main_values_14 ((fun x => (Host.topK S200 0 (FloatOps.cmpfTotal .gt) x sliceFits_S4096_S200).1) : Arr F S4096 .f32 → Arr F S200 .f32),
    StableHlo.unary main_v94 main_indices_15 ((fun x => (Host.topK S200 0 (FloatOps.cmpfTotal .gt) x sliceFits_S4096_S200).2) : Arr F S4096 .f32 → Arr F S200 .i32) ]

abbrev lastOps_W : List (Ref sig .tc) := [main_values_14, main_indices_15]

theorem lastOps_writes : (lastOps : List (HloOp τ sig (Elt F))).Forall fun op => op.writes ⊆ (lastOps_W.map (Proc.devRef (τ := τ) .tc)).toFinset :=
  forall_writes_sub_of_map rfl

/-- The positions returned. -/
abbrev selOps : List (HloOp τ sig (Elt F)) :=
  [ StableHlo.nullary main_c_16 (constantI S_ 32 0#32),
    StableHlo.unary main_c_16 main_v95 (broadcastInDim S200 ![] bcast_S_S200 : Arr F S_ .i32 → Arr F S200 .i32),
    StableHlo.binary main_indices_15 main_v95 main_v96 (cmpi .slt : Arr F S200 .i32 → Arr F S200 .i32 → Arr F S200 .i1),
    StableHlo.nullary main_c_17 (constantI S_ 32 4096#32),
    StableHlo.unary main_c_17 main_v97 (broadcastInDim S200 ![] bcast_S_S200 : Arr F S_ .i32 → Arr F S200 .i32),
    StableHlo.binary main_indices_15 main_v97 main_v98 (addi : Arr F S200 .i32 → Arr F S200 .i32 → Arr F S200 .i32),
    StableHlo.ternary main_v96 main_v98 main_indices_15 main_v99 (select : Arr F S200 .i1 → Arr F S200 .i32 → Arr F S200 .i32 → Arr F S200 .i32),
    StableHlo.unary main_v99 main_v100 (broadcastInDim S200x1 ![0] bcast_S200_S200x1_0 : Arr F S200 .i32 → Arr F S200x1 .i32),
    StableHlo.binary main_indices main_v100 main_v101 ((fun x i => Host.gather gather_S4096_S200x1_S200_n_0_n_n_0_1_1 x i) : Arr F S4096 .i32 → Arr F S200x1 .i32 → Arr F S200 .i32) ]

abbrev selOps_W : List (Ref sig .tc) := [main_c_16, main_v95, main_v96, main_c_17, main_v97, main_v98, main_v99, main_v100, main_v101]

theorem selOps_writes : (selOps : List (HloOp τ sig (Elt F))).Forall fun op => op.writes ⊆ (selOps_W.map (Proc.devRef (τ := τ) .tc)).toFinset :=
  forall_writes_sub_of_map rfl

/-- Their boxes. -/
abbrev outBoxOps : List (HloOp τ sig (Elt F)) :=
  [ StableHlo.nullary main_c_18 (constantI S_ 32 0#32),
    StableHlo.unary main_c_18 main_v102 (broadcastInDim S200 ![] bcast_S_S200 : Arr F S_ .i32 → Arr F S200 .i32),
    StableHlo.binary main_v101 main_v102 main_v103 (cmpi .slt : Arr F S200 .i32 → Arr F S200 .i32 → Arr F S200 .i1),
    StableHlo.nullary main_c_19 (constantI S_ 32 400000#32),
    StableHlo.unary main_c_19 main_v104 (broadcastInDim S200 ![] bcast_S_S200 : Arr F S_ .i32 → Arr F S200 .i32),
    StableHlo.binary main_v101 main_v104 main_v105 (addi : Arr F S200 .i32 → Arr F S200 .i32 → Arr F S200 .i32),
    StableHlo.ternary main_v103 main_v105 main_v101 main_v106 (select : Arr F S200 .i1 → Arr F S200 .i32 → Arr F S200 .i32 → Arr F S200 .i32),
    StableHlo.unary main_v106 main_v107 (broadcastInDim S200x1 ![0] bcast_S200_S200x1_0 : Arr F S200 .i32 → Arr F S200x1 .i32),
    StableHlo.binary main_v25 main_v107 main_v108 ((fun x i => Host.gather gather_S400000x4_S200x1_S200x4_1_0_n_n_0_1_14 x i) : Arr F S400000x4 .f32 → Arr F S200x1 .i32 → Arr F S200x4 .f32) ]

abbrev outBoxOps_W : List (Ref sig .tc) := [main_c_18, main_v102, main_v103, main_c_19, main_v104, main_v105, main_v106, main_v107, main_v108]

theorem outBoxOps_writes : (outBoxOps : List (HloOp τ sig (Elt F))).Forall fun op => op.writes ⊆ (outBoxOps_W.map (Proc.devRef (τ := τ) .tc)).toFinset :=
  forall_writes_sub_of_map rfl

/-- Their scores. -/
abbrev outScoreOps : List (HloOp τ sig (Elt F)) :=
  [ StableHlo.nullary main_c_20 (constantI S_ 32 0#32),
    StableHlo.unary main_c_20 main_v109 (broadcastInDim S200 ![] bcast_S_S200 : Arr F S_ .i32 → Arr F S200 .i32),
    StableHlo.binary main_v101 main_v109 main_v110 (cmpi .slt : Arr F S200 .i32 → Arr F S200 .i32 → Arr F S200 .i1),
    StableHlo.nullary main_c_21 (constantI S_ 32 400000#32),
    StableHlo.unary main_c_21 main_v111 (broadcastInDim S200 ![] bcast_S_S200 : Arr F S_ .i32 → Arr F S200 .i32),
    StableHlo.binary main_v101 main_v111 main_v112 (addi : Arr F S200 .i32 → Arr F S200 .i32 → Arr F S200 .i32),
    StableHlo.ternary main_v110 main_v112 main_v101 main_v113 (select : Arr F S200 .i1 → Arr F S200 .i32 → Arr F S200 .i32 → Arr F S200 .i32),
    StableHlo.unary main_v113 main_v114 (broadcastInDim S200x1 ![0] bcast_S200_S200x1_0 : Arr F S200 .i32 → Arr F S200x1 .i32),
    StableHlo.binary main_v27 main_v114 main_v115 ((fun x i => Host.gather gather_S400000_S200x1_S200_n_0_n_n_0_1_1 x i) : Arr F S400000 .f32 → Arr F S200x1 .i32 → Arr F S200 .f32) ]

abbrev outScoreOps_W : List (Ref sig .tc) := [main_c_20, main_v109, main_v110, main_c_21, main_v111, main_v112, main_v113, main_v114, main_v115]

theorem outScoreOps_writes : (outScoreOps : List (HloOp τ sig (Elt F))).Forall fun op => op.writes ⊆ (outScoreOps_W.map (Proc.devRef (τ := τ) .tc)).toFinset :=
  forall_writes_sub_of_map rfl

/-- Their labels. -/
abbrev outLabelOps : List (HloOp τ sig (Elt F)) :=
  [ StableHlo.nullary main_c_22 (constantI S_ 32 0#32),
    StableHlo.unary main_c_22 main_v116 (broadcastInDim S200 ![] bcast_S_S200 : Arr F S_ .i32 → Arr F S200 .i32),
    StableHlo.binary main_v101 main_v116 main_v117 (cmpi .slt : Arr F S200 .i32 → Arr F S200 .i32 → Arr F S200 .i1),
    StableHlo.nullary main_c_23 (constantI S_ 32 400000#32),
    StableHlo.unary main_c_23 main_v118 (broadcastInDim S200 ![] bcast_S_S200 : Arr F S_ .i32 → Arr F S200 .i32),
    StableHlo.binary main_v101 main_v118 main_v119 (addi : Arr F S200 .i32 → Arr F S200 .i32 → Arr F S200 .i32),
    StableHlo.ternary main_v117 main_v119 main_v101 main_v120 (select : Arr F S200 .i1 → Arr F S200 .i32 → Arr F S200 .i32 → Arr F S200 .i32),
    StableHlo.unary main_v120 main_v121 (broadcastInDim S200x1 ![0] bcast_S200_S200x1_0 : Arr F S200 .i32 → Arr F S200x1 .i32),
    StableHlo.binary main_v29 main_v121 main_v122 ((fun x i => Host.gather gather_S400000_S200x1_S200_n_0_n_n_0_1_1 x i) : Arr F S400000 .i32 → Arr F S200x1 .i32 → Arr F S200 .i32) ]

abbrev outLabelOps_W : List (Ref sig .tc) := [main_c_22, main_v116, main_v117, main_c_23, main_v118, main_v119, main_v120, main_v121, main_v122]

theorem outLabelOps_writes : (outLabelOps : List (HloOp τ sig (Elt F))).Forall fun op => op.writes ⊆ (outLabelOps_W.map (Proc.devRef (τ := τ) .tc)).toFinset :=
  forall_writes_sub_of_map rfl

/-- The result. -/
abbrev outOps : List (HloOp τ sig (Elt F)) :=
  [ StableHlo.unary main_v122 main_v123 (sitofp .f32 : Arr F S200 .i32 → Arr F S200 .f32),
    StableHlo.unary main_v123 main_v124 (broadcastInDim S200x1 ![0] bcast_S200_S200x1_0 : Arr F S200 .f32 → Arr F S200x1 .f32),
    StableHlo.unary main_v115 main_v125 (broadcastInDim S200x1 ![0] bcast_S200_S200x1_0 : Arr F S200 .f32 → Arr F S200x1 .f32),
    StableHlo.nary ![main_v124, main_v125, main_v108] main_v126 (fun u => (concatenate S200x6 1 [⟨S200x1, (u 0 : Arr F S200x1 .f32)⟩, ⟨S200x1, (u 1 : Arr F S200x1 .f32)⟩, ⟨S200x4, (u 2 : Arr F S200x4 .f32)⟩] concatenates_S200x1_S200x1_S200x4_S200x6_d1 : Arr F S200x6 .f32)) ]

abbrev outOps_W : List (Ref sig .tc) := [main_v123, main_v124, main_v125, main_v126]

theorem outOps_writes : (outOps : List (HloOp τ sig (Elt F))).Forall fun op => op.writes ⊆ (outOps_W.map (Proc.devRef (τ := τ) .tc)).toFinset :=
  forall_writes_sub_of_map rfl

theorem hostOps0_4_cut : (hostOps0_4 : List (HloOp τ sig (Elt F))) = cornerOps ++ (nbxOps ++ (rankOps ++ (pickOps ++ (areaOps ++ (meetOps))))) := rfl

theorem hostOps0_9_cut : (hostOps0_9 : List (HloOp τ sig (Elt F))) = lastOps ++ (selOps ++ (outBoxOps ++ (outScoreOps ++ (outLabelOps ++ (outOps))))) := rfl

end Cert.Proof.RI

end
-- ==== Proof.RI.Values.lean ====
/-
  The reference's values before its loop, read at an index over the extended reals.
-/
module

public import proofs.«01_k».proof.Proof.RI.Frame
public import proofs.«01_k».proof.Proof.RI.Ops
public import proofs.«01_k».proof.Proof.Val.Spec
public import proofs.«01_k».proof.Proof.Val.Words
public import proofs.«01_k».proof.Proof.Val.TopK
public import proofs.«01_k».proof.Proof.Val.Reads
public import Idealize.ShloMosaic.Lib.Routing.Ops
public import Idealize.ShloMosaic.Lib.Routing.OpsSet
public import Idealize.ShloMosaic.Lib.Pointwise
public import Idealize.ShloMosaic.PureOps.Ideal

@[expose] public section

set_option maxRecDepth 65536

noncomputable section

namespace Cert.Proof.RI

open Idealize.ShloMosaic Idealize.SL.Sem Idealize.ShloMosaic.StableHlo
open Cert.ReferenceIdeal Cert.ReferenceIdeal.Gen Cert.ReferenceIdeal.Value Cert.Proof.Val

variable (V : Valuation τ sig (Elt Ideal))

abbrev locA : Arr Ideal S1x20000x4 .f32 := V (Proc.devRef .tc main_arg0)
abbrev confA : Arr Ideal S20000x21 .f32 := V (Proc.devRef .tc main_arg1)
abbrev priA : Arr Ideal S20000x4 .f32 := V (Proc.devRef .tc main_arg2)

/-- The problem's data. -/
def scene : Scene where
  loc p k := locA V (ix3 0 p k)
  conf p c := confA V (ix2 p c)
  pri p k := priA V (ix2 p k)

/-- The lower corners, and the extents added to them. -/
theorem lower_apply (p : Fin 20000) (k : Fin 2) : @Eq EReal ((upto hostOps0 V 21 (Proc.devRef .tc main_v16) : Arr Ideal S20000x2 .f32) (ix2 p k))
    ((scene V).lower p ⟨k.val, by omega⟩ ⟨k.val + 2, by omega⟩) := by
  after_reads_simp
  pointwise
  fin_cases k <;> rfl

theorem upper_apply (p : Fin 20000) (k : Fin 2) : @Eq EReal ((upto hostOps0 V 21 (Proc.devRef .tc main_v17) : Arr Ideal S20000x2 .f32) (ix2 p k))
    ((scene V).lower p ⟨k.val, by omega⟩ ⟨k.val + 2, by omega⟩ + (scene V).extent p ⟨k.val, by omega⟩ ⟨k.val + 2, by omega⟩) := by
  after_reads_simp
  pointwise
  fin_cases k <;> rfl

theorem boxes_apply (i : Fin 400000) (k : Fin 4) : @Eq EReal ((after hostOps0 V (Proc.devRef .tc main_v25) : Arr Ideal S400000x4 .f32) (ix2 i k)) ((scene V).box (priorOf i) k) := by
  after_reads_simp
  pointwise
  fin_cases k
  · exact (dif_pos (by decide)).trans (lower_apply V (priorOf i) 0)
  · exact (dif_pos (by decide)).trans (lower_apply V (priorOf i) 1)
  · exact (dif_neg (by decide)).trans (upper_apply V (priorOf i) 0)
  · exact (dif_neg (by decide)).trans (upper_apply V (priorOf i) 1)

theorem scores_apply (i : Fin 400000) : @Eq EReal ((after hostOps0 V (Proc.devRef .tc main_v27) : Arr Ideal S400000 .f32) (ix1 i)) ((scene V).conf (priorOf i) (classOf i)) := by
  after_reads_simp
  pointwise
  exact congrArg (fun c => confA V (ix2 (priorOf i) c)) (Fin.ext (Nat.add_comm _ _))

theorem labels_apply (i : Fin 400000) : @Eq (BitVec 32) ((after hostOps0 V (Proc.devRef .tc main_v29) : Arr Ideal S400000 .i32) (ix1 i)) (BitVec.ofNat 32 (i.val % 20 + 1)) := by
  after_reads_simp
  pointwise
  rw [Nat.add_comm]

theorem mask_apply (i : Fin 400000) : (after hostOps0 V (Proc.devRef .tc main_v31) : Arr Ideal S400000 .i1) (ix1 i) = 1#1 ↔ (scene V).Passes i := by
  after_reads_simp
  pointwise
  rw [ofBool_decide_eq_one]
  exact iff_of_eq (congrArg (fun c => Ideal.ofBits .f32 0x3C23D70A#32 < confA V (ix2 (priorOf i) c)) (Fin.ext (Nat.add_comm _ _)))

theorem cst3_apply : @Eq EReal ((after hostOps0 V (Proc.devRef .tc main_cst_3) : Arr Ideal S_ .f32) ix0) 0 := by
  after_reads_simp
  pointwise

/-! ## Scores, the greatest corner, the boxes the classes keep apart -/

variable (W : Valuation τ sig (Elt Ideal))

theorem scom_apply (i : Fin 400000) : (rd1 i (after hostOps0_1 W (Proc.devRef .tc main_v32)))
  = Scalar.select ((W (Proc.devRef .tc main_v31) : Arr Ideal S400000 .i1) (ix1 i)) (rd1 i (W (Proc.devRef .tc main_v27))) (rd0 (W (Proc.devRef .tc main_cst_3))) := by
  after_reads_simp
  show select (W (Proc.devRef .tc main_v31) : Arr Ideal S400000 .i1) (W (Proc.devRef .tc main_v27) : Arr Ideal S400000 .f32)
    (broadcastInDim S400000 ![] bcast_S_S400000 (W (Proc.devRef .tc main_cst_3) : Arr Ideal S_ .f32)) (ix1 i) = _
  pointwise

theorem maskcol_apply (i : Fin 400000) : ((after hostOps0_2 W (Proc.devRef .tc main_v33) : Arr Ideal S400000x1 .i1) (ix2 i 0))
  = (W (Proc.devRef .tc main_v31) : Arr Ideal S400000 .i1) (ix1 i) := by
  after_reads_simp
  pointwise

theorem cst4_apply : @Eq EReal (rd0 (after hostOps0_2 W (Proc.devRef .tc main_cst_4))) ⊥ := by
  after_reads_simp
  exact ofBits_negInf

theorem maxsel_apply (i : Fin 400000) (k : Fin 4) : (rd2 i k (after hostOps0_3 W (Proc.devRef .tc main_v34)))
  = Scalar.select ((W (Proc.devRef .tc main_v33) : Arr Ideal S400000x1 .i1) (ix2 i 0)) (rd2 i k (W (Proc.devRef .tc main_v25))) (rd0 (W (Proc.devRef .tc main_cst_4))) := by
  after_reads_simp
  show select (broadcastInDim S400000x4 ![0, 1] bcast_S400000x1_S400000x4_0_1 (W (Proc.devRef .tc main_v33) : Arr Ideal S400000x1 .i1)) (W (Proc.devRef .tc main_v25) : Arr Ideal S400000x4 .f32)
    (broadcastInDim S400000x4 ![] bcast_S_S400000x4 (W (Proc.devRef .tc main_cst_4) : Arr Ideal S_ .f32)) (ix2 i k) = _
  pointwise

theorem corner_le (y : EReal) : (rd0 (after cornerOps W (Proc.devRef .tc main_v35)) : EReal) ≤ y
    ↔ ∀ (i : Fin 400000) (k : Fin 4), (rd2 i k (W (Proc.devRef .tc main_v34)) : EReal) ≤ y := by
  after_reads_simp
  rw [reduceMax_le rfl]
  constructor
  · exact fun h i k => h.2 (ix2 i k)
  · refine fun h => ⟨?_, fun i => ?_⟩
    · exact ofBits_negInf.le.trans bot_le
    · rw [← ix2_eta i]
      exact h _ _

theorem nbx_apply (i : Fin 400000) (k : Fin 4) : @Eq EReal (rd2 i k (after nbxOps W (Proc.devRef .tc main_v42)))
    (rd2 i k (W (Proc.devRef .tc main_v25))
      + FloatOps.sitofp (F := Ideal) .f32 ((W (Proc.devRef .tc main_v29) : Arr Ideal S400000 .i32) (ix1 i))
        * (rd0 (W (Proc.devRef .tc main_v35)) + 1)) := by
  after_reads_simp
  pointwise

theorem pick_apply (σ : Fin 4096 → Fin 400000) (h : ∀ j, (W (Proc.devRef .tc main_indices) : Arr Ideal S4096 .i32) (ix1 j) = BitVec.ofNat 32 (σ j).val)
    (j : Fin 4096) (k : Fin 4) : @Eq EReal (rd2 j k (after pickOps W (Proc.devRef .tc main_v49)))
      (rd2 (σ j) k (W (Proc.devRef .tc main_v42))) := by
  after_reads_simp
  refine gather_rows _ rfl rfl rfl rfl rfl (by decide) _ _ j k (σ j) ?_
  pointwise
  rw [h]
  exact wrap_ofNat (by have := (σ j).isLt; omega) _

theorem area_apply (i : Fin 4096) : @Eq EReal (rd1 i (after areaOps W (Proc.devRef .tc main_v60)))
    (areaOf fun k => rd2 i k (W (Proc.devRef .tc main_v49))) := by
  after_reads_simp
  pointwise
  rfl

theorem meet_apply (i j : Fin 4096) (k : Fin 2) : @Eq EReal (rd3 i j k (after meetOps W (Proc.devRef .tc main_v75)))
    (min (rd2 i ⟨2 + k.val, by omega⟩ (W (Proc.devRef .tc main_v49)) : EReal)
      (rd2 j ⟨2 + k.val, by omega⟩ (W (Proc.devRef .tc main_v49)))
      - max (rd2 i ⟨k.val, by omega⟩ (W (Proc.devRef .tc main_v49)) : EReal)
      (rd2 j ⟨k.val, by omega⟩ (W (Proc.devRef .tc main_v49)))) := by
  after_reads_simp
  pointwise

theorem cst8_apply : @Eq EReal (rd0 (after meetOps W (Proc.devRef .tc main_cst_8))) 0 := by
  after_reads_simp
  pointwise

theorem clip_apply (i j : Fin 4096) (k : Fin 2) : @Eq EReal (rd3 i j k (after hostOps0_5 W (Proc.devRef .tc main_v76)))
    (max (rd0 (W (Proc.devRef .tc main_cst_8)) : EReal) (rd3 i j k (W (Proc.devRef .tc main_v75)))) := by
  after_reads_simp
  show maximumf (F := Ideal) (φ := .f32) (broadcastInDim S4096x4096x2 ![] bcast_S_S4096x4096x2 (W (Proc.devRef .tc main_cst_8) : Arr Ideal S_ .f32))
    (W (Proc.devRef .tc main_v75) : Arr Ideal S4096x4096x2 .f32) (ix3 i j k) = _
  pointwise

/-- The products of what is shared, and the areas: the overlap of every pair. -/
theorem iou_apply (i j : Fin 4096) : @Eq EReal (rd2 i j (after hostOps0_6 W (Proc.devRef .tc main_v93_0)))
    (let s : EReal := rd3 i j 0 (W (Proc.devRef .tc main_v76)) * rd3 i j 1 (W (Proc.devRef .tc main_v76))
     Ideal.div s (rd1 i (W (Proc.devRef .tc main_v60)) + rd1 j (W (Proc.devRef .tc main_v60)) - s
       + Ideal.ofBits .f32 0x2B8CBCCC#32)) := by
  after_reads_simp
  rw [id_eq]
  pointwise

theorem pos_apply (j : Fin 4096) : (after hostOps0_6 W (Proc.devRef .tc main_v93_1) : Arr Ideal S4096 .i32) (ix1 j) = BitVec.ofNat 32 j.val := by
  after_reads_simp
  rw [id_eq]
  pointwise

theorem turn_apply : (after hostOps0_6 W (Proc.devRef .tc main_v93_3) : Arr Ideal S_ .i32) ix0 = 0#32 := by
  after_reads_simp
  rw [id_eq]
  pointwise

theorem all_apply (j : Fin 4096) : (after hostOps0_6 W (Proc.devRef .tc main_v93_4) : Arr Ideal S4096 .i1) (ix1 j) = 1#1 := by
  after_reads_simp
  rw [id_eq]
  pointwise

end Cert.Proof.RI

end
-- ==== Proof.RI.Entry.lean ====
/-
  What the reference's loop starts from: every array it or the operations after it read, over the extended reals.
-/
module

public import proofs.«01_k».proof.Proof.RI.Values

@[expose] public section

set_option maxRecDepth 65536

noncomputable section

namespace Cert.Proof.RI

open Idealize.ShloMosaic Idealize.SL.Sem Idealize.ShloMosaic.StableHlo
open Cert.ReferenceIdeal Cert.ReferenceIdeal.Gen Cert.ReferenceIdeal.Value Cert.Proof.Val

variable (V : Valuation τ sig (Elt Ideal))

/-! ## The contents after each stretch -/

def r1 : Valuation τ sig (Elt Ideal) := after hostOps0 V
def r2 : Valuation τ sig (Elt Ideal) := after hostOps0_1 (r1 V)
def r3 : Valuation τ sig (Elt Ideal) := after hostOps0_2 (r2 V)
def r4 : Valuation τ sig (Elt Ideal) := after hostOps0_3 (r3 V)
def c1 : Valuation τ sig (Elt Ideal) := after cornerOps (r4 V)
def c2 : Valuation τ sig (Elt Ideal) := after nbxOps (c1 V)
def c3 : Valuation τ sig (Elt Ideal) := after rankOps (c2 V)
def c4 : Valuation τ sig (Elt Ideal) := after pickOps (c3 V)
def c5 : Valuation τ sig (Elt Ideal) := after areaOps (c4 V)
def c6 : Valuation τ sig (Elt Ideal) := after meetOps (c5 V)
def r6 : Valuation τ sig (Elt Ideal) := after hostOps0_5 (c6 V)
def r7 : Valuation τ sig (Elt Ideal) := after hostOps0_6 (r6 V)

theorem entry_eq (m : (ℓ : Loc nD τ sig) → Buf (Elt Ideal) ℓ) (c : Dev nD) : entry m c = r7 (launchContents m c) := by
  show after hostOps0_6 (after hostOps0_5 (after hostOps0_4 (after hostOps0_3 (after hostOps0_2 (after hostOps0_1 (after hostOps0 (launchContents m c))))))) = _
  rw [hostOps0_4_cut, after_append, after_append, after_append, after_append, after_append]
  rfl

variable (b : Ref sig .tc)

theorem r4_of_r1 (h1 : b ∉ hostOps0_1_W) (h2 : b ∉ hostOps0_2_W) (h3 : b ∉ hostOps0_3_W) :
    r4 V (Proc.devRef .tc b) = r1 V (Proc.devRef .tc b) :=
  (after_of_writes_sub _ _ hostOps0_3_writes h3).trans <| (after_of_writes_sub _ _ hostOps0_2_writes h2).trans <|
    after_of_writes_sub _ _ hostOps0_1_writes h1

theorem r7_of_c3 (h1 : b ∉ pickOps_W) (h2 : b ∉ areaOps_W) (h3 : b ∉ meetOps_W) (h5 : b ∉ hostOps0_5_W) (h6 : b ∉ hostOps0_6_W) :
    r7 V (Proc.devRef .tc b) = c3 V (Proc.devRef .tc b) :=
  (after_of_writes_sub _ _ hostOps0_6_writes h6).trans <| (after_of_writes_sub _ _ hostOps0_5_writes h5).trans <|
    (after_of_writes_sub _ _ meetOps_writes h3).trans <| (after_of_writes_sub _ _ areaOps_writes h2).trans <|
    after_of_writes_sub _ _ pickOps_writes h1

theorem c2_of_r4 (h1 : b ∉ cornerOps_W) (h2 : b ∉ nbxOps_W) : c2 V (Proc.devRef .tc b) = r4 V (Proc.devRef .tc b) :=
  (after_of_writes_sub _ _ nbxOps_writes h2).trans <| after_of_writes_sub _ _ cornerOps_writes h1

theorem c3_of_c2 (h1 : b ∉ rankOps_W) : c3 V (Proc.devRef .tc b) = c2 V (Proc.devRef .tc b) :=
  after_of_writes_sub _ _ rankOps_writes h1

/-! ## What is read later -/

theorem mask_read (i : Fin 400000) : (r1 V (Proc.devRef .tc main_v31) : Arr Ideal S400000 .i1) (ix1 i) = 1#1 ↔ (scene V).Passes i := mask_apply V i

theorem sco_read (i : Fin 400000) : rd1 i (c2 V (Proc.devRef .tc main_v32)) = (scene V).sco i := by
  refine (congrArg (rd1 i) ((c2_of_r4 V main_v32 (by decide) (by decide)).trans
    ((after_of_writes_sub _ _ hostOps0_3_writes (by decide)).trans (after_of_writes_sub _ _ hostOps0_2_writes (by decide))))).trans ?_
  refine (scom_apply (r1 V) i).trans ?_
  unfold Scene.sco
  split
  · rename_i h
    rw [select_pos ((mask_read V i).mpr h)]
    exact scores_apply V i
  · rename_i h
    rw [select_neg (fun h' => h ((mask_read V i).mp h'))]
    exact cst3_apply V

theorem masked_read (i : Fin 400000) (k : Fin 4) [Decidable ((scene V).Passes i)] :
    rd2 i k (r4 V (Proc.devRef .tc main_v34)) = if (scene V).Passes i then (scene V).box (priorOf i) k else ⊥ := by
  refine (maxsel_apply (r3 V) i k).trans ?_
  have hm : (r3 V (Proc.devRef .tc main_v33) : Arr Ideal S400000x1 .i1) (ix2 i 0) = (r1 V (Proc.devRef .tc main_v31) : Arr Ideal S400000 .i1) (ix1 i) :=
    (maskcol_apply (r2 V) i).trans (congrFun (after_of_writes_sub (r := main_v31) _ _ hostOps0_1_writes (by decide)) (ix1 i))
  rw [hm]
  split
  · rename_i h
    rw [select_pos ((mask_read V i).mpr h)]
    refine (congrArg (rd2 i k) (((after_of_writes_sub (r := main_v25) _ _ hostOps0_2_writes (by decide)).trans
      (after_of_writes_sub _ _ hostOps0_1_writes (by decide))))).trans (boxes_apply V i k)
  · rename_i h
    rw [select_neg (fun h' => h ((mask_read V i).mp h'))]
    exact cst4_apply (r2 V)

theorem corner_read : rd0 (c1 V (Proc.devRef .tc main_v35)) = (scene V).corner := by
  classical
  refine (scene V).corner_eq fun y => (corner_le (r4 V) y).trans ⟨fun h i hp k => ?_, fun h i k => ?_⟩
  · have := h i k
    rwa [masked_read, if_pos hp] at this
  · rw [masked_read]
    split
    · rename_i hp
      exact h i hp k
    · exact bot_le

theorem boxes_read (i : Fin 400000) (k : Fin 4) : rd2 i k (r4 V (Proc.devRef .tc main_v25)) = (scene V).box (priorOf i) k :=
  (congrArg (rd2 i k) (r4_of_r1 V main_v25 (by decide) (by decide) (by decide))).trans (boxes_apply V i k)

theorem labels_read (i : Fin 400000) : (r4 V (Proc.devRef .tc main_v29) : Arr Ideal S400000 .i32) (ix1 i) = BitVec.ofNat 32 (i.val % 20 + 1) :=
  (congrFun (r4_of_r1 V main_v29 (by decide) (by decide) (by decide)) (ix1 i)).trans (labels_apply V i)

theorem nbx_read (i : Fin 400000) (k : Fin 4) : rd2 i k (c3 V (Proc.devRef .tc main_v42)) = (scene V).nbx i k := by
  refine (congrArg (rd2 i k) (c3_of_c2 V main_v42 (by decide))).trans ((nbx_apply (c1 V) i k).trans ?_)
  have e1 : rd2 i k (c1 V (Proc.devRef .tc main_v25)) = (scene V).box (priorOf i) k :=
    (congrArg (rd2 i k) (after_of_writes_sub (r := main_v25) _ _ cornerOps_writes (by decide))).trans (boxes_read V i k)
  have e2 : (c1 V (Proc.devRef .tc main_v29) : Arr Ideal S400000 .i32) (ix1 i) = BitVec.ofNat 32 (i.val % 20 + 1) :=
    (congrFun (after_of_writes_sub (r := main_v29) _ _ cornerOps_writes (by decide)) (ix1 i)).trans (labels_read V i)
  rw [e1, e2, corner_read]
  rfl

/-- What the loop starts from. -/
structure Entry (W : Valuation τ sig (Elt Ideal)) (σ : Fin 4096 → Fin 400000) : Prop where
  boxes : ∀ i k, rd2 i k (W (Proc.devRef .tc main_v25)) = (scene V).box (priorOf i) k
  scores : ∀ i, rd1 i (W (Proc.devRef .tc main_v27)) = (scene V).conf (priorOf i) (classOf i)
  labels : ∀ i, (W (Proc.devRef .tc main_v29) : Arr Ideal S400000 .i32) (ix1 i) = BitVec.ofNat 32 (i.val % 20 + 1)
  top : IsTop (scene V).sco σ
  values : ∀ j, rd1 j (W (Proc.devRef .tc main_values)) = (scene V).sco (σ j)
  indices : ∀ j, (W (Proc.devRef .tc main_indices) : Arr Ideal S4096 .i32) (ix1 j) = BitVec.ofNat 32 (σ j).val
  over : ∀ i j, rd2 i j (W (Proc.devRef .tc main_v93_0)) = iou ((scene V).nbx (σ i)) ((scene V).nbx (σ j))
  pos : ∀ j, (W (Proc.devRef .tc main_v93_1) : Arr Ideal S4096 .i32) (ix1 j) = BitVec.ofNat 32 j.val
  turn : (W (Proc.devRef .tc main_v93_3) : Arr Ideal S_ .i32) ix0 = 0#32
  all : ∀ j, (W (Proc.devRef .tc main_v93_4) : Arr Ideal S4096 .i1) (ix1 j) = 1#1

theorem rank_read : ∃ σ : Fin 4096 → Fin 400000, IsTop (scene V).sco σ
    ∧ (∀ j, rd1 j (c3 V (Proc.devRef .tc main_values)) = (scene V).sco (σ j))
    ∧ ∀ j, (c3 V (Proc.devRef .tc main_indices) : Arr Ideal S4096 .i32) (ix1 j) = BitVec.ofNat 32 (σ j).val := by
  obtain ⟨σ, ht, hv, hi⟩ := topK_spec (k := 4096) (by decide) (c2 V (Proc.devRef .tc main_v32) : Arr Ideal S400000 .f32) sliceFits_S400000_S4096
  have hs : (fun i => rd1 i (c2 V (Proc.devRef .tc main_v32))) = (scene V).sco := funext (sco_read V)
  refine ⟨σ, hs ▸ ht, fun j => ?_, fun j => ?_⟩
  · unfold c3
    after_reads_simp
    exact (hv j).trans (sco_read V _)
  · unfold c3
    after_reads_simp
    exact hi j

theorem entry_spec : ∃ σ, Entry V (r7 V) σ := by
  obtain ⟨σ, ht, hv, hi⟩ := rank_read V
  have hp : ∀ j k, rd2 j k (c4 V (Proc.devRef .tc main_v49)) = (scene V).nbx (σ j) k := fun j k =>
    (pick_apply (c3 V) σ hi j k).trans (nbx_read V _ _)
  have hp' : ∀ j k, rd2 j k (c5 V (Proc.devRef .tc main_v49)) = (scene V).nbx (σ j) k := fun j k =>
    (congrArg (rd2 j k) (after_of_writes_sub (r := main_v49) _ _ areaOps_writes (by decide))).trans (hp j k)
  have ha : ∀ j, rd1 j (r6 V (Proc.devRef .tc main_v60)) = areaOf ((scene V).nbx (σ j)) := fun j =>
    (congrArg (rd1 j) ((after_of_writes_sub (r := main_v60) _ _ hostOps0_5_writes (by decide)).trans
      (after_of_writes_sub _ _ meetOps_writes (by decide)))).trans ((area_apply (c4 V) j).trans (congrArg areaOf (funext (hp j))))
  have hc : ∀ i j k, rd3 i j k (r6 V (Proc.devRef .tc main_v76)) = max (rd3 i j k (c6 V (Proc.devRef .tc main_v75))) 0 := fun i j k => by
    refine (clip_apply (c6 V) i j k).trans ?_
    rw [show rd0 (c6 V (Proc.devRef .tc main_cst_8)) = 0 from cst8_apply (c5 V), max_comm]
  have hm : ∀ i j k, rd3 i j k (c6 V (Proc.devRef .tc main_v75)) = _ := fun i j k => meet_apply (c5 V) i j k
  have b3 : ∀ b : Ref sig .tc, b ∉ hostOps0_1_W → b ∉ hostOps0_2_W → b ∉ hostOps0_3_W → b ∉ cornerOps_W → b ∉ nbxOps_W → b ∉ rankOps_W →
      c3 V (Proc.devRef .tc b) = r1 V (Proc.devRef .tc b) := fun b h1 h2 h3 h4 h5 h6 =>
    (c3_of_c2 V b h6).trans ((c2_of_r4 V b h4 h5).trans (r4_of_r1 V b h1 h2 h3))
  refine ⟨σ, ?_, ?_, ?_, ht, ?_, ?_, ?_, pos_apply (r6 V), turn_apply (r6 V), all_apply (r6 V)⟩
  · exact fun i k => (congrArg (rd2 i k) ((r7_of_c3 V main_v25 (by decide) (by decide) (by decide) (by decide) (by decide)).trans
      (b3 main_v25 (by decide) (by decide) (by decide) (by decide) (by decide) (by decide)))).trans (boxes_apply V i k)
  · exact fun i => (congrArg (rd1 i) ((r7_of_c3 V main_v27 (by decide) (by decide) (by decide) (by decide) (by decide)).trans
      (b3 main_v27 (by decide) (by decide) (by decide) (by decide) (by decide) (by decide)))).trans (scores_apply V i)
  · exact fun i => (congrFun ((r7_of_c3 V main_v29 (by decide) (by decide) (by decide) (by decide) (by decide)).trans
      (b3 main_v29 (by decide) (by decide) (by decide) (by decide) (by decide) (by decide))) (ix1 i)).trans (labels_apply V i)
  · exact fun j => (congrArg (rd1 j) (r7_of_c3 V main_values (by decide) (by decide) (by decide) (by decide) (by decide))).trans (hv j)
  · exact fun j => (congrFun (r7_of_c3 V main_indices (by decide) (by decide) (by decide) (by decide) (by decide)) (ix1 j)).trans (hi j)
  · intro i j
    refine (iou_apply (r6 V) i j).trans ?_
    rw [ha, ha, hc, hc, hm, hm]
    simp only [hp']
    rfl

end Cert.Proof.RI

end
-- ==== Proof.RI.Loop.lean ====
/-
  The reference's loop: trip by trip each box, if kept, removes the later boxes it overlaps.
-/
module

public import proofs.«01_k».proof.Proof.RI.Entry

@[expose] public section

set_option maxRecDepth 65536

noncomputable section

namespace Cert.Proof.RI

open Idealize.ShloMosaic Idealize.SL.Sem Idealize.ShloMosaic.StableHlo
open Cert.ReferenceIdeal Cert.ReferenceIdeal.Gen Cert.ReferenceIdeal.Value Cert.Proof.Val

variable (V W : Valuation τ sig (Elt Ideal))

/-- The boxes still kept. -/
def onOf (j : Fin 4096) : Prop := (W (Proc.devRef .tc main_v93_4) : Arr Ideal S4096 .i1) (ix1 j) = 1#1

/-- One trip on the flags, from the overlaps `O`, the positions `P` and the position `T` whose turn it is. -/
abbrev tripOn (K : IVec S4096 1) (O : FVec Ideal S4096x4096 .f32) (P : IVec S4096 32) (T : IVec S_ 32) : IVec S4096 1 :=
  andi K (noti (andi (andi
    (cmpf .ogt (shapeCast S4096 (Host.dynamicSlice S1x4096 O (fun k => ((![select (cmpi .slt T (constantI S_ 32 0#32)) (addi T (constantI S_ 32 4096#32)) T,
        select (cmpi .slt (constantI S_ 32 0#32) (constantI S_ 32 0#32)) (addi (constantI S_ 32 0#32) (constantI S_ 32 4096#32)) (constantI S_ 32 0#32)] :
        Fin 2 → IVec S_ 32) k (Shape.Idx.first h_S_)).toInt) sliceFits_S4096x4096_S1x4096) shapeCasts_S1x4096_S4096)
      (broadcastInDim S4096 ![] bcast_S_S4096 (constant (F := Ideal) S_ .f32 0x3EE66666#32)))
    (broadcastInDim S4096 ![] bcast_S_S4096 (shapeCast S_ (Host.dynamicSlice S1 K (fun k => ((![select (cmpi .slt T (constantI S_ 32 0#32))
        (addi T (constantI S_ 32 4096#32)) T] : Fin 1 → IVec S_ 32) k (Shape.Idx.first h_S_)).toInt) sliceFits_S4096_S1) shapeCasts_S1_S_)))
    (cmpi .sgt P (broadcastInDim S4096 ![] bcast_S_S4096 T))))

theorem not_eq_one : ∀ x : BitVec 1, ~~~x = 1#1 ↔ ¬x = 1#1 := by decide

theorem row_slice {α : Type} (x : S4096x4096.Idx → α) (st : Fin 2 → Int) (t j : Fin 4096) (h0 : st 0 = t.val) (h1 : st 1 = 0) :
    shapeCast S4096 (Host.dynamicSlice S1x4096 x st sliceFits_S4096x4096_S1x4096) shapeCasts_S1x4096_S4096 (ix1 j) = x (ix2 t j) := by
  pointwise
  have ht := t.isLt
  refine congrArg x (congrArg₂ ix2 (Fin.ext ?_) (Fin.ext ?_))
  · show (min (max (st 0) 0) ((4096 - 1 : ℕ) : Int)).toNat = t.val
    rw [h0]
    omega
  · show (min (max (st 1) 0) ((4096 - 4096 : ℕ) : Int)).toNat + j.val = j.val
    rw [h1]
    omega

theorem entry_slice {α : Type} (x : S4096.Idx → α) (st : Fin 1 → Int) (t : Fin 4096) (h0 : st 0 = t.val) (z : S_.Idx) :
    shapeCast S_ (Host.dynamicSlice S1 x st sliceFits_S4096_S1) shapeCasts_S1_S_ z = x (ix1 t) := by
  obtain rfl : z = ix0 := Subsingleton.elim _ _
  pointwise
  have ht := t.isLt
  refine congrArg x (congrArg ix1 (Fin.ext ?_))
  show (min (max (st 0) 0) ((4096 - 1 : ℕ) : Int)).toNat = t.val
  rw [h0]
  omega

theorem tripOn_apply (K : IVec S4096 1) (O : FVec Ideal S4096x4096 .f32) (P : IVec S4096 32) (T : IVec S_ 32) (t : Fin 4096)
    (hP : ∀ j : Fin 4096, P (ix1 j) = BitVec.ofNat 32 j.val) (hT : T ix0 = BitVec.ofNat 32 t.val) (j : Fin 4096) :
    tripOn K O P T (ix1 j) = 1#1 ↔ K (ix1 j) = 1#1 ∧ ¬(Ideal.ofBits .f32 0x3EE66666#32 < (O (ix2 t j) : EReal) ∧ K (ix1 t) = 1#1 ∧ t < j) := by
  have hTz : ∀ z : S_.Idx, T z = BitVec.ofNat 32 t.val := fun z => (congrArg T (Subsingleton.elim _ _)).trans hT
  have hT' : T (Shape.Idx.first h_S_) = BitVec.ofNat 32 t.val := hTz _
  have ht := t.isLt
  have hw : (select (cmpi .slt T (constantI S_ 32 0#32)) (addi T (constantI S_ 32 4096#32)) T (Shape.Idx.first h_S_)).toInt = t.val := by
    show (Scalar.select (IntOp.cmpi .slt (T (Shape.Idx.first h_S_)) 0#32) (IntOp.addi (T (Shape.Idx.first h_S_)) 4096#32) (T (Shape.Idx.first h_S_))).toInt = _
    rw [hT', wrap_ofNat (by omega), toInt_ofNat_lt (by omega)]
  show IntOp.andi (K (ix1 j)) (~~~ IntOp.andi (IntOp.andi (FloatOps.cmpf .ogt (shapeCast S4096 (Host.dynamicSlice S1x4096 O _ sliceFits_S4096x4096_S1x4096) shapeCasts_S1x4096_S4096 (ix1 j)) (Ideal.ofBits .f32 0x3EE66666#32))
    (shapeCast S_ (Host.dynamicSlice S1 K _ sliceFits_S4096_S1) shapeCasts_S1_S_ _)) (IntOp.cmpi .sgt (P (ix1 j)) (T _))) = 1#1 ↔ _
  rw [row_slice O _ t j hw rfl, entry_slice K _ t hw, hP, hTz, andi_eq_one, not_eq_one, andi_eq_one, andi_eq_one, cmpi_sgt (by omega) (by omega), and_assoc]
  refine and_congr_right fun _ => not_congr (and_congr ?_ Iff.rfl)
  exact ofBool_decide_eq_one _

theorem step_on (t : Fin 4096) (hpos : ∀ j : Fin 4096, (W (Proc.devRef .tc main_v93_1) : Arr Ideal S4096 .i32) (ix1 j) = BitVec.ofNat 32 j.val)
    (hturn : (W (Proc.devRef .tc main_v93_3) : Arr Ideal S_ .i32) ix0 = BitVec.ofNat 32 t.val) (j : Fin 4096) :
    onOf (STEP W) j ↔ onOf W j ∧ ¬(Ideal.ofBits .f32 0x3EE66666#32 < rd2 t j (W (Proc.devRef .tc main_v93_0)) ∧ onOf W t ∧ t < j) := by
  refine (iff_of_eq (congrArg (· = 1#1) (congrFun (STEP_main_v93_4 W) (ix1 j)))).trans ?_
  exact tripOn_apply (W (Proc.devRef .tc main_v93_4)) (W (Proc.devRef .tc main_v93_0)) (W (Proc.devRef .tc main_v93_1)) (W (Proc.devRef .tc main_v93_3)) t hpos hturn j

variable {V} {σ : Fin 4096 → Fin 400000}

theorem iter_keeps (t : ℕ) : STEP^[t] W (Proc.devRef .tc main_v93_0) = W (Proc.devRef .tc main_v93_0)
    ∧ STEP^[t] W (Proc.devRef .tc main_v93_1) = W (Proc.devRef .tc main_v93_1) := by
  induction t with
  | zero => exact ⟨rfl, rfl⟩
  | succ t ih =>
    rw [Function.iterate_succ_apply', STEP_main_v93_0, STEP_main_v93_1]
    exact ih

theorem iter_turn (h : (W (Proc.devRef .tc main_v93_3) : Arr Ideal S_ .i32) ix0 = 0#32) (t : ℕ) :
    (STEP^[t] W (Proc.devRef .tc main_v93_3) : Arr Ideal S_ .i32) ix0 = BitVec.ofNat 32 t := by
  induction t with
  | zero => exact h
  | succ t ih =>
    rw [Function.iterate_succ_apply', STEP_main_v93_3]
    show IntOp.addi ((STEP^[t] W (Proc.devRef .tc main_v93_3) : Arr Ideal S_ .i32) ix0) 1#32 = _
    rw [ih]
    exact (BitVec.ofNat_add t 1).symm

/-- After `t` trips the first `t` boxes have been tried. -/
theorem iter_stage (h : Entry V W σ) (t : ℕ) (ht : t ≤ 4096) : Stage ((scene V).Sup σ) (fun _ => True) t (onOf (STEP^[t] W)) := by
  induction t with
  | zero =>
    rw [show onOf (STEP^[0] W) = fun _ => True from funext fun j => eq_true (h.all j)]
    exact Stage.zero
  | succ t ih =>
    refine Stage.step (ih (by omega)) (by omega) fun j => ?_
    rw [Function.iterate_succ_apply']
    refine (step_on (STEP^[t] W) ⟨t, by omega⟩ (fun j => ?_) (iter_turn W h.turn t) j).trans ?_
    · rw [(iter_keeps W t).2]
      exact h.pos j
    · rw [(iter_keeps W t).1, h.over]
      rfl

theorem left_on (m : (ℓ : Loc nD τ sig) → Buf (Elt Ideal) ℓ) (c : Dev nD) (h : Entry V (entry m c) σ) :
    Stage ((scene V).Sup σ) (fun _ => True) 4096 (onOf (left m c)) := by
  have e : onOf (left m c) = onOf (STEP^[4096] (entry m c)) := by
    unfold onOf left
    rw [cond_keeps (atK m 4096 c) main_v93_4 (by decide), atK_agree m c 4096 main_v93_4 (by decide)]
    rfl
  rw [e]
  exact iter_stage (entry m c) h 4096 le_rfl

end Cert.Proof.RI

end
-- ==== Proof.RI.Result.lean ====
/-
  What the reference returns: 200 rows picked from the 4096 ranked positions, all of them tried.
-/
module

public import proofs.«01_k».proof.Proof.RI.Loop

@[expose] public section

set_option maxRecDepth 65536

noncomputable section

namespace Cert.Proof.RI

open Idealize.ShloMosaic Idealize.SL.Sem Idealize.ShloMosaic.StableHlo
open Cert.ReferenceIdeal Cert.ReferenceIdeal.Gen Cert.ReferenceIdeal.Value Cert.Proof.Val

variable (V W : Valuation τ sig (Elt Ideal))

theorem cst13_apply : rd0 (after hostOps0_7 W (Proc.devRef .tc main_cst_13)) = ⊥ := by
  after_reads_simp
  exact ofBits_negInf

theorem kept_apply (j : Fin 4096) : rd1 j (after hostOps0_8 W (Proc.devRef .tc main_v94))
    = Scalar.select ((W (Proc.devRef .tc main_v93_4) : Arr Ideal S4096 .i1) (ix1 j)) (rd1 j (W (Proc.devRef .tc main_values))) (rd0 (W (Proc.devRef .tc main_cst_13))) := by
  after_reads_simp
  show select (W (Proc.devRef .tc main_v93_4) : Arr Ideal S4096 .i1) (W (Proc.devRef .tc main_values) : Arr Ideal S4096 .f32)
    (broadcastInDim S4096 ![] bcast_S_S4096 (W (Proc.devRef .tc main_cst_13) : Arr Ideal S_ .f32)) (ix1 j) = _
  pointwise

theorem sel_apply (σ : Fin 4096 → Fin 400000) (k2 : Fin 200 → Fin 4096)
    (h : ∀ j, (W (Proc.devRef .tc main_indices) : Arr Ideal S4096 .i32) (ix1 j) = BitVec.ofNat 32 (σ j).val)
    (h2 : ∀ j, (W (Proc.devRef .tc main_indices_15) : Arr Ideal S200 .i32) (ix1 j) = BitVec.ofNat 32 (k2 j).val) (j : Fin 200) :
    (after selOps W (Proc.devRef .tc main_v101) : Arr Ideal S200 .i32) (ix1 j) = BitVec.ofNat 32 (σ (k2 j)).val := by
  after_reads_simp
  refine (gather_entries _ rfl rfl rfl rfl (by decide) _ _ j (k2 j) ?_).trans (h _)
  pointwise
  rw [h2]
  exact wrap_ofNat (by have := (k2 j).isLt; omega) _

variable (sel : Fin 200 → Fin 400000) (h : ∀ j, (W (Proc.devRef .tc main_v101) : Arr Ideal S200 .i32) (ix1 j) = BitVec.ofNat 32 (sel j).val)
include h

theorem outBox_apply (j : Fin 200) (k : Fin 4) : rd2 j k (after outBoxOps W (Proc.devRef .tc main_v108)) = rd2 (sel j) k (W (Proc.devRef .tc main_v25)) := by
  after_reads_simp
  refine gather_rows _ rfl rfl rfl rfl rfl (by decide) _ _ j k (sel j) ?_
  pointwise
  rw [h]
  exact wrap_ofNat (by have := (sel j).isLt; omega) _

theorem outScore_apply (j : Fin 200) : rd1 j (after outScoreOps W (Proc.devRef .tc main_v115)) = rd1 (sel j) (W (Proc.devRef .tc main_v27)) := by
  after_reads_simp
  refine gather_entries _ rfl rfl rfl rfl (by decide) _ _ j (sel j) ?_
  pointwise
  rw [h]
  exact wrap_ofNat (by have := (sel j).isLt; omega) _

theorem outLabel_apply (j : Fin 200) : (after outLabelOps W (Proc.devRef .tc main_v122) : Arr Ideal S200 .i32) (ix1 j)
    = (W (Proc.devRef .tc main_v29) : Arr Ideal S400000 .i32) (ix1 (sel j)) := by
  after_reads_simp
  refine gather_entries _ rfl rfl rfl rfl (by decide) _ _ j (sel j) ?_
  pointwise
  rw [h]
  exact wrap_ofNat (by have := (sel j).isLt; omega) _

omit h

theorem labelCol_apply (j : Fin 200) (z : Fin 1) : rd2 j z (upto outOps W 3 (Proc.devRef .tc main_v124))
    = FloatOps.sitofp (F := Ideal) .f32 ((W (Proc.devRef .tc main_v122) : Arr Ideal S200 .i32) (ix1 j)) := by
  after_reads_simp
  pointwise

theorem scoreCol_apply (j : Fin 200) (z : Fin 1) : rd2 j z (upto outOps W 3 (Proc.devRef .tc main_v125)) = rd1 j (W (Proc.devRef .tc main_v115)) := by
  after_reads_simp
  pointwise

theorem boxCols_apply (j : Fin 200) (k : Fin 4) : rd2 j k (upto outOps W 3 (Proc.devRef .tc main_v108)) = rd2 j k (W (Proc.devRef .tc main_v108)) := by
  after_reads_simp

theorem out_apply (j : Fin 200) (k : Fin 6) : rd2 j k (after outOps W (Proc.devRef .tc main_v126))
    = ![FloatOps.sitofp (F := Ideal) .f32 ((W (Proc.devRef .tc main_v122) : Arr Ideal S200 .i32) (ix1 j)), rd1 j (W (Proc.devRef .tc main_v115)),
        rd2 j (0 : Fin 4) (W (Proc.devRef .tc main_v108)), rd2 j (1 : Fin 4) (W (Proc.devRef .tc main_v108)),
        rd2 j (2 : Fin 4) (W (Proc.devRef .tc main_v108)), rd2 j (3 : Fin 4) (W (Proc.devRef .tc main_v108))] k := by
  after_reads_simp
  pointwise
  fin_cases k
  · exact (dif_pos (by decide)).trans (labelCol_apply W j _)
  · exact (dif_neg (by decide)).trans ((dif_pos (by decide)).trans (scoreCol_apply W j _))
  all_goals exact (dif_neg (by decide)).trans ((dif_neg (by decide)).trans (boxCols_apply W j _))

/-- The reference's result. -/
theorem done_spec (m : (ℓ : Loc nD τ sig) → Buf (Elt Ideal) ℓ) (c : Dev nD) :
    ∃ sel ord on k2, (scene (launchContents m c)).Picks 4096 4096 sel ord on k2
      ∧ ∀ (j : Fin 200) (k : Fin 6), rd2 j k (done m c (Proc.devRef .tc main_v126)) = (scene (launchContents m c)).out (sel j) k := by
  obtain ⟨σ, h⟩ := entry_spec (launchContents m c)
  rw [← entry_eq] at h
  set s := scene (launchContents m c)
  have stay := left_keeps m
  let d7 : Valuation τ sig (Elt Ideal) := after hostOps0_7 (left m c)
  let d8 : Valuation τ sig (Elt Ideal) := after hostOps0_8 d7
  let e1 : Valuation τ sig (Elt Ideal) := after lastOps d8
  let e2 : Valuation τ sig (Elt Ideal) := after selOps e1
  let e3 : Valuation τ sig (Elt Ideal) := after outBoxOps e2
  let e4 : Valuation τ sig (Elt Ideal) := after outScoreOps e3
  let e5 : Valuation τ sig (Elt Ideal) := after outLabelOps e4
  have hdone : done m c = after outOps e5 := by
    show after hostOps0_9 (after hostOps0_8 (after hostOps0_7 (left m c))) = _
    rw [hostOps0_9_cut, after_append, after_append, after_append, after_append, after_append]
  have k1 : ∀ b : Ref sig .tc, b ∉ hostOps0_7_W → b ∉ hostOps0_8_W → b ∉ lastOps_W → e1 (Proc.devRef .tc b) = left m c (Proc.devRef .tc b) :=
    fun b h7 h8 h9 => (after_of_writes_sub _ _ lastOps_writes h9).trans <| (after_of_writes_sub _ _ hostOps0_8_writes h8).trans <|
      after_of_writes_sub _ _ hostOps0_7_writes h7
  have hk : (fun j => rd1 j (d8 (Proc.devRef .tc main_v94))) = ranked (fun j => s.sco (σ j)) (onOf (left m c)) := by
    funext j
    refine (kept_apply d7 j).trans ?_
    rw [show d7 (Proc.devRef .tc main_v93_4) = left m c (Proc.devRef .tc main_v93_4) from after_of_writes_sub _ _ hostOps0_7_writes (by decide),
      show d7 (Proc.devRef .tc main_values) = entry m c (Proc.devRef .tc main_values) from
        (after_of_writes_sub _ _ hostOps0_7_writes (by decide)).trans (stay main_values (by decide) (by decide) c),
      h.values, show rd0 (d7 (Proc.devRef .tc main_cst_13)) = ⊥ from cst13_apply _]
    unfold ranked
    split
    · rename_i hon
      exact select_pos hon _ _
    · rename_i hon
      exact select_neg hon _ _
  obtain ⟨k2, ht, -, hi⟩ := topK_spec (k := 200) (by decide) (d8 (Proc.devRef .tc main_v94) : Arr Ideal S4096 .f32) sliceFits_S4096_S200
  have hi' : ∀ j, (e1 (Proc.devRef .tc main_indices_15) : Arr Ideal S200 .i32) (ix1 j) = BitVec.ofNat 32 (k2 j).val := fun j => by
    refine Eq.trans ?_ (hi j)
    show (after lastOps d8 (Proc.devRef .tc main_indices_15) : Arr Ideal S200 .i32) (ix1 j) = _
    after_reads_simp
  have hx : ∀ j, (e2 (Proc.devRef .tc main_v101) : Arr Ideal S200 .i32) (ix1 j) = BitVec.ofNat 32 (σ (k2 j)).val := fun j =>
    sel_apply e1 σ k2 (fun j => (congrFun ((k1 main_indices (by decide) (by decide) (by decide)).trans (stay main_indices (by decide) (by decide) c)) (ix1 j)).trans (h.indices j)) hi' j
  have hx3 : ∀ j, (e3 (Proc.devRef .tc main_v101) : Arr Ideal S200 .i32) (ix1 j) = BitVec.ofNat 32 (σ (k2 j)).val := fun j =>
    (congrFun (after_of_writes_sub (r := main_v101) _ _ outBoxOps_writes (by decide)) (ix1 j)).trans (hx j)
  have hx4 : ∀ j, (e4 (Proc.devRef .tc main_v101) : Arr Ideal S200 .i32) (ix1 j) = BitVec.ofNat 32 (σ (k2 j)).val := fun j =>
    (congrFun (after_of_writes_sub (r := main_v101) _ _ outScoreOps_writes (by decide)) (ix1 j)).trans (hx3 j)
  have base : ∀ b : Ref sig .tc, b ∉ hostOps0_7_W → b ∉ hostOps0_8_W → b ∉ lastOps_W → b ∉ selOps_W → b ∉ condOps_W → b ∉ while0Ops0_W →
      e2 (Proc.devRef .tc b) = entry m c (Proc.devRef .tc b) := fun b h7 h8 h9 hs hc hb =>
    (after_of_writes_sub _ _ selOps_writes hs).trans ((k1 b h7 h8 h9).trans (stay b hc hb c))
  have hbox : ∀ (j : Fin 200) (k : Fin 4), rd2 j k (e5 (Proc.devRef .tc main_v108)) = s.box (priorOf (σ (k2 j))) k := fun j k =>
    (congrArg (rd2 j k) ((after_of_writes_sub (r := main_v108) _ _ outLabelOps_writes (by decide)).trans
      (after_of_writes_sub _ _ outScoreOps_writes (by decide)))).trans <| (outBox_apply e2 (fun j => σ (k2 j)) hx j k).trans <|
      (congrArg (rd2 _ k) (base main_v25 (by decide) (by decide) (by decide) (by decide) (by decide) (by decide))).trans (h.boxes _ _)
  have hsco : ∀ j : Fin 200, rd1 j (e5 (Proc.devRef .tc main_v115)) = s.conf (priorOf (σ (k2 j))) (classOf (σ (k2 j))) := fun j =>
    (congrArg (rd1 j) (after_of_writes_sub (r := main_v115) _ _ outLabelOps_writes (by decide))).trans <|
      (outScore_apply e3 (fun j => σ (k2 j)) hx3 j).trans <|
      (congrArg (rd1 _) ((after_of_writes_sub (r := main_v27) _ _ outBoxOps_writes (by decide)).trans
        (base main_v27 (by decide) (by decide) (by decide) (by decide) (by decide) (by decide)))).trans (h.scores _)
  have hlab : ∀ j : Fin 200, (e5 (Proc.devRef .tc main_v122) : Arr Ideal S200 .i32) (ix1 j) = BitVec.ofNat 32 ((σ (k2 j)).val % 20 + 1) := fun j =>
    (outLabel_apply e4 (fun j => σ (k2 j)) hx4 j).trans <|
      (congrFun ((after_of_writes_sub (r := main_v29) _ _ outScoreOps_writes (by decide)).trans
        ((after_of_writes_sub (r := main_v29) _ _ outBoxOps_writes (by decide)).trans
        (base main_v29 (by decide) (by decide) (by decide) (by decide) (by decide) (by decide)))) (ix1 _)).trans (h.labels _)
  refine ⟨fun j => σ (k2 j), σ, onOf (left m c), k2, ⟨h.top, le_rfl, le_rfl, left_on m c h, .inl rfl, ?_, fun _ => rfl⟩, fun j k => ?_⟩
  · rw [← hk]
    exact ht
  · rw [hdone]
    refine (out_apply e5 j k).trans ?_
    rw [hlab, hsco, hbox, hbox, hbox, hbox]
    rfl

end Cert.Proof.RI

end
-- ==== Proof.Agree.lean ====
/-
  The kernel's result is the reference's: both pick the same positions of the same data.
-/
module

public import proofs.«01_k».proof.Proof.PI.Result
public import proofs.«01_k».proof.Proof.RI.Result

@[expose] public section

set_option maxRecDepth 65536

noncomputable section

namespace Cert.Proof

open Idealize.ShloMosaic Idealize.SL.Sem Idealize.ShloMosaic.StableHlo Cert.Proof.Val

theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    RI.done m' c (Proc.devRef .tc Cert.ReferenceIdeal.main_v126) = PI.Vend m c (Proc.devRef .tc Cert.KernelIdeal.main_v0) := by
  have hs : RI.scene (launchContents m' c) = PI.scene (PI.Vstart m c) := by
    unfold RI.scene PI.scene
    congr 1
    · funext p k
      exact congrArg (rd3 (0 : Fin 1) p k) h0
    · funext p k
      exact congrArg (rd2 p k) h1
    · funext p k
      exact congrArg (rd2 p k) h2
  obtain ⟨sel, ord, on, k2, hp, ho⟩ := RI.done_spec m' c
  obtain ⟨n, q, sel', ord', on', k2', hp', ho'⟩ := PI.end_spec m c
  rw [hs] at hp ho
  have hsel : sel' = sel := hp'.unique _ hp
  subst hsel
  funext i
  obtain ⟨j, k, rfl⟩ : ∃ (j : Fin 200) (k : Fin 6), i = ix2 j k := ⟨i 0, i 1, funext fun a => by fin_cases a <;> rfl⟩
  exact (ho j k).trans (ho' j k).symm

end Cert.Proof

end
-- ==== Proof.lean ====
/- The claims of the certificate, from the runs of the three programs: the kernel as printed (`P/Run`), the kernel read over the
   extended reals (`PI/Run`), and the reference (`RI/Frame`); that the last two return the same is `Agree`. -/
module

public import proofs.«01_k».proof.Defs
public import proofs.«01_k».proof.Proof.P.Run
public import proofs.«01_k».proof.Proof.PI.Run
public import proofs.«01_k».proof.Proof.RI.Frame
public import proofs.«01_k».proof.Proof.Agree

@[expose] public section

noncomputable section

namespace Cert.Proof

open Idealize.ShloMosaic Idealize.SL.Sem

theorem claim : Cert.Claim := by
  refine ⟨Cert.Kernel.Gen.facts, Cert.KernelIdeal.Gen.facts, Cert.ReferenceIdeal.Gen.facts, ?_, ?_, ?_, trivial, ?_⟩
  · exact fun m g _ => θ_run_mono (P.run_result m g) fun _ h => h.2
  · exact fun m g _ => θ_run_mono (PI.run_result m g) fun _ h => h.2
  · exact fun m g _ => θ_run_mono (RI.run_result m g) fun _ h => h.2
  · exact fun m g m' g' _ h => ⟨fun c => PI.Vend m c (Proc.devRef .tc Cert.KernelIdeal.main_v0),
      θ_run_mono (PI.run_result m g) fun _ r c => ⟨r.1 c, r.2.1 c⟩,
      θ_run_mono (RI.run_result m' g') fun _ r c => ⟨(r.1 c).trans (results_agree m m' c (h c).1 (h c).2.1 (h c).2.2), r.2.1 c⟩⟩

end Cert.Proof

end
